-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_keys_finite [hPre_queries_keys_finite : Cert.Pre_queries_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_keys_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_keys_finite [hPre_queries_keys_finite : Cert.Pre_queries_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_keys_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_selects_past [hPre_selects_past : Cert.Pre_selects_past.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_selects_past.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_selects_past [hPre_selects_past : Cert.Pre_selects_past.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_selects_past.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_queries_keys_finite [hKernelIdeal : Cert.KernelIdeal.Facts] [hPre_queries_keys_finite : Cert.Pre_queries_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_queries_keys_finite [hReferenceIdeal : Cert.ReferenceIdeal.Facts] [hPre_queries_keys_finite : Cert.Pre_queries_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_selects_past [hKernel8Ideal : Cert.Kernel8Ideal.Facts] [hPre_selects_past : Cert.Pre_selects_past.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_selects_past m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_selects_past [hReference8Ideal : Cert.Reference8Ideal.Facts] [hPre_selects_past : Cert.Pre_selects_past.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_selects_past m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_queries_keys_finite [hKernelIdeal : Cert.KernelIdeal.Facts] [hReferenceIdeal : Cert.ReferenceIdeal.Facts] [hPre_queries_keys_finite : Cert.Pre_queries_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v84)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v84) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v175) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_selects_past [hKernel8Ideal : Cert.Kernel8Ideal.Facts] [hReference8Ideal : Cert.Reference8Ideal.Facts] [hPre_selects_past : Cert.Pre_selects_past.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_selects_past m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_queries_keys_finite : Cert.Pre_queries_keys_finite.Facts) (hPre_selects_past : Cert.Pre_selects_past.Facts),
    quiescent_Kernel (hKernel := hKernel)
    ∧ quiescent_KernelIdeal (hKernelIdeal := hKernelIdeal)
    ∧ quiescent_KernelIdeal_pre_queries_keys_finite (hKernelIdeal := hKernelIdeal) (hPre_queries_keys_finite := hPre_queries_keys_finite)
    ∧ quiescent_ReferenceIdeal (hReferenceIdeal := hReferenceIdeal)
    ∧ quiescent_ReferenceIdeal_pre_queries_keys_finite (hReferenceIdeal := hReferenceIdeal) (hPre_queries_keys_finite := hPre_queries_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_selects_past (hKernel8Ideal := hKernel8Ideal) (hPre_selects_past := hPre_selects_past)
    ∧ quiescent_Reference8Ideal (hReference8Ideal := hReference8Ideal)
    ∧ quiescent_Reference8Ideal_pre_selects_past (hReference8Ideal := hReference8Ideal) (hPre_selects_past := hPre_selects_past)
    ∧ preserves_Kernel_KernelIdeal
    ∧ algebraic_KernelIdeal_ReferenceIdeal_pre_queries_keys_finite (hKernelIdeal := hKernelIdeal) (hReferenceIdeal := hReferenceIdeal) (hPre_queries_keys_finite := hPre_queries_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_selects_past (hKernel8Ideal := hKernel8Ideal) (hReference8Ideal := hReference8Ideal) (hPre_selects_past := hPre_selects_past)
-- ==== Pre_queries_keys_finite.lean ====
abbrev S8704x12288 : Shape := ⟨2, ![8704, 12288]⟩
abbrev S8208x2048 : Shape := ⟨2, ![8208, 2048]⟩
abbrev S_ : Shape := ⟨0, ![]⟩

class Facts : Prop where
  slices_S8704x12288_S8208x2048_0_4096 : S8704x12288.Slices ![0, 4096] S8208x2048
  bcast_S_S8208x2048 : S_.BroadcastsInDim S8208x2048 (![] : Fin 0 → Fin S8208x2048.rank)

variable [Facts]

def fn {F : FTy → Type} [FloatOps F] (main_arg0 : FVec F S8704x12288 .f32) : IVec S8208x2048 1 :=
  let main_v0 : FVec F S8208x2048 .f32 := (extractStridedSlice S8208x2048 ![0, 4096] · slices_S8704x12288_S8208x2048_0_4096) main_arg0
  let main_v1 : FVec F S8208x2048 .f32 := Host.absf main_v0
  let main_cst : FVec F S_ .f32 := constant S_ .f32 0x7F800000#32
  let main_v2 : FVec F S8208x2048 .f32 := broadcastInDim S8208x2048 ![] bcast_S_S8208x2048 main_cst
  let main_v3 : IVec S8208x2048 1 := cmpf .olt main_v1 main_v2
  main_v3
-- ==== Pre_selects_past.lean ====
abbrev S8704x12288 : Shape := ⟨2, ![8704, 12288]⟩
abbrev S8192x8704 : Shape := ⟨2, ![8192, 8704]⟩
abbrev S_ : Shape := ⟨0, ![]⟩
abbrev S8192 : Shape := ⟨1, ![8192]⟩
abbrev S8192x1 : Shape := ⟨2, ![8192, 1]⟩
abbrev S8208x2048 : Shape := ⟨2, ![8208, 2048]⟩
abbrev S16x8704 : Shape := ⟨2, ![16, 8704]⟩
abbrev S8208x8704 : Shape := ⟨2, ![8208, 8704]⟩
abbrev S8208x10752 : Shape := ⟨2, ![8208, 10752]⟩

class Facts : Prop where
  bcast_S_S8192x8704 : S_.BroadcastsInDim S8192x8704 (![] : Fin 0 → Fin S8192x8704.rank)
  reducesTo_S8192x8704_S8192_d1 : S8192x8704.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8704_0_1 : S8192x1.BroadcastsInDim S8192x8704 (![0, 1] : Fin 2 → Fin S8192x8704.rank)
  slices_S8704x12288_S8208x2048_0_8192 : S8704x12288.Slices ![0, 8192] S8208x2048
  bcast_S_S8208x2048 : S_.BroadcastsInDim S8208x2048 (![] : Fin 0 → Fin S8208x2048.rank)
  bcast_S_S16x8704 : S_.BroadcastsInDim S16x8704 (![] : Fin 0 → Fin S16x8704.rank)
  concatenates_S8192x8704_S16x8704_S8208x8704_d0 : Shape.Concatenates [S8192x8704, S16x8704] S8208x8704 0
  concatenates_S8208x8704_S8208x2048_S8208x10752_d1 : Shape.Concatenates [S8208x8704, S8208x2048] S8208x10752 1

variable [Facts]

def fn_part1 {F : FTy → Type} [FloatOps F] (main_arg0 : FVec F S8704x12288 .f32) (main_v14 : IVec S8192x8704 1) (main_v16 : FVec F S8192x1 .bf16) (main_v17 : FVec F S8192x1 .bf16) : IVec S8208x10752 1 :=
  let main_v18 : IVec S8192x1 1 := cmpf .oeq main_v16 main_v17
  let main_v19 : IVec S8192x8704 1 := broadcastInDim S8192x8704 ![0, 1] bcast_S8192x1_S8192x8704_0_1 main_v18
  let main_v20 : IVec S8192x8704 1 := andi main_v14 main_v19
  let main_v21 : FVec F S8208x2048 .f32 := (extractStridedSlice S8208x2048 ![0, 8192] · slices_S8704x12288_S8208x2048_0_8192) main_arg0
  let main_v22 : FVec F S8208x2048 .f32 := Host.absf main_v21
  let main_cst_4 : FVec F S_ .f32 := constant S_ .f32 0x7F800000#32
  let main_v23 : FVec F S8208x2048 .f32 := broadcastInDim S8208x2048 ![] bcast_S_S8208x2048 main_cst_4
  let main_v24 : IVec S8208x2048 1 := cmpf .olt main_v22 main_v23
  let main_c_5 : IVec S_ 1 := constantI S_ 1 1#1
  let main_v25 : IVec S16x8704 1 := broadcastInDim S16x8704 ![] bcast_S_S16x8704 main_c_5
  let main_v26 : IVec S8208x8704 1 := (fun a b => concatenate S8208x8704 0 [⟨S8192x8704, a⟩, ⟨S16x8704, b⟩] concatenates_S8192x8704_S16x8704_S8208x8704_d0) main_v20 main_v25
  let main_v27 : IVec S8208x10752 1 := (fun a b => concatenate S8208x10752 1 [⟨S8208x8704, a⟩, ⟨S8208x2048, b⟩] concatenates_S8208x8704_S8208x2048_S8208x10752_d1) main_v26 main_v24
  main_v27

def fn {F : FTy → Type} [FloatOps F] (main_arg0 : FVec F S8704x12288 .f32) (main_arg1 : FVec F S8192x8704 .bf16) : IVec S8208x10752 1 :=
  let main_v0 : IVec S8192x8704 32 := iotaInDim S8192x8704 32 0
  let main_v1 : IVec S8192x8704 32 := iotaInDim S8192x8704 32 1
  let main_v2 : IVec S8192x8704 1 := cmpi .sle main_v1 main_v0
  let main_c : IVec S_ 32 := constantI S_ 32 8192#32
  let main_v3 : IVec S8192x8704 32 := broadcastInDim S8192x8704 ![] bcast_S_S8192x8704 main_c
  let main_v4 : IVec S8192x8704 1 := cmpi .sge main_v1 main_v3
  let main_c_0 : IVec S_ 32 := constantI S_ 32 8208#32
  let main_v5 : IVec S8192x8704 32 := broadcastInDim S8192x8704 ![] bcast_S_S8192x8704 main_c_0
  let main_v6 : IVec S8192x8704 1 := cmpi .slt main_v1 main_v5
  let main_v7 : IVec S8192x8704 1 := andi main_v4 main_v6
  let main_v8 : IVec S8192x8704 1 := ori main_v2 main_v7
  let main_cst : FVec F S_ .bf16 := constant S_ .bf16 0xFF80#16
  let main_v9 : FVec F S8192x8704 .bf16 := broadcastInDim S8192x8704 ![] bcast_S_S8192x8704 main_cst
  let main_v10 : IVec S8192x8704 1 := cmpf .oeq main_arg1 main_v9
  let main_cst_1 : FVec F S_ .bf16 := constant S_ .bf16 0x0000#16
  let main_v11 : FVec F S8192x8704 .bf16 := broadcastInDim S8192x8704 ![] bcast_S_S8192x8704 main_cst_1
  let main_v12 : IVec S8192x8704 1 := cmpf .oeq main_arg1 main_v11
  let main_v13 : IVec S8192x8704 1 := andi main_v8 main_v12
  let main_v14 : IVec S8192x8704 1 := ori main_v10 main_v13
  let main_cst_2 : FVec F S_ .bf16 := constant S_ .bf16 0xFF80#16
  let main_v15 : FVec F S8192 .bf16 := (fun x v => Host.reduce FloatOps.maximumf x v reducesTo_S8192x8704_S8192_d1 h_S_) main_arg1 main_cst_2
  let main_v16 : FVec F S8192x1 .bf16 := broadcastInDim S8192x1 ![0] bcast_S8192_S8192x1_0 main_v15
  let main_cst_3 : FVec F S_ .bf16 := constant S_ .bf16 0x0000#16
  let main_v17 : FVec F S8192x1 .bf16 := broadcastInDim S8192x1 ![] bcast_S_S8192x1 main_cst_3
  fn_part1 (F := F) main_arg0 main_v14 main_v16 main_v17
-- ==== Kernel.lean ====
abbrev S8704x12288 : Shape := ⟨2, ![8704, 12288]⟩
abbrev S_ : Shape := ⟨0, ![]⟩
abbrev S256x256 : Shape := ⟨2, ![256, 256]⟩
abbrev S8192x1024 : Shape := ⟨2, ![8192, 1024]⟩
abbrev S512x256 : Shape := ⟨2, ![512, 256]⟩
abbrev S8704x256 : Shape := ⟨2, ![8704, 256]⟩
abbrev S512x512 : Shape := ⟨2, ![512, 512]⟩
abbrev S512x128 : Shape := ⟨2, ![512, 128]⟩
abbrev S512x1 : Shape := ⟨2, ![512, 1]⟩
abbrev S2048x256 : Shape := ⟨2, ![2048, 256]⟩
abbrev S512 : Shape := ⟨1, ![512]⟩
abbrev S128x128 : Shape := ⟨2, ![128, 128]⟩
abbrev S1024x128 : Shape := ⟨2, ![1024, 128]⟩

abbrev nBuf : Space → Nat
  | .hbm => 14
  | .vmem => 9
  | .smem => 0
  | _ => 0

abbrev bufTy : (tb : Table) → Fin (tcTables nBuf tb) → BufTy
  | .hbm, ⟨0, _⟩ => ⟨S8704x12288, .f32⟩
  | .hbm, ⟨1, _⟩ => ⟨S_, .f32⟩
  | .hbm, ⟨2, _⟩ => ⟨S256x256, .f32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .bf16⟩
  | .hbm, ⟨13, _⟩ => ⟨S8192x1024, .f32⟩
  | .local _ .vmem, ⟨0, _⟩ => ⟨S512x256, .f32⟩
  | .local _ .vmem, ⟨1, _⟩ => ⟨S512x256, .f32⟩
  | .local _ .vmem, ⟨2, _⟩ => ⟨S8704x256, .f32⟩
  | .local _ .vmem, ⟨3, _⟩ => ⟨S8704x256, .f32⟩
  | .local _ .vmem, ⟨4, _⟩ => ⟨S8704x256, .f32⟩
  | .local _ .vmem, ⟨5, _⟩ => ⟨S8704x256, .f32⟩
  | .local _ .vmem, ⟨6, _⟩ => ⟨S256x256, .bf16⟩
  | .local _ .vmem, ⟨7, _⟩ => ⟨S512x256, .f32⟩
  | .local _ .vmem, ⟨8, _⟩ => ⟨S512x256, .f32⟩
  | _, _ => ⟨S8704x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c512_i32_13 : BitVec 32 := 512#32
  let v33 : BitVec 32 := Scalar.muli v32 c512_i32_13
  v33
def k0_off1 (i : grid0.Coords) : Fin 2 → Nat :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c512_i32_13 : BitVec 32 := 512#32
  let v33 : BitVec 32 := Scalar.muli v32 c512_i32_13
  let v34 : BitVec 32 := v33
  let v38 : Index := Scalar.indexCast v34
  let c0_14 : Index := 0#32
  ![v38.toNat, 0]
def k0_off2 (i : grid0.Coords) : Fin 2 → Nat :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c512_i32_13 : BitVec 32 := 512#32
  let v33 : BitVec 32 := Scalar.muli v32 c512_i32_13
  let v34 : BitVec 32 := v33
  let v96 : Index := Scalar.indexCast v34
  let c128_27 : Index := 128#32
  ![v96.toNat, 128]
@[reducible] def k0_t1_loop (i : grid0.Coords) : Scf.Loop 32 :=
  let c0_i32_40 : BitVec 32 := 0#32
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let v154 : BitVec 32 := Scalar.subi v32 c0_i32_40
  let c1_i32_41 : BitVec 32 := 1#32
  let v156 : BitVec 32 := Scalar.divsi v154 c1_i32_41
  let v157 : BitVec 32 := Scalar.muli v156 c1_i32_41
  let v158 : BitVec 32 := Scalar.addi c0_i32_40 v157
  let c1_i32_42 : BitVec 32 := 1#32
  ⟨c0_i32_40, v158, c1_i32_42⟩
def k0_mult2 (i : grid0.Coords) (k0_t1 : Fin (k0_t1_loop i).trips) : BitVec 32 :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c1_i32_75 : BitVec 32 := 1#32
  let v244 : BitVec 32 := Scalar.subi v32 c1_i32_75
  let c0_i32_40 : BitVec 32 := 0#32
  let c1_i32_42 : BitVec 32 := 1#32
  let arg7 : BitVec 32 := Scf.iv c0_i32_40 c1_i32_42 k0_t1
  let v245 : BitVec 32 := Scalar.subi v244 arg7
  let c512_i32_76 : BitVec 32 := 512#32
  let v246 : BitVec 32 := Scalar.muli v245 c512_i32_76
  v246
def k0_off3 (i : grid0.Coords) (k0_t1 : Fin (k0_t1_loop i).trips) : Fin 2 → Nat :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c1_i32_75 : BitVec 32 := 1#32
  let v244 : BitVec 32 := Scalar.subi v32 c1_i32_75
  let c0_i32_40 : BitVec 32 := 0#32
  let c1_i32_42 : BitVec 32 := 1#32
  let arg7 : BitVec 32 := Scf.iv c0_i32_40 c1_i32_42 k0_t1
  let v245 : BitVec 32 := Scalar.subi v244 arg7
  let c512_i32_76 : BitVec 32 := 512#32
  let v246 : BitVec 32 := Scalar.muli v245 c512_i32_76
  let v247 : BitVec 32 := v246
  let v248 : Index := Scalar.indexCast v247
  let c0_77 : Index := 0#32
  ![v248.toNat, 0]
def k0_off4 (i : grid0.Coords) (k0_t1 : Fin (k0_t1_loop i).trips) : Fin 2 → Nat :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c1_i32_75 : BitVec 32 := 1#32
  let v244 : BitVec 32 := Scalar.subi v32 c1_i32_75
  let c0_i32_40 : BitVec 32 := 0#32
  let c1_i32_42 : BitVec 32 := 1#32
  let arg7 : BitVec 32 := Scf.iv c0_i32_40 c1_i32_42 k0_t1
  let v245 : BitVec 32 := Scalar.subi v244 arg7
  let c512_i32_76 : BitVec 32 := 512#32
  let v246 : BitVec 32 := Scalar.muli v245 c512_i32_76
  let v247 : BitVec 32 := v246
  let v302 : Index := Scalar.indexCast v247
  let c128_88 : Index := 128#32
  ![v302.toNat, 128]
@[reducible] def k0_t2_loop (i : grid0.Coords) : Scf.Loop 32 :=
  let c0_i32_40 : BitVec 32 := 0#32
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let v154 : BitVec 32 := Scalar.subi v32 c0_i32_40
  let c1_i32_41 : BitVec 32 := 1#32
  let v156 : BitVec 32 := Scalar.divsi v154 c1_i32_41
  let v157 : BitVec 32 := Scalar.muli v156 c1_i32_41
  let v158 : BitVec 32 := Scalar.addi c0_i32_40 v157
  let v155 : BitVec 32 := Scalar.addi c0_i32_40 v154
  let c1_i32_43 : BitVec 32 := 1#32
  ⟨v158, v155, c1_i32_43⟩
def k0_mult3 (i : grid0.Coords) (k0_t2 : Fin (k0_t2_loop i).trips) : BitVec 32 :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c1_i32_75 : BitVec 32 := 1#32
  let v244 : BitVec 32 := Scalar.subi v32 c1_i32_75
  let c0_i32_40 : BitVec 32 := 0#32
  let v154 : BitVec 32 := Scalar.subi v32 c0_i32_40
  let c1_i32_41 : BitVec 32 := 1#32
  let v156 : BitVec 32 := Scalar.divsi v154 c1_i32_41
  let v157 : BitVec 32 := Scalar.muli v156 c1_i32_41
  let v158 : BitVec 32 := Scalar.addi c0_i32_40 v157
  let c1_i32_43 : BitVec 32 := 1#32
  let arg7 : BitVec 32 := Scf.iv v158 c1_i32_43 k0_t2
  let v245 : BitVec 32 := Scalar.subi v244 arg7
  let c512_i32_76 : BitVec 32 := 512#32
  let v246 : BitVec 32 := Scalar.muli v245 c512_i32_76
  v246
def k0_off5 (i : grid0.Coords) (k0_t2 : Fin (k0_t2_loop i).trips) : Fin 2 → Nat :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c1_i32_75 : BitVec 32 := 1#32
  let v244 : BitVec 32 := Scalar.subi v32 c1_i32_75
  let c0_i32_40 : BitVec 32 := 0#32
  let v154 : BitVec 32 := Scalar.subi v32 c0_i32_40
  let c1_i32_41 : BitVec 32 := 1#32
  let v156 : BitVec 32 := Scalar.divsi v154 c1_i32_41
  let v157 : BitVec 32 := Scalar.muli v156 c1_i32_41
  let v158 : BitVec 32 := Scalar.addi c0_i32_40 v157
  let c1_i32_43 : BitVec 32 := 1#32
  let arg7 : BitVec 32 := Scf.iv v158 c1_i32_43 k0_t2
  let v245 : BitVec 32 := Scalar.subi v244 arg7
  let c512_i32_76 : BitVec 32 := 512#32
  let v246 : BitVec 32 := Scalar.muli v245 c512_i32_76
  let v247 : BitVec 32 := v246
  let v248 : Index := Scalar.indexCast v247
  let c0_77 : Index := 0#32
  ![v248.toNat, 0]
def k0_off6 (i : grid0.Coords) (k0_t2 : Fin (k0_t2_loop i).trips) : Fin 2 → Nat :=
  let arg1 : BitVec 32 := BitVec.ofNat 32 (i 1).val
  let c512_i32_7 : BitVec 32 := 512#32
  let v15 : BitVec 32 := Scalar.muli arg1 c512_i32_7
  let c0_i32 : BitVec 32 := 0#32
  let v17 : BitVec 1 := Scalar.cmpi .sgt v15 c0_i32
  let v18 : BitVec 32 := Scalar.extui v17
  let c0_i32_9 : BitVec 32 := 0#32
  let v19 : BitVec 1 := Scalar.cmpi .slt v15 c0_i32_9
  let v20 : BitVec 32 := Scalar.extui v19
  let v21 : BitVec 32 := Scalar.subi v18 v20
  let c512_i32_8 : BitVec 32 := 512#32
  let c0_i32_10 : BitVec 32 := 0#32
  let v22 : BitVec 1 := Scalar.cmpi .sgt c512_i32_8 c0_i32_10
  let v23 : BitVec 32 := Scalar.extui v22
  let c0_i32_11 : BitVec 32 := 0#32
  let v24 : BitVec 1 := Scalar.cmpi .slt c512_i32_8 c0_i32_11
  let v25 : BitVec 32 := Scalar.extui v24
  let v26 : BitVec 32 := Scalar.subi v23 v25
  let v27 : BitVec 1 := Scalar.cmpi .ne v21 v26
  let v28 : BitVec 32 := Scalar.remsi v15 c512_i32_8
  let c0_i32_12 : BitVec 32 := 0#32
  let v29 : BitVec 1 := Scalar.cmpi .ne v28 c0_i32_12
  let v30 : BitVec 1 := Scalar.andi v27 v29
  let v16 : BitVec 32 := Scalar.divsi v15 c512_i32_8
  let c1_i32 : BitVec 32 := 1#32
  let v31 : BitVec 32 := Scalar.subi v16 c1_i32
  let v32 : BitVec 32 := Scalar.select v30 v31 v16
  let c1_i32_75 : BitVec 32 := 1#32
  let v244 : BitVec 32 := Scalar.subi v32 c1_i32_75
  let c0_i32_40 : BitVec 32 := 0#32
  let v154 : BitVec 32 := Scalar.subi v32 c0_i32_40
  let c1_i32_41 : BitVec 32 := 1#32
  let v156 : BitVec 32 := Scalar.divsi v154 c1_i32_41
  let v157 : BitVec 32 := Scalar.muli v156 c1_i32_41
  let v158 : BitVec 32 := Scalar.addi c0_i32_40 v157
  let c1_i32_43 : BitVec 32 := 1#32
  let arg7 : BitVec 32 := Scf.iv v158 c1_i32_43 k0_t2
  let v245 : BitVec 32 := Scalar.subi v244 arg7
  let c512_i32_76 : BitVec 32 := 512#32
  let v246 : BitVec 32 := Scalar.muli v245 c512_i32_76
  let v247 : BitVec 32 := v246
  let v302 : Index := Scalar.indexCast v247
  let c128_88 : Index := 128#32
  ![v302.toNat, 128]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8704x12288 : Shape := ⟨2, ![8704, 12288]⟩
abbrev S8704x1024 : Shape := ⟨2, ![8704, 1024]⟩
abbrev S16x1024 : Shape := ⟨2, ![16, 1024]⟩
abbrev S8192x1024 : Shape := ⟨2, ![8192, 1024]⟩
abbrev S8208x1024 : Shape := ⟨2, ![8208, 1024]⟩
abbrev S8208x8x128 : Shape := ⟨3, ![8208, 8, 128]⟩
abbrev S8192x8x128 : Shape := ⟨3, ![8192, 8, 128]⟩
abbrev S8x8192x8208 : Shape := ⟨3, ![8, 8192, 8208]⟩
abbrev S_ : Shape := ⟨0, ![]⟩
abbrev S8192 : Shape := ⟨1, ![8192]⟩
abbrev S8208 : Shape := ⟨1, ![8208]⟩
abbrev S1x8208 : Shape := ⟨2, ![1, 8208]⟩
abbrev S8192x1 : Shape := ⟨2, ![8192, 1]⟩
abbrev S8192x8208 : Shape := ⟨2, ![8192, 8208]⟩
abbrev S8x128x8192 : Shape := ⟨3, ![8, 128, 8192]⟩

abbrev nBuf : Space → Nat
  | .hbm => 83
  | .vmem => 0
  | .smem => 0
  | _ => 0

abbrev bufTy : (tb : Table) → Fin (tcTables nBuf tb) → BufTy
  | .hbm, ⟨0, _⟩ => ⟨S8704x12288, .f32⟩
  | .hbm, ⟨1, _⟩ => ⟨S8704x1024, .f32⟩
  | .hbm, ⟨2, _⟩ => ⟨S16x1024, .f32⟩
  | .hbm, ⟨3, _⟩ => ⟨S8192x1024, .f32⟩
  | .hbm, ⟨4, _⟩ => ⟨S8208x1024, .f32⟩
  | .hbm, ⟨5, _⟩ => ⟨S8208x8x128, .f32⟩
  | .hbm, ⟨6, _⟩ => ⟨S8704x1024, .f32⟩
  | .hbm, ⟨7, _⟩ => ⟨S16x1024, .f32⟩
  | .hbm, ⟨8, _⟩ => ⟨S8192x1024, .f32⟩
  | .hbm, ⟨9, _⟩ => ⟨S8208x1024, .f32⟩
  | .hbm, ⟨10, _⟩ => ⟨S8208x8x128, .f32⟩
  | .hbm, ⟨11, _⟩ => ⟨S8704x1024, .f32⟩
  | .hbm, ⟨12, _⟩ => ⟨S16x1024, .f32⟩
  | .hbm, ⟨13, _⟩ => ⟨S8192x1024, .f32⟩
  | .hbm, ⟨14, _⟩ => ⟨S8208x1024, .f32⟩
  | .hbm, ⟨15, _⟩ => ⟨S8208x8x128, .f32⟩
  | .hbm, ⟨16, _⟩ => ⟨S8192x8x128, .f32⟩
  | .hbm, ⟨17, _⟩ => ⟨S8x8192x8208, .f32⟩
  | .hbm, ⟨18, _⟩ => ⟨S_, .f32⟩
  | .hbm, ⟨19, _⟩ => ⟨S8x8192x8208, .f32⟩
  | .hbm, ⟨20, _⟩ => ⟨S8x8192x8208, .f32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8208, .i32⟩
  | .hbm, ⟨26, _⟩ => ⟨S1x8208, .i32⟩
  | .hbm, ⟨27, _⟩ => ⟨S8192x1, .i32⟩
  | .hbm, ⟨28, _⟩ => ⟨S8192x8208, .i32⟩
  | .hbm, ⟨29, _⟩ => ⟨S8192x8208, .i32⟩
  | .hbm, ⟨30, _⟩ => ⟨S8192x8208, .i1⟩
  | .hbm, ⟨31, _⟩ => ⟨S8x8192x8208, .f32⟩
  | .hbm, ⟨32, _⟩ => ⟨S8x8192x8208, .f32⟩
  | .hbm, ⟨33, _⟩ => ⟨S_, .f32⟩
  | .hbm, ⟨34, _⟩ => ⟨S8x8192x8208, .f32⟩
  | .hbm, ⟨35, _⟩ => ⟨S8x8192x8208, .f32⟩
  | .hbm, ⟨36, _⟩ => ⟨S8x8192x8208, .f32⟩
  | .hbm, ⟨37, _⟩ => ⟨S8x8192x8208, .f32⟩
  | .hbm, ⟨38, _⟩ => ⟨S8x8192x8208, .i1⟩
  | .hbm, ⟨39, _⟩ => ⟨S8x8192x8208, .f32⟩
  | .hbm, ⟨40, _⟩ => ⟨S8x8192x8208, .f32⟩
  | .hbm, ⟨41, _⟩ => ⟨S8x8192x8208, .f32⟩
  | .hbm, ⟨42, _⟩ => ⟨S8x8192x8208, .f32⟩
  | .hbm, ⟨43, _⟩ => ⟨S8x8192x8208, .f32⟩
  | .hbm, ⟨44, _⟩ => ⟨S8x8192x8208, .f32⟩
  | .hbm, ⟨45, _⟩ => ⟨S8x8192x8208, .f32⟩
  | .hbm, ⟨46, _⟩ => ⟨S8x8192x8208, .f32⟩
  | .hbm, ⟨47, _⟩ => ⟨S8x8192x8208, .f32⟩
  | .hbm, ⟨48, _⟩ => ⟨S_, .f32⟩
  | .hbm, ⟨49, _⟩ => ⟨S_, .f32⟩
  | .hbm, ⟨50, _⟩ => ⟨S8x8192x8208, .i1⟩
  | .hbm, ⟨51, _⟩ => ⟨S8x8192x8208, .f32⟩
  | .hbm, ⟨52, _⟩ => ⟨S8x8192x8208, .f32⟩
  | .hbm, ⟨53, _⟩ => ⟨S_, .f32⟩
  | .hbm, ⟨54, _⟩ => ⟨S_, .f32⟩
  | .hbm, ⟨55, _⟩ => ⟨S8x8192x8208, .f32⟩
  | .hbm, ⟨56, _⟩ => ⟨S8x8192x8208, .f32⟩
  | .hbm, ⟨57, _⟩ => ⟨S8x8192x8208, .f32⟩
  | .hbm, ⟨58, _⟩ => ⟨S_, .f32⟩
  | .hbm, ⟨59, _⟩ => ⟨S8x8192x8208, .f32⟩
  | .hbm, ⟨60, _⟩ => ⟨S8x8192x8208, .f32⟩
  | .hbm, ⟨61, _⟩ => ⟨S8x8192x8208, .f32⟩
  | .hbm, ⟨62, _⟩ => ⟨S8x8192x8208, .f32⟩
  | .hbm, ⟨63, _⟩ => ⟨S8x8192x8208, .i1⟩
  | .hbm, ⟨64, _⟩ => ⟨S8x8192x8208, .f32⟩
  | .hbm, ⟨65, _⟩ => ⟨S8x8192x8208, .f32⟩
  | .hbm, ⟨66, _⟩ => ⟨S8x8192x8208, .f32⟩
  | .hbm, ⟨67, _⟩ => ⟨S8x8192x8208, .f32⟩
  | .hbm, ⟨68, _⟩ => ⟨S8x8192x8208, .f32⟩
  | .hbm, ⟨69, _⟩ => ⟨S8x8192x8208, .f32⟩
  | .hbm, ⟨70, _⟩ => ⟨S8x8192x8208, .f32⟩
  | .hbm, ⟨71, _⟩ => ⟨S8x8192x8208, .f32⟩
  | .hbm, ⟨72, _⟩ => ⟨S8x8192x8208, .f32⟩
  | .hbm, ⟨73, _⟩ => ⟨S8x8192x8208, .f32⟩
  | .hbm, ⟨74, _⟩ => ⟨S8x8192x8208, .f32⟩
  | .hbm, ⟨75, _⟩ => ⟨S_, .f32⟩
  | .hbm, ⟨76, _⟩ => ⟨S_, .f32⟩
  | .hbm, ⟨77, _⟩ => ⟨S8x8192x8208, .i1⟩
  | .hbm, ⟨78, _⟩ => ⟨S8x8192x8208, .f32⟩
  | .hbm, ⟨79, _⟩ => ⟨S8x8192x8208, .f32⟩
  | .hbm, ⟨80, _⟩ => ⟨S8x128x8192, .f32⟩
  | .hbm, ⟨81, _⟩ => ⟨S8192x8x128, .f32⟩
  | .hbm, ⟨82, _⟩ => ⟨S8192x1024, .f32⟩
  | _, _ => ⟨S8704x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v29 : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_call3_v0 : Ref sig .tc := ⟨.hbm, 57, rfl⟩
abbrev main_call3_call0_cst : Ref sig .tc := ⟨.hbm, 58, rfl⟩
abbrev main_call3_call0_v0 : Ref sig .tc := ⟨.hbm, 59, rfl⟩
abbrev main_call3_call0_v1 : Ref sig .tc := ⟨.hbm, 60, rfl⟩
abbrev main_call3_call0_v2 : Ref sig .tc := ⟨.hbm, 61, rfl⟩
abbrev main_call3_call0_v3 : Ref sig .tc := ⟨.hbm, 62, rfl⟩
abbrev main_call3_call0_v4 : Ref sig .tc := ⟨.hbm, 63, rfl⟩
abbrev main_call3_call0_v5 : Ref sig .tc := ⟨.hbm, 64, rfl⟩
abbrev main_call3_call0_v6 : Ref sig .tc := ⟨.hbm, 65, rfl⟩
abbrev main_call3_call0_v7 : Ref sig .tc := ⟨.hbm, 66, rfl⟩
abbrev main_call3_call0_v8 : Ref sig .tc := ⟨.hbm, 67, rfl⟩
abbrev main_call3_call0_v9 : Ref sig .tc := ⟨.hbm, 68, rfl⟩
abbrev main_call3_call0_v10 : Ref sig .tc := ⟨.hbm, 69, rfl⟩
abbrev main_call3_call0_v11 : Ref sig .tc := ⟨.hbm, 70, rfl⟩
abbrev main_call3_v1 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_1 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩

abbrev nD : Nat := 1
abbrev τ : Topo := Topo.v7x

variable {F : FTy → Type} [FloatOps F]
-- ==== Kernel2.lean ====
abbrev S8704x2048 : Shape := ⟨2, ![8704, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8704x2048 : Shape := ⟨2, ![8704, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S2048x5632 : Shape := ⟨2, ![2048, 5632]⟩
abbrev S5632x2048 : Shape := ⟨2, ![5632, 2048]⟩
abbrev S8704x5632 : Shape := ⟨2, ![8704, 5632]⟩

abbrev nBuf : Space → Nat
  | .hbm => 42
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8704x2048, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S1x2048, .f32⟩
  | .hbm, ⟨20, _⟩ => ⟨S8704x2048, .f32⟩
  | .hbm, ⟨21, _⟩ => ⟨S8704x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S8704x5632, .f32⟩
  | .hbm, ⟨26, _⟩ => ⟨S8704x5632, .f32⟩
  | .hbm, ⟨27, _⟩ => ⟨S8704x5632, .f32⟩
  | .hbm, ⟨28, _⟩ => ⟨S_, .f32⟩
  | .hbm, ⟨29, _⟩ => ⟨S8704x5632, .f32⟩
  | .hbm, ⟨30, _⟩ => ⟨S8704x5632, .f32⟩
  | .hbm, ⟨31, _⟩ => ⟨S_, .f32⟩
  | .hbm, ⟨32, _⟩ => ⟨S8704x5632, .f32⟩
  | .hbm, ⟨33, _⟩ => ⟨S8704x5632, .f32⟩
  | .hbm, ⟨34, _⟩ => ⟨S8704x5632, .f32⟩
  | .hbm, ⟨35, _⟩ => ⟨S8704x5632, .f32⟩
  | .hbm, ⟨36, _⟩ => ⟨S8704x5632, .f32⟩
  | .hbm, ⟨37, _⟩ => ⟨S8704x2048, .f32⟩
  | .hbm, ⟨38, _⟩ => ⟨S_, .f32⟩
  | .hbm, ⟨39, _⟩ => ⟨S8704x2048, .f32⟩
  | .hbm, ⟨40, _⟩ => ⟨S8704x2048, .f32⟩
  | .hbm, ⟨41, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S5632x2048 : Shape := ⟨2, ![5632, 2048]⟩
abbrev S8192x5632 : Shape := ⟨2, ![8192, 5632]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel4.lean ====
abbrev S8192x1024 : Shape := ⟨2, ![8192, 1024]⟩
abbrev S8704x12288 : Shape := ⟨2, ![8704, 12288]⟩
abbrev S8704x2048 : Shape := ⟨2, ![8704, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S8192x2048 : Shape := ⟨2, ![8192, 2048]⟩
abbrev S512x1024 : Shape := ⟨2, ![512, 1024]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 14
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8704x12288, .f32⟩
  | .hbm, ⟨3, _⟩ => ⟨S8704x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S2048x2048, .f32⟩
  | .hbm, ⟨12, _⟩ => ⟨S2048x2048, .bf16⟩
  | .hbm, ⟨13, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x512, .f32⟩
  | .local _ .vmem, ⟨9, _⟩ => ⟨S512x512, .f32⟩
  | .local _ .vmem, ⟨10, _⟩ => ⟨S1024x2048, .bf16⟩
  | .local _ .vmem, ⟨11, _⟩ => ⟨S1024x2048, .bf16⟩
  | .local _ .vmem, ⟨12, _⟩ => ⟨S2048x512, .bf16⟩
  | .local _ .vmem, ⟨13, _⟩ => ⟨S2048x512, .bf16⟩
  | .local _ .vmem, ⟨14, _⟩ => ⟨S512x512, .f32⟩
  | .local _ .vmem, ⟨15, _⟩ => ⟨S512x512, .f32⟩
  | .local _ .vmem, ⟨16, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x1024 : Shape := ⟨2, ![8192, 1024]⟩
abbrev S8704x12288 : Shape := ⟨2, ![8704, 12288]⟩
abbrev S8704x2048 : Shape := ⟨2, ![8704, 2048]⟩
abbrev S1x1024x2048 : Shape := ⟨3, ![1, 1024, 2048]⟩
abbrev S1x2048x2048 : Shape := ⟨3, ![1, 2048, 2048]⟩
abbrev S8192x2048 : Shape := ⟨2, ![8192, 2048]⟩
abbrev S1024x2048 : Shape := ⟨2, ![1024, 2048]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8704x12288, .f32⟩
  | .hbm, ⟨3, _⟩ => ⟨S8704x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S8192x2048, .f32⟩
  | .hbm, ⟨8, _⟩ => ⟨S8192x2048, .f32⟩
  | .hbm, ⟨9, _⟩ => ⟨S1024x2048, .f32⟩
  | .hbm, ⟨10, _⟩ => ⟨S8192x2048, .f32⟩
  | .hbm, ⟨11, _⟩ => ⟨S1024x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S2048x2048, .f32⟩
  | .hbm, ⟨18, _⟩ => ⟨S8192x2048, .f32⟩
  | .hbm, ⟨19, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel5.lean ====
abbrev S8704x2048 : Shape := ⟨2, ![8704, 2048]⟩
abbrev S1x2048 : Shape := ⟨2, ![1, 2048]⟩
abbrev S1x2048x11344 : Shape := ⟨3, ![1, 2048, 11344]⟩
abbrev S8192 : Shape := ⟨1, ![8192]⟩
abbrev S_ : Shape := ⟨0, ![]⟩
abbrev S16 : Shape := ⟨1, ![16]⟩
abbrev S32 : Shape := ⟨1, ![32]⟩
abbrev S464 : Shape := ⟨1, ![464]⟩
abbrev S8704 : Shape := ⟨1, ![8704]⟩
abbrev S8704x1 : Shape := ⟨2, ![8704, 1]⟩
abbrev S1x16 : Shape := ⟨2, ![1, 16]⟩
abbrev S8704x16 : Shape := ⟨2, ![8704, 16]⟩
abbrev S8 : Shape := ⟨1, ![8]⟩
abbrev S1x8 : Shape := ⟨2, ![1, 8]⟩
abbrev S8704x8 : Shape := ⟨2, ![8704, 8]⟩
abbrev S8704x96 : Shape := ⟨2, ![8704, 96]⟩
abbrev S8704x128 : Shape := ⟨2, ![8704, 128]⟩
abbrev S8704x112 : Shape := ⟨2, ![8704, 112]⟩
abbrev S8704x48 : Shape := ⟨2, ![8704, 48]⟩
abbrev S8704x64 : Shape := ⟨2, ![8704, 64]⟩
abbrev S1x8704x1x64 : Shape := ⟨4, ![1, 8704, 1, 64]⟩
abbrev S1x8704x2x64 : Shape := ⟨4, ![1, 8704, 2, 64]⟩
abbrev S8704x56 : Shape := ⟨2, ![8704, 56]⟩
abbrev S8704x120 : Shape := ⟨2, ![8704, 120]⟩
abbrev S8704x1152 : Shape := ⟨2, ![8704, 1152]⟩
abbrev S2048x11344 : Shape := ⟨2, ![2048, 11344]⟩
abbrev S2048x4096 : Shape := ⟨2, ![2048, 4096]⟩
abbrev S2048x3072 : Shape := ⟨2, ![2048, 3072]⟩
abbrev S2048x1024 : Shape := ⟨2, ![2048, 1024]⟩
abbrev S2048x2048 : Shape := ⟨2, ![2048, 2048]⟩
abbrev S2048x80 : Shape := ⟨2, ![2048, 80]⟩
abbrev S2048x944 : Shape := ⟨2, ![2048, 944]⟩
abbrev S2048x12288 : Shape := ⟨2, ![2048, 12288]⟩
abbrev S2048 : Shape := ⟨1, ![2048]⟩
abbrev S8704x12288 : Shape := ⟨2, ![8704, 12288]⟩
abbrev S512x2048 : Shape := ⟨2, ![512, 2048]⟩
abbrev S512x1152 : Shape := ⟨2, ![512, 1152]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 111
  | .vmem => 10
  | .smem => 0
  | _ => 0

abbrev bufTy : (tb : Table) → Fin (tcTables nBuf tb) → BufTy
  | .hbm, ⟨0, _⟩ => ⟨S8704x2048, .f32⟩
  | .hbm, ⟨1, _⟩ => ⟨S1x2048, .f32⟩
  | .hbm, ⟨2, _⟩ => ⟨S1x2048x11344, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S16, .i32⟩
  | .hbm, ⟨8, _⟩ => ⟨S_, .i32⟩
  | .hbm, ⟨9, _⟩ => ⟨S32, .i32⟩
  | .hbm, ⟨10, _⟩ => ⟨S_, .i32⟩
  | .hbm, ⟨11, _⟩ => ⟨S464, .i32⟩
  | .hbm, ⟨12, _⟩ => ⟨S8704, .i32⟩
  | .hbm, ⟨13, _⟩ => ⟨S8704, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S8704x1, .f32⟩
  | .hbm, ⟨23, _⟩ => ⟨S1x16, .f32⟩
  | .hbm, ⟨24, _⟩ => ⟨S8704x16, .f32⟩
  | .hbm, ⟨25, _⟩ => ⟨S8704x16, .f32⟩
  | .hbm, ⟨26, _⟩ => ⟨S8704x16, .f32⟩
  | .hbm, ⟨27, _⟩ => ⟨S8704x16, .f32⟩
  | .hbm, ⟨28, _⟩ => ⟨S8704x16, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8704x1, .f32⟩
  | .hbm, ⟨38, _⟩ => ⟨S1x8, .f32⟩
  | .hbm, ⟨39, _⟩ => ⟨S8704x8, .f32⟩
  | .hbm, ⟨40, _⟩ => ⟨S8704x8, .f32⟩
  | .hbm, ⟨41, _⟩ => ⟨S8704x8, .f32⟩
  | .hbm, ⟨42, _⟩ => ⟨S8704x8, .f32⟩
  | .hbm, ⟨43, _⟩ => ⟨S8704x8, .f32⟩
  | .hbm, ⟨44, _⟩ => ⟨S_, .f32⟩
  | .hbm, ⟨45, _⟩ => ⟨S8704x96, .f32⟩
  | .hbm, ⟨46, _⟩ => ⟨S8704x128, .f32⟩
  | .hbm, ⟨47, _⟩ => ⟨S8704x16, .f32⟩
  | .hbm, ⟨48, _⟩ => ⟨S_, .f32⟩
  | .hbm, ⟨49, _⟩ => ⟨S8704x112, .f32⟩
  | .hbm, ⟨50, _⟩ => ⟨S8704x128, .f32⟩
  | .hbm, ⟨51, _⟩ => ⟨S_, .f32⟩
  | .hbm, ⟨52, _⟩ => ⟨S8704x16, .f32⟩
  | .hbm, ⟨53, _⟩ => ⟨S_, .f32⟩
  | .hbm, ⟨54, _⟩ => ⟨S8704x96, .f32⟩
  | .hbm, ⟨55, _⟩ => ⟨S8704x128, .f32⟩
  | .hbm, ⟨56, _⟩ => ⟨S_, .f32⟩
  | .hbm, ⟨57, _⟩ => ⟨S8704x48, .f32⟩
  | .hbm, ⟨58, _⟩ => ⟨S8704x64, .f32⟩
  | .hbm, ⟨59, _⟩ => ⟨S1x8704x1x64, .f32⟩
  | .hbm, ⟨60, _⟩ => ⟨S1x8704x2x64, .f32⟩
  | .hbm, ⟨61, _⟩ => ⟨S8704x128, .f32⟩
  | .hbm, ⟨62, _⟩ => ⟨S8704x8, .f32⟩
  | .hbm, ⟨63, _⟩ => ⟨S_, .f32⟩
  | .hbm, ⟨64, _⟩ => ⟨S8704x56, .f32⟩
  | .hbm, ⟨65, _⟩ => ⟨S8704x64, .f32⟩
  | .hbm, ⟨66, _⟩ => ⟨S1x8704x1x64, .f32⟩
  | .hbm, ⟨67, _⟩ => ⟨S1x8704x2x64, .f32⟩
  | .hbm, ⟨68, _⟩ => ⟨S8704x128, .f32⟩
  | .hbm, ⟨69, _⟩ => ⟨S_, .f32⟩
  | .hbm, ⟨70, _⟩ => ⟨S8704x8, .f32⟩
  | .hbm, ⟨71, _⟩ => ⟨S_, .f32⟩
  | .hbm, ⟨72, _⟩ => ⟨S8704x48, .f32⟩
  | .hbm, ⟨73, _⟩ => ⟨S8704x64, .f32⟩
  | .hbm, ⟨74, _⟩ => ⟨S1x8704x1x64, .f32⟩
  | .hbm, ⟨75, _⟩ => ⟨S1x8704x2x64, .f32⟩
  | .hbm, ⟨76, _⟩ => ⟨S8704x128, .f32⟩
  | .hbm, ⟨77, _⟩ => ⟨S_, .f32⟩
  | .hbm, ⟨78, _⟩ => ⟨S8704x48, .f32⟩
  | .hbm, ⟨79, _⟩ => ⟨S_, .f32⟩
  | .hbm, ⟨80, _⟩ => ⟨S8704x16, .f32⟩
  | .hbm, ⟨81, _⟩ => ⟨S_, .f32⟩
  | .hbm, ⟨82, _⟩ => ⟨S8704x16, .f32⟩
  | .hbm, ⟨83, _⟩ => ⟨S8704x16, .f32⟩
  | .hbm, ⟨84, _⟩ => ⟨S_, .f32⟩
  | .hbm, ⟨85, _⟩ => ⟨S8704x48, .f32⟩
  | .hbm, ⟨86, _⟩ => ⟨S8704x128, .f32⟩
  | .hbm, ⟨87, _⟩ => ⟨S8704x8, .f32⟩
  | .hbm, ⟨88, _⟩ => ⟨S_, .f32⟩
  | .hbm, ⟨89, _⟩ => ⟨S8704x120, .f32⟩
  | .hbm, ⟨90, _⟩ => ⟨S8704x128, .f32⟩
  | .hbm, ⟨91, _⟩ => ⟨S_, .f32⟩
  | .hbm, ⟨92, _⟩ => ⟨S8704x8, .f32⟩
  | .hbm, ⟨93, _⟩ => ⟨S_, .f32⟩
  | .hbm, ⟨94, _⟩ => ⟨S8704x112, .f32⟩
  | .hbm, ⟨95, _⟩ => ⟨S8704x128, .f32⟩
  | .hbm, ⟨96, _⟩ => ⟨S8704x1152, .f32⟩
  | .hbm, ⟨97, _⟩ => ⟨S2048x11344, .f32⟩
  | .hbm, ⟨98, _⟩ => ⟨S2048x4096, .f32⟩
  | .hbm, ⟨99, _⟩ => ⟨S2048x3072, .f32⟩
  | .hbm, ⟨100, _⟩ => ⟨S2048x1024, .f32⟩
  | .hbm, ⟨101, _⟩ => ⟨S2048x2048, .f32⟩
  | .hbm, ⟨102, _⟩ => ⟨S2048x1024, .f32⟩
  | .hbm, ⟨103, _⟩ => ⟨S2048x80, .f32⟩
  | .hbm, ⟨104, _⟩ => ⟨S_, .f32⟩
  | .hbm, ⟨105, _⟩ => ⟨S2048x944, .f32⟩
  | .hbm, ⟨106, _⟩ => ⟨S2048x12288, .f32⟩
  | .hbm, ⟨107, _⟩ => ⟨S2048x12288, .bf16⟩
  | .hbm, ⟨108, _⟩ => ⟨S2048, .f32⟩
  | .hbm, ⟨109, _⟩ => ⟨S1x2048, .f32⟩
  | .hbm, ⟨110, _⟩ => ⟨S8704x12288, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1152, .f32⟩
  | .local _ .vmem, ⟨6, _⟩ => ⟨S512x1152, .f32⟩
  | .local _ .vmem, ⟨7, _⟩ => ⟨S512x1024, .f32⟩
  | .local _ .vmem, ⟨8, _⟩ => ⟨S512x1024, .f32⟩
  | .local _ .vmem, ⟨9, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_v62 : Ref sig .tc := ⟨.hbm, 83, rfl⟩
abbrev main_cst_16 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_17 : Ref sig .tc := ⟨.hbm, 88, rfl⟩
abbrev main_v66 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_cst_19 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_20 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 12], ![false, false]⟩

def k0_cond2 (i : grid0.Coords) : BitVec 1 :=
  let arg1 : BitVec 32 := BitVec.ofNat 32 (i 1).val
  let c4_i32_1 : BitVec 32 := 4#32
  let v4 : BitVec 1 := Scalar.cmpi .sge arg1 c4_i32_1
  let c8_i32 : BitVec 32 := 8#32
  let v5 : BitVec 1 := Scalar.cmpi .slt arg1 c8_i32
  let v6 : BitVec 1 := Scalar.andi v4 v5
  let v14 : BitVec 32 := Scalar.extui v6
  let c0_i32_5 : BitVec 32 := 0#32
  let v15 : BitVec 1 := Scalar.cmpi .ne v14 c0_i32_5
  v15

def k0_cond3 (i : grid0.Coords) : BitVec 1 :=
  let arg1 : BitVec 32 := BitVec.ofNat 32 (i 1).val
  let c8_i32_2 : BitVec 32 := 8#32
  let v7 : BitVec 1 := Scalar.cmpi .sge arg1 c8_i32_2
  let c10_i32 : BitVec 32 := 10#32
  let v8 : BitVec 1 := Scalar.cmpi .slt arg1 c10_i32
  let v9 : BitVec 1 := Scalar.andi v7 v8
  let v16 : BitVec 32 := Scalar.extui v9
  let c0_i32_6 : BitVec 32 := 0#32
  let v17 : BitVec 1 := Scalar.cmpi .ne v16 c0_i32_6
  v17

def k0_cond4 (i : grid0.Coords) : BitVec 1 :=
  let arg1 : BitVec 32 := BitVec.ofNat 32 (i 1).val
  let c10_i32_3 : BitVec 32 := 10#32
  let v10 : BitVec 1 := Scalar.cmpi .sge arg1 c10_i32_3
  let c11_i32 : BitVec 32 := 11#32
  let v11 : BitVec 1 := Scalar.cmpi .slt arg1 c11_i32
  let v12 : BitVec 1 := Scalar.andi v10 v11
  let v18 : BitVec 32 := Scalar.extui v12
  let c0_i32_7 : BitVec 32 := 0#32
  let v19 : BitVec 1 := Scalar.cmpi .ne v18 c0_i32_7
  v19

def k0_cond5 (i : grid0.Coords) : BitVec 1 :=
  let arg1 : BitVec 32 := BitVec.ofNat 32 (i 1).val
  let c11_i32_4 : BitVec 32 := 11#32
  let v13 : BitVec 1 := Scalar.cmpi .eq arg1 c11_i32_4
  let v20 : BitVec 32 := Scalar.extui v13
  let c0_i32_8 : BitVec 32 := 0#32
  let v21 : BitVec 1 := Scalar.cmpi .ne v20 c0_i32_8
  v21

def k0_cond6 (i : grid0.Coords) : BitVec 1 :=
  let arg1 : BitVec 32 := BitVec.ofNat 32 (i 1).val
  let c4_i32 : BitVec 32 := 4#32
  let v3 : BitVec 1 := Scalar.cmpi .slt arg1 c4_i32
  let v22 : BitVec 32 := Scalar.extui v3
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8704x2048 : Shape := ⟨2, ![8704, 2048]⟩
abbrev S1x2048 : Shape := ⟨2, ![1, 2048]⟩
abbrev S1x2048x11344 : Shape := ⟨3, ![1, 2048, 11344]⟩
abbrev S8192 : Shape := ⟨1, ![8192]⟩
abbrev S_ : Shape := ⟨0, ![]⟩
abbrev S16 : Shape := ⟨1, ![16]⟩
abbrev S32 : Shape := ⟨1, ![32]⟩
abbrev S464 : Shape := ⟨1, ![464]⟩
abbrev S8704 : Shape := ⟨1, ![8704]⟩
abbrev S2048 : Shape := ⟨1, ![2048]⟩
abbrev S8704x1 : Shape := ⟨2, ![8704, 1]⟩
abbrev S2048x11344 : Shape := ⟨2, ![2048, 11344]⟩
abbrev S8704x11344 : Shape := ⟨2, ![8704, 11344]⟩
abbrev S8704x3072 : Shape := ⟨2, ![8704, 3072]⟩
abbrev S8704x1024 : Shape := ⟨2, ![8704, 1024]⟩
abbrev S8704x8x128 : Shape := ⟨3, ![8704, 8, 128]⟩
abbrev S1x16 : Shape := ⟨2, ![1, 16]⟩
abbrev S8704x16 : Shape := ⟨2, ![8704, 16]⟩
abbrev S8704x1x16 : Shape := ⟨3, ![8704, 1, 16]⟩
abbrev S8704x8x16 : Shape := ⟨3, ![8704, 8, 16]⟩
abbrev S8704x8x32 : Shape := ⟨3, ![8704, 8, 32]⟩
abbrev S8704x8x96 : Shape := ⟨3, ![8704, 8, 96]⟩
abbrev S8704x16x64 : Shape := ⟨3, ![8704, 16, 64]⟩
abbrev S8 : Shape := ⟨1, ![8]⟩
abbrev S1x8 : Shape := ⟨2, ![1, 8]⟩
abbrev S8704x8 : Shape := ⟨2, ![8704, 8]⟩
abbrev S8704x1x8 : Shape := ⟨3, ![8704, 1, 8]⟩
abbrev S8704x16x8 : Shape := ⟨3, ![8704, 16, 8]⟩
abbrev S8704x16x16 : Shape := ⟨3, ![8704, 16, 16]⟩
abbrev S8704x16x48 : Shape := ⟨3, ![8704, 16, 48]⟩
abbrev S8704x64 : Shape := ⟨2, ![8704, 64]⟩
abbrev S8704x1x64 : Shape := ⟨3, ![8704, 1, 64]⟩
abbrev S8704x1x48 : Shape := ⟨3, ![8704, 1, 48]⟩
abbrev S8704x944 : Shape := ⟨2, ![8704, 944]⟩
abbrev S8704x12288 : Shape := ⟨2, ![8704, 12288]⟩

abbrev nBuf : Space → Nat
  | .hbm => 199
  | .vmem => 0
  | .smem => 0
  | _ => 0

abbrev hbmTy0_0 (i : Nat) : BufTy := match i % 128 with
  | 0 => ⟨S8704x2048, .f32⟩
  | 1 => ⟨S1x2048, .f32⟩
  | 2 => ⟨S1x2048x11344, .f32⟩
  | 3 => ⟨S8192, .i32⟩
  | 4 => ⟨S_, .i32⟩
  | 5 => ⟨S8192, .i32⟩
  | 6 => ⟨S8192, .i32⟩
  | 7 => ⟨S16, .i32⟩
  | 8 => ⟨S_, .i32⟩
  | 9 => ⟨S32, .i32⟩
  | 10 => ⟨S_, .i32⟩
  | 11 => ⟨S464, .i32⟩
  | 12 => ⟨S8704, .i32⟩
  | 13 => ⟨S2048, .f32⟩
  | 14 => ⟨S8704x2048, .f32⟩
  | 15 => ⟨S_, .f32⟩
  | 16 => ⟨S8704, .f32⟩
  | 17 => ⟨S8704x1, .f32⟩
  | 18 => ⟨S_, .f32⟩
  | 19 => ⟨S8704x1, .f32⟩
  | 20 => ⟨S8704x1, .f32⟩
  | 21 => ⟨S_, .f32⟩
  | 22 => ⟨S8704x1, .f32⟩
  | 23 => ⟨S8704x1, .f32⟩
  | 24 => ⟨S8704x1, .f32⟩
  | 25 => ⟨S8704x2048, .f32⟩
  | 26 => ⟨S8704x2048, .f32⟩
  | 27 => ⟨S1x2048, .f32⟩
  | 28 => ⟨S8704x2048, .f32⟩
  | 29 => ⟨S8704x2048, .f32⟩
  | 30 => ⟨S2048x11344, .f32⟩
  | 31 => ⟨S8704x11344, .f32⟩
  | 32 => ⟨S8704x2048, .f32⟩
  | 33 => ⟨S8704x2048, .f32⟩
  | 34 => ⟨S8704x2048, .f32⟩
  | 35 => ⟨S_, .f32⟩
  | 36 => ⟨S8704x2048, .f32⟩
  | 37 => ⟨S8704x2048, .f32⟩
  | 38 => ⟨S_, .f32⟩
  | 39 => ⟨S8704x2048, .f32⟩
  | 40 => ⟨S8704x2048, .f32⟩
  | 41 => ⟨S8704x2048, .f32⟩
  | 42 => ⟨S8704x2048, .f32⟩
  | 43 => ⟨S8704x2048, .f32⟩
  | 44 => ⟨S_, .f32⟩
  | 45 => ⟨S8704x2048, .f32⟩
  | 46 => ⟨S8704x2048, .f32⟩
  | 47 => ⟨S_, .f32⟩
  | 48 => ⟨S8704x2048, .f32⟩
  | 49 => ⟨S8704x2048, .f32⟩
  | 50 => ⟨S8704x3072, .f32⟩
  | 51 => ⟨S8704x1024, .f32⟩
  | 52 => ⟨S8704x1024, .f32⟩
  | 53 => ⟨S8704x8x128, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S8704, .f32⟩
  | 63 => ⟨S8704x1, .f32⟩
  | 64 => ⟨S1x16, .f32⟩
  | 65 => ⟨S8704x16, .f32⟩
  | 66 => ⟨S8704x16, .f32⟩
  | 67 => ⟨S8704x16, .f32⟩
  | 68 => ⟨S8704x16, .f32⟩
  | 69 => ⟨S8704x1x16, .f32⟩
  | 70 => ⟨S8704x16, .f32⟩
  | 71 => ⟨S8704x1x16, .f32⟩
  | 72 => ⟨S8704x8x16, .f32⟩
  | 73 => ⟨S8704x8x16, .f32⟩
  | 74 => ⟨S8704x8x16, .f32⟩
  | 75 => ⟨S8704x8x16, .f32⟩
  | 76 => ⟨S8704x8x16, .f32⟩
  | 77 => ⟨S8704x8x16, .f32⟩
  | 78 => ⟨S8704x8x16, .f32⟩
  | 79 => ⟨S8704x8x16, .f32⟩
  | 80 => ⟨S8704x8x16, .f32⟩
  | 81 => ⟨S8704x8x16, .f32⟩
  | 82 => ⟨S8704x8x16, .f32⟩
  | 83 => ⟨S8704x8x16, .f32⟩
  | 84 => ⟨S8704x8x32, .f32⟩
  | 85 => ⟨S8704x8x96, .f32⟩
  | 86 => ⟨S8704x8x128, .f32⟩
  | 87 => ⟨S8704x1024, .f32⟩
  | 88 => ⟨S8704x1024, .f32⟩
  | 89 => ⟨S8704x8x128, .f32⟩
  | 90 => ⟨S16, .f32⟩
  | 91 => ⟨S16, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S8704, .f32⟩
  | 99 => ⟨S8704x1, .f32⟩
  | 100 => ⟨S1x16, .f32⟩
  | 101 => ⟨S8704x16, .f32⟩
  | 102 => ⟨S8704x16, .f32⟩
  | 103 => ⟨S8704x16, .f32⟩
  | 104 => ⟨S8704x16, .f32⟩
  | 105 => ⟨S8704x1x16, .f32⟩
  | 106 => ⟨S8704x16, .f32⟩
  | 107 => ⟨S8704x1x16, .f32⟩
  | 108 => ⟨S8704x8x16, .f32⟩
  | 109 => ⟨S8704x8x16, .f32⟩
  | 110 => ⟨S8704x8x16, .f32⟩
  | 111 => ⟨S8704x8x16, .f32⟩
  | 112 => ⟨S8704x8x16, .f32⟩
  | 113 => ⟨S8704x8x16, .f32⟩
  | 114 => ⟨S8704x8x16, .f32⟩
  | 115 => ⟨S8704x8x16, .f32⟩
  | 116 => ⟨S8704x8x16, .f32⟩
  | 117 => ⟨S8704x8x16, .f32⟩
  | 118 => ⟨S8704x8x16, .f32⟩
  | 119 => ⟨S8704x8x16, .f32⟩
  | 120 => ⟨S8704x8x32, .f32⟩
  | 121 => ⟨S8704x8x96, .f32⟩
  | 122 => ⟨S8704x8x128, .f32⟩
  | 123 => ⟨S8704x1024, .f32⟩
  | 124 => ⟨S8704x1024, .f32⟩
  | 125 => ⟨S8704x16x64, .f32⟩
  | 126 => ⟨S8, .f32⟩
  | 127 => ⟨S8, .f32⟩
  | _ => ⟨S8704x2048, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S8704, .f32⟩
  | 7 => ⟨S8704x1, .f32⟩
  | 8 => ⟨S1x8, .f32⟩
  | 9 => ⟨S8704x8, .f32⟩
  | 10 => ⟨S8704x8, .f32⟩
  | 11 => ⟨S8704x8, .f32⟩
  | 12 => ⟨S8704x8, .f32⟩
  | 13 => ⟨S8704x1x8, .f32⟩
  | 14 => ⟨S8704x8, .f32⟩
  | 15 => ⟨S8704x1x8, .f32⟩
  | 16 => ⟨S8704x16x8, .f32⟩
  | 17 => ⟨S8704x16x8, .f32⟩
  | 18 => ⟨S8704x16x8, .f32⟩
  | 19 => ⟨S8704x16x8, .f32⟩
  | 20 => ⟨S8704x16x8, .f32⟩
  | 21 => ⟨S8704x16x8, .f32⟩
  | 22 => ⟨S8704x16x8, .f32⟩
  | 23 => ⟨S8704x16x8, .f32⟩
  | 24 => ⟨S8704x16x8, .f32⟩
  | 25 => ⟨S8704x16x8, .f32⟩
  | 26 => ⟨S8704x16x8, .f32⟩
  | 27 => ⟨S8704x16x8, .f32⟩
  | 28 => ⟨S8704x16x16, .f32⟩
  | 29 => ⟨S8704x16x48, .f32⟩
  | 30 => ⟨S8704x16x64, .f32⟩
  | 31 => ⟨S8704x1024, .f32⟩
  | 32 => ⟨S8704x64, .f32⟩
  | 33 => ⟨S8704x1x64, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S8704, .f32⟩
  | 43 => ⟨S8704x1, .f32⟩
  | 44 => ⟨S1x8, .f32⟩
  | 45 => ⟨S8704x8, .f32⟩
  | 46 => ⟨S8704x8, .f32⟩
  | 47 => ⟨S8704x8, .f32⟩
  | 48 => ⟨S8704x8, .f32⟩
  | 49 => ⟨S8704x1x8, .f32⟩
  | 50 => ⟨S8704x8, .f32⟩
  | 51 => ⟨S8704x1x8, .f32⟩
  | 52 => ⟨S8704x1x8, .f32⟩
  | 53 => ⟨S8704x1x8, .f32⟩
  | 54 => ⟨S8704x1x8, .f32⟩
  | 55 => ⟨S8704x1x8, .f32⟩
  | 56 => ⟨S8704x1x8, .f32⟩
  | 57 => ⟨S8704x1x8, .f32⟩
  | 58 => ⟨S8704x1x8, .f32⟩
  | 59 => ⟨S8704x1x8, .f32⟩
  | 60 => ⟨S8704x1x16, .f32⟩
  | 61 => ⟨S8704x1x48, .f32⟩
  | 62 => ⟨S8704x1x64, .f32⟩
  | 63 => ⟨S8704x64, .f32⟩
  | 64 => ⟨S8704x16, .f32⟩
  | 65 => ⟨S_, .f32⟩
  | 66 => ⟨S8704x16, .f32⟩
  | 67 => ⟨S8704x16, .f32⟩
  | 68 => ⟨S_, .f32⟩
  | 69 => ⟨S8704x944, .f32⟩
  | 70 => ⟨S8704x12288, .f32⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_10 : Ref sig .tc := ⟨.hbm, 92, rfl⟩
abbrev main_v77 : Ref sig .tc := ⟨.hbm, 93, rfl⟩
abbrev main_v78 : Ref sig .tc := ⟨.hbm, 94, rfl⟩
abbrev main_cst_11 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_12 : Ref sig .tc := ⟨.hbm, 128, rfl⟩
abbrev main_v111 : Ref sig .tc := ⟨.hbm, 129, rfl⟩
abbrev main_v112 : Ref sig .tc := ⟨.hbm, 130, rfl⟩
abbrev main_cst_13 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_14 : Ref sig .tc := ⟨.hbm, 164, rfl⟩
abbrev main_v145 : Ref sig .tc := ⟨.hbm, 165, rfl⟩
abbrev main_v146 : Ref sig .tc := ⟨.hbm, 166, rfl⟩
abbrev main_cst_15 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_cst_16 : Ref sig .tc := ⟨.hbm, 193, rfl⟩
abbrev main_v172 : Ref sig .tc := ⟨.hbm, 194, rfl⟩
abbrev main_v173 : Ref sig .tc := ⟨.hbm, 195, rfl⟩
abbrev main_cst_17 : Ref sig .tc := ⟨.hbm, 196, rfl⟩
abbrev main_v174 : Ref sig .tc := ⟨.hbm, 197, rfl⟩
abbrev main_v175 : Ref sig .tc := ⟨.hbm, 198, rfl⟩

abbrev nD : Nat := 1
abbrev τ : Topo := Topo.v7x

variable {F : FTy → Type} [FloatOps F]
-- ==== Kernel6.lean ====
abbrev S32x2048 : Shape := ⟨2, ![32, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S32 : Shape := ⟨1, ![32]⟩
abbrev S32x1 : Shape := ⟨2, ![32, 1]⟩
abbrev S32x512 : Shape := ⟨2, ![32, 512]⟩

abbrev nBuf : Space → Nat
  | .hbm => 16
  | .vmem => 12
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S32x2048, .f32⟩
  | .local _ .vmem, ⟨10, _⟩ => ⟨S32x2048, .bf16⟩
  | .local _ .vmem, ⟨11, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference6Ideal.lean ====
abbrev S32x2048 : Shape := ⟨2, ![32, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S32 : Shape := ⟨1, ![32]⟩
abbrev S32x1 : Shape := ⟨2, ![32, 1]⟩
abbrev S2048x5632 : Shape := ⟨2, ![2048, 5632]⟩
abbrev S5632x2048 : Shape := ⟨2, ![5632, 2048]⟩
abbrev S32x5632 : Shape := ⟨2, ![32, 5632]⟩

abbrev nBuf : Space → Nat
  | .hbm => 59
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S32x2048, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x2048, .f32⟩
  | .hbm, ⟨19, _⟩ => ⟨S32x2048, .f32⟩
  | .hbm, ⟨20, _⟩ => ⟨S1x2048, .f32⟩
  | .hbm, ⟨21, _⟩ => ⟨S32x2048, .f32⟩
  | .hbm, ⟨22, _⟩ => ⟨S32x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S32x5632, .f32⟩
  | .hbm, ⟨27, _⟩ => ⟨S32x5632, .f32⟩
  | .hbm, ⟨28, _⟩ => ⟨S32x5632, .f32⟩
  | .hbm, ⟨29, _⟩ => ⟨S_, .f32⟩
  | .hbm, ⟨30, _⟩ => ⟨S32x5632, .f32⟩
  | .hbm, ⟨31, _⟩ => ⟨S32x5632, .f32⟩
  | .hbm, ⟨32, _⟩ => ⟨S_, .f32⟩
  | .hbm, ⟨33, _⟩ => ⟨S32x5632, .f32⟩
  | .hbm, ⟨34, _⟩ => ⟨S32x5632, .f32⟩
  | .hbm, ⟨35, _⟩ => ⟨S32x5632, .f32⟩
  | .hbm, ⟨36, _⟩ => ⟨S32x5632, .f32⟩
  | .hbm, ⟨37, _⟩ => ⟨S32x5632, .f32⟩
  | .hbm, ⟨38, _⟩ => ⟨S32x2048, .f32⟩
  | .hbm, ⟨39, _⟩ => ⟨S_, .f32⟩
  | .hbm, ⟨40, _⟩ => ⟨S32x2048, .f32⟩
  | .hbm, ⟨41, _⟩ => ⟨S32x2048, .f32⟩
  | .hbm, ⟨42, _⟩ => ⟨S32x2048, .f32⟩
  | .hbm, ⟨43, _⟩ => ⟨S32x2048, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S_, .f32⟩
  | .hbm, ⟨51, _⟩ => ⟨S32x1, .f32⟩
  | .hbm, ⟨52, _⟩ => ⟨S32x1, .f32⟩
  | .hbm, ⟨53, _⟩ => ⟨S32x1, .f32⟩
  | .hbm, ⟨54, _⟩ => ⟨S32x2048, .f32⟩
  | .hbm, ⟨55, _⟩ => ⟨S32x2048, .f32⟩
  | .hbm, ⟨56, _⟩ => ⟨S1x2048, .f32⟩
  | .hbm, ⟨57, _⟩ => ⟨S32x2048, .f32⟩
  | .hbm, ⟨58, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel7.lean ====
abbrev S32x1024 : Shape := ⟨2, ![32, 1024]⟩
abbrev S8704x12288 : Shape := ⟨2, ![8704, 12288]⟩
abbrev S8704x2048 : Shape := ⟨2, ![8704, 2048]⟩
abbrev S1x1024x2048 : Shape := ⟨3, ![1, 1024, 2048]⟩
abbrev S1x2048x2048 : Shape := ⟨3, ![1, 2048, 2048]⟩
abbrev S32x12288 : Shape := ⟨2, ![32, 12288]⟩
abbrev S32x2048 : Shape := ⟨2, ![32, 2048]⟩
abbrev S1024x2048 : Shape := ⟨2, ![1024, 2048]⟩
abbrev S2048x2048 : Shape := ⟨2, ![2048, 2048]⟩
abbrev S32x512 : Shape := ⟨2, ![32, 512]⟩
abbrev S2048x512 : Shape := ⟨2, ![2048, 512]⟩

abbrev nBuf : Space → Nat
  | .hbm => 18
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S8704x12288, .f32⟩
  | .hbm, ⟨3, _⟩ => ⟨S8704x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S32x12288, .f32⟩
  | .hbm, ⟨8, _⟩ => ⟨S32x2048, .f32⟩
  | .hbm, ⟨9, _⟩ => ⟨S32x2048, .f32⟩
  | .hbm, ⟨10, _⟩ => ⟨S32x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S32x2048, .f32⟩
  | .local _ .vmem, ⟨0, _⟩ => ⟨S32x1024, .f32⟩
  | .local _ .vmem, ⟨1, _⟩ => ⟨S32x1024, .f32⟩
  | .local _ .vmem, ⟨2, _⟩ => ⟨S32x2048, .f32⟩
  | .local _ .vmem, ⟨3, _⟩ => ⟨S32x2048, .f32⟩
  | .local _ .vmem, ⟨4, _⟩ => ⟨S32x512, .f32⟩
  | .local _ .vmem, ⟨5, _⟩ => ⟨S32x512, .f32⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S32x512, .f32⟩
  | .local _ .vmem, ⟨11, _⟩ => ⟨S32x512, .f32⟩
  | .local _ .vmem, ⟨12, _⟩ => ⟨S32x2048, .bf16⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S32x1024 : Shape := ⟨2, ![32, 1024]⟩
abbrev S8704x12288 : Shape := ⟨2, ![8704, 12288]⟩
abbrev S8704x2048 : Shape := ⟨2, ![8704, 2048]⟩
abbrev S1x1024x2048 : Shape := ⟨3, ![1, 1024, 2048]⟩
abbrev S1x2048x2048 : Shape := ⟨3, ![1, 2048, 2048]⟩
abbrev S32x2048 : Shape := ⟨2, ![32, 2048]⟩
abbrev S1024x2048 : Shape := ⟨2, ![1024, 2048]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S8704x12288, .f32⟩
  | .hbm, ⟨3, _⟩ => ⟨S8704x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S32x2048, .f32⟩
  | .hbm, ⟨8, _⟩ => ⟨S32x2048, .f32⟩
  | .hbm, ⟨9, _⟩ => ⟨S1024x2048, .f32⟩
  | .hbm, ⟨10, _⟩ => ⟨S32x2048, .f32⟩
  | .hbm, ⟨11, _⟩ => ⟨S1024x2048, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S32x2048, .f32⟩
  | .hbm, ⟨17, _⟩ => ⟨S2048x2048, .f32⟩
  | .hbm, ⟨18, _⟩ => ⟨S32x2048, .f32⟩
  | .hbm, ⟨19, _⟩ => ⟨S32x2048, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel8.lean ====
abbrev S8704x12288 : Shape := ⟨2, ![8704, 12288]⟩
abbrev S8192x8704 : Shape := ⟨2, ![8192, 8704]⟩
abbrev S8192x1024 : Shape := ⟨2, ![8192, 1024]⟩
abbrev S256x256 : Shape := ⟨2, ![256, 256]⟩
abbrev S8704x256 : Shape := ⟨2, ![8704, 256]⟩
abbrev S256x8704 : Shape := ⟨2, ![256, 8704]⟩
abbrev S256x128 : Shape := ⟨2, ![256, 128]⟩
abbrev S256x1 : Shape := ⟨2, ![256, 1]⟩
abbrev S128x128 : Shape := ⟨2, ![128, 128]⟩
abbrev S256 : Shape := ⟨1, ![256]⟩
abbrev S256x1024 : Shape := ⟨2, ![256, 1024]⟩
abbrev S1024x128 : Shape := ⟨2, ![1024, 128]⟩

abbrev nBuf : Space → Nat
  | .hbm => 3
  | .vmem => 10
  | .smem => 0
  | _ => 0

abbrev bufTy : (tb : Table) → Fin (tcTables nBuf tb) → BufTy
  | .hbm, ⟨0, _⟩ => ⟨S8704x12288, .f32⟩
  | .hbm, ⟨1, _⟩ => ⟨S8192x8704, .bf16⟩
  | .hbm, ⟨2, _⟩ => ⟨S8192x1024, .f32⟩
  | .local _ .vmem, ⟨0, _⟩ => ⟨S256x256, .f32⟩
  | .local _ .vmem, ⟨1, _⟩ => ⟨S256x256, .f32⟩
  | .local _ .vmem, ⟨2, _⟩ => ⟨S8704x256, .f32⟩
  | .local _ .vmem, ⟨3, _⟩ => ⟨S8704x256, .f32⟩
  | .local _ .vmem, ⟨4, _⟩ => ⟨S8704x256, .f32⟩
  | .local _ .vmem, ⟨5, _⟩ => ⟨S8704x256, .f32⟩
  | .local _ .vmem, ⟨6, _⟩ => ⟨S256x8704, .bf16⟩
  | .local _ .vmem, ⟨7, _⟩ => ⟨S256x8704, .bf16⟩
  | .local _ .vmem, ⟨8, _⟩ => ⟨S256x256, .f32⟩
  | .local _ .vmem, ⟨9, _⟩ => ⟨S256x256, .f32⟩
  | _, _ => ⟨S8704x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_33 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v83 : BitVec 32 := Scalar.subi v20 c0_i32_33
  let c1_i32_34 : BitVec 32 := 1#32
  let v85 : BitVec 32 := Scalar.divsi v83 c1_i32_34
  let v86 : BitVec 32 := Scalar.muli v85 c1_i32_34
  let v87 : BitVec 32 := Scalar.addi c0_i32_33 v86
  let c1_i32_35 : BitVec 32 := 1#32
  ⟨c0_i32_33, v87, c1_i32_35⟩
def k0_mult1 (i : grid0.Coords) (k0_t1 : Fin (k0_t1_loop i).trips) : BitVec 32 :=
  let c0_i32_33 : BitVec 32 := 0#32
  let c1_i32_35 : BitVec 32 := 1#32
  let arg7 : BitVec 32 := Scf.iv c0_i32_33 c1_i32_35 k0_t1
  let c1024_i32_41 : BitVec 32 := 1024#32
  let v96 : BitVec 32 := Scalar.muli arg7 c1024_i32_41
  v96
def k0_off1 (i : grid0.Coords) (k0_t1 : Fin (k0_t1_loop i).trips) : Fin 2 → Nat :=
  let c0_42 : Index := 0#32
  let c0_i32_33 : BitVec 32 := 0#32
  let c1_i32_35 : BitVec 32 := 1#32
  let arg7 : BitVec 32 := Scf.iv c0_i32_33 c1_i32_35 k0_t1
  let c1024_i32_41 : BitVec 32 := 1024#32
  let v96 : BitVec 32 := Scalar.muli arg7 c1024_i32_41
  let v97 : BitVec 32 := v96
  let v98 : Index := Scalar.indexCast v97
  ![0, v98.toNat]
def k0_off2 (i : grid0.Coords) (k0_t1 : Fin (k0_t1_loop i).trips) : Fin 2 → Nat :=
  let c0_i32_33 : BitVec 32 := 0#32
  let c1_i32_35 : BitVec 32 := 1#32
  let arg7 : BitVec 32 := Scf.iv c0_i32_33 c1_i32_35 k0_t1
  let c1024_i32_41 : BitVec 32 := 1024#32
  let v96 : BitVec 32 := Scalar.muli arg7 c1024_i32_41
  let v97 : BitVec 32 := v96
  let v101 : Index := Scalar.indexCast v97
  let c0_43 : Index := 0#32
  ![v101.toNat, 0]
def k0_off3 (i : grid0.Coords) (k0_t1 : Fin (k0_t1_loop i).trips) : Fin 2 → Nat :=
  let c0_i32_33 : BitVec 32 := 0#32
  let c1_i32_35 : BitVec 32 := 1#32
  let arg7 : BitVec 32 := Scf.iv c0_i32_33 c1_i32_35 k0_t1
  let c1024_i32_41 : BitVec 32 := 1024#32
  let v96 : BitVec 32 := Scalar.muli arg7 c1024_i32_41
  let v97 : BitVec 32 := v96
  let v128 : Index := Scalar.indexCast v97
  let c128_50 : Index := 128#32
  ![v128.toNat, 128]
@[reducible] def k0_t2_loop (i : grid0.Coords) : Scf.Loop 32 :=
  let c0_i32_33 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v83 : BitVec 32 := Scalar.subi v20 c0_i32_33
  let c1_i32_34 : BitVec 32 := 1#32
  let v85 : BitVec 32 := Scalar.divsi v83 c1_i32_34
  let v86 : BitVec 32 := Scalar.muli v85 c1_i32_34
  let v87 : BitVec 32 := Scalar.addi c0_i32_33 v86
  let v84 : BitVec 32 := Scalar.addi c0_i32_33 v83
  let c1_i32_36 : BitVec 32 := 1#32
  ⟨v87, v84, c1_i32_36⟩
def k0_mult2 (i : grid0.Coords) (k0_t2 : Fin (k0_t2_loop i).trips) : BitVec 32 :=
  let c0_i32_33 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v83 : BitVec 32 := Scalar.subi v20 c0_i32_33
  let c1_i32_34 : BitVec 32 := 1#32
  let v85 : BitVec 32 := Scalar.divsi v83 c1_i32_34
  let v86 : BitVec 32 := Scalar.muli v85 c1_i32_34
  let v87 : BitVec 32 := Scalar.addi c0_i32_33 v86
  let c1_i32_36 : BitVec 32 := 1#32
  let arg7 : BitVec 32 := Scf.iv v87 c1_i32_36 k0_t2
  let c1024_i32_41 : BitVec 32 := 1024#32
  let v96 : BitVec 32 := Scalar.muli arg7 c1024_i32_41
  v96
def k0_off4 (i : grid0.Coords) (k0_t2 : Fin (k0_t2_loop i).trips) : Fin 2 → Nat :=
  let c0_42 : Index := 0#32
  let c0_i32_33 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v83 : BitVec 32 := Scalar.subi v20 c0_i32_33
  let c1_i32_34 : BitVec 32 := 1#32
  let v85 : BitVec 32 := Scalar.divsi v83 c1_i32_34
  let v86 : BitVec 32 := Scalar.muli v85 c1_i32_34
  let v87 : BitVec 32 := Scalar.addi c0_i32_33 v86
  let c1_i32_36 : BitVec 32 := 1#32
  let arg7 : BitVec 32 := Scf.iv v87 c1_i32_36 k0_t2
  let c1024_i32_41 : BitVec 32 := 1024#32
  let v96 : BitVec 32 := Scalar.muli arg7 c1024_i32_41
  let v97 : BitVec 32 := v96
  let v98 : Index := Scalar.indexCast v97
  ![0, v98.toNat]
def k0_off5 (i : grid0.Coords) (k0_t2 : Fin (k0_t2_loop i).trips) : Fin 2 → Nat :=
  let c0_i32_33 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v83 : BitVec 32 := Scalar.subi v20 c0_i32_33
  let c1_i32_34 : BitVec 32 := 1#32
  let v85 : BitVec 32 := Scalar.divsi v83 c1_i32_34
  let v86 : BitVec 32 := Scalar.muli v85 c1_i32_34
  let v87 : BitVec 32 := Scalar.addi c0_i32_33 v86
  let c1_i32_36 : BitVec 32 := 1#32
  let arg7 : BitVec 32 := Scf.iv v87 c1_i32_36 k0_t2
  let c1024_i32_41 : BitVec 32 := 1024#32
  let v96 : BitVec 32 := Scalar.muli arg7 c1024_i32_41
  let v97 : BitVec 32 := v96
  let v101 : Index := Scalar.indexCast v97
  let c0_43 : Index := 0#32
  ![v101.toNat, 0]
def k0_off6 (i : grid0.Coords) (k0_t2 : Fin (k0_t2_loop i).trips) : Fin 2 → Nat :=
  let c0_i32_33 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v83 : BitVec 32 := Scalar.subi v20 c0_i32_33
  let c1_i32_34 : BitVec 32 := 1#32
  let v85 : BitVec 32 := Scalar.divsi v83 c1_i32_34
  let v86 : BitVec 32 := Scalar.muli v85 c1_i32_34
  let v87 : BitVec 32 := Scalar.addi c0_i32_33 v86
  let c1_i32_36 : BitVec 32 := 1#32
  let arg7 : BitVec 32 := Scf.iv v87 c1_i32_36 k0_t2
  let c1024_i32_41 : BitVec 32 := 1024#32
  let v96 : BitVec 32 := Scalar.muli arg7 c1024_i32_41
  let v97 : BitVec 32 := v96
  let v128 : Index := Scalar.indexCast v97
  let c128_50 : Index := 128#32
  ![v128.toNat, 128]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x8704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S8704x12288 : Shape := ⟨2, ![8704, 12288]⟩
abbrev S8192x8704 : Shape := ⟨2, ![8192, 8704]⟩
abbrev S8704x1024 : Shape := ⟨2, ![8704, 1024]⟩
abbrev S16x1024 : Shape := ⟨2, ![16, 1024]⟩
abbrev S8192x1024 : Shape := ⟨2, ![8192, 1024]⟩
abbrev S8208x1024 : Shape := ⟨2, ![8208, 1024]⟩
abbrev S8208x8x128 : Shape := ⟨3, ![8208, 8, 128]⟩
abbrev S8192x16 : Shape := ⟨2, ![8192, 16]⟩
abbrev S8192x8192 : Shape := ⟨2, ![8192, 8192]⟩
abbrev S8192x8208 : Shape := ⟨2, ![8192, 8208]⟩
abbrev S_ : Shape := ⟨0, ![]⟩
abbrev S8192x8x128 : Shape := ⟨3, ![8192, 8, 128]⟩
abbrev S8x8192x8208 : Shape := ⟨3, ![8, 8192, 8208]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8704x12288, .f32⟩
  | .hbm, ⟨1, _⟩ => ⟨S8192x8704, .bf16⟩
  | .hbm, ⟨2, _⟩ => ⟨S8704x1024, .f32⟩
  | .hbm, ⟨3, _⟩ => ⟨S16x1024, .f32⟩
  | .hbm, ⟨4, _⟩ => ⟨S8192x1024, .f32⟩
  | .hbm, ⟨5, _⟩ => ⟨S8208x1024, .f32⟩
  | .hbm, ⟨6, _⟩ => ⟨S8208x8x128, .f32⟩
  | .hbm, ⟨7, _⟩ => ⟨S8704x1024, .f32⟩
  | .hbm, ⟨8, _⟩ => ⟨S16x1024, .f32⟩
  | .hbm, ⟨9, _⟩ => ⟨S8192x1024, .f32⟩
  | .hbm, ⟨10, _⟩ => ⟨S8208x1024, .f32⟩
  | .hbm, ⟨11, _⟩ => ⟨S8208x8x128, .f32⟩
  | .hbm, ⟨12, _⟩ => ⟨S8704x1024, .f32⟩
  | .hbm, ⟨13, _⟩ => ⟨S16x1024, .f32⟩
  | .hbm, ⟨14, _⟩ => ⟨S8192x1024, .f32⟩
  | .hbm, ⟨15, _⟩ => ⟨S8208x1024, .f32⟩
  | .hbm, ⟨16, _⟩ => ⟨S8208x8x128, .f32⟩
  | .hbm, ⟨17, _⟩ => ⟨S8192x16, .bf16⟩
  | .hbm, ⟨18, _⟩ => ⟨S8192x8192, .bf16⟩
  | .hbm, ⟨19, _⟩ => ⟨S8192x8208, .bf16⟩
  | .hbm, ⟨20, _⟩ => ⟨S_, .bf16⟩
  | .hbm, ⟨21, _⟩ => ⟨S8192x8208, .bf16⟩
  | .hbm, ⟨22, _⟩ => ⟨S8192x8208, .i1⟩
  | .hbm, ⟨23, _⟩ => ⟨S8192x8x128, .f32⟩
  | .hbm, ⟨24, _⟩ => ⟨S8x8192x8208, .f32⟩
  | .hbm, ⟨25, _⟩ => ⟨S_, .f32⟩
  | .hbm, ⟨26, _⟩ => ⟨S8x8192x8208, .f32⟩
  | .hbm, ⟨27, _⟩ => ⟨S8x8192x8208, .f32⟩
  | .hbm, ⟨28, _⟩ => ⟨S_, .f32⟩
  | .hbm, ⟨29, _⟩ => ⟨S_, .f32⟩
  | .hbm, ⟨30, _⟩ => ⟨S8x8192x8208, .i1⟩
  | .hbm, ⟨31, _⟩ => ⟨S8x8192x8208, .f32⟩
  | .hbm, ⟨32, _⟩ => ⟨S8x8192x8208, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8208, .f32⟩
  | .hbm, ⟨40, _⟩ => ⟨S8x8192x8208, .f32⟩
  | .hbm, ⟨41, _⟩ => ⟨S8x8192x8208, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8208, .f32⟩
  | .hbm, ⟨46, _⟩ => ⟨S8x8192x8208, .f32⟩
  | .hbm, ⟨47, _⟩ => ⟨S8x128x8192, .f32⟩
  | .hbm, ⟨48, _⟩ => ⟨S8192x8x128, .f32⟩
  | .hbm, ⟨49, _⟩ => ⟨S8192x1024, .f32⟩
  | _, _ => ⟨S8704x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Layer.lean ====
/- The layer's mathematics over extended reals: the root-mean-square normalisation and the gated feed-forward. -/
module

public import Idealize.ShloMosaic.Lib.Pointwise

@[expose] public section

noncomputable section

namespace Cert.Layer

open Idealize.ShloMosaic

/-- The normalisation's epsilon, 1e-6. -/
def eps : EReal := Ideal.ofBits .f32 897988541#32
/-- The model's width, 2048. -/
def width : EReal := Ideal.ofBits .f32 1157627904#32
/-- The residual's weight, a half. -/
def half : EReal := Ideal.ofBits .f32 1056964608#32

/-- A row divided by its root mean square, times a gain. -/
def rms (x g : Fin 2048 → EReal) (k : Fin 2048) : EReal :=
  x k * Ideal.rsqrt (Ideal.div (∑ j, x j * x j) width + eps) * g k

/-- A hidden unit: the gate's SiLU times the up projection. -/
def hidden (u : Fin 2048 → EReal) (wg wu : Fin 2048 → Fin 5632 → EReal) (f : Fin 5632) : EReal :=
  (∑ j, u j * wg j f) * Ideal.logistic (∑ j, u j * wg j f) * ∑ j, u j * wu j f

/-- A row plus half its feed-forward. -/
def ffn (x g : Fin 2048 → EReal) (wg wu : Fin 2048 → Fin 5632 → EReal) (wd : Fin 5632 → Fin 2048 → EReal) (k : Fin 2048) : EReal :=
  x k + half * ∑ f, hidden (rms x g) wg wu f * wd f k

/-- The gated sum of two attentions' projections. -/
def mix (a b : Fin 1024 → EReal) (ga gb : Fin 2048 → EReal) (wa wb : Fin 1024 → Fin 2048 → EReal) (k : Fin 2048) : EReal :=
  ga k * (∑ j, a j * wa j k) + gb k * ∑ j, b j * wb j k

end Cert.Layer

end
-- ==== Proof.Ffn.lean ====
/- The first feed-forward call: what each grid point holds, and the result array. -/
module

public import proofs.«01_k».proof.Proof.Gen.Kernel2Ideal.Value
public import proofs.«01_k».proof.Proof.Layer
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Ffn

open Cert.Kernel2Ideal Cert.Kernel2Ideal.Gen Cert.Layer
open Idealize.ShloMosaic Idealize.ShloMosaic.TcCoe Idealize.SL.Sem

/-- The normalised rows. -/
theorem pay_norm (x : FVec Ideal S512x2048 .f32) (g : FVec Ideal S1x2048 .f32) (r : Fin 512) (k : Fin 2048) :
    k0_pay1 (F := Ideal) x g (ix2 r k) = rms (fun j => x (ix2 r j)) (fun j => g (ix2 0 j)) k := by
  pointwise [k0_pay1]
  rfl

/-- The accumulator's start. -/
theorem pay_zero (r : Fin 512) (k : Fin 2048) : k0_pay2 (F := Ideal) (ix2 r k) = 0 := by
  pointwise [k0_pay2]

/-- The accumulator after a tile of the hidden units. -/
theorem pay_tile (u : FVec Ideal S512x2048 .bf16) (wg wu : FVec Ideal S2048x512 .bf16) (a : FVec Ideal S512x2048 .f32)
    (wd : FVec Ideal S512x2048 .bf16) (r : Fin 512) (k : Fin 2048) :
    k0_pay3 (F := Ideal) u wg wu a wd (ix2 r k) = a (ix2 r k) + ∑ s : Fin 512,
      (∑ j : Fin 2048, u (ix2 r j) * wg (ix2 j s)) * Ideal.logistic (∑ j : Fin 2048, u (ix2 r j) * wg (ix2 j s))
        * (∑ j : Fin 2048, u (ix2 r j) * wu (ix2 j s)) * wd (ix2 s k) := by
  pointwise [k0_pay3]

/-- The residual sum. -/
theorem pay_out (x a : FVec Ideal S512x2048 .f32) (r : Fin 512) (k : Fin 2048) :
    k0_pay4 (F := Ideal) x a (ix2 r k) = x (ix2 r k) + half * a (ix2 r k) := by
  pointwise [k0_pay4]
  rfl

variable (m : (ℓ : Loc nD τ sig) → Buf (Elt Ideal) ℓ) (c : Dev nD)

/-- The blocks' indices. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0] ∧ win0_5.index t = ![t.val / 11, 0] :=
  (by decide +kernel : ∀ t : Fin grid0.N, _)

/-- The rows' array. -/
abbrev rows : FVec Ideal S8704x2048 .f32 := m ((c.tc : Thread nD τ).loc main_arg0)
/-- The gain. -/
abbrev gain : FVec Ideal S1x2048 .f32 := m ((c.tc : Thread nD τ).loc main_arg1)
/-- The gate's weights. -/
abbrev gate : FVec Ideal S1x2048x5632 .f32 := m ((c.tc : Thread nD τ).loc main_arg2)
/-- The up projection's weights. -/
abbrev up : FVec Ideal S1x2048x5632 .f32 := m ((c.tc : Thread nD τ).loc main_arg3)
/-- The down projection's weights. -/
abbrev down : FVec Ideal S1x5632x2048 .f32 := m ((c.tc : Thread nD τ).loc main_arg4)

/-- The gain as the call finds it. -/
def gain2 (x : FVec Ideal S1x2048 .f32) : FVec Ideal S1x2048 .f32 :=
  shapeCast S1x2048 (shapeCast S2048 x shapeCasts_S1x2048_S2048) shapeCasts_S2048_S1x2048
/-- A wide weight as the call finds it. -/
def wide (x : FVec Ideal S1x2048x5632 .f32) : FVec Ideal S2048x5632 .bf16 :=
  truncf .bf16 (shapeCast S2048x5632 x shapeCasts_S1x2048x5632_S2048x5632) bitsLt_bf16_f32
/-- The tall weight as the call finds it. -/
def tall (x : FVec Ideal S1x5632x2048 .f32) : FVec Ideal S5632x2048 .bf16 :=
  truncf .bf16 (shapeCast S5632x2048 x shapeCasts_S1x5632x2048_S5632x2048) bitsLt_bf16_f32

theorem gain2_apply (x : FVec Ideal S1x2048 .f32) (k : Fin 2048) : gain2 x (ix2 0 k) = x (ix2 0 k) := by
  pointwise [gain2]

theorem wide_apply (x : FVec Ideal S1x2048x5632 .f32) (j : Fin 2048) (f : Fin 5632) : wide x (ix2 j f) = x (ix3 0 j f) := by
  pointwise [wide]

theorem tall_apply (x : FVec Ideal S1x5632x2048 .f32) (f : Fin 5632) (k : Fin 2048) : tall x (ix2 f k) = x (ix3 0 f k) := by
  pointwise [tall]

theorem entry_gain : V m c main_v1 = gain2 (gain m c) := by
  unfold V hostOps0
  after_results
  rfl

theorem entry_gate : V m c main_v3 = wide (gate m c) := by
  unfold V hostOps0
  after_results
  rfl

theorem entry_up : V m c main_v5 = wide (up m c) := by
  unfold V hostOps0
  after_results
  rfl

theorem entry_down : V m c main_v7 = tall (down m c) := by
  unfold V hostOps0
  after_results
  rfl

/-- A block of the rows. -/
theorem blk0 (t : Fin cfg0.N) (r : Fin 512) (b : Fin 2048) (n : Fin 8704) (hn : n.val = 512 * (t.val / 11) + r.val) :
    iblk m c 0 t (ix2 r b) = rows m c (ix2 n b) := by
  blk_ext [iblk, V, idx t]

theorem blk1_read (T : FVec Ideal S1x2048 .f32) (h : V m c main_v1 = T) (t : Fin cfg0.N) (b : Fin 2048) :
    iblk m c 1 t (ix2 0 b) = T (ix2 0 b) := by
  unfold iblk
  rw [show V m c (Pipeline.arrRef spec0 1) = T from h]
  clear h
  blk_simp [idx t]
  blk_ext [idx t]

theorem blk2_read (T : FVec Ideal S2048x5632 .bf16) (h : V m c main_v3 = T) (t : Fin cfg0.N) (b : Fin 2048) (s : Fin 512) (n : Fin 5632)
    (hn : n.val = 512 * (t.val % 11) + s.val) : iblk m c 2 t (ix2 b s) = T (ix2 b n) := by
  unfold iblk
  rw [show V m c (Pipeline.arrRef spec0 2) = T from h]
  clear h
  blk_simp [idx t]
  blk_ext [idx t]

theorem blk3_read (T : FVec Ideal S2048x5632 .bf16) (h : V m c main_v5 = T) (t : Fin cfg0.N) (b : Fin 2048) (s : Fin 512) (n : Fin 5632)
    (hn : n.val = 512 * (t.val % 11) + s.val) : iblk m c 3 t (ix2 b s) = T (ix2 b n) := by
  unfold iblk
  rw [show V m c (Pipeline.arrRef spec0 3) = T from h]
  clear h
  blk_simp [idx t]
  blk_ext [idx t]

theorem blk4_read (T : FVec Ideal S5632x2048 .bf16) (h : V m c main_v7 = T) (t : Fin cfg0.N) (b : Fin 2048) (s : Fin 512) (n : Fin 5632)
    (hn : n.val = 512 * (t.val % 11) + s.val) : iblk m c 4 t (ix2 s b) = T (ix2 n b) := by
  unfold iblk
  rw [show V m c (Pipeline.arrRef spec0 4) = T from h]
  clear h
  blk_simp [idx t]
  blk_ext [idx t]

/-- A block of the gain. -/
theorem blk1 (t : Fin cfg0.N) (b : Fin 2048) : iblk m c 1 t (ix2 0 b) = gain m c (ix2 0 b) :=
  (blk1_read m c _ (entry_gain m c) t b).trans (gain2_apply _ _)

/-- A tile of the gate's weights. -/
theorem blk2 (t : Fin cfg0.N) (b : Fin 2048) (s : Fin 512) (n : Fin 5632) (hn : n.val = 512 * (t.val % 11) + s.val) :
    iblk m c 2 t (ix2 b s) = gate m c (ix3 0 b n) :=
  (blk2_read m c _ (entry_gate m c) t b s n hn).trans (wide_apply _ _ _)

/-- A tile of the up projection's weights. -/
theorem blk3 (t : Fin cfg0.N) (b : Fin 2048) (s : Fin 512) (n : Fin 5632) (hn : n.val = 512 * (t.val % 11) + s.val) :
    iblk m c 3 t (ix2 b s) = up m c (ix3 0 b n) :=
  (blk3_read m c _ (entry_up m c) t b s n hn).trans (wide_apply _ _ _)

/-- A tile of the down projection's weights. -/
theorem blk4 (t : Fin cfg0.N) (b : Fin 2048) (s : Fin 512) (n : Fin 5632) (hn : n.val = 512 * (t.val % 11) + s.val) :
    iblk m c 4 t (ix2 s b) = down m c (ix3 0 n b) :=
  (blk4_read m c _ (entry_down m c) t b s n hn).trans (tall_apply _ _ _)

/-- A row's normalised entries. -/
def normed (x : FVec Ideal S8704x2048 .f32) (g : FVec Ideal S1x2048 .f32) (n : Fin 8704) : Fin 2048 → EReal :=
  rms (fun j => x (ix2 n j)) (fun j => g (ix2 0 j))

/-- A hidden unit's share of an entry. -/
def share (x : FVec Ideal S8704x2048 .f32) (g : FVec Ideal S1x2048 .f32) (wg wu : FVec Ideal S1x2048x5632 .f32) (wd : FVec Ideal S1x5632x2048 .f32)
    (n : Fin 8704) (k : Fin 2048) (f : Fin 5632) : EReal :=
  hidden (normed x g n) (fun j f => wg (ix3 0 j f)) (fun j f => wu (ix3 0 j f)) f * wd (ix3 0 f k)

/-- The call's result. -/
def result (x : FVec Ideal S8704x2048 .f32) (g : FVec Ideal S1x2048 .f32) (wg wu : FVec Ideal S1x2048x5632 .f32) (wd : FVec Ideal S1x5632x2048 .f32) :
    FVec Ideal S8704x2048 .f32 := fun i =>
  ffn (fun j => x (ix2 (i 0) j)) (fun j => g (ix2 0 j)) (fun j f => wg (ix3 0 j f)) (fun j f => wu (ix3 0 j f)) (fun f k => wd (ix3 0 f k)) (i 1)

/-- The normalised rows of a block. -/
theorem norm_blk (t : Fin cfg0.N) (r : Fin 512) (k : Fin 2048) (n : Fin 8704) (hn : n.val = 512 * (t.val / 11) + r.val) :
    k0_pay1 (F := Ideal) (iblk m c 0 t) (iblk m c 1 t) (ix2 r k) = normed (rows m c) (gain m c) n k := by
  rw [pay_norm]
  unfold normed
  congr 1
  · exact funext fun j => blk0 m c t r j n hn
  · exact funext fun j => blk1 m c t j

/-- The normalised rows, carried from point to point. -/
theorem carried (n : ℕ) (hn : n < cfg0.N) (r : Fin 512) (k : Fin 2048) (R : Fin 8704) (hR : R.val = 512 * (n / 11) + r.val) :
    (outsAt0 m c n hn).2.1 (ix2 r k) = normed (rows m c) (gain m c) R k := by
  induction n with
  | zero =>
    rw [outsAt0_A m c ⟨0, hn⟩ (by simp only) (by simp only; omega)]
    frame_out
    exact norm_blk m c ⟨0, hn⟩ r k R hR
  | succ n ih =>
    by_cases h0 : (n + 1) % 11 = 0
    · rw [outsAt0_A m c ⟨n + 1, hn⟩ h0 (by simp only; omega)]
      frame_out
      exact norm_blk m c ⟨n + 1, hn⟩ r k R hR
    · have hp := ih (Nat.lt_of_succ_lt hn) (by omega)
      by_cases h1 : (n + 1) % 11 = 10
      · rw [outsAt0_C m c ⟨n + 1, hn⟩ h0 h1]
        exact hp
      · rw [outsAt0_B m c ⟨n + 1, hn⟩ h0 h1]
        exact hp

/-- A tile's term of an entry. -/
def term (t : Fin cfg0.N) (y : S512x2048.Idx) : EReal :=
  ∑ s : Fin 512, share (rows m c) (gain m c) (gate m c) (up m c) (down m c)
    ⟨512 * (t.val / 11) + (y 0).val, by have h : t.val < 187 := t.isLt; have : (y 0).val < 512 := (y 0).isLt; omega⟩ (y 1)
    ⟨512 * (t.val % 11) + s.val, by omega⟩

/-- A tile's step, from the normalised rows. -/
theorem step (t : Fin cfg0.N) (u : FVec Ideal S512x2048 .bf16) (a : FVec Ideal S512x2048 .f32)
    (hu : ∀ (r : Fin 512) (k : Fin 2048) (R : Fin 8704), R.val = 512 * (t.val / 11) + r.val → u (ix2 r k) = normed (rows m c) (gain m c) R k)
    (y : S512x2048.Idx) :
    k0_pay3 (F := Ideal) u (iblk m c 2 t) (iblk m c 3 t) a (iblk m c 4 t) y = a y + term m c t y := by
  idx_vars y
  rw [pay_tile]
  refine congrArg _ (Finset.sum_congr rfl fun s _ => ?_)
  have h : t.val < 187 := t.isLt
  have hu' := fun j => hu y0 j ⟨512 * (t.val / 11) + y0.val, by omega⟩ rfl
  simp only [hu', blk2 m c t _ s ⟨512 * (t.val % 11) + s.val, by omega⟩ rfl,
    blk3 m c t _ s ⟨512 * (t.val % 11) + s.val, by omega⟩ rfl, blk4 m c t _ s ⟨512 * (t.val % 11) + s.val, by omega⟩ rfl]
  rfl

/-- The accumulator at a row block's first point. -/
theorem acc_first (t : Fin cfg0.N) (h0 : t.val % 11 = 0) (y : S512x2048.Idx) :
    (outsAt0 m c t.val t.isLt).2.2 y = 0 + term m c t y := by
  rw [outsAt0_A m c t h0 (by omega)]
  frame_out
  rw [step m c t _ _ (fun r k R hR => norm_blk m c t r k R hR)]
  congr 1
  idx_vars y
  exact pay_zero _ _

/-- The accumulator at a later point. -/
theorem acc_next (t : Fin cfg0.N) (h0 : ¬t.val % 11 = 0) (y : S512x2048.Idx) :
    (outsAt0 m c t.val t.isLt).2.2 y = (outsAt0 m c (t.val - 1) (Nat.lt_of_le_of_lt (Nat.sub_le _ _) t.isLt)).2.2 y + term m c t y := by
  have hu : ∀ (r : Fin 512) (k : Fin 2048) (R : Fin 8704), R.val = 512 * (t.val / 11) + r.val →
      (outsAt0 m c (t.val - 1) (Nat.lt_of_le_of_lt (Nat.sub_le _ _) t.isLt)).2.1 (ix2 r k) = normed (rows m c) (gain m c) R k :=
    fun r k R hR => carried m c _ _ r k R (by omega)
  by_cases h1 : t.val % 11 = 10
  · rw [outsAt0_C m c t h0 h1]
    frame_out
    simp only [read_unread_whole]
    exact step m c t _ _ hu y
  · rw [outsAt0_B m c t h0 h1]
    frame_out
    simp only [read_unread_whole]
    exact step m c t _ _ hu y

/-- The accumulator at a row block's last point: the sum over all hidden units. -/
theorem acc_last (t : Fin cfg0.N) (h1 : t.val % 11 = 10) (r : Fin 512) (k : Fin 2048) (R : Fin 8704) (hR : R.val = 512 * (t.val / 11) + r.val) :
    (outsAt0 m c t.val t.isLt).2.2 (ix2 r k)
      = ∑ f : Fin 5632, share (rows m c) (gain m c) (gate m c) (up m c) (down m c) R k f := by
  refine (Pipeline.eq_sum_fin_of_reset_step_apply_of_flush (fun n h => (outsAt0 m c n h).2.2) 11 (fun _ => (0 : EReal)) (term m c)
    (acc_first m c) (acc_next m c) t h1 (ix2 r k)).trans ?_
  rw [zero_add]
  refine Fin.sum_mul_add_congr (n := 512) (fun s j hl => ?_)
  have e0 : (11 * (t.val / 11) + s.val) / 11 = t.val / 11 := by omega
  have e1 : (11 * (t.val / 11) + s.val) % 11 = s.val := by omega
  congr 1
  · exact Fin.ext (by simp only [e0]; exact hR.symm)
  · exact Fin.ext (by simp only [e1]; omega)

/-- What a row block's last point writes back. -/
theorem point (t : Fin cfg0.N) (h1 : t.val % 11 = 10) (r : Fin 512) (k : Fin 2048) (R : Fin 8704) (hR : R.val = 512 * (t.val / 11) + r.val) :
    (outsAt0 m c t.val t.isLt).1 (ix2 r k) = result (rows m c) (gain m c) (gate m c) (up m c) (down m c) (ix2 R k) := by
  have ha := acc_last m c t h1 r k R hR
  rw [outsAt0_C m c t (by omega) h1] at ha ⊢
  frame_out at ha
  frame_out
  rw [pay_out, ha, blk0 m c t r k R hR]
  rfl

/-- What a row block's last point writes back, at any index. -/
theorem point_idx (t : Fin cfg0.N) (h1 : t.val % 11 = 10) (y : S512x2048.Idx) (i : S8704x2048.Idx)
    (h0 : (i 0).val = 512 * (t.val / 11) + (y 0).val) (h2 : (i 1).val = (y 1).val) :
    (outsAt0 m c t.val t.isLt).1 y = result (rows m c) (gain m c) (gate m c) (up m c) (down m c) i := by
  idx_vars y
  idx_vars i
  obtain rfl : _ = _ := Fin.ext h2
  exact point m c t h1 _ _ _ h0

/-- The call's result array. -/
theorem final : (dats m 0 c).arrAt 5 cfg0.N = result (rows m c) (gain m c) (gate m c) (up m c) (down m c) := by
  refine (dats m 0 c).arrAt_eq_of_covers 5 _ (by decide +kernel) fun t hf y => ?_
  rw [after0_5]
  refine point_idx m c t ((flush0_5 t).mp hf) _ _ ?_ ?_ <;> blk_simp [idx t]
  exact congrArg (· + _) (Nat.mul_comm _ _)

end Cert.Kernel2Ideal.Ffn

end
-- ==== Proof.FfnRef.lean ====
/- The first feed-forward's reference, entry by entry. -/
module

public import proofs.«01_k».proof.Proof.Gen.Reference2Ideal.Run
public import proofs.«01_k».proof.Proof.Layer
public import Idealize.ShloMosaic.Lib.Pointwise

@[expose] public section

set_option maxRecDepth 16384

noncomputable section

namespace Cert.Reference2Ideal.Entry

open Cert.Reference2Ideal Cert.Reference2Ideal.Gen Cert.Layer
open Idealize.ShloMosaic Idealize.ShloMosaic.TcCoe Idealize.SL.Sem

/-- The normalised rows. -/
def norm (x : FVec Ideal S8704x2048 .f32) (g : FVec Ideal S2048 .f32) : FVec Ideal S8704x2048 .f32 :=
  mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 g))

/-- A wide projection. -/
def proj (u : FVec Ideal S8704x2048 .f32) (w : FVec Ideal S1x2048x5632 .f32) : FVec Ideal S8704x5632 .f32 :=
  Host.dotGeneral dot_S8704x2048_S2048x5632_S8704x5632_1_0_0_1_n_n none u (shapeCast S2048x5632 w shapeCasts_S1x2048x5632_S2048x5632)

/-- The SiLU. -/
def silu (z : FVec Ideal S8704x5632 .f32) : FVec Ideal S8704x5632 .f32 :=
  mulf z (Host.divf (broadcastInDim S8704x5632 ![] bcast_S_S8704x5632 (constant S_ .f32 0x3F800000#32)) (addf (broadcastInDim S8704x5632 ![] bcast_S_S8704x5632 (constant S_ .f32 0x3F800000#32)) (Host.exp (Host.negf z))))

/-- The hidden units. -/
def hid (u : FVec Ideal S8704x2048 .f32) (wg wu : FVec Ideal S1x2048x5632 .f32) : FVec Ideal S8704x5632 .f32 :=
  mulf (silu (proj u wg)) (proj u wu)

/-- The residual sum. -/
def out (x : FVec Ideal S8704x2048 .f32) (h : FVec Ideal S8704x5632 .f32) (wd : FVec Ideal S1x5632x2048 .f32) : FVec Ideal S8704x2048 .f32 :=
  addf x (mulf (broadcastInDim S8704x2048 ![] bcast_S_S8704x2048 (constant S_ .f32 0x3F000000#32)) (Host.dotGeneral dot_S8704x5632_S5632x2048_S8704x2048_1_0_0_1_n_n none h (shapeCast S5632x2048 wd shapeCasts_S1x5632x2048_S5632x2048)))

/-- The reference's result. -/
def whole (x : FVec Ideal S8704x2048 .f32) (g : FVec Ideal S1x2048 .f32) (wg wu : FVec Ideal S1x2048x5632 .f32) (wd : FVec Ideal S1x5632x2048 .f32) :
    FVec Ideal S8704x2048 .f32 :=
  out x (hid (norm x (shapeCast S2048 g shapeCasts_S1x2048_S2048)) wg wu) wd

/-- An entry of the normalised rows. -/
theorem norm_apply (x : FVec Ideal S8704x2048 .f32) (g : FVec Ideal S2048 .f32) (n : Fin 8704) (k : Fin 2048) :
    norm x g (ix2 n k) = rms (fun j => x (ix2 n j)) (fun j => g (ix1 j)) k := by
  pointwise [norm]
  rfl

/-- An entry of a wide projection. -/
theorem proj_apply (u : FVec Ideal S8704x2048 .f32) (w : FVec Ideal S1x2048x5632 .f32) (n : Fin 8704) (f : Fin 5632) :
    proj u w (ix2 n f) = ∑ j : Fin 2048, u (ix2 n j) * w (ix3 0 j f) := by
  pointwise [proj]

/-- An entry of the SiLU. -/
theorem silu_apply (z : FVec Ideal S8704x5632 .f32) (n : Fin 8704) (f : Fin 5632) :
    silu z (ix2 n f) = z (ix2 n f) * Ideal.logistic (z (ix2 n f)) := by
  pointwise [silu]
  rfl

/-- An entry of the hidden units. -/
theorem hid_apply (u : FVec Ideal S8704x2048 .f32) (wg wu : FVec Ideal S1x2048x5632 .f32) (n : Fin 8704) (f : Fin 5632) :
    hid u wg wu (ix2 n f) = hidden (fun j => u (ix2 n j)) (fun j f => wg (ix3 0 j f)) (fun j f => wu (ix3 0 j f)) f := by
  pointwise [hid]
  rw [silu_apply, proj_apply, proj_apply]
  rfl

/-- An entry of the residual sum. -/
theorem out_apply (x : FVec Ideal S8704x2048 .f32) (h : FVec Ideal S8704x5632 .f32) (wd : FVec Ideal S1x5632x2048 .f32) (n : Fin 8704) (k : Fin 2048) :
    out x h wd (ix2 n k) = x (ix2 n k) + half * ∑ f : Fin 5632, h (ix2 n f) * wd (ix3 0 f k) := by
  pointwise [out]
  rfl

/-- The gain's reshaped entries. -/
theorem gain_apply (g : FVec Ideal S1x2048 .f32) (j : Fin 2048) : (shapeCast S2048 g shapeCasts_S1x2048_S2048) (ix1 j) = g (ix2 0 j) := by
  pointwise

/-- An entry of the reference's result. -/
theorem whole_apply (x : FVec Ideal S8704x2048 .f32) (g : FVec Ideal S1x2048 .f32) (wg wu : FVec Ideal S1x2048x5632 .f32)
    (wd : FVec Ideal S1x5632x2048 .f32) (n : Fin 8704) (k : Fin 2048) :
    whole x g wg wu wd (ix2 n k) = ffn (fun j => x (ix2 n j)) (fun j => g (ix2 0 j)) (fun j f => wg (ix3 0 j f)) (fun j f => wu (ix3 0 j f))
      (fun f k => wd (ix3 0 f k)) k := by
  unfold whole
  rw [out_apply]
  simp only [hid_apply, norm_apply, gain_apply]
  rfl

end Cert.Reference2Ideal.Entry

end
-- ==== Proof.FfnClaim.lean ====
/- The first feed-forward's claim: the kernel's and the reference's results are equal. -/
module

public import proofs.«01_k».proof.Defs
public import proofs.«01_k».proof.Proof.Ffn
public import proofs.«01_k».proof.Proof.FfnRef
public import Idealize.ShloMosaic.Lib.Quiescent
public import Idealize.ShloMosaic.Adequacy
public import Idealize.ShloMosaic.Init

@[expose] public section

noncomputable section

namespace Cert.Proof.Ffn

open Idealize.ShloMosaic Idealize.SL.Sem

/-- The first feed-forward's kernel and its reference end with equal results. -/
theorem equal : Cert.algebraic_Kernel2Ideal_Reference2Ideal (hKernel2Ideal := Cert.Kernel2Ideal.Gen.facts) (hReference2Ideal := Cert.Reference2Ideal.Gen.facts) := by
  intro m g m' g' hpre hargs
  refine ⟨fun c => Cert.Kernel2Ideal.Ffn.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · exact (θ_run _ _ _).mono (fun r h c => ⟨(h c).1.trans (Cert.Kernel2Ideal.Ffn.final m c), (h c).2⟩) (Cert.Kernel2Ideal.Value.run_blocks m g)
  · refine (θ_run _ _ _).mono (fun r h c => ⟨(h c).1.trans ?_, (h c).2⟩) (Cert.Reference2Ideal.Value.run m' g')
    obtain ⟨e0, e1, e2, e3, e4⟩ := hargs c
    refine Eq.trans (b := Cert.Reference2Ideal.Entry.whole (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))) rfl ?_
    rw [e0, e1, e2, e3, e4]
    funext y
    have ey : y = ix2 (y 0) (y 1) := (ix2_eta y).symm
    rw [ey]
    exact Cert.Reference2Ideal.Entry.whole_apply _ _ _ _ _ (y 0) (y 1)

/-- The first feed-forward's reference leaves its arguments and every semaphore counter as they were. -/
theorem reference_frame (m : (ℓ : Loc Cert.Reference2Ideal.nD Cert.Reference2Ideal.τ Cert.Reference2Ideal.sig) → Buf (Elt Ideal) ℓ) (ρ : Dev Cert.Reference2Ideal.nD → PrngReg) :
    θ_run Cert.Reference2Ideal.defs (onTc (τ := Cert.Reference2Ideal.τ) (Cert.Reference2Ideal.main (F := Ideal))) ⟨m, fun _ => 0, ρ⟩ fun r =>
      (∀ c : Dev Cert.Reference2Ideal.nD, r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0) ∧
        r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1) ∧
        r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2) ∧
        r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3) ∧
        r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)) ∧ r.2.sem = fun _ => 0 :=
  (θ_run _ _ _).mono (fun r h => ⟨fun c => (h c).2, sem_eq_zero_of_no_sems (by decide) r.2⟩) (Cert.Reference2Ideal.Value.run m ρ)

end Cert.Proof.Ffn

end
-- ==== Proof.Fin.lean ====
/- The second feed-forward call, with the closing normalisation: what each grid point holds, and the result array. -/
module

public import proofs.«01_k».proof.Proof.Gen.Kernel3Ideal.Value
public import proofs.«01_k».proof.Proof.Layer
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Fin

open Cert.Kernel3Ideal Cert.Kernel3Ideal.Gen Cert.Layer
open Idealize.ShloMosaic Idealize.ShloMosaic.TcCoe Idealize.SL.Sem

/-- The normalised rows. -/
theorem pay_norm (x : FVec Ideal S512x2048 .f32) (g : FVec Ideal S1x2048 .f32) (r : Fin 512) (k : Fin 2048) :
    k0_pay1 (F := Ideal) x g (ix2 r k) = rms (fun j => x (ix2 r j)) (fun j => g (ix2 0 j)) k := by
  pointwise [k0_pay1]
  rfl

/-- The accumulator's start. -/
theorem pay_zero (r : Fin 512) (k : Fin 2048) : k0_pay2 (F := Ideal) (ix2 r k) = 0 := by
  pointwise [k0_pay2]

/-- The accumulator after a tile of the hidden units. -/
theorem pay_tile (u : FVec Ideal S512x2048 .bf16) (wg wu : FVec Ideal S2048x512 .bf16) (a : FVec Ideal S512x2048 .f32)
    (wd : FVec Ideal S512x2048 .bf16) (r : Fin 512) (k : Fin 2048) :
    k0_pay3 (F := Ideal) u wg wu a wd (ix2 r k) = a (ix2 r k) + ∑ s : Fin 512,
      (∑ j : Fin 2048, u (ix2 r j) * wg (ix2 j s)) * Ideal.logistic (∑ j : Fin 2048, u (ix2 r j) * wg (ix2 j s))
        * (∑ j : Fin 2048, u (ix2 r j) * wu (ix2 j s)) * wd (ix2 s k) := by
  pointwise [k0_pay3]

/-- The residual sum, normalised. -/
theorem pay_out (x a : FVec Ideal S512x2048 .f32) (g : FVec Ideal S1x2048 .f32) (r : Fin 512) (k : Fin 2048) :
    k0_pay4 (F := Ideal) x a g (ix2 r k)
      = rms (fun j => x (ix2 r j) + half * a (ix2 r j)) (fun j => g (ix2 0 j)) k := by
  pointwise [k0_pay4]
  rfl

variable (m : (ℓ : Loc nD τ sig) → Buf (Elt Ideal) ℓ) (c : Dev nD)

/-- The blocks' indices. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0] ∧ win0_5.index t = ![0, 0]
    ∧ win0_6.index t = ![t.val / 11, 0] :=
  (by decide +kernel : ∀ t : Fin grid0.N, _)

/-- The rows' array. -/
abbrev rows : FVec Ideal S8192x2048 .f32 := m ((c.tc : Thread nD τ).loc main_arg0)
/-- The gain. -/
abbrev gain : FVec Ideal S1x2048 .f32 := m ((c.tc : Thread nD τ).loc main_arg1)
/-- The gate's weights. -/
abbrev gate : FVec Ideal S1x2048x5632 .f32 := m ((c.tc : Thread nD τ).loc main_arg2)
/-- The up projection's weights. -/
abbrev up : FVec Ideal S1x2048x5632 .f32 := m ((c.tc : Thread nD τ).loc main_arg3)
/-- The down projection's weights. -/
abbrev down : FVec Ideal S1x5632x2048 .f32 := m ((c.tc : Thread nD τ).loc main_arg4)

/-- The closing gain. -/
abbrev last : FVec Ideal S2048 .f32 := m ((c.tc : Thread nD τ).loc main_arg5)

/-- The gain as the call finds it. -/
def gain2 (x : FVec Ideal S1x2048 .f32) : FVec Ideal S1x2048 .f32 :=
  shapeCast S1x2048 (shapeCast S2048 x shapeCasts_S1x2048_S2048) shapeCasts_S2048_S1x2048
/-- A wide weight as the call finds it. -/
def wide (x : FVec Ideal S1x2048x5632 .f32) : FVec Ideal S2048x5632 .bf16 :=
  truncf .bf16 (shapeCast S2048x5632 x shapeCasts_S1x2048x5632_S2048x5632) bitsLt_bf16_f32
/-- The tall weight as the call finds it. -/
def tall (x : FVec Ideal S1x5632x2048 .f32) : FVec Ideal S5632x2048 .bf16 :=
  truncf .bf16 (shapeCast S5632x2048 x shapeCasts_S1x5632x2048_S5632x2048) bitsLt_bf16_f32

/-- The closing gain as the call finds it. -/
def last2 (x : FVec Ideal S2048 .f32) : FVec Ideal S1x2048 .f32 := shapeCast S1x2048 x shapeCasts_S2048_S1x2048

theorem last2_apply (x : FVec Ideal S2048 .f32) (k : Fin 2048) : last2 x (ix2 0 k) = x (ix1 k) := by
  pointwise [last2]

theorem gain2_apply (x : FVec Ideal S1x2048 .f32) (k : Fin 2048) : gain2 x (ix2 0 k) = x (ix2 0 k) := by
  pointwise [gain2]

theorem wide_apply (x : FVec Ideal S1x2048x5632 .f32) (j : Fin 2048) (f : Fin 5632) : wide x (ix2 j f) = x (ix3 0 j f) := by
  pointwise [wide]

theorem tall_apply (x : FVec Ideal S1x5632x2048 .f32) (f : Fin 5632) (k : Fin 2048) : tall x (ix2 f k) = x (ix3 0 f k) := by
  pointwise [tall]

theorem entry_gain : V m c main_v1 = gain2 (gain m c) := by
  unfold V hostOps0
  after_results
  rfl

theorem entry_gate : V m c main_v3 = wide (gate m c) := by
  unfold V hostOps0
  after_results
  rfl

theorem entry_up : V m c main_v5 = wide (up m c) := by
  unfold V hostOps0
  after_results
  rfl

theorem entry_down : V m c main_v7 = tall (down m c) := by
  unfold V hostOps0
  after_results
  rfl

theorem entry_last : V m c main_v8 = last2 (last m c) := by
  unfold V hostOps0
  after_results
  rfl

theorem blk5_read (T : FVec Ideal S1x2048 .f32) (h : V m c main_v8 = T) (t : Fin cfg0.N) (b : Fin 2048) :
    iblk m c 5 t (ix2 0 b) = T (ix2 0 b) := by
  unfold iblk
  rw [show V m c (Pipeline.arrRef spec0 5) = T from h]
  clear h
  blk_simp [idx t]
  blk_ext [idx t]

/-- A block of the closing gain. -/
theorem blk5 (t : Fin cfg0.N) (b : Fin 2048) : iblk m c 5 t (ix2 0 b) = last m c (ix1 b) :=
  (blk5_read m c _ (entry_last m c) t b).trans (last2_apply _ _)

/-- A block of the rows. -/
theorem blk0 (t : Fin cfg0.N) (r : Fin 512) (b : Fin 2048) (n : Fin 8192) (hn : n.val = 512 * (t.val / 11) + r.val) :
    iblk m c 0 t (ix2 r b) = rows m c (ix2 n b) := by
  blk_ext [iblk, V, idx t]

theorem blk1_read (T : FVec Ideal S1x2048 .f32) (h : V m c main_v1 = T) (t : Fin cfg0.N) (b : Fin 2048) :
    iblk m c 1 t (ix2 0 b) = T (ix2 0 b) := by
  unfold iblk
  rw [show V m c (Pipeline.arrRef spec0 1) = T from h]
  clear h
  blk_simp [idx t]
  blk_ext [idx t]

theorem blk2_read (T : FVec Ideal S2048x5632 .bf16) (h : V m c main_v3 = T) (t : Fin cfg0.N) (b : Fin 2048) (s : Fin 512) (n : Fin 5632)
    (hn : n.val = 512 * (t.val % 11) + s.val) : iblk m c 2 t (ix2 b s) = T (ix2 b n) := by
  unfold iblk
  rw [show V m c (Pipeline.arrRef spec0 2) = T from h]
  clear h
  blk_simp [idx t]
  blk_ext [idx t]

theorem blk3_read (T : FVec Ideal S2048x5632 .bf16) (h : V m c main_v5 = T) (t : Fin cfg0.N) (b : Fin 2048) (s : Fin 512) (n : Fin 5632)
    (hn : n.val = 512 * (t.val % 11) + s.val) : iblk m c 3 t (ix2 b s) = T (ix2 b n) := by
  unfold iblk
  rw [show V m c (Pipeline.arrRef spec0 3) = T from h]
  clear h
  blk_simp [idx t]
  blk_ext [idx t]

theorem blk4_read (T : FVec Ideal S5632x2048 .bf16) (h : V m c main_v7 = T) (t : Fin cfg0.N) (b : Fin 2048) (s : Fin 512) (n : Fin 5632)
    (hn : n.val = 512 * (t.val % 11) + s.val) : iblk m c 4 t (ix2 s b) = T (ix2 n b) := by
  unfold iblk
  rw [show V m c (Pipeline.arrRef spec0 4) = T from h]
  clear h
  blk_simp [idx t]
  blk_ext [idx t]

/-- A block of the gain. -/
theorem blk1 (t : Fin cfg0.N) (b : Fin 2048) : iblk m c 1 t (ix2 0 b) = gain m c (ix2 0 b) :=
  (blk1_read m c _ (entry_gain m c) t b).trans (gain2_apply _ _)

/-- A tile of the gate's weights. -/
theorem blk2 (t : Fin cfg0.N) (b : Fin 2048) (s : Fin 512) (n : Fin 5632) (hn : n.val = 512 * (t.val % 11) + s.val) :
    iblk m c 2 t (ix2 b s) = gate m c (ix3 0 b n) :=
  (blk2_read m c _ (entry_gate m c) t b s n hn).trans (wide_apply _ _ _)

/-- A tile of the up projection's weights. -/
theorem blk3 (t : Fin cfg0.N) (b : Fin 2048) (s : Fin 512) (n : Fin 5632) (hn : n.val = 512 * (t.val % 11) + s.val) :
    iblk m c 3 t (ix2 b s) = up m c (ix3 0 b n) :=
  (blk3_read m c _ (entry_up m c) t b s n hn).trans (wide_apply _ _ _)

/-- A tile of the down projection's weights. -/
theorem blk4 (t : Fin cfg0.N) (b : Fin 2048) (s : Fin 512) (n : Fin 5632) (hn : n.val = 512 * (t.val % 11) + s.val) :
    iblk m c 4 t (ix2 s b) = down m c (ix3 0 n b) :=
  (blk4_read m c _ (entry_down m c) t b s n hn).trans (tall_apply _ _ _)

/-- A row's normalised entries. -/
def normed (x : FVec Ideal S8192x2048 .f32) (g : FVec Ideal S1x2048 .f32) (n : Fin 8192) : Fin 2048 → EReal :=
  rms (fun j => x (ix2 n j)) (fun j => g (ix2 0 j))

/-- A hidden unit's share of an entry. -/
def share (x : FVec Ideal S8192x2048 .f32) (g : FVec Ideal S1x2048 .f32) (wg wu : FVec Ideal S1x2048x5632 .f32) (wd : FVec Ideal S1x5632x2048 .f32)
    (n : Fin 8192) (k : Fin 2048) (f : Fin 5632) : EReal :=
  hidden (normed x g n) (fun j f => wg (ix3 0 j f)) (fun j f => wu (ix3 0 j f)) f * wd (ix3 0 f k)

/-- The call's result. -/
def result (x : FVec Ideal S8192x2048 .f32) (g : FVec Ideal S1x2048 .f32) (wg wu : FVec Ideal S1x2048x5632 .f32) (wd : FVec Ideal S1x5632x2048 .f32)
    (gl : FVec Ideal S2048 .f32) : FVec Ideal S8192x2048 .f32 := fun i =>
  rms (ffn (fun j => x (ix2 (i 0) j)) (fun j => g (ix2 0 j)) (fun j f => wg (ix3 0 j f)) (fun j f => wu (ix3 0 j f)) (fun f k => wd (ix3 0 f k)))
    (fun j => gl (ix1 j)) (i 1)

/-- The normalised rows of a block. -/
theorem norm_blk (t : Fin cfg0.N) (r : Fin 512) (k : Fin 2048) (n : Fin 8192) (hn : n.val = 512 * (t.val / 11) + r.val) :
    k0_pay1 (F := Ideal) (iblk m c 0 t) (iblk m c 1 t) (ix2 r k) = normed (rows m c) (gain m c) n k := by
  rw [pay_norm]
  unfold normed
  congr 1
  · exact funext fun j => blk0 m c t r j n hn
  · exact funext fun j => blk1 m c t j

/-- The normalised rows, carried from point to point. -/
theorem carried (n : ℕ) (hn : n < cfg0.N) (r : Fin 512) (k : Fin 2048) (R : Fin 8192) (hR : R.val = 512 * (n / 11) + r.val) :
    (outsAt0 m c n hn).2.1 (ix2 r k) = normed (rows m c) (gain m c) R k := by
  induction n with
  | zero =>
    rw [outsAt0_A m c ⟨0, hn⟩ (by simp only) (by simp only; omega)]
    frame_out
    exact norm_blk m c ⟨0, hn⟩ r k R hR
  | succ n ih =>
    by_cases h0 : (n + 1) % 11 = 0
    · rw [outsAt0_A m c ⟨n + 1, hn⟩ h0 (by simp only; omega)]
      frame_out
      exact norm_blk m c ⟨n + 1, hn⟩ r k R hR
    · have hp := ih (Nat.lt_of_succ_lt hn) (by omega)
      by_cases h1 : (n + 1) % 11 = 10
      · rw [outsAt0_C m c ⟨n + 1, hn⟩ h0 h1]
        exact hp
      · rw [outsAt0_B m c ⟨n + 1, hn⟩ h0 h1]
        exact hp

/-- A tile's term of an entry. -/
def term (t : Fin cfg0.N) (y : S512x2048.Idx) : EReal :=
  ∑ s : Fin 512, share (rows m c) (gain m c) (gate m c) (up m c) (down m c)
    ⟨512 * (t.val / 11) + (y 0).val, by have h : t.val < 176 := t.isLt; have : (y 0).val < 512 := (y 0).isLt; omega⟩ (y 1)
    ⟨512 * (t.val % 11) + s.val, by omega⟩

/-- A tile's step, from the normalised rows. -/
theorem step (t : Fin cfg0.N) (u : FVec Ideal S512x2048 .bf16) (a : FVec Ideal S512x2048 .f32)
    (hu : ∀ (r : Fin 512) (k : Fin 2048) (R : Fin 8192), R.val = 512 * (t.val / 11) + r.val → u (ix2 r k) = normed (rows m c) (gain m c) R k)
    (y : S512x2048.Idx) :
    k0_pay3 (F := Ideal) u (iblk m c 2 t) (iblk m c 3 t) a (iblk m c 4 t) y = a y + term m c t y := by
  idx_vars y
  rw [pay_tile]
  refine congrArg _ (Finset.sum_congr rfl fun s _ => ?_)
  have h : t.val < 176 := t.isLt
  have hu' := fun j => hu y0 j ⟨512 * (t.val / 11) + y0.val, by omega⟩ rfl
  simp only [hu', blk2 m c t _ s ⟨512 * (t.val % 11) + s.val, by omega⟩ rfl,
    blk3 m c t _ s ⟨512 * (t.val % 11) + s.val, by omega⟩ rfl, blk4 m c t _ s ⟨512 * (t.val % 11) + s.val, by omega⟩ rfl]
  rfl

/-- The accumulator at a row block's first point. -/
theorem acc_first (t : Fin cfg0.N) (h0 : t.val % 11 = 0) (y : S512x2048.Idx) :
    (outsAt0 m c t.val t.isLt).2.2 y = 0 + term m c t y := by
  rw [outsAt0_A m c t h0 (by omega)]
  frame_out
  rw [step m c t _ _ (fun r k R hR => norm_blk m c t r k R hR)]
  congr 1
  idx_vars y
  exact pay_zero _ _

/-- The accumulator at a later point. -/
theorem acc_next (t : Fin cfg0.N) (h0 : ¬t.val % 11 = 0) (y : S512x2048.Idx) :
    (outsAt0 m c t.val t.isLt).2.2 y = (outsAt0 m c (t.val - 1) (Nat.lt_of_le_of_lt (Nat.sub_le _ _) t.isLt)).2.2 y + term m c t y := by
  have hu : ∀ (r : Fin 512) (k : Fin 2048) (R : Fin 8192), R.val = 512 * (t.val / 11) + r.val →
      (outsAt0 m c (t.val - 1) (Nat.lt_of_le_of_lt (Nat.sub_le _ _) t.isLt)).2.1 (ix2 r k) = normed (rows m c) (gain m c) R k :=
    fun r k R hR => carried m c _ _ r k R (by omega)
  by_cases h1 : t.val % 11 = 10
  · rw [outsAt0_C m c t h0 h1]
    frame_out
    simp only [read_unread_whole]
    exact step m c t _ _ hu y
  · rw [outsAt0_B m c t h0 h1]
    frame_out
    simp only [read_unread_whole]
    exact step m c t _ _ hu y

/-- The accumulator at a row block's last point: the sum over all hidden units. -/
theorem acc_last (t : Fin cfg0.N) (h1 : t.val % 11 = 10) (r : Fin 512) (k : Fin 2048) (R : Fin 8192) (hR : R.val = 512 * (t.val / 11) + r.val) :
    (outsAt0 m c t.val t.isLt).2.2 (ix2 r k)
      = ∑ f : Fin 5632, share (rows m c) (gain m c) (gate m c) (up m c) (down m c) R k f := by
  refine (Pipeline.eq_sum_fin_of_reset_step_apply_of_flush (fun n h => (outsAt0 m c n h).2.2) 11 (fun _ => (0 : EReal)) (term m c)
    (acc_first m c) (acc_next m c) t h1 (ix2 r k)).trans ?_
  rw [zero_add]
  refine Fin.sum_mul_add_congr (n := 512) (fun s j hl => ?_)
  have e0 : (11 * (t.val / 11) + s.val) / 11 = t.val / 11 := by omega
  have e1 : (11 * (t.val / 11) + s.val) % 11 = s.val := by omega
  congr 1
  · exact Fin.ext (by simp only [e0]; exact hR.symm)
  · exact Fin.ext (by simp only [e1]; omega)

/-- What a row block's last point writes back. -/
theorem point (t : Fin cfg0.N) (h1 : t.val % 11 = 10) (r : Fin 512) (k : Fin 2048) (R : Fin 8192) (hR : R.val = 512 * (t.val / 11) + r.val) :
    (outsAt0 m c t.val t.isLt).1 (ix2 r k) = result (rows m c) (gain m c) (gate m c) (up m c) (down m c) (last m c) (ix2 R k) := by
  have ha := fun j => acc_last m c t h1 r j R hR
  rw [outsAt0_C m c t (by omega) h1] at ha ⊢
  frame_out at ha
  frame_out
  rw [pay_out]
  simp only [ha, blk0 m c t r _ R hR, blk5 m c t]
  rfl

/-- What a row block's last point writes back, at any index. -/
theorem point_idx (t : Fin cfg0.N) (h1 : t.val % 11 = 10) (y : S512x2048.Idx) (i : S8192x2048.Idx)
    (h0 : (i 0).val = 512 * (t.val / 11) + (y 0).val) (h2 : (i 1).val = (y 1).val) :
    (outsAt0 m c t.val t.isLt).1 y = result (rows m c) (gain m c) (gate m c) (up m c) (down m c) (last m c) i := by
  idx_vars y
  idx_vars i
  obtain rfl : _ = _ := Fin.ext h2
  exact point m c t h1 _ _ _ h0

/-- The call's result array. -/
theorem final : (dats m 0 c).arrAt 6 cfg0.N = result (rows m c) (gain m c) (gate m c) (up m c) (down m c) (last m c) := by
  refine (dats m 0 c).arrAt_eq_of_covers 6 _ (by decide +kernel) fun t hf y => ?_
  rw [after0_6]
  refine point_idx m c t ((flush0_6 t).mp hf) _ _ ?_ ?_ <;> blk_simp [idx t]
  exact congrArg (· + _) (Nat.mul_comm _ _)

end Cert.Kernel3Ideal.Fin

end
-- ==== Proof.FinRef.lean ====
/- The second feed-forward's reference, entry by entry. -/
module

public import proofs.«01_k».proof.Proof.Gen.Reference3Ideal.Run
public import proofs.«01_k».proof.Proof.Layer
public import Idealize.ShloMosaic.Lib.Pointwise

@[expose] public section

set_option maxRecDepth 16384

noncomputable section

namespace Cert.Reference3Ideal.Entry

open Cert.Reference3Ideal Cert.Reference3Ideal.Gen Cert.Layer
open Idealize.ShloMosaic Idealize.ShloMosaic.TcCoe Idealize.SL.Sem

/-- The normalised rows. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- A wide projection. -/
def proj (u : FVec Ideal S8192x2048 .f32) (w : FVec Ideal S1x2048x5632 .f32) : FVec Ideal S8192x5632 .f32 :=
  Host.dotGeneral dot_S8192x2048_S2048x5632_S8192x5632_1_0_0_1_n_n none u (shapeCast S2048x5632 w shapeCasts_S1x2048x5632_S2048x5632)

/-- The SiLU. -/
def silu (z : FVec Ideal S8192x5632 .f32) : FVec Ideal S8192x5632 .f32 :=
  mulf z (Host.divf (broadcastInDim S8192x5632 ![] bcast_S_S8192x5632 (constant S_ .f32 0x3F800000#32)) (addf (broadcastInDim S8192x5632 ![] bcast_S_S8192x5632 (constant S_ .f32 0x3F800000#32)) (Host.exp (Host.negf z))))

/-- The hidden units. -/
def hid (u : FVec Ideal S8192x2048 .f32) (wg wu : FVec Ideal S1x2048x5632 .f32) : FVec Ideal S8192x5632 .f32 :=
  mulf (silu (proj u wg)) (proj u wu)

/-- The residual sum. -/
def out (x : FVec Ideal S8192x2048 .f32) (h : FVec Ideal S8192x5632 .f32) (wd : FVec Ideal S1x5632x2048 .f32) : FVec Ideal S8192x2048 .f32 :=
  addf x (mulf (broadcastInDim S8192x2048 ![] bcast_S_S8192x2048 (constant S_ .f32 0x3F000000#32)) (Host.dotGeneral dot_S8192x5632_S5632x2048_S8192x2048_1_0_0_1_n_n none h (shapeCast S5632x2048 wd shapeCasts_S1x5632x2048_S5632x2048)))

/-- The reference's result. -/
def whole (x : FVec Ideal S8192x2048 .f32) (g : FVec Ideal S1x2048 .f32) (wg wu : FVec Ideal S1x2048x5632 .f32) (wd : FVec Ideal S1x5632x2048 .f32)
    (gl : FVec Ideal S2048 .f32) : FVec Ideal S8192x2048 .f32 :=
  norm (out x (hid (norm x (shapeCast S2048 g shapeCasts_S1x2048_S2048)) wg wu) wd) gl

/-- The reference's composed term, in these names. -/
theorem res_eq (m : (ℓ : Loc nD τ sig) → Buf (Elt Ideal) ℓ) (c : Dev nD) :
    Value.res_main_v37 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- An entry of the normalised rows. -/
theorem norm_apply (x : FVec Ideal S8192x2048 .f32) (g : FVec Ideal S2048 .f32) (n : Fin 8192) (k : Fin 2048) :
    norm x g (ix2 n k) = rms (fun j => x (ix2 n j)) (fun j => g (ix1 j)) k := by
  pointwise [norm]
  rfl

/-- An entry of a wide projection. -/
theorem proj_apply (u : FVec Ideal S8192x2048 .f32) (w : FVec Ideal S1x2048x5632 .f32) (n : Fin 8192) (f : Fin 5632) :
    proj u w (ix2 n f) = ∑ j : Fin 2048, u (ix2 n j) * w (ix3 0 j f) := by
  pointwise [proj]

/-- An entry of the SiLU. -/
theorem silu_apply (z : FVec Ideal S8192x5632 .f32) (n : Fin 8192) (f : Fin 5632) :
    silu z (ix2 n f) = z (ix2 n f) * Ideal.logistic (z (ix2 n f)) := by
  pointwise [silu]
  rfl

/-- An entry of the hidden units. -/
theorem hid_apply (u : FVec Ideal S8192x2048 .f32) (wg wu : FVec Ideal S1x2048x5632 .f32) (n : Fin 8192) (f : Fin 5632) :
    hid u wg wu (ix2 n f) = hidden (fun j => u (ix2 n j)) (fun j f => wg (ix3 0 j f)) (fun j f => wu (ix3 0 j f)) f := by
  pointwise [hid]
  rw [silu_apply, proj_apply, proj_apply]
  rfl

/-- An entry of the residual sum. -/
theorem out_apply (x : FVec Ideal S8192x2048 .f32) (h : FVec Ideal S8192x5632 .f32) (wd : FVec Ideal S1x5632x2048 .f32) (n : Fin 8192) (k : Fin 2048) :
    out x h wd (ix2 n k) = x (ix2 n k) + half * ∑ f : Fin 5632, h (ix2 n f) * wd (ix3 0 f k) := by
  pointwise [out]
  rfl

/-- The gain's reshaped entries. -/
theorem gain_apply (g : FVec Ideal S1x2048 .f32) (j : Fin 2048) : (shapeCast S2048 g shapeCasts_S1x2048_S2048) (ix1 j) = g (ix2 0 j) := by
  pointwise

/-- An entry of the reference's result. -/
theorem whole_apply (x : FVec Ideal S8192x2048 .f32) (g : FVec Ideal S1x2048 .f32) (wg wu : FVec Ideal S1x2048x5632 .f32)
    (wd : FVec Ideal S1x5632x2048 .f32) (gl : FVec Ideal S2048 .f32) (n : Fin 8192) (k : Fin 2048) :
    whole x g wg wu wd gl (ix2 n k) = rms (ffn (fun j => x (ix2 n j)) (fun j => g (ix2 0 j)) (fun j f => wg (ix3 0 j f)) (fun j f => wu (ix3 0 j f))
      (fun f k => wd (ix3 0 f k))) (fun j => gl (ix1 j)) k := by
  unfold whole
  simp only [norm_apply, out_apply, hid_apply, gain_apply]
  rfl

end Cert.Reference3Ideal.Entry

end
-- ==== Proof.FinClaim.lean ====
/- The second feed-forward's claim: the kernel's and the reference's results are equal. -/
module

public import proofs.«01_k».proof.Defs
public import proofs.«01_k».proof.Proof.Fin
public import proofs.«01_k».proof.Proof.FinRef
public import Idealize.ShloMosaic.Lib.Quiescent
public import Idealize.ShloMosaic.Adequacy
public import Idealize.ShloMosaic.Init

@[expose] public section

noncomputable section

namespace Cert.Proof.Fin

open Idealize.ShloMosaic Idealize.SL.Sem

/-- The second feed-forward's kernel and its reference end with equal results. -/
theorem equal : Cert.algebraic_Kernel3Ideal_Reference3Ideal (hKernel3Ideal := Cert.Kernel3Ideal.Gen.facts) (hReference3Ideal := Cert.Reference3Ideal.Gen.facts) := by
  intro m g m' g' hpre hargs
  refine ⟨fun c => Cert.Kernel3Ideal.Fin.result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)), ?_, ?_⟩
  · exact (θ_run _ _ _).mono (fun r h c => ⟨(h c).1.trans (Cert.Kernel3Ideal.Fin.final m c), (h c).2⟩) (Cert.Kernel3Ideal.Value.run_blocks m g)
  · refine (θ_run _ _ _).mono (fun r h c => ⟨(h c).1.trans ?_, (h c).2⟩) (Cert.Reference3Ideal.Value.run m' g')
    obtain ⟨e0, e1, e2, e3, e4, e5⟩ := hargs c
    rw [Cert.Reference3Ideal.Entry.res_eq]
    rw [e0, e1, e2, e3, e4, e5]
    funext y
    have ey : y = ix2 (y 0) (y 1) := (ix2_eta y).symm
    rw [ey]
    exact Cert.Reference3Ideal.Entry.whole_apply _ _ _ _ _ _ (y 0) (y 1)

/-- The second feed-forward's reference leaves its arguments and every semaphore counter as they were. -/
theorem reference_frame (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩ fun r =>
      (∀ c : Dev Cert.Reference3Ideal.nD, r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0) ∧
        r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1) ∧
        r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2) ∧
        r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3) ∧
        r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4) ∧
        r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)) ∧ r.2.sem = fun _ => 0 :=
  (θ_run _ _ _).mono (fun r h => ⟨fun c => (h c).2, sem_eq_zero_of_no_sems (by decide) r.2⟩) (Cert.Reference3Ideal.Value.run m ρ)

end Cert.Proof.Fin

end
-- ==== Proof.Merge.lean ====
/- The merging call: what each grid point holds, and the result array. -/
module

public import proofs.«01_k».proof.Proof.Gen.Kernel4Ideal.Value
public import proofs.«01_k».proof.Proof.Layer
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel4Ideal.Merge

open Cert.Kernel4Ideal Cert.Kernel4Ideal.Gen Cert.Layer
open Idealize.ShloMosaic Idealize.ShloMosaic.TcCoe Idealize.SL.Sem

/-- The gated sum of the two attentions' projections. -/
theorem pay_mix (a : FVec Ideal S512x1024 .f32) (wa : FVec Ideal S1024x2048 .bf16) (b : FVec Ideal S512x1024 .f32) (wb : FVec Ideal S1024x2048 .bf16)
    (ga gb : FVec Ideal S512x2048 .f32) (r : Fin 512) (k : Fin 2048) :
    k0_pay1 (F := Ideal) a wa b wb ga gb (ix2 r k)
      = mix (fun j => a (ix2 r j)) (fun j => b (ix2 r j)) (fun k => ga (ix2 r k)) (fun k => gb (ix2 r k)) (fun j k => wa (ix2 j k)) (fun j k => wb (ix2 j k)) k := by
  pointwise [k0_pay1]
  rfl

/-- The residual sum with a tile of the out projection. -/
theorem pay_out (x : FVec Ideal S512x512 .f32) (y : FVec Ideal S512x2048 .bf16) (w : FVec Ideal S2048x512 .bf16) (r s : Fin 512) :
    k0_pay2 (F := Ideal) x y w (ix2 r s) = x (ix2 r s) + ∑ k : Fin 2048, y (ix2 r k) * w (ix2 k s) := by
  pointwise [k0_pay2]

variable (m : (ℓ : Loc nD τ sig) → Buf (Elt Ideal) ℓ) (c : Dev nD)

/-- The blocks' indices. -/
theorem idx : ∀ t : Fin cfg0.N, win0_0.index t = ![t.val / 4, 0] ∧ win0_1.index t = ![t.val / 4, 0] ∧ win0_2.index t = ![t.val / 4, 0]
    ∧ win0_3.index t = ![t.val / 4, 1] ∧ win0_4.index t = ![t.val / 4, t.val % 4] ∧ win0_5.index t = ![0, 0] ∧ win0_6.index t = ![0, 0]
    ∧ win0_7.index t = ![0, t.val % 4] ∧ win0_8.index t = ![t.val / 4, t.val % 4] :=
  (by decide +kernel : ∀ t : Fin grid0.N, _)

/-- The stick-breaking attention's result. -/
abbrev sb : FVec Ideal S8192x1024 .f32 := m ((c.tc : Thread nD τ).loc main_arg0)
/-- The sparse attention's result. -/
abbrev sp : FVec Ideal S8192x1024 .f32 := m ((c.tc : Thread nD τ).loc main_arg1)
/-- The panel, the gates its first columns. -/
abbrev panel : FVec Ideal S8704x12288 .f32 := m ((c.tc : Thread nD τ).loc main_arg2)
/-- The rows. -/
abbrev rows : FVec Ideal S8704x2048 .f32 := m ((c.tc : Thread nD τ).loc main_arg3)
/-- The stick-breaking attention's projection. -/
abbrev wsb : FVec Ideal S1x1024x2048 .f32 := m ((c.tc : Thread nD τ).loc main_arg4)
/-- The sparse attention's projection. -/
abbrev wsp : FVec Ideal S1x1024x2048 .f32 := m ((c.tc : Thread nD τ).loc main_arg5)
/-- The out projection. -/
abbrev wout : FVec Ideal S1x2048x2048 .f32 := m ((c.tc : Thread nD τ).loc main_arg6)

/-- An attention's projection as the call finds it. -/
def half2 (x : FVec Ideal S1x1024x2048 .f32) : FVec Ideal S1024x2048 .bf16 :=
  truncf .bf16 (shapeCast S1024x2048 x shapeCasts_S1x1024x2048_S1024x2048) bitsLt_bf16_f32
/-- The out projection as the call finds it. -/
def square (x : FVec Ideal S1x2048x2048 .f32) : FVec Ideal S2048x2048 .bf16 :=
  truncf .bf16 (shapeCast S2048x2048 x shapeCasts_S1x2048x2048_S2048x2048) bitsLt_bf16_f32

theorem half2_apply (x : FVec Ideal S1x1024x2048 .f32) (j : Fin 1024) (k : Fin 2048) : half2 x (ix2 j k) = x (ix3 0 j k) := by
  pointwise [half2]

theorem square_apply (x : FVec Ideal S1x2048x2048 .f32) (j k : Fin 2048) : square x (ix2 j k) = x (ix3 0 j k) := by
  pointwise [square]

theorem entry_sb : V m c main_v1 = half2 (wsb m c) := by
  unfold V hostOps0
  after_results
  rfl

theorem entry_sp : V m c main_v3 = half2 (wsp m c) := by
  unfold V hostOps0
  after_results
  rfl

theorem entry_out : V m c main_v5 = square (wout m c) := by
  unfold V hostOps0
  after_results
  rfl

/-- A block of the stick-breaking attention's result. -/
theorem blk0 (t : Fin cfg0.N) (r : Fin 512) (b : Fin 1024) (n : Fin 8192) (hn : n.val = 512 * (t.val / 4) + r.val) :
    iblk m c 0 t (ix2 r b) = sb m c (ix2 n b) := by
  blk_ext [iblk, V, idx t]

/-- A block of the sparse attention's result. -/
theorem blk1 (t : Fin cfg0.N) (r : Fin 512) (b : Fin 1024) (n : Fin 8192) (hn : n.val = 512 * (t.val / 4) + r.val) :
    iblk m c 1 t (ix2 r b) = sp m c (ix2 n b) := by
  blk_ext [iblk, V, idx t]

/-- A block of the first gates. -/
theorem blk2 (t : Fin cfg0.N) (r : Fin 512) (b : Fin 2048) (n : Fin 8704) (hn : n.val = 512 * (t.val / 4) + r.val) (d : Fin 12288) (hd : d.val = b.val) :
    iblk m c 2 t (ix2 r b) = panel m c (ix2 n d) := by
  blk_ext [iblk, V, idx t]

/-- A block of the second gates. -/
theorem blk3 (t : Fin cfg0.N) (r : Fin 512) (b : Fin 2048) (n : Fin 8704) (hn : n.val = 512 * (t.val / 4) + r.val) (d : Fin 12288) (hd : d.val = 2048 + b.val) :
    iblk m c 3 t (ix2 r b) = panel m c (ix2 n d) := by
  blk_ext [iblk, V, idx t]

/-- A block of the rows. -/
theorem blk4 (t : Fin cfg0.N) (r s : Fin 512) (n : Fin 8704) (hn : n.val = 512 * (t.val / 4) + r.val) (d : Fin 2048) (hd : d.val = 512 * (t.val % 4) + s.val) :
    iblk m c 4 t (ix2 r s) = rows m c (ix2 n d) := by
  blk_ext [iblk, V, idx t]

theorem blk5_read (T : FVec Ideal S1024x2048 .bf16) (h : V m c main_v1 = T) (t : Fin cfg0.N) (j : Fin 1024) (k : Fin 2048) :
    iblk m c 5 t (ix2 j k) = T (ix2 j k) := by
  unfold iblk
  rw [show V m c (Pipeline.arrRef spec0 5) = T from h]
  clear h
  blk_simp [idx t]
  blk_ext [idx t]

theorem blk6_read (T : FVec Ideal S1024x2048 .bf16) (h : V m c main_v3 = T) (t : Fin cfg0.N) (j : Fin 1024) (k : Fin 2048) :
    iblk m c 6 t (ix2 j k) = T (ix2 j k) := by
  unfold iblk
  rw [show V m c (Pipeline.arrRef spec0 6) = T from h]
  clear h
  blk_simp [idx t]
  blk_ext [idx t]

theorem blk7_read (T : FVec Ideal S2048x2048 .bf16) (h : V m c main_v5 = T) (t : Fin cfg0.N) (k : Fin 2048) (s : Fin 512) (d : Fin 2048)
    (hd : d.val = 512 * (t.val % 4) + s.val) : iblk m c 7 t (ix2 k s) = T (ix2 k d) := by
  unfold iblk
  rw [show V m c (Pipeline.arrRef spec0 7) = T from h]
  clear h
  blk_simp [idx t]
  blk_ext [idx t]

/-- The stick-breaking attention's projection. -/
theorem blk5 (t : Fin cfg0.N) (j : Fin 1024) (k : Fin 2048) : iblk m c 5 t (ix2 j k) = wsb m c (ix3 0 j k) :=
  (blk5_read m c _ (entry_sb m c) t j k).trans (half2_apply _ _ _)

/-- The sparse attention's projection. -/
theorem blk6 (t : Fin cfg0.N) (j : Fin 1024) (k : Fin 2048) : iblk m c 6 t (ix2 j k) = wsp m c (ix3 0 j k) :=
  (blk6_read m c _ (entry_sp m c) t j k).trans (half2_apply _ _ _)

/-- A tile of the out projection. -/
theorem blk7 (t : Fin cfg0.N) (k : Fin 2048) (s : Fin 512) (d : Fin 2048) (hd : d.val = 512 * (t.val % 4) + s.val) :
    iblk m c 7 t (ix2 k s) = wout m c (ix3 0 k d) :=
  (blk7_read m c _ (entry_out m c) t k s d hd).trans (square_apply _ _ _)

/-- A row's gated sum. -/
def mixed (a b : FVec Ideal S8192x1024 .f32) (p : FVec Ideal S8704x12288 .f32) (wa wb : FVec Ideal S1x1024x2048 .f32) (n : Fin 8192) : Fin 2048 → EReal :=
  mix (fun j => a (ix2 n j)) (fun j => b (ix2 n j)) (fun k => p (ix2 ⟨n.val, by omega⟩ ⟨k.val, by omega⟩))
    (fun k => p (ix2 ⟨n.val, by omega⟩ ⟨2048 + k.val, by omega⟩)) (fun j k => wa (ix3 0 j k)) (fun j k => wb (ix3 0 j k))

/-- The call's result. -/
def result (a b : FVec Ideal S8192x1024 .f32) (p : FVec Ideal S8704x12288 .f32) (h : FVec Ideal S8704x2048 .f32) (wa wb : FVec Ideal S1x1024x2048 .f32)
    (wo : FVec Ideal S1x2048x2048 .f32) : FVec Ideal S8192x2048 .f32 := fun i =>
  h (ix2 ⟨(i 0).val, by have : (i 0).val < 8192 := (i 0).isLt; omega⟩ (i 1)) + ∑ k : Fin 2048, mixed a b p wa wb (i 0) k * wo (ix3 0 k (i 1))

/-- The gated sums of a block. -/
theorem mix_blk (t : Fin cfg0.N) (r : Fin 512) (k : Fin 2048) (n : Fin 8192) (hn : n.val = 512 * (t.val / 4) + r.val) :
    k0_pay1 (F := Ideal) (iblk m c 0 t) (iblk m c 5 t) (iblk m c 1 t) (iblk m c 6 t) (iblk m c 2 t) (iblk m c 3 t) (ix2 r k)
      = mixed (sb m c) (sp m c) (panel m c) (wsb m c) (wsp m c) n k := by
  rw [pay_mix]
  unfold mixed
  simp only [blk0 m c t r _ n hn, blk1 m c t r _ n hn, blk5 m c t, blk6 m c t,
    fun b : Fin 2048 => blk2 m c t r b ⟨n.val, by omega⟩ hn ⟨b.val, by omega⟩ rfl,
    fun b : Fin 2048 => blk3 m c t r b ⟨n.val, by omega⟩ hn ⟨2048 + b.val, by omega⟩ rfl]

/-- The gated sums, carried from point to point. -/
theorem carried (n : ℕ) (hn : n < cfg0.N) (r : Fin 512) (k : Fin 2048) (R : Fin 8192) (hR : R.val = 512 * (n / 4) + r.val) :
    (outsAt0 m c n hn).2 (ix2 r k) = mixed (sb m c) (sp m c) (panel m c) (wsb m c) (wsp m c) R k := by
  induction n with
  | zero =>
    rw [outsAt0_A m c ⟨0, hn⟩ (by simp only)]
    frame_out
    exact mix_blk m c ⟨0, hn⟩ r k R hR
  | succ n ih =>
    by_cases h0 : (n + 1) % 4 = 0
    · rw [outsAt0_A m c ⟨n + 1, hn⟩ h0]
      frame_out
      exact mix_blk m c ⟨n + 1, hn⟩ r k R hR
    · have hp := ih (Nat.lt_of_succ_lt hn) (by omega)
      rw [outsAt0_B m c ⟨n + 1, hn⟩ h0]
      exact hp

/-- A point's residual sum, from the gated sums. -/
theorem out_blk (t : Fin cfg0.N) (y : FVec Ideal S512x2048 .bf16)
    (hy : ∀ (r : Fin 512) (k : Fin 2048) (R : Fin 8192), R.val = 512 * (t.val / 4) + r.val →
      y (ix2 r k) = mixed (sb m c) (sp m c) (panel m c) (wsb m c) (wsp m c) R k)
    (r s : Fin 512) (R : Fin 8192) (hR : R.val = 512 * (t.val / 4) + r.val) (d : Fin 2048) (hd : d.val = 512 * (t.val % 4) + s.val) :
    k0_pay2 (F := Ideal) (iblk m c 4 t) y (iblk m c 7 t) (ix2 r s)
      = result (sb m c) (sp m c) (panel m c) (rows m c) (wsb m c) (wsp m c) (wout m c) (ix2 R d) := by
  rw [pay_out, blk4 m c t r s ⟨R.val, by omega⟩ hR d hd]
  simp only [hy r _ R hR, blk7 m c t _ s d hd]
  rfl

/-- What a point writes back. -/
theorem point (t : Fin cfg0.N) (r s : Fin 512) (R : Fin 8192) (hR : R.val = 512 * (t.val / 4) + r.val) (d : Fin 2048) (hd : d.val = 512 * (t.val % 4) + s.val) :
    (outsAt0 m c t.val t.isLt).1 (ix2 r s) = result (sb m c) (sp m c) (panel m c) (rows m c) (wsb m c) (wsp m c) (wout m c) (ix2 R d) := by
  by_cases h0 : t.val % 4 = 0
  · rw [outsAt0_A m c t h0]
    frame_out
    exact out_blk m c t _ (fun r k R hR => mix_blk m c t r k R hR) r s R hR d hd
  · have hu : ∀ (r : Fin 512) (k : Fin 2048) (R : Fin 8192), R.val = 512 * (t.val / 4) + r.val →
        (outsAt0 m c (t.val - 1) (Nat.lt_of_le_of_lt (Nat.sub_le _ _) t.isLt)).2 (ix2 r k)
          = mixed (sb m c) (sp m c) (panel m c) (wsb m c) (wsp m c) R k :=
      fun r k R hR => carried m c _ _ r k R (by omega)
    rw [outsAt0_B m c t h0]
    frame_out
    simp only [read_unread_whole]
    exact out_blk m c t _ hu r s R hR d hd

/-- What a point writes back, at any index. -/
theorem point_idx (t : Fin cfg0.N) (y : S512x512.Idx) (i : S8192x2048.Idx)
    (h0 : (i 0).val = 512 * (t.val / 4) + (y 0).val) (h1 : (i 1).val = 512 * (t.val % 4) + (y 1).val) :
    (outsAt0 m c t.val t.isLt).1 y = result (sb m c) (sp m c) (panel m c) (rows m c) (wsb m c) (wsp m c) (wout m c) i := by
  idx_vars y
  idx_vars i
  exact point m c t _ _ _ h0 _ h1

/-- The call's result array. -/
theorem final : (dats m 0 c).arrAt 8 cfg0.N = result (sb m c) (sp m c) (panel m c) (rows m c) (wsb m c) (wsp m c) (wout m c) := by
  refine (dats m 0 c).arrAt_eq_of_covers 8 _ (by decide +kernel) fun t _ y => ?_
  rw [after0_8]
  refine point_idx m c t _ _ ?_ ?_ <;> blk_simp [idx t] <;> exact congrArg (· + _) (Nat.mul_comm _ _)

end Cert.Kernel4Ideal.Merge

end
-- ==== Proof.MergeRef.lean ====
/- The merge's reference, entry by entry. -/
module

public import proofs.«01_k».proof.Proof.Gen.Reference4Ideal.Run
public import proofs.«01_k».proof.Proof.Layer
public import Idealize.ShloMosaic.Lib.Pointwise

@[expose] public section

set_option maxRecDepth 16384

noncomputable section

namespace Cert.Reference4Ideal.Entry

open Cert.Reference4Ideal Cert.Reference4Ideal.Gen Cert.Layer
open Idealize.ShloMosaic Idealize.ShloMosaic.TcCoe Idealize.SL.Sem

/-- The gated sums. -/
def sums (a b : FVec Ideal S8192x1024 .f32) (p : FVec Ideal S8704x12288 .f32) (wa wb : FVec Ideal S1x1024x2048 .f32) : FVec Ideal S8192x2048 .f32 :=
  addf (mulf (extractStridedSlice S8192x2048 ![0, 0] p slices_S8704x12288_S8192x2048_0_0) (Host.dotGeneral dot_S8192x1024_S1024x2048_S8192x2048_1_0_0_1_n_n none a (shapeCast S1024x2048 wa shapeCasts_S1x1024x2048_S1024x2048))) (mulf (extractStridedSlice S8192x2048 ![0, 2048] p slices_S8704x12288_S8192x2048_0_2048) (Host.dotGeneral dot_S8192x1024_S1024x2048_S8192x2048_1_0_0_1_n_n none b (shapeCast S1024x2048 wb shapeCasts_S1x1024x2048_S1024x2048)))

/-- The reference's result. -/
def whole (a b : FVec Ideal S8192x1024 .f32) (p : FVec Ideal S8704x12288 .f32) (h : FVec Ideal S8704x2048 .f32) (wa wb : FVec Ideal S1x1024x2048 .f32)
    (wo : FVec Ideal S1x2048x2048 .f32) : FVec Ideal S8192x2048 .f32 :=
  addf (extractStridedSlice S8192x2048 ![0, 0] h slices_S8704x2048_S8192x2048_0_0) (Host.dotGeneral dot_S8192x2048_S2048x2048_S8192x2048_1_0_0_1_n_n none (sums a b p wa wb) (shapeCast S2048x2048 wo shapeCasts_S1x2048x2048_S2048x2048))

/-- An entry of the gated sums. -/
theorem sums_apply (a b : FVec Ideal S8192x1024 .f32) (p : FVec Ideal S8704x12288 .f32) (wa wb : FVec Ideal S1x1024x2048 .f32) (n : Fin 8192) (k : Fin 2048) :
    sums a b p wa wb (ix2 n k) = mix (fun j => a (ix2 n j)) (fun j => b (ix2 n j)) (fun k => p (ix2 ⟨n.val, by omega⟩ ⟨k.val, by omega⟩))
      (fun k => p (ix2 ⟨n.val, by omega⟩ ⟨2048 + k.val, by omega⟩)) (fun j k => wa (ix3 0 j k)) (fun j k => wb (ix3 0 j k)) k := by
  pointwise [sums]
  rfl

/-- An entry of the reference's result. -/
theorem whole_apply (a b : FVec Ideal S8192x1024 .f32) (p : FVec Ideal S8704x12288 .f32) (h : FVec Ideal S8704x2048 .f32) (wa wb : FVec Ideal S1x1024x2048 .f32)
    (wo : FVec Ideal S1x2048x2048 .f32) (n : Fin 8192) (d : Fin 2048) :
    whole a b p h wa wb wo (ix2 n d) = h (ix2 ⟨n.val, by omega⟩ d) + ∑ k : Fin 2048, mix (fun j => a (ix2 n j)) (fun j => b (ix2 n j))
      (fun k => p (ix2 ⟨n.val, by omega⟩ ⟨k.val, by omega⟩)) (fun k => p (ix2 ⟨n.val, by omega⟩ ⟨2048 + k.val, by omega⟩))
      (fun j k => wa (ix3 0 j k)) (fun j k => wb (ix3 0 j k)) k * wo (ix3 0 k d) := by
  pointwise [whole]
  simp only [sums_apply]

end Cert.Reference4Ideal.Entry

end
-- ==== Proof.MergeClaim.lean ====
/- The merge's claim: the kernel's and the reference's results are equal. -/
module

public import proofs.«01_k».proof.Defs
public import proofs.«01_k».proof.Proof.Merge
public import proofs.«01_k».proof.Proof.MergeRef
public import Idealize.ShloMosaic.Lib.Quiescent
public import Idealize.ShloMosaic.Adequacy
public import Idealize.ShloMosaic.Init

@[expose] public section

noncomputable section

namespace Cert.Proof.Merge

open Idealize.ShloMosaic Idealize.SL.Sem

/-- The merge's kernel and its reference end with equal results. -/
theorem equal : Cert.algebraic_Kernel4Ideal_Reference4Ideal (hKernel4Ideal := Cert.Kernel4Ideal.Gen.facts) (hReference4Ideal := Cert.Reference4Ideal.Gen.facts) := by
  intro m g m' g' hpre hargs
  refine ⟨fun c => Cert.Kernel4Ideal.Merge.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)), ?_, ?_⟩
  · exact (θ_run _ _ _).mono (fun r h c => ⟨(h c).1.trans (Cert.Kernel4Ideal.Merge.final m c), (h c).2⟩) (Cert.Kernel4Ideal.Value.run_blocks m g)
  · refine (θ_run _ _ _).mono (fun r h c => ⟨(h c).1.trans ?_, (h c).2⟩) (Cert.Reference4Ideal.Value.run m' g')
    obtain ⟨e0, e1, e2, e3, e4, e5, e6⟩ := hargs c
    refine Eq.trans (b := Cert.Reference4Ideal.Entry.whole (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) rfl ?_
    rw [e0, e1, e2, e3, e4, e5, e6]
    funext y
    have ey : y = ix2 (y 0) (y 1) := (ix2_eta y).symm
    rw [ey]
    exact Cert.Reference4Ideal.Entry.whole_apply _ _ _ _ _ _ _ (y 0) (y 1)

/-- The merge's reference leaves its arguments and every semaphore counter as they were. -/
theorem reference_frame (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩ fun r =>
      (∀ c : Dev Cert.Reference4Ideal.nD, r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0) ∧
        r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1) ∧
        r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2) ∧
        r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3) ∧
        r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4) ∧
        r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5) ∧
        r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)) ∧ r.2.sem = fun _ => 0 :=
  (θ_run _ _ _).mono (fun r h => ⟨fun c => (h c).2, sem_eq_zero_of_no_sems (by decide) r.2⟩) (Cert.Reference4Ideal.Value.run m ρ)

end Cert.Proof.Merge

end
-- ==== Proof.Panel.lean ====
/- The input projection's mathematics over extended reals: the rotary embedding and the panel of projected columns. -/
module

public import proofs.«01_k».proof.Proof.Layer
public import Idealize.ShloMosaic.Lib.Pointwise

@[expose] public section

noncomputable section

namespace Cert.Layer

open Idealize.ShloMosaic

/-- A finite row, continued by zeros. -/
def ext {n : ℕ} (f : Fin n → EReal) (k : ℕ) : EReal := if h : k < n then f ⟨k, h⟩ else 0

/-- A continued row within its length. -/
theorem ext_lt {n : ℕ} (f : Fin n → EReal) (k : ℕ) (h : k < n) : ext f k = f ⟨k, h⟩ := dif_pos h

/-- A continued row beyond its length. -/
theorem ext_ge {n : ℕ} (f : Fin n → EReal) (k : ℕ) (h : n ≤ k) : ext f k = 0 := dif_neg (Nat.not_lt.mpr h)

/-- The rotary embedding of a head's lane `d`, which lies at `b` of the row: the first `h` lanes and the next `h` are rotated
    in pairs, the rest stay. -/
def rope (h : ℕ) (c s z : ℕ → EReal) (b d : ℕ) : EReal :=
  if d < h then z b * c d - z (b + h) * s d
  else if d < 2 * h then z (b - h) * s (d - h) + z b * c (d - h)
  else z b

/-- A quarter, the index heads' scale. -/
def quarter : EReal := Ideal.ofBits .f32 1048576000#32

/-- A column of the panel: the gates, the plain queries, keys and values, the rotated heads, the index heads' weights, zeros. -/
def panel (c16 s16 c8 s8 z : ℕ → EReal) (e : ℕ) : EReal :=
  if e < 4096 then Ideal.logistic (z (7248 + e))
  else if e < 7168 then z (e - 4096)
  else if e < 8192 then z (e - 2048)
  else if e < 10240 then rope 16 c16 s16 z (e - 5120) (e % 128)
  else if e < 11264 then rope 8 c8 s8 z (e - 4096) (e % 64)
  else if e < 11328 then rope 8 c8 s8 z (e - 4096) (e - 11264)
  else if e < 11344 then z (e - 4096) * quarter
  else 0

/-- The cosine table's lane. -/
def tabC (h : ℕ) (c : ℕ → EReal) (l : ℕ) : EReal := if l < h then c l else if l < 2 * h then c (l - h) else 1
/-- The first sine table's lane. -/
def tabS (h : ℕ) (s : ℕ → EReal) (l : ℕ) : EReal := if l < h then -(s l) else 0
/-- The second sine table's lane. -/
def tabR (h : ℕ) (s : ℕ → EReal) (l : ℕ) : EReal := if l < h then 0 else if l < 2 * h then s (l - h) else 0

/-- Three tables and two rotations of a tile of 128 lanes are the rotary embedding. -/
theorem rot_eq (h : ℕ) (hh : 2 * h ≤ 128) (c s z : ℕ → EReal) (b l : ℕ) (hl : l < 128) :
    z (b + l) * tabC h c l + z (b + (l + 128 - (128 - h)) % 128) * tabS h s l + z (b + (l + 128 - h) % 128) * tabR h s l
      = rope h c s z (b + l) l := by
  unfold tabC tabS tabR rope
  by_cases h0 : l < h
  · rw [if_pos h0, if_pos h0, if_pos h0, if_pos h0, mul_zero, add_zero, mul_neg, ← sub_eq_add_neg,
      show b + (l + 128 - (128 - h)) % 128 = b + l + h by omega]
  · rw [if_neg h0, if_neg h0, if_neg h0, if_neg h0, mul_zero, add_zero]
    by_cases h1 : l < 2 * h
    · rw [if_pos h1, if_pos h1, if_pos h1, add_comm, show b + (l + 128 - h) % 128 = b + l - h by omega]
    · rw [if_neg h1, if_neg h1, if_neg h1, mul_zero, add_zero, mul_one]

/-- The same for two heads of 64 lanes. -/
theorem rot64_eq (h : ℕ) (hh : 2 * h ≤ 64) (c s z : ℕ → EReal) (b l : ℕ) (hl : l < 128) :
    z (b + l) * tabC h c (l % 64) + z (b + (l + 128 - (128 - h)) % 128) * tabS h s (l % 64) + z (b + (l + 128 - h) % 128) * tabR h s (l % 64)
      = rope h c s z (b + l) (l % 64) := by
  unfold tabC tabS tabR rope
  by_cases h0 : l % 64 < h
  · rw [if_pos h0, if_pos h0, if_pos h0, if_pos h0, mul_zero, add_zero, mul_neg, ← sub_eq_add_neg,
      show b + (l + 128 - (128 - h)) % 128 = b + l + h by omega]
  · rw [if_neg h0, if_neg h0, if_neg h0, if_neg h0, mul_zero, add_zero]
    by_cases h1 : l % 64 < 2 * h
    · rw [if_pos h1, if_pos h1, if_pos h1, add_comm, show b + (l + 128 - h) % 128 = b + l - h by omega]
    · rw [if_neg h1, if_neg h1, if_neg h1, mul_zero, add_zero, mul_one]

/-- Where the panel's column `e` lies in the projection. -/
def place (e : ℕ) : ℕ :=
  if e < 4096 then 7248 + e else if e < 7168 then e - 4096 else if e < 8192 then e - 2048
  else if e < 10240 then e - 5120 else e - 4096 + (if e < 11344 then 0 else 4096)

end Cert.Layer

end
-- ==== Proof.ProjTab.lean ====
/- The input projection's host operands: the rotary tables and the permuted weights, entry by entry. -/
module

public import proofs.«01_k».proof.Proof.Gen.Kernel5Ideal.Value
public import proofs.«01_k».proof.Proof.Panel
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel5Ideal.Proj

open Cert.Kernel5Ideal Cert.Kernel5Ideal.Gen Cert.Layer
open Idealize.ShloMosaic Idealize.ShloMosaic.TcCoe Idealize.SL.Sem

variable (m : (ℓ : Loc nD τ sig) → Buf (Elt Ideal) ℓ) (c : Dev nD)

/-- The rows' positions. -/
def pos : IVec S8704 32 :=
  concatenate S8704 0 [⟨S8192, addi (broadcastInDim S8192 ![] bcast_S_S8192 (constantI S_ 32 16#32)) (iotaInDim S8192 32 0)⟩, ⟨S16, iotaInDim S16 32 0⟩, ⟨S32, broadcastInDim S32 ![] bcast_S_S32 (constantI S_ 32 16384#32)⟩, ⟨S464, broadcastInDim S464 ![] bcast_S_S464 (constantI S_ 32 0#32)⟩] concatenates_S8192_S16_S32_S464_S8704_d0

/-- The angles of the heads of 128 lanes. -/
def ang16 : FVec Ideal S8704x16 .f32 :=
  mulf (broadcastInDim S8704x16 ![0, 1] bcast_S8704x1_S8704x16_0_1 (broadcastInDim S8704x1 ![0] bcast_S8704_S8704x1_0 (sitofp .f32 pos))) (broadcastInDim S8704x16 ![0, 1] bcast_S1x16_S8704x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The angles of the heads of 64 lanes. -/
def ang8 : FVec Ideal S8704x8 .f32 :=
  mulf (broadcastInDim S8704x8 ![0, 1] bcast_S8704x1_S8704x8_0_1 (broadcastInDim S8704x1 ![0] bcast_S8704_S8704x1_0 (sitofp .f32 pos))) (broadcastInDim S8704x8 ![0, 1] bcast_S1x8_S8704x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- A table of one value. -/
abbrev one (s : Shape) (h : S_.BroadcastsInDim s ![]) : FVec Ideal s .f32 := broadcastInDim s ![] h (constant S_ .f32 0x3F800000#32)

/-- A table of zeros. -/
abbrev zer (s : Shape) (h : S_.BroadcastsInDim s ![]) : FVec Ideal s .f32 := broadcastInDim s ![] h (constant S_ .f32 0x00000000#32)

/-- The cosines of the heads of 128 lanes. -/
def tab0 (a : FVec Ideal S8704x16 .f32) : FVec Ideal S8704x128 .f32 :=
  concatenate S8704x128 1 [⟨S8704x16, Host.cos a⟩, ⟨S8704x16, Host.cos a⟩, ⟨S8704x96, one S8704x96 bcast_S_S8704x96⟩] concatenates_S8704x16_S8704x16_S8704x96_S8704x128_d1
/-- Their negated sines. -/
def tab1 (a : FVec Ideal S8704x16 .f32) : FVec Ideal S8704x128 .f32 :=
  concatenate S8704x128 1 [⟨S8704x16, Host.negf (Host.sin a)⟩, ⟨S8704x112, zer S8704x112 bcast_S_S8704x112⟩] concatenates_S8704x16_S8704x112_S8704x128_d1
/-- Their sines. -/
def tab2 (a : FVec Ideal S8704x16 .f32) : FVec Ideal S8704x128 .f32 :=
  concatenate S8704x128 1 [⟨S8704x16, zer S8704x16 bcast_S_S8704x16⟩, ⟨S8704x16, Host.sin a⟩, ⟨S8704x96, zer S8704x96 bcast_S_S8704x96⟩] concatenates_S8704x16_S8704x16_S8704x96_S8704x128_d1

/-- A table of 64 lanes, twice. -/
def twice (T : FVec Ideal S8704x64 .f32) : FVec Ideal S8704x128 .f32 :=
  shapeCast S8704x128 (broadcastInDim S1x8704x2x64 ![0, 1, 2, 3] bcast_S1x8704x1x64_S1x8704x2x64_0_1_2_3 (shapeCast S1x8704x1x64 T shapeCasts_S8704x64_S1x8704x1x64)) shapeCasts_S1x8704x2x64_S8704x128
/-- The cosines of the heads of 64 lanes. -/
def half0 (a : FVec Ideal S8704x8 .f32) : FVec Ideal S8704x64 .f32 :=
  concatenate S8704x64 1 [⟨S8704x8, Host.cos a⟩, ⟨S8704x8, Host.cos a⟩, ⟨S8704x48, one S8704x48 bcast_S_S8704x48⟩] concatenates_S8704x8_S8704x8_S8704x48_S8704x64_d1
/-- Their negated sines. -/
def half1 (a : FVec Ideal S8704x8 .f32) : FVec Ideal S8704x64 .f32 :=
  concatenate S8704x64 1 [⟨S8704x8, Host.negf (Host.sin a)⟩, ⟨S8704x56, zer S8704x56 bcast_S_S8704x56⟩] concatenates_S8704x8_S8704x56_S8704x64_d1
/-- Their sines. -/
def half2 (a : FVec Ideal S8704x8 .f32) : FVec Ideal S8704x64 .f32 :=
  concatenate S8704x64 1 [⟨S8704x8, zer S8704x8 bcast_S_S8704x8⟩, ⟨S8704x8, Host.sin a⟩, ⟨S8704x48, zer S8704x48 bcast_S_S8704x48⟩] concatenates_S8704x8_S8704x8_S8704x48_S8704x64_d1
/-- The cosines of the index key, and the index heads' scale. -/
def tab6 (a : FVec Ideal S8704x8 .f32) : FVec Ideal S8704x128 .f32 :=
  concatenate S8704x128 1 [⟨S8704x8, Host.cos a⟩, ⟨S8704x8, Host.cos a⟩, ⟨S8704x48, one S8704x48 bcast_S_S8704x48⟩, ⟨S8704x16, mulf (broadcastInDim S8704x16 ![] bcast_S_S8704x16 (constant S_ .f32 0x3E800000#32)) (one S8704x16 bcast_S_S8704x16)⟩, ⟨S8704x48, one S8704x48 bcast_S_S8704x48⟩] concatenates_S8704x8_S8704x8_S8704x48_S8704x16_S8704x48_S8704x128_d1
/-- The index key's negated sines. -/
def tab7 (a : FVec Ideal S8704x8 .f32) : FVec Ideal S8704x128 .f32 :=
  concatenate S8704x128 1 [⟨S8704x8, Host.negf (Host.sin a)⟩, ⟨S8704x120, zer S8704x120 bcast_S_S8704x120⟩] concatenates_S8704x8_S8704x120_S8704x128_d1
/-- The index key's sines. -/
def tab8 (a : FVec Ideal S8704x8 .f32) : FVec Ideal S8704x128 .f32 :=
  concatenate S8704x128 1 [⟨S8704x8, zer S8704x8 bcast_S_S8704x8⟩, ⟨S8704x8, Host.sin a⟩, ⟨S8704x112, zer S8704x112 bcast_S_S8704x112⟩] concatenates_S8704x8_S8704x8_S8704x112_S8704x128_d1

/-- The nine tables side by side. -/
def tables (T0 T1 T2 T3 T4 T5 T6 T7 T8 : FVec Ideal S8704x128 .f32) : FVec Ideal S8704x1152 .f32 :=
  concatenate S8704x1152 1 [⟨S8704x128, T0⟩, ⟨S8704x128, T1⟩, ⟨S8704x128, T2⟩, ⟨S8704x128, T3⟩, ⟨S8704x128, T4⟩, ⟨S8704x128, T5⟩, ⟨S8704x128, T6⟩, ⟨S8704x128, T7⟩, ⟨S8704x128, T8⟩] concatenates_S8704x128_S8704x128_S8704x128_S8704x128_S8704x128_S8704x128_S8704x128_S8704x128_S8704x128_S8704x1152_d1

/-- The permuted weights. -/
def wide (w : FVec Ideal S2048x11344 .f32) : FVec Ideal S2048x12288 .f32 :=
  concatenate S2048x12288 1 [⟨S2048x4096, extractStridedSlice S2048x4096 ![0, 7248] w slices_S2048x11344_S2048x4096_0_7248⟩, ⟨S2048x3072, extractStridedSlice S2048x3072 ![0, 0] w slices_S2048x11344_S2048x3072_0_0⟩, ⟨S2048x1024, extractStridedSlice S2048x1024 ![0, 5120] w slices_S2048x11344_S2048x1024_0_5120⟩, ⟨S2048x2048, extractStridedSlice S2048x2048 ![0, 3072] w slices_S2048x11344_S2048x2048_0_3072⟩, ⟨S2048x1024, extractStridedSlice S2048x1024 ![0, 6144] w slices_S2048x11344_S2048x1024_0_6144⟩, ⟨S2048x80, extractStridedSlice S2048x80 ![0, 7168] w slices_S2048x11344_S2048x80_0_7168⟩, ⟨S2048x944, zer S2048x944 bcast_S_S2048x944⟩] concatenates_S2048x4096_S2048x3072_S2048x1024_S2048x2048_S2048x1024_S2048x80_S2048x944_S2048x12288_d1

/-- A lane of the cosines. -/
theorem tab0_apply (a : FVec Ideal S8704x16 .f32) (n : Fin 8704) (l : Fin 128) : tab0 a (ix2 n l) = tabC 16 (ext fun e => Ideal.cos (a (ix2 n e))) l.val := by
  pointwise [tab0]
  unfold tabC ext
  repeat' split
  all_goals first | rfl | omega

/-- A lane of the negated sines. -/
theorem tab1_apply (a : FVec Ideal S8704x16 .f32) (n : Fin 8704) (l : Fin 128) : tab1 a (ix2 n l) = tabS 16 (ext fun e => Ideal.sin (a (ix2 n e))) l.val := by
  pointwise [tab1]
  unfold tabS ext
  repeat' split
  all_goals first | rfl | omega

/-- A lane of the sines. -/
theorem tab2_apply (a : FVec Ideal S8704x16 .f32) (n : Fin 8704) (l : Fin 128) : tab2 a (ix2 n l) = tabR 16 (ext fun e => Ideal.sin (a (ix2 n e))) l.val := by
  pointwise [tab2]
  unfold tabR ext
  repeat' split
  all_goals first | rfl | omega

/-- A lane of the narrow cosines. -/
theorem half0_apply (a : FVec Ideal S8704x8 .f32) (n : Fin 8704) (l : Fin 64) : half0 a (ix2 n l) = tabC 8 (ext fun e => Ideal.cos (a (ix2 n e))) l.val := by
  pointwise [half0]
  unfold tabC ext
  repeat' split
  all_goals first | rfl | omega

/-- A lane of the narrow negated sines. -/
theorem half1_apply (a : FVec Ideal S8704x8 .f32) (n : Fin 8704) (l : Fin 64) : half1 a (ix2 n l) = tabS 8 (ext fun e => Ideal.sin (a (ix2 n e))) l.val := by
  pointwise [half1]
  unfold tabS ext
  repeat' split
  all_goals first | rfl | omega

/-- A lane of the narrow sines. -/
theorem half2_apply (a : FVec Ideal S8704x8 .f32) (n : Fin 8704) (l : Fin 64) : half2 a (ix2 n l) = tabR 8 (ext fun e => Ideal.sin (a (ix2 n e))) l.val := by
  pointwise [half2]
  unfold tabR ext
  repeat' split
  all_goals first | rfl | omega

/-- A lane of the index key's cosines and scale. -/
theorem tab6_apply (a : FVec Ideal S8704x8 .f32) (n : Fin 8704) (l : Fin 128) : tab6 a (ix2 n l) = if l.val < 64 then tabC 8 (ext fun e => Ideal.cos (a (ix2 n e))) l.val else if l.val < 80 then quarter else 1 := by
  pointwise [tab6]
  unfold tabC ext
  repeat' split
  all_goals first | rfl | omega

/-- A lane of the index key's negated sines. -/
theorem tab7_apply (a : FVec Ideal S8704x8 .f32) (n : Fin 8704) (l : Fin 128) : tab7 a (ix2 n l) = tabS 8 (ext fun e => Ideal.sin (a (ix2 n e))) l.val := by
  pointwise [tab7]
  unfold tabS ext
  repeat' split
  all_goals first | rfl | omega

/-- A lane of the index key's sines. -/
theorem tab8_apply (a : FVec Ideal S8704x8 .f32) (n : Fin 8704) (l : Fin 128) : tab8 a (ix2 n l) = tabR 8 (ext fun e => Ideal.sin (a (ix2 n e))) l.val := by
  pointwise [tab8]
  unfold tabR ext
  repeat' split
  all_goals first | rfl | omega

/-- A lane of a doubled table. -/
theorem twice_apply (T : FVec Ideal S8704x64 .f32) (n : Fin 8704) (l : Fin 128) : twice T (ix2 n l) = T (ix2 n ⟨l.val % 64, by omega⟩) := by
  pointwise [twice]

/-- A lane of table 0. -/
theorem tables_0 (T0 T1 T2 T3 T4 T5 T6 T7 T8 : FVec Ideal S8704x128 .f32) (n : Fin 8704) (l : Fin 128) (e : Fin 1152) (he : e.val = 0 + l.val) :
    tables T0 T1 T2 T3 T4 T5 T6 T7 T8 (ix2 n e) = T0 (ix2 n l) := by
  pointwise [tables]
  split_ifs <;> first | omega | exact congrArg (fun x => T0 (ix2 n x)) (Fin.ext (by simp only; omega))

/-- A lane of table 1. -/
theorem tables_1 (T0 T1 T2 T3 T4 T5 T6 T7 T8 : FVec Ideal S8704x128 .f32) (n : Fin 8704) (l : Fin 128) (e : Fin 1152) (he : e.val = 128 + l.val) :
    tables T0 T1 T2 T3 T4 T5 T6 T7 T8 (ix2 n e) = T1 (ix2 n l) := by
  pointwise [tables]
  split_ifs <;> first | omega | exact congrArg (fun x => T1 (ix2 n x)) (Fin.ext (by simp only; omega))

/-- A lane of table 2. -/
theorem tables_2 (T0 T1 T2 T3 T4 T5 T6 T7 T8 : FVec Ideal S8704x128 .f32) (n : Fin 8704) (l : Fin 128) (e : Fin 1152) (he : e.val = 256 + l.val) :
    tables T0 T1 T2 T3 T4 T5 T6 T7 T8 (ix2 n e) = T2 (ix2 n l) := by
  pointwise [tables]
  split_ifs <;> first | omega | exact congrArg (fun x => T2 (ix2 n x)) (Fin.ext (by simp only; omega))

/-- A lane of table 3. -/
theorem tables_3 (T0 T1 T2 T3 T4 T5 T6 T7 T8 : FVec Ideal S8704x128 .f32) (n : Fin 8704) (l : Fin 128) (e : Fin 1152) (he : e.val = 384 + l.val) :
    tables T0 T1 T2 T3 T4 T5 T6 T7 T8 (ix2 n e) = T3 (ix2 n l) := by
  pointwise [tables]
  split_ifs <;> first | omega | exact congrArg (fun x => T3 (ix2 n x)) (Fin.ext (by simp only; omega))

/-- A lane of table 4. -/
theorem tables_4 (T0 T1 T2 T3 T4 T5 T6 T7 T8 : FVec Ideal S8704x128 .f32) (n : Fin 8704) (l : Fin 128) (e : Fin 1152) (he : e.val = 512 + l.val) :
    tables T0 T1 T2 T3 T4 T5 T6 T7 T8 (ix2 n e) = T4 (ix2 n l) := by
  pointwise [tables]
  split_ifs <;> first | omega | exact congrArg (fun x => T4 (ix2 n x)) (Fin.ext (by simp only; omega))

/-- A lane of table 5. -/
theorem tables_5 (T0 T1 T2 T3 T4 T5 T6 T7 T8 : FVec Ideal S8704x128 .f32) (n : Fin 8704) (l : Fin 128) (e : Fin 1152) (he : e.val = 640 + l.val) :
    tables T0 T1 T2 T3 T4 T5 T6 T7 T8 (ix2 n e) = T5 (ix2 n l) := by
  pointwise [tables]
  split_ifs <;> first | omega | exact congrArg (fun x => T5 (ix2 n x)) (Fin.ext (by simp only; omega))

/-- A lane of table 6. -/
theorem tables_6 (T0 T1 T2 T3 T4 T5 T6 T7 T8 : FVec Ideal S8704x128 .f32) (n : Fin 8704) (l : Fin 128) (e : Fin 1152) (he : e.val = 768 + l.val) :
    tables T0 T1 T2 T3 T4 T5 T6 T7 T8 (ix2 n e) = T6 (ix2 n l) := by
  pointwise [tables]
  split_ifs <;> first | omega | exact congrArg (fun x => T6 (ix2 n x)) (Fin.ext (by simp only; omega))

/-- A lane of table 7. -/
theorem tables_7 (T0 T1 T2 T3 T4 T5 T6 T7 T8 : FVec Ideal S8704x128 .f32) (n : Fin 8704) (l : Fin 128) (e : Fin 1152) (he : e.val = 896 + l.val) :
    tables T0 T1 T2 T3 T4 T5 T6 T7 T8 (ix2 n e) = T7 (ix2 n l) := by
  pointwise [tables]
  split_ifs <;> first | omega | exact congrArg (fun x => T7 (ix2 n x)) (Fin.ext (by simp only; omega))

/-- A lane of table 8. -/
theorem tables_8 (T0 T1 T2 T3 T4 T5 T6 T7 T8 : FVec Ideal S8704x128 .f32) (n : Fin 8704) (l : Fin 128) (e : Fin 1152) (he : e.val = 1024 + l.val) :
    tables T0 T1 T2 T3 T4 T5 T6 T7 T8 (ix2 n e) = T8 (ix2 n l) := by
  pointwise [tables]
  split_ifs <;> first | omega | exact congrArg (fun x => T8 (ix2 n x)) (Fin.ext (by simp only; omega))

/-- An entry of the permuted weights. -/
theorem wide_apply (w : FVec Ideal S2048x11344 .f32) (j : Fin 2048) (e : Fin 12288) :
    wide w (ix2 j e) = ext (fun f => w (ix2 j f)) (place e.val) := by
  have hw : ∀ (a b : ℕ) (ha : a < 11344), a = b → w (ix2 j ⟨a, ha⟩) = ext (fun f => w (ix2 j f)) b := fun a b ha hb => by
    subst hb; exact (ext_lt (fun f => w (ix2 j f)) a ha).symm
  pointwise [wide]
  unfold place
  repeat' split
  all_goals first | omega | (refine hw _ _ _ ?_; omega) | (refine (ext_ge _ _ ?_).symm; omega)

/-- A table loaded from the nine. -/
theorem ld_apply (X : Vec Ideal S512x1152 .f32) (o : ℕ) (inb) (r : Fin 512) (l : Fin 128) (e : Fin 1152) (he : e.val = o + l.val) :
  View.ld X (Rect.unit (s := S512x1152) ![0, o] ![512, 128] inb) (ix2 r l) = X (ix2 r e) := by
  refine congrArg X (funext fun a => Fin.ext ?_)
  fin_cases a
  · simp [Rect.emb_apply]
  · simp [Rect.emb_apply, he]

/-- The weights as the call finds them. -/
theorem entry_w : V m c main_v81 = truncf .bf16 (wide (shapeCast S2048x11344 (m ((c.tc : Thread nD τ).loc main_arg2) : FVec Ideal S1x2048x11344 .f32) shapeCasts_S1x2048x11344_S2048x11344)) bitsLt_bf16_f32 := by
  unfold V hostOps0
  after_results
  rfl

set_option maxHeartbeats 8000000 in
/-- The tables as the call finds them. -/
theorem entry_t : V m c main_v71 = tables (tab0 ang16) (tab1 ang16) (tab2 ang16) (twice (half0 ang8)) (twice (half1 ang8)) (twice (half2 ang8)) (tab6 ang8) (tab7 ang8) (tab8 ang8) := by
  unfold V hostOps0
  after_results
  rfl

/-- The gain as the call finds it. -/
def gain2 (x : FVec Ideal S1x2048 .f32) : FVec Ideal S1x2048 .f32 :=
  shapeCast S1x2048 (shapeCast S2048 x shapeCasts_S1x2048_S2048) shapeCasts_S2048_S1x2048

/-- An entry of the gain. -/
theorem gain2_apply (x : FVec Ideal S1x2048 .f32) (k : Fin 2048) : gain2 x (ix2 0 k) = x (ix2 0 k) := by
  pointwise [gain2]

/-- The gain's entry. -/
theorem entry_g : V m c main_v83 = gain2 (m ((c.tc : Thread nD τ).loc main_arg1)) := by
  unfold V hostOps0
  after_results
  rfl

/-- The weights' flattened entries. -/
theorem flat_apply (w : FVec Ideal S1x2048x11344 .f32) (j : Fin 2048) (f : Fin 11344) :
    (shapeCast S2048x11344 w shapeCasts_S1x2048x11344_S2048x11344) (ix2 j f) = w (ix3 0 j f) := by
  pointwise

end Cert.Kernel5Ideal.Proj
end
-- ==== Proof.Proj.lean ====
/- The input projection's call: what each grid point holds, and the result array. -/
module

public import proofs.«01_k».proof.Proof.ProjTab

@[expose] public section

set_option maxRecDepth 16384

noncomputable section

namespace Cert.Kernel5Ideal.Proj

open Cert.Kernel5Ideal Cert.Kernel5Ideal.Gen Cert.Layer
open Idealize.ShloMosaic Idealize.ShloMosaic.TcCoe Idealize.SL.Sem

/-- The normalised rows. -/
theorem pay_norm (x : FVec Ideal S512x2048 .f32) (g : FVec Ideal S1x2048 .f32) (r : Fin 512) (k : Fin 2048) :
    k0_pay1 (F := Ideal) x g (ix2 r k) = rms (fun j => x (ix2 r j)) (fun j => g (ix2 0 j)) k := by
  pointwise [k0_pay1]
  rfl

/-- A tile's product. -/
def prod (u : FVec Ideal S512x2048 .bf16) (w : FVec Ideal S2048x1024 .bf16) (r : Fin 512) (s : Fin 1024) : EReal :=
  ∑ j : Fin 2048, u (ix2 r j) * w (ix2 j s)

/-- A rotated lane of a tile of 128, from the three tables. -/
def rot (h : ℕ) (y : ℕ → EReal) (T0 T1 T2 : EReal) (l : ℕ) : EReal :=
  y l * T0 + y ((l + 128 - (128 - h)) % 128) * T1 + y ((l + 128 - h) % 128) * T2

/-- A plain tile's product. -/
theorem pay_plain (u : FVec Ideal S512x2048 .bf16) (w : FVec Ideal S2048x1024 .bf16) (r : Fin 512) (s : Fin 1024) :
    k0_pay2 (F := Ideal) u w (ix2 r s) = prod u w r s := by
  pointwise [k0_pay2]
  rfl

/-- A gate's tile. -/
theorem pay_gate (u : FVec Ideal S512x2048 .bf16) (w : FVec Ideal S2048x1024 .bf16) (r : Fin 512) (s : Fin 1024) :
    k0_pay7 (F := Ideal) u w (ix2 r s) = Ideal.logistic (prod u w r s) := by
  pointwise [k0_pay7]
  rfl

/-- A product before its rotation. -/
theorem pay_mul8 (u : FVec Ideal S512x2048 .bf16) (w : FVec Ideal S2048x1024 .bf16) (r : Fin 512) (s : Fin 1024) :
    k0_pay8 (F := Ideal) u w (ix2 r s) = prod u w r s := by
  pointwise [k0_pay8]
  rfl

/-- A product before its rotation. -/
theorem pay_mul20 (u : FVec Ideal S512x2048 .bf16) (w : FVec Ideal S2048x1024 .bf16) (r : Fin 512) (s : Fin 1024) :
    k0_pay20 (F := Ideal) u w (ix2 r s) = prod u w r s := by
  pointwise [k0_pay20]
  rfl

/-- A product before its rotation. -/
theorem pay_mul32 (u : FVec Ideal S512x2048 .bf16) (w : FVec Ideal S2048x1024 .bf16) (r : Fin 512) (s : Fin 1024) :
    k0_pay32 (F := Ideal) u w (ix2 r s) = prod u w r s := by
  pointwise [k0_pay32]
  rfl

/-- Piece 0 of a tile of heads. -/
theorem pay12 (u : FVec Ideal S512x2048 .bf16) (w : FVec Ideal S2048x1024 .bf16) (c s1 s2 : FVec Ideal S512x128 .f32) (r : Fin 512) (l : Fin 128) :
    k0_pay12 (F := Ideal) u w c s1 s2 (ix2 r l) = rot 16 (ext fun e : Fin 128 => prod u w r ⟨0 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay12, k0_pay8, k0_pay9, k0_pay10, k0_pay11]
  rfl

/-- Piece 1 of a tile of heads. -/
theorem pay13 (u : FVec Ideal S512x2048 .bf16) (w : FVec Ideal S2048x1024 .bf16) (c s1 s2 : FVec Ideal S512x128 .f32) (r : Fin 512) (l : Fin 128) :
    k0_pay13 (F := Ideal) u w c s1 s2 (ix2 r l) = rot 16 (ext fun e : Fin 128 => prod u w r ⟨128 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay13, k0_pay8, k0_pay9, k0_pay10, k0_pay11]
  rfl

/-- Piece 2 of a tile of heads. -/
theorem pay14 (u : FVec Ideal S512x2048 .bf16) (w : FVec Ideal S2048x1024 .bf16) (c s1 s2 : FVec Ideal S512x128 .f32) (r : Fin 512) (l : Fin 128) :
    k0_pay14 (F := Ideal) u w c s1 s2 (ix2 r l) = rot 16 (ext fun e : Fin 128 => prod u w r ⟨256 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay14, k0_pay8, k0_pay9, k0_pay10, k0_pay11]
  rfl

/-- Piece 3 of a tile of heads. -/
theorem pay15 (y : FVec Ideal S512x1024 .f32) (c s1 s2 : FVec Ideal S512x128 .f32) (r : Fin 512) (l : Fin 128) :
    k0_pay15 (F := Ideal) y c s1 s2 (ix2 r l) = rot 16 (ext fun e : Fin 128 => (fun s => y (ix2 r s)) ⟨384 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay15]

/-- Piece 4 of a tile of heads. -/
theorem pay16 (y : FVec Ideal S512x1024 .f32) (c s1 s2 : FVec Ideal S512x128 .f32) (r : Fin 512) (l : Fin 128) :
    k0_pay16 (F := Ideal) y c s1 s2 (ix2 r l) = rot 16 (ext fun e : Fin 128 => (fun s => y (ix2 r s)) ⟨512 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay16]

/-- Piece 5 of a tile of heads. -/
theorem pay17 (y : FVec Ideal S512x1024 .f32) (c s1 s2 : FVec Ideal S512x128 .f32) (r : Fin 512) (l : Fin 128) :
    k0_pay17 (F := Ideal) y c s1 s2 (ix2 r l) = rot 16 (ext fun e : Fin 128 => (fun s => y (ix2 r s)) ⟨640 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay17]

/-- Piece 6 of a tile of heads. -/
theorem pay18 (y : FVec Ideal S512x1024 .f32) (c s1 s2 : FVec Ideal S512x128 .f32) (r : Fin 512) (l : Fin 128) :
    k0_pay18 (F := Ideal) y c s1 s2 (ix2 r l) = rot 16 (ext fun e : Fin 128 => (fun s => y (ix2 r s)) ⟨768 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay18]

/-- Piece 7 of a tile of heads. -/
theorem pay19 (y : FVec Ideal S512x1024 .f32) (c s1 s2 : FVec Ideal S512x128 .f32) (r : Fin 512) (l : Fin 128) :
    k0_pay3 (F := Ideal) c s1 s2 (k0_pay19 (F := Ideal) y) (ix2 r l) = rot 16 (ext fun e : Fin 128 => (fun s => y (ix2 r s)) ⟨896 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay3, k0_pay19]

/-- A table as it is loaded. -/
theorem pay9 (c : FVec Ideal S512x128 .f32) (r : Fin 512) (l : Fin 128) :
    k0_pay9 (F := Ideal) c (ix2 r l) = c (ix2 r l) := by
  pointwise [k0_pay9]

/-- A table as it is loaded. -/
theorem pay10 (c : FVec Ideal S512x128 .f32) (r : Fin 512) (l : Fin 128) :
    k0_pay10 (F := Ideal) c (ix2 r l) = c (ix2 r l) := by
  pointwise [k0_pay10]

/-- A table as it is loaded. -/
theorem pay11 (c : FVec Ideal S512x128 .f32) (r : Fin 512) (l : Fin 128) :
    k0_pay11 (F := Ideal) c (ix2 r l) = c (ix2 r l) := by
  pointwise [k0_pay11]

/-- Piece 0 of a tile of heads. -/
theorem pay24 (u : FVec Ideal S512x2048 .bf16) (w : FVec Ideal S2048x1024 .bf16) (c s1 s2 : FVec Ideal S512x128 .f32) (r : Fin 512) (l : Fin 128) :
    k0_pay24 (F := Ideal) u w c s1 s2 (ix2 r l) = rot 8 (ext fun e : Fin 128 => prod u w r ⟨0 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay24, k0_pay20, k0_pay21, k0_pay22, k0_pay23]
  rfl

/-- Piece 1 of a tile of heads. -/
theorem pay25 (u : FVec Ideal S512x2048 .bf16) (w : FVec Ideal S2048x1024 .bf16) (c s1 s2 : FVec Ideal S512x128 .f32) (r : Fin 512) (l : Fin 128) :
    k0_pay25 (F := Ideal) u w c s1 s2 (ix2 r l) = rot 8 (ext fun e : Fin 128 => prod u w r ⟨128 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay25, k0_pay20, k0_pay21, k0_pay22, k0_pay23]
  rfl

/-- Piece 2 of a tile of heads. -/
theorem pay26 (u : FVec Ideal S512x2048 .bf16) (w : FVec Ideal S2048x1024 .bf16) (c s1 s2 : FVec Ideal S512x128 .f32) (r : Fin 512) (l : Fin 128) :
    k0_pay26 (F := Ideal) u w c s1 s2 (ix2 r l) = rot 8 (ext fun e : Fin 128 => prod u w r ⟨256 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay26, k0_pay20, k0_pay21, k0_pay22, k0_pay23]
  rfl

/-- Piece 3 of a tile of heads. -/
theorem pay27 (y : FVec Ideal S512x1024 .f32) (c s1 s2 : FVec Ideal S512x128 .f32) (r : Fin 512) (l : Fin 128) :
    k0_pay27 (F := Ideal) y c s1 s2 (ix2 r l) = rot 8 (ext fun e : Fin 128 => (fun s => y (ix2 r s)) ⟨384 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay27]

/-- Piece 4 of a tile of heads. -/
theorem pay28 (y : FVec Ideal S512x1024 .f32) (c s1 s2 : FVec Ideal S512x128 .f32) (r : Fin 512) (l : Fin 128) :
    k0_pay28 (F := Ideal) y c s1 s2 (ix2 r l) = rot 8 (ext fun e : Fin 128 => (fun s => y (ix2 r s)) ⟨512 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay28]

/-- Piece 5 of a tile of heads. -/
theorem pay29 (y : FVec Ideal S512x1024 .f32) (c s1 s2 : FVec Ideal S512x128 .f32) (r : Fin 512) (l : Fin 128) :
    k0_pay29 (F := Ideal) y c s1 s2 (ix2 r l) = rot 8 (ext fun e : Fin 128 => (fun s => y (ix2 r s)) ⟨640 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay29]

/-- Piece 6 of a tile of heads. -/
theorem pay30 (y : FVec Ideal S512x1024 .f32) (c s1 s2 : FVec Ideal S512x128 .f32) (r : Fin 512) (l : Fin 128) :
    k0_pay30 (F := Ideal) y c s1 s2 (ix2 r l) = rot 8 (ext fun e : Fin 128 => (fun s => y (ix2 r s)) ⟨768 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay30]

/-- Piece 7 of a tile of heads. -/
theorem pay31 (y : FVec Ideal S512x1024 .f32) (c s1 s2 : FVec Ideal S512x128 .f32) (r : Fin 512) (l : Fin 128) :
    k0_pay4 (F := Ideal) c s1 s2 (k0_pay31 (F := Ideal) y) (ix2 r l) = rot 8 (ext fun e : Fin 128 => (fun s => y (ix2 r s)) ⟨896 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay4, k0_pay31]

/-- A table as it is loaded. -/
theorem pay21 (c : FVec Ideal S512x128 .f32) (r : Fin 512) (l : Fin 128) :
    k0_pay21 (F := Ideal) c (ix2 r l) = c (ix2 r l) := by
  pointwise [k0_pay21]

/-- A table as it is loaded. -/
theorem pay22 (c : FVec Ideal S512x128 .f32) (r : Fin 512) (l : Fin 128) :
    k0_pay22 (F := Ideal) c (ix2 r l) = c (ix2 r l) := by
  pointwise [k0_pay22]

/-- A table as it is loaded. -/
theorem pay23 (c : FVec Ideal S512x128 .f32) (r : Fin 512) (l : Fin 128) :
    k0_pay23 (F := Ideal) c (ix2 r l) = c (ix2 r l) := by
  pointwise [k0_pay23]

/-- Piece 0 of the last tile. -/
theorem pay33 (u : FVec Ideal S512x2048 .bf16) (w : FVec Ideal S2048x1024 .bf16) (c s1 s2 : FVec Ideal S512x128 .f32) (r : Fin 512) (l : Fin 128) :
    k0_pay33 (F := Ideal) u w c s1 s2 (ix2 r l) = rot 8 (ext fun e : Fin 128 => prod u w r ⟨0 + e.val, by omega⟩) (c (ix2 r l)) (s1 (ix2 r l)) (s2 (ix2 r l)) l.val := by
  simp only [rot, ext_lt _ _ l.isLt, ext_lt _ _ (Nat.mod_lt _ (by decide : 0 < 128))]
  pointwise [k0_pay33, k0_pay32]
  rfl

/-- Piece 1 of the last tile. -/
theorem pay34 (u : FVec Ideal S512x2048 .bf16) (w : FVec Ideal S2048x1024 .bf16) (r : Fin 512) (l : Fin 128) :
    k0_pay34 (F := Ideal) u w (ix2 r l) = prod u w r ⟨128 + l.val, by omega⟩ := by
  pointwise [k0_pay34, k0_pay32]
  rfl

/-- Piece 2 of the last tile. -/
theorem pay35 (u : FVec Ideal S512x2048 .bf16) (w : FVec Ideal S2048x1024 .bf16) (r : Fin 512) (l : Fin 128) :
    k0_pay35 (F := Ideal) u w (ix2 r l) = prod u w r ⟨256 + l.val, by omega⟩ := by
  pointwise [k0_pay35, k0_pay32]
  rfl

/-- Piece 3 of the last tile. -/
theorem pay36 (u : FVec Ideal S512x2048 .bf16) (w : FVec Ideal S2048x1024 .bf16) (r : Fin 512) (l : Fin 128) :
    k0_pay36 (F := Ideal) u w (ix2 r l) = prod u w r ⟨384 + l.val, by omega⟩ := by
  pointwise [k0_pay36, k0_pay32]
  rfl

/-- Piece 4 of the last tile. -/
theorem pay37 (u : FVec Ideal S512x2048 .bf16) (w : FVec Ideal S2048x1024 .bf16) (r : Fin 512) (l : Fin 128) :
    k0_pay37 (F := Ideal) u w (ix2 r l) = prod u w r ⟨512 + l.val, by omega⟩ := by
  pointwise [k0_pay37, k0_pay32]
  rfl

/-- Piece 5 of the last tile. -/
theorem pay38 (u : FVec Ideal S512x2048 .bf16) (w : FVec Ideal S2048x1024 .bf16) (r : Fin 512) (l : Fin 128) :
    k0_pay38 (F := Ideal) u w (ix2 r l) = prod u w r ⟨640 + l.val, by omega⟩ := by
  pointwise [k0_pay38, k0_pay32]
  rfl

/-- Piece 6 of the last tile. -/
theorem pay5 (y : FVec Ideal S512x1024 .f32) (r : Fin 512) (l : Fin 128) :
    k0_pay5 (F := Ideal) y (ix2 r l) = y (ix2 r ⟨768 + l.val, by omega⟩) := by
  pointwise [k0_pay5]

/-- Piece 7 of the last tile. -/
theorem pay6 (y : FVec Ideal S512x1024 .f32) (r : Fin 512) (l : Fin 128) :
    k0_pay6 (F := Ideal) y (ix2 r l) = y (ix2 r ⟨896 + l.val, by omega⟩) := by
  pointwise [k0_pay6]

variable (m : (ℓ : Loc nD τ sig) → Buf (Elt Ideal) ℓ) (c : Dev nD)

/-- The blocks' indices. -/
theorem idx : ∀ t : Fin cfg0.N, win0_0.index t = ![t.val / 12, 0] ∧ win0_1.index t = ![0, 0]
    ∧ win0_2.index t = ![0, t.val % 12] ∧ win0_3.index t = ![t.val / 12, 0] ∧ win0_4.index t = ![t.val / 12, t.val % 12] :=
  (by decide +kernel : ∀ t : Fin grid0.N, _)

/-- The rows' array. -/
abbrev rows : FVec Ideal S8704x2048 .f32 := m ((c.tc : Thread nD τ).loc main_arg0)
/-- The gain. -/
abbrev gain : FVec Ideal S1x2048 .f32 := m ((c.tc : Thread nD τ).loc main_arg1)
/-- The weights. -/
abbrev weights : FVec Ideal S1x2048x11344 .f32 := m ((c.tc : Thread nD τ).loc main_arg2)

/-- A block of the rows. -/
theorem blk0 (t : Fin cfg0.N) (r : Fin 512) (b : Fin 2048) (n : Fin 8704) (hn : n.val = 512 * (t.val / 12) + r.val) :
    iblk m c 0 t (ix2 r b) = rows m c (ix2 n b) := by
  blk_ext [iblk, V, idx t]

/-- A block of the gain, from the array the call finds. -/
theorem blk1_read (T : FVec Ideal S1x2048 .f32) (h : V m c main_v83 = T) (t : Fin cfg0.N) (b : Fin 2048) :
    iblk m c 1 t (ix2 0 b) = T (ix2 0 b) := by
  unfold iblk
  rw [show V m c (Pipeline.arrRef spec0 1) = T from h]
  clear h
  blk_simp [idx t]
  blk_ext [idx t]

/-- A tile of the weights, from the array the call finds. -/
theorem blk2_read (T : FVec Ideal S2048x12288 .bf16) (h : V m c main_v81 = T) (t : Fin cfg0.N) (b : Fin 2048) (s : Fin 1024) (n : Fin 12288)
    (hn : n.val = 1024 * (t.val % 12) + s.val) : iblk m c 2 t (ix2 b s) = T (ix2 b n) := by
  unfold iblk
  rw [show V m c (Pipeline.arrRef spec0 2) = T from h]
  clear h
  blk_simp [idx t]
  blk_ext [idx t]

/-- A block of the tables, from the array the call finds. -/
theorem blk3_read (T : FVec Ideal S8704x1152 .f32) (h : V m c main_v71 = T) (t : Fin cfg0.N) (r : Fin 512) (e : Fin 1152) (n : Fin 8704)
    (hn : n.val = 512 * (t.val / 12) + r.val) : iblk m c 3 t (ix2 r e) = T (ix2 n e) := by
  unfold iblk
  rw [show V m c (Pipeline.arrRef spec0 3) = T from h]
  clear h
  blk_simp [idx t]
  blk_ext [idx t]

/-- A block of the gain. -/
theorem blk1 (t : Fin cfg0.N) (b : Fin 2048) : iblk m c 1 t (ix2 0 b) = gain m c (ix2 0 b) :=
  (blk1_read m c _ (entry_g m c) t b).trans (gain2_apply _ _)

/-- A tile of the weights. -/
theorem blk2 (t : Fin cfg0.N) (b : Fin 2048) (s : Fin 1024) :
    iblk m c 2 t (ix2 b s) = ext (fun f => weights m c (ix3 0 b f)) (place (1024 * (t.val % 12) + s.val)) := by
  rw [blk2_read m c _ (entry_w m c) t b s ⟨1024 * (t.val % 12) + s.val, by omega⟩ rfl]
  refine (wide_apply _ b _).trans ?_
  simp only [flat_apply]

/-- The cosines of a row's angles, heads of 128 lanes. -/
def c16 (n : Fin 8704) : ℕ → EReal := ext fun e : Fin 16 => Ideal.cos (ang16 (ix2 n e))
/-- Their sines. -/
def s16 (n : Fin 8704) : ℕ → EReal := ext fun e : Fin 16 => Ideal.sin (ang16 (ix2 n e))
/-- The cosines of a row's angles, heads of 64 lanes. -/
def c8 (n : Fin 8704) : ℕ → EReal := ext fun e : Fin 8 => Ideal.cos (ang8 (ix2 n e))
/-- Their sines. -/
def s8 (n : Fin 8704) : ℕ → EReal := ext fun e : Fin 8 => Ideal.sin (ang8 (ix2 n e))

/-- A lane of table 0 as a point loads it. -/
theorem tab_0 (t : Fin cfg0.N) (r : Fin 512) (n : Fin 8704) (hn : n.val = 512 * (t.val / 12) + r.val) (l : Fin 128) (inb) :
    View.ld (iblk m c 3 t) (Rect.unit (s := S512x1152) ![0, 0] ![512, 128] inb) (ix2 r l) = tabC 16 (c16 n) l.val := by
  rw [ld_apply (iblk m c 3 t) 0 inb r l ⟨0 + l.val, by omega⟩ rfl, blk3_read m c _ (entry_t m c) t r _ n hn,
    tables_0 _ _ _ _ _ _ _ _ _ n l _ rfl]
  exact tab0_apply _ n l

/-- A lane of table 1 as a point loads it. -/
theorem tab_1 (t : Fin cfg0.N) (r : Fin 512) (n : Fin 8704) (hn : n.val = 512 * (t.val / 12) + r.val) (l : Fin 128) (inb) :
    View.ld (iblk m c 3 t) (Rect.unit (s := S512x1152) ![0, 128] ![512, 128] inb) (ix2 r l) = tabS 16 (s16 n) l.val := by
  rw [ld_apply (iblk m c 3 t) 128 inb r l ⟨128 + l.val, by omega⟩ rfl, blk3_read m c _ (entry_t m c) t r _ n hn,
    tables_1 _ _ _ _ _ _ _ _ _ n l _ rfl]
  exact tab1_apply _ n l

/-- A lane of table 2 as a point loads it. -/
theorem tab_2 (t : Fin cfg0.N) (r : Fin 512) (n : Fin 8704) (hn : n.val = 512 * (t.val / 12) + r.val) (l : Fin 128) (inb) :
    View.ld (iblk m c 3 t) (Rect.unit (s := S512x1152) ![0, 256] ![512, 128] inb) (ix2 r l) = tabR 16 (s16 n) l.val := by
  rw [ld_apply (iblk m c 3 t) 256 inb r l ⟨256 + l.val, by omega⟩ rfl, blk3_read m c _ (entry_t m c) t r _ n hn,
    tables_2 _ _ _ _ _ _ _ _ _ n l _ rfl]
  exact tab2_apply _ n l

/-- A lane of table 3 as a point loads it. -/
theorem tab_3 (t : Fin cfg0.N) (r : Fin 512) (n : Fin 8704) (hn : n.val = 512 * (t.val / 12) + r.val) (l : Fin 128) (inb) :
    View.ld (iblk m c 3 t) (Rect.unit (s := S512x1152) ![0, 384] ![512, 128] inb) (ix2 r l) = tabC 8 (c8 n) (l.val % 64) := by
  rw [ld_apply (iblk m c 3 t) 384 inb r l ⟨384 + l.val, by omega⟩ rfl, blk3_read m c _ (entry_t m c) t r _ n hn,
    tables_3 _ _ _ _ _ _ _ _ _ n l _ rfl]
  rw [twice_apply]
  exact half0_apply _ n _

/-- A lane of table 4 as a point loads it. -/
theorem tab_4 (t : Fin cfg0.N) (r : Fin 512) (n : Fin 8704) (hn : n.val = 512 * (t.val / 12) + r.val) (l : Fin 128) (inb) :
    View.ld (iblk m c 3 t) (Rect.unit (s := S512x1152) ![0, 512] ![512, 128] inb) (ix2 r l) = tabS 8 (s8 n) (l.val % 64) := by
  rw [ld_apply (iblk m c 3 t) 512 inb r l ⟨512 + l.val, by omega⟩ rfl, blk3_read m c _ (entry_t m c) t r _ n hn,
    tables_4 _ _ _ _ _ _ _ _ _ n l _ rfl]
  rw [twice_apply]
  exact half1_apply _ n _

/-- A lane of table 5 as a point loads it. -/
theorem tab_5 (t : Fin cfg0.N) (r : Fin 512) (n : Fin 8704) (hn : n.val = 512 * (t.val / 12) + r.val) (l : Fin 128) (inb) :
    View.ld (iblk m c 3 t) (Rect.unit (s := S512x1152) ![0, 640] ![512, 128] inb) (ix2 r l) = tabR 8 (s8 n) (l.val % 64) := by
  rw [ld_apply (iblk m c 3 t) 640 inb r l ⟨640 + l.val, by omega⟩ rfl, blk3_read m c _ (entry_t m c) t r _ n hn,
    tables_5 _ _ _ _ _ _ _ _ _ n l _ rfl]
  rw [twice_apply]
  exact half2_apply _ n _

/-- A lane of table 6 as a point loads it. -/
theorem tab_6 (t : Fin cfg0.N) (r : Fin 512) (n : Fin 8704) (hn : n.val = 512 * (t.val / 12) + r.val) (l : Fin 128) (inb) :
    View.ld (iblk m c 3 t) (Rect.unit (s := S512x1152) ![0, 768] ![512, 128] inb) (ix2 r l) = (if l.val < 64 then tabC 8 (c8 n) l.val else if l.val < 80 then quarter else 1) := by
  rw [ld_apply (iblk m c 3 t) 768 inb r l ⟨768 + l.val, by omega⟩ rfl, blk3_read m c _ (entry_t m c) t r _ n hn,
    tables_6 _ _ _ _ _ _ _ _ _ n l _ rfl]
  exact tab6_apply _ n l

/-- A lane of table 7 as a point loads it. -/
theorem tab_7 (t : Fin cfg0.N) (r : Fin 512) (n : Fin 8704) (hn : n.val = 512 * (t.val / 12) + r.val) (l : Fin 128) (inb) :
    View.ld (iblk m c 3 t) (Rect.unit (s := S512x1152) ![0, 896] ![512, 128] inb) (ix2 r l) = tabS 8 (s8 n) l.val := by
  rw [ld_apply (iblk m c 3 t) 896 inb r l ⟨896 + l.val, by omega⟩ rfl, blk3_read m c _ (entry_t m c) t r _ n hn,
    tables_7 _ _ _ _ _ _ _ _ _ n l _ rfl]
  exact tab7_apply _ n l

/-- A lane of table 8 as a point loads it. -/
theorem tab_8 (t : Fin cfg0.N) (r : Fin 512) (n : Fin 8704) (hn : n.val = 512 * (t.val / 12) + r.val) (l : Fin 128) (inb) :
    View.ld (iblk m c 3 t) (Rect.unit (s := S512x1152) ![0, 1024] ![512, 128] inb) (ix2 r l) = tabR 8 (s8 n) l.val := by
  rw [ld_apply (iblk m c 3 t) 1024 inb r l ⟨1024 + l.val, by omega⟩ rfl, blk3_read m c _ (entry_t m c) t r _ n hn,
    tables_8 _ _ _ _ _ _ _ _ _ n l _ rfl]
  exact tab8_apply _ n l

/-- A row's normalised entries. -/
def normed (x : FVec Ideal S8704x2048 .f32) (g : FVec Ideal S1x2048 .f32) (n : Fin 8704) : Fin 2048 → EReal :=
  rms (fun j => x (ix2 n j)) (fun j => g (ix2 0 j))

/-- A row's projected columns. -/
def cols (x : FVec Ideal S8704x2048 .f32) (g : FVec Ideal S1x2048 .f32) (w : FVec Ideal S1x2048x11344 .f32) (n : Fin 8704) : ℕ → EReal :=
  ext fun f : Fin 11344 => ∑ j : Fin 2048, normed x g n j * w (ix3 0 j f)

/-- The call's result. -/
def result (x : FVec Ideal S8704x2048 .f32) (g : FVec Ideal S1x2048 .f32) (w : FVec Ideal S1x2048x11344 .f32) : FVec Ideal S8704x12288 .f32 := fun i =>
  panel (c16 (i 0)) (s16 (i 0)) (c8 (i 0)) (s8 (i 0)) (cols x g w (i 0)) (i 1).val

/-- The normalised rows of a block. -/
theorem norm_blk (t : Fin cfg0.N) (r : Fin 512) (k : Fin 2048) (n : Fin 8704) (hn : n.val = 512 * (t.val / 12) + r.val) :
    k0_pay1 (F := Ideal) (iblk m c 0 t) (iblk m c 1 t) (ix2 r k) = normed (rows m c) (gain m c) n k := by
  rw [pay_norm]
  unfold normed
  congr 1
  · exact funext fun j => blk0 m c t r j n hn
  · exact funext fun j => blk1 m c t j

/-- The normalised rows, carried from point to point. -/
theorem carried (n : ℕ) (hn : n < cfg0.N) (r : Fin 512) (k : Fin 2048) (R : Fin 8704) (hR : R.val = 512 * (n / 12) + r.val) :
    (outsAt0 m c n hn).2 (ix2 r k) = normed (rows m c) (gain m c) R k := by
  induction n with
  | zero =>
    rw [outsAt0_A m c ⟨0, hn⟩ (by simp only) (by simp only; omega) (by simp only; omega) (by simp only; omega) (by simp only; omega) (by simp only; omega)]
    frame_out
    exact norm_blk m c ⟨0, hn⟩ r k R hR
  | succ n ih =>
    by_cases h0 : (n + 1) % 12 = 0
    · rw [outsAt0_A m c ⟨n + 1, hn⟩ h0 (by simp only; omega) (by simp only; omega) (by simp only; omega) (by simp only; omega) (by simp only; omega)]
      frame_out
      exact norm_blk m c ⟨n + 1, hn⟩ r k R hR
    · have hp := ih (Nat.lt_of_succ_lt hn) (by omega)
      by_cases h5 : (n + 1) % 12 ≤ 3
      · rw [outsAt0_B m c ⟨n + 1, hn⟩ h0 (by simp only; omega) (by simp only; omega) (by simp only; omega) (by simp only; omega) h5]
        exact hp
      · by_cases h1 : 4 ≤ (n + 1) % 12 ∧ (n + 1) % 12 ≤ 7
        · rw [outsAt0_C m c ⟨n + 1, hn⟩ h0 h1 (by simp only; omega) (by simp only; omega) (by simp only; omega) h5]
          exact hp
        · by_cases h2 : 8 ≤ (n + 1) % 12 ∧ (n + 1) % 12 ≤ 9
          · rw [outsAt0_D m c ⟨n + 1, hn⟩ h0 h1 h2 (by simp only; omega) (by simp only; omega) h5]
            exact hp
          · by_cases h3 : (n + 1) % 12 = 10
            · rw [outsAt0_E m c ⟨n + 1, hn⟩ h0 h1 h2 h3 (by simp only; omega) h5]
              exact hp
            · rw [outsAt0_F m c ⟨n + 1, hn⟩ h0 h1 h2 h3 (by simp only; omega) h5]
              exact hp

/-- A tile's product is the row's projected columns, in the panel's order. -/
theorem prod_blk (t : Fin cfg0.N) (u : FVec Ideal S512x2048 .bf16) (r : Fin 512) (R : Fin 8704)
    (hu : ∀ k : Fin 2048, u (ix2 r k) = normed (rows m c) (gain m c) R k) (s : Fin 1024) :
    prod u (iblk m c 2 t) r s = cols (rows m c) (gain m c) (weights m c) R (place (1024 * (t.val % 12) + s.val)) := by
  unfold prod cols
  simp only [hu, blk2 m c t]
  by_cases h : place (1024 * (t.val % 12) + s.val) < 11344
  · rw [ext_lt _ _ h]
    exact Finset.sum_congr rfl fun j _ => by rw [ext_lt _ _ h]
  · rw [ext_ge _ _ (Nat.not_lt.mp h)]
    exact Finset.sum_eq_zero fun j _ => by rw [ext_ge _ _ (Nat.not_lt.mp h), mul_zero]

/-- What a point's output block holds. -/
def G (t : Fin cfg0.N) : Vec Ideal S512x1024 .f32 := fun y =>
  result (rows m c) (gain m c) (weights m c) (ix2
    ⟨512 * (t.val / 12) + (y 0).val, by have h : t.val < 204 := t.isLt; have : (y 0).val < 512 := (y 0).isLt; omega⟩
    ⟨1024 * (t.val % 12) + (y 1).val, by have : (y 1).val < 1024 := (y 1).isLt; omega⟩)

/-- An entry of a point's output block. -/
theorem G_apply (t : Fin cfg0.N) (r : Fin 512) (s : Fin 1024) (R : Fin 8704) (hR : R.val = 512 * (t.val / 12) + r.val) :
    G m c t (ix2 r s) = panel (c16 R) (s16 R) (c8 R) (s8 R) (cols (rows m c) (gain m c) (weights m c) R) (1024 * (t.val % 12) + s.val) := by
  have e : R = ⟨512 * (t.val / 12) + r.val, by have h : t.val < 204 := t.isLt; omega⟩ := Fin.ext hR
  rw [e]
  rfl

/-- A rotated lane, from the three tables' lanes. -/
theorem rot_rope (h : ℕ) (hh : 2 * h ≤ 128) (y z cs sn : ℕ → EReal) (b l : ℕ) (hl : l < 128) (hy : ∀ e < 128, y e = z (b + e)) :
    rot h y (tabC h cs l) (tabS h sn l) (tabR h sn l) l = rope h cs sn z (b + l) l := by
  unfold rot
  rw [hy _ hl, hy _ (Nat.mod_lt _ (by decide)), hy _ (Nat.mod_lt _ (by decide))]
  exact rot_eq h hh cs sn z b l hl

/-- A rotated lane of two narrow heads, from the three tables' lanes. -/
theorem rot_rope64 (h : ℕ) (hh : 2 * h ≤ 64) (y z cs sn : ℕ → EReal) (b l : ℕ) (hl : l < 128) (hy : ∀ e < 128, y e = z (b + e)) :
    rot h y (tabC h cs (l % 64)) (tabS h sn (l % 64)) (tabR h sn (l % 64)) l = rope h cs sn z (b + l) (l % 64) := by
  unfold rot
  rw [hy _ hl, hy _ (Nat.mod_lt _ (by decide)), hy _ (Nat.mod_lt _ (by decide))]
  exact rot64_eq h hh cs sn z b l hl

/-- A rotated piece of the wide heads. -/
theorem piece16 (c16 s16 c8 s8 z : ℕ → EReal) (j o : ℕ) (hj : 8 ≤ j ∧ j ≤ 9) (ho : o % 128 = 0 ∧ o ≤ 896) (y : Fin 1024 → EReal)
    (hy : ∀ s, y s = z (place (1024 * j + s.val))) (l : Fin 128) :
    rot 16 (ext fun e : Fin 128 => y ⟨o + e.val, by omega⟩) (tabC 16 c16 l.val) (tabS 16 s16 l.val) (tabR 16 s16 l.val) l.val
      = panel c16 s16 c8 s8 z (1024 * j + (o + l.val)) := by
  refine (rot_rope 16 (by decide) _ z c16 s16 (1024 * j + o - 5120) l.val l.isLt fun e he => ?_).trans ?_
  · rw [ext_lt _ _ he, hy]
    refine congrArg z (show place (1024 * j + (o + e)) = _ from ?_)
    unfold place
    repeat' split
    all_goals omega
  · unfold panel
    rw [if_neg (by omega), if_neg (by omega), if_neg (by omega), if_pos (by omega), show 1024 * j + (o + l.val) - 5120 = 1024 * j + o - 5120 + l.val by omega,
      show (1024 * j + (o + l.val)) % 128 = l.val by omega]

/-- A rotated piece of the narrow heads. -/
theorem piece8 (c16 s16 c8 s8 z : ℕ → EReal) (j o : ℕ) (hj : j = 10) (ho : o % 128 = 0 ∧ o ≤ 896) (y : Fin 1024 → EReal)
    (hy : ∀ s, y s = z (place (1024 * j + s.val))) (l : Fin 128) :
    rot 8 (ext fun e : Fin 128 => y ⟨o + e.val, by omega⟩) (tabC 8 c8 (l.val % 64)) (tabS 8 s8 (l.val % 64)) (tabR 8 s8 (l.val % 64)) l.val
      = panel c16 s16 c8 s8 z (1024 * j + (o + l.val)) := by
  refine (rot_rope64 8 (by decide) _ z c8 s8 (1024 * j + o - 4096) l.val l.isLt fun e he => ?_).trans ?_
  · rw [ext_lt _ _ he, hy]
    refine congrArg z (show place (1024 * j + (o + e)) = _ from ?_)
    unfold place
    repeat' split
    all_goals omega
  · unfold panel
    rw [if_neg (by omega), if_neg (by omega), if_neg (by omega), if_neg (by omega), if_pos (by omega), show 1024 * j + (o + l.val) - 4096 = 1024 * j + o - 4096 + l.val by omega,
      show (1024 * j + (o + l.val)) % 64 = l.val % 64 by omega]

/-- The last tile's rotated piece: the index key, the index heads' weights, zeros. -/
theorem piece_last (c16 s16 c8 s8 z : ℕ → EReal) (j : ℕ) (hj : j = 11) (hz : ∀ f, 11344 ≤ f → z f = 0) (y : Fin 1024 → EReal)
    (hy : ∀ s, y s = z (place (1024 * j + s.val))) (l : Fin 128) :
    rot 8 (ext fun e : Fin 128 => y ⟨0 + e.val, by omega⟩) (if l.val < 64 then tabC 8 c8 l.val else if l.val < 80 then quarter else 1)
      (tabS 8 s8 l.val) (tabR 8 s8 l.val) l.val = panel c16 s16 c8 s8 z (1024 * j + (0 + l.val)) := by
  have he : ∀ e < 80, (ext fun e : Fin 128 => y ⟨0 + e.val, by omega⟩) e = z (7168 + e) := fun e he => by
    rw [ext_lt _ _ (by omega), hy]
    refine congrArg z (show place (1024 * j + (0 + e)) = _ from ?_)
    unfold place
    repeat' split
    all_goals omega
  have he' : ∀ e < 128, 80 ≤ e → (ext fun e : Fin 128 => y ⟨0 + e.val, by omega⟩) e = 0 := fun e he he2 => by
    rw [ext_lt _ _ (by omega), hy]
    refine hz _ (show 11344 ≤ place (1024 * j + (0 + e)) from ?_)
    unfold place
    repeat' split
    all_goals first | omega | (simp only; omega)
  have hl := l.isLt
  have hp : panel c16 s16 c8 s8 z (1024 * j + (0 + l.val))
      = if l.val < 64 then rope 8 c8 s8 z (7168 + l.val) l.val else if l.val < 80 then z (7168 + l.val) * quarter else 0 := by
    unfold panel
    rw [if_neg (by omega), if_neg (by omega), if_neg (by omega), if_neg (by omega), if_neg (by omega),
      show 1024 * j + (0 + l.val) - 4096 = 7168 + l.val by omega, show 1024 * j + (0 + l.val) - 11264 = l.val by omega]
    by_cases h2 : l.val < 64
    · rw [if_pos h2, if_pos (by omega)]
    rw [if_neg h2, if_neg (by omega)]
    by_cases h3 : l.val < 80
    · rw [if_pos h3, if_pos (by omega)]
    · rw [if_neg h3, if_neg (by omega)]
  rw [hp]
  clear hp
  unfold rot tabC tabS tabR rope
  by_cases h0 : l.val < 8
  · simp only [if_pos h0, if_pos (show l.val < 64 by omega), mul_zero, add_zero, mul_neg]
    rw [he _ (by omega), he _ (by omega), show 7168 + (l.val + 128 - (128 - 8)) % 128 = 7168 + l.val + 8 by omega, ← sub_eq_add_neg]
  by_cases h1 : l.val < 16
  · simp only [if_neg h0, if_pos (show l.val < 2 * 8 by omega), if_pos (show l.val < 64 by omega), mul_zero, add_zero]
    rw [he _ (by omega), he _ (by omega), show 7168 + (l.val + 128 - 8) % 128 = 7168 + l.val - 8 by omega, add_comm]
  simp only [if_neg h0, if_neg (show ¬l.val < 2 * 8 by omega), mul_zero, add_zero]
  by_cases h2 : l.val < 64
  · simp only [if_pos h2, mul_one]
    exact he _ (by omega)
  simp only [if_neg h2]
  by_cases h3 : l.val < 80
  · simp only [if_pos h3]
    rw [he _ h3]
  · simp only [if_neg h3, mul_one]
    exact he' _ (by omega) (by omega)

/-- The last tile's other lanes: zeros. -/
theorem zero_last (c16 s16 c8 s8 z : ℕ → EReal) (j : ℕ) (hj : j = 11) (hz : ∀ f, 11344 ≤ f → z f = 0) (s : ℕ) (hs : 80 ≤ s) :
    z (place (1024 * j + s)) = panel c16 s16 c8 s8 z (1024 * j + s) := by
  unfold panel
  rw [if_neg (by omega), if_neg (by omega), if_neg (by omega), if_neg (by omega), if_neg (by omega), if_neg (by omega), if_neg (by omega)]
  refine hz _ ?_
  unfold place
  repeat' split
  all_goals first | omega | (simp only; omega)

/-- The columns beyond the projection's are zeros. -/
theorem cols_ge (x : FVec Ideal S8704x2048 .f32) (g : FVec Ideal S1x2048 .f32) (w : FVec Ideal S1x2048x11344 .f32) (n : Fin 8704) (f : ℕ) (hf : 11344 ≤ f) :
    cols x g w n f = 0 := ext_ge _ _ hf

/-- An entry within a piece of 128 lanes. -/
theorem mem_piece (o : ℕ) (inb) (y : S512x1024.Idx) (h0 : o ≤ (y 1).val) (h1 : (y 1).val < o + 128) :
    y ∈ (Rect.unit (s := S512x1024) ![0, o] ![512, 128] inb).set := by
  rw [Rect.mem_set_unit]
  intro a
  fin_cases a
  · exact ⟨Nat.zero_le _, by have : (y 0).val < 512 := (y 0).isLt; simpa using this⟩
  · exact ⟨h0, h1⟩

/-- A piece that agrees with a block lane by lane agrees at the piece's own indices. -/
theorem emb_piece (B : Vec Ideal S512x1024 .f32) (o : ℕ) (ho : o ≤ 896) (inb) (w : FVec Ideal S512x128 .f32)
    (h : ∀ (r : Fin 512) (l : Fin 128), w (ix2 r l) = B (ix2 r ⟨o + l.val, by omega⟩)) (x : (Rect.unit (s := S512x1024) ![0, o] ![512, 128] inb).shape.Idx) :
    w x = B ((Rect.unit (s := S512x1024) ![0, o] ![512, 128] inb).emb x) := by
  have hx : x = ix2 (x 0) (x 1) := (ix2_eta (n0 := 512) (n1 := 128) x).symm
  rw [hx]
  refine (h (x 0) (x 1)).trans (congrArg B (funext fun a => Fin.ext ?_))
  fin_cases a
  · show (x 0).val = 0 + 1 * (x 0).val; omega
  · show o + (x 1).val = o + 1 * (x 1).val; omega

/-- A block stored in eight pieces of 128 lanes. -/
theorem canon8 (B : Vec Ideal S512x1024 .f32) (i0) (i1) (i2) (i3) (i4) (i5) (i6) (i7) (w0 w1 w2 w3 w4 w5 w6 w7 : FVec Ideal S512x128 .f32)
    (h0 : ∀ (r : Fin 512) (l : Fin 128), w0 (ix2 r l) = B (ix2 r ⟨0 + l.val, by omega⟩))
    (h1 : ∀ (r : Fin 512) (l : Fin 128), w1 (ix2 r l) = B (ix2 r ⟨128 + l.val, by omega⟩))
    (h2 : ∀ (r : Fin 512) (l : Fin 128), w2 (ix2 r l) = B (ix2 r ⟨256 + l.val, by omega⟩))
    (h3 : ∀ (r : Fin 512) (l : Fin 128), w3 (ix2 r l) = B (ix2 r ⟨384 + l.val, by omega⟩))
    (h4 : ∀ (r : Fin 512) (l : Fin 128), w4 (ix2 r l) = B (ix2 r ⟨512 + l.val, by omega⟩))
    (h5 : ∀ (r : Fin 512) (l : Fin 128), w5 (ix2 r l) = B (ix2 r ⟨640 + l.val, by omega⟩))
    (h6 : ∀ (r : Fin 512) (l : Fin 128), w6 (ix2 r l) = B (ix2 r ⟨768 + l.val, by omega⟩))
    (h7 : ∀ (r : Fin 512) (l : Fin 128), w7 (ix2 r l) = B (ix2 r ⟨896 + l.val, by omega⟩))
    (y : S512x1024.Idx) :
    View.canon (Val := Elt Ideal) (s := S512x1024) (e := .f32) [⟨Rect.unit (s := S512x1024) ![0, 896] ![512, 128] i7, w7⟩, ⟨Rect.unit (s := S512x1024) ![0, 768] ![512, 128] i6, w6⟩, ⟨Rect.unit (s := S512x1024) ![0, 640] ![512, 128] i5, w5⟩, ⟨Rect.unit (s := S512x1024) ![0, 512] ![512, 128] i4, w4⟩, ⟨Rect.unit (s := S512x1024) ![0, 384] ![512, 128] i3, w3⟩, ⟨Rect.unit (s := S512x1024) ![0, 256] ![512, 128] i2, w2⟩, ⟨Rect.unit (s := S512x1024) ![0, 128] ![512, 128] i1, w1⟩, ⟨Rect.unit (s := S512x1024) ![0, 0] ![512, 128] i0, w0⟩] y = B y := by
  refine View.canon_apply_of_pieces B _ (fun p hp x => ?_) y ?_
  · simp only [List.mem_cons, List.mem_nil_iff, or_false] at hp
    rcases hp with rfl | rfl | rfl | rfl | rfl | rfl | rfl | rfl
    · exact emb_piece B 896 (by decide) i7 w7 h7 x
    · exact emb_piece B 768 (by decide) i6 w6 h6 x
    · exact emb_piece B 640 (by decide) i5 w5 h5 x
    · exact emb_piece B 512 (by decide) i4 w4 h4 x
    · exact emb_piece B 384 (by decide) i3 w3 h3 x
    · exact emb_piece B 256 (by decide) i2 w2 h2 x
    · exact emb_piece B 128 (by decide) i1 w1 h1 x
    · exact emb_piece B 0 (by decide) i0 w0 h0 x
  · have hy : (y 1).val < 1024 := (y 1).isLt
    by_cases g7 : 896 ≤ (y 1).val
    · exact ⟨⟨Rect.unit (s := S512x1024) ![0, 896] ![512, 128] i7, w7⟩, by simp only [List.mem_cons, true_or, or_true], mem_piece 896 i7 y g7 (by omega)⟩
    by_cases g6 : 768 ≤ (y 1).val
    · exact ⟨⟨Rect.unit (s := S512x1024) ![0, 768] ![512, 128] i6, w6⟩, by simp only [List.mem_cons, true_or, or_true], mem_piece 768 i6 y g6 (by omega)⟩
    by_cases g5 : 640 ≤ (y 1).val
    · exact ⟨⟨Rect.unit (s := S512x1024) ![0, 640] ![512, 128] i5, w5⟩, by simp only [List.mem_cons, true_or, or_true], mem_piece 640 i5 y g5 (by omega)⟩
    by_cases g4 : 512 ≤ (y 1).val
    · exact ⟨⟨Rect.unit (s := S512x1024) ![0, 512] ![512, 128] i4, w4⟩, by simp only [List.mem_cons, true_or, or_true], mem_piece 512 i4 y g4 (by omega)⟩
    by_cases g3 : 384 ≤ (y 1).val
    · exact ⟨⟨Rect.unit (s := S512x1024) ![0, 384] ![512, 128] i3, w3⟩, by simp only [List.mem_cons, true_or, or_true], mem_piece 384 i3 y g3 (by omega)⟩
    by_cases g2 : 256 ≤ (y 1).val
    · exact ⟨⟨Rect.unit (s := S512x1024) ![0, 256] ![512, 128] i2, w2⟩, by simp only [List.mem_cons, true_or, or_true], mem_piece 256 i2 y g2 (by omega)⟩
    by_cases g1 : 128 ≤ (y 1).val
    · exact ⟨⟨Rect.unit (s := S512x1024) ![0, 128] ![512, 128] i1, w1⟩, by simp only [List.mem_cons, true_or, or_true], mem_piece 128 i1 y g1 (by omega)⟩
    · exact ⟨⟨Rect.unit (s := S512x1024) ![0, 0] ![512, 128] i0, w0⟩, by simp only [List.mem_cons, true_or, or_true], mem_piece 0 i0 y (Nat.zero_le _) (by omega)⟩

/-- The normalised rows a point finds carried. -/
theorem found (t : Fin cfg0.N) (h0 : ¬t.val % 12 = 0) (hlt) (r : Fin 512) (R : Fin 8704) (hR : R.val = 512 * (t.val / 12) + r.val) (k : Fin 2048) :
    (outsAt0 m c (t.val - 1) hlt).2 (ix2 r k) = normed (rows m c) (gain m c) R k :=
  carried m c (t.val - 1) hlt r k R (by omega)

/-- A block's row is a row of the array. -/
theorem row_lt (t : Fin cfg0.N) (r : Fin 512) : 512 * (t.val / 12) + r.val < 8704 := by
  have h : t.val < 204 := t.isLt
  omega

/-- A first tile's block. -/
theorem caseA (t : Fin cfg0.N) (h0 : t.val % 12 = 0) (h1 : ¬(4 ≤ t.val % 12 ∧ t.val % 12 ≤ 7)) (h2 : ¬(8 ≤ t.val % 12 ∧ t.val % 12 ≤ 9)) (h3 : ¬t.val % 12 = 10) (h4 : ¬t.val % 12 = 11) (h5 : t.val % 12 ≤ 3) (y : S512x1024.Idx) :
    (outsAt0 m c t.val t.isLt).1 y = G m c t y := by
  rw [outsAt0_A m c t h0 h1 h2 h3 h4 h5]
  frame_out
  idx_vars y
  set R : Fin 8704 := ⟨512 * (t.val / 12) + y0.val, row_lt t y0⟩ with hR
  rw [pay_gate, G_apply m c t y0 y1 R rfl, prod_blk m c t _ y0 R (fun k => norm_blk m c t y0 k R rfl)]
  unfold panel
  rw [if_pos (by omega)]
  refine congrArg (fun f => Ideal.logistic (cols (rows m c) (gain m c) (weights m c) R f)) ?_
  unfold place
  repeat' split
  all_goals omega

/-- A gate tile's block. -/
theorem caseB (t : Fin cfg0.N) (h0 : ¬t.val % 12 = 0) (h1 : ¬(4 ≤ t.val % 12 ∧ t.val % 12 ≤ 7)) (h2 : ¬(8 ≤ t.val % 12 ∧ t.val % 12 ≤ 9)) (h3 : ¬t.val % 12 = 10) (h4 : ¬t.val % 12 = 11) (h5 : t.val % 12 ≤ 3) (y : S512x1024.Idx) :
    (outsAt0 m c t.val t.isLt).1 y = G m c t y := by
  rw [outsAt0_B m c t h0 h1 h2 h3 h4 h5]
  frame_out
  simp only [read_unread_whole]
  idx_vars y
  set R : Fin 8704 := ⟨512 * (t.val / 12) + y0.val, row_lt t y0⟩ with hR
  rw [pay_gate, G_apply m c t y0 y1 R rfl, prod_blk m c t _ y0 R (found m c t h0 _ y0 R rfl)]
  unfold panel
  rw [if_pos (by omega)]
  refine congrArg (fun f => Ideal.logistic (cols (rows m c) (gain m c) (weights m c) R f)) ?_
  unfold place
  repeat' split
  all_goals omega

/-- A plain tile's block. -/
theorem caseC (t : Fin cfg0.N) (h0 : ¬t.val % 12 = 0) (h1 : (4 ≤ t.val % 12 ∧ t.val % 12 ≤ 7)) (h2 : ¬(8 ≤ t.val % 12 ∧ t.val % 12 ≤ 9)) (h3 : ¬t.val % 12 = 10) (h4 : ¬t.val % 12 = 11) (h5 : ¬t.val % 12 ≤ 3) (y : S512x1024.Idx) :
    (outsAt0 m c t.val t.isLt).1 y = G m c t y := by
  rw [outsAt0_C m c t h0 h1 h2 h3 h4 h5]
  frame_out
  simp only [read_unread_whole]
  idx_vars y
  set R : Fin 8704 := ⟨512 * (t.val / 12) + y0.val, row_lt t y0⟩ with hR
  rw [pay_plain, G_apply m c t y0 y1 R rfl, prod_blk m c t _ y0 R (found m c t h0 _ y0 R rfl)]
  have hc : 1024 * (t.val % 12) + y1.val < 8192 := by omega
  have hc' : ¬1024 * (t.val % 12) + y1.val < 4096 := by omega
  unfold panel place
  rw [if_neg hc', if_neg hc']
  by_cases h : 1024 * (t.val % 12) + y1.val < 7168
  · rw [if_pos h, if_pos h]
  · rw [if_neg h, if_neg h, if_pos hc, if_pos hc]

/-- A block of the wide heads' rotated columns. -/
theorem caseD (t : Fin cfg0.N) (h0 : ¬t.val % 12 = 0) (h1 : ¬(4 ≤ t.val % 12 ∧ t.val % 12 ≤ 7)) (h2 : (8 ≤ t.val % 12 ∧ t.val % 12 ≤ 9)) (h3 : ¬t.val % 12 = 10) (h4 : ¬t.val % 12 = 11) (h5 : ¬t.val % 12 ≤ 3) (y : S512x1024.Idx) :
    (outsAt0 m c t.val t.isLt).1 y = G m c t y := by
  rw [outsAt0_D m c t h0 h1 h2 h3 h4 h5]
  frame_out
  simp only [read_unread_whole]
  refine canon8 (G m c t) _ _ _ _ _ _ _ _ _ _ _ _ _ _ _ _ (fun r l => ?_) (fun r l => ?_) (fun r l => ?_) (fun r l => ?_) (fun r l => ?_) (fun r l => ?_) (fun r l => ?_) (fun r l => ?_) y
  · set R : Fin 8704 := ⟨512 * (t.val / 12) + r.val, row_lt t r⟩ with hR
    have hy := prod_blk m c t _ r R (found m c t h0 (lt_of_le_of_lt (Nat.sub_le _ _) t.isLt) r R rfl)
    rw [pay12, tab_0 m c t r R rfl, tab_1 m c t r R rfl, tab_2 m c t r R rfl, G_apply m c t r _ R rfl]
    exact piece16 _ _ _ _ _ (t.val % 12) 0 h2 (by decide) (prod _ _ r) hy l
  · set R : Fin 8704 := ⟨512 * (t.val / 12) + r.val, row_lt t r⟩ with hR
    have hy := prod_blk m c t _ r R (found m c t h0 (lt_of_le_of_lt (Nat.sub_le _ _) t.isLt) r R rfl)
    rw [pay13, tab_0 m c t r R rfl, tab_1 m c t r R rfl, tab_2 m c t r R rfl, G_apply m c t r _ R rfl]
    exact piece16 _ _ _ _ _ (t.val % 12) 128 h2 (by decide) (prod _ _ r) hy l
  · set R : Fin 8704 := ⟨512 * (t.val / 12) + r.val, row_lt t r⟩ with hR
    have hy := prod_blk m c t _ r R (found m c t h0 (lt_of_le_of_lt (Nat.sub_le _ _) t.isLt) r R rfl)
    rw [pay14, tab_0 m c t r R rfl, tab_1 m c t r R rfl, tab_2 m c t r R rfl, G_apply m c t r _ R rfl]
    exact piece16 _ _ _ _ _ (t.val % 12) 256 h2 (by decide) (prod _ _ r) hy l
  · set R : Fin 8704 := ⟨512 * (t.val / 12) + r.val, row_lt t r⟩ with hR
    have hy := prod_blk m c t _ r R (found m c t h0 (lt_of_le_of_lt (Nat.sub_le _ _) t.isLt) r R rfl)
    rw [pay15, pay9, pay10, pay11, tab_0 m c t r R rfl, tab_1 m c t r R rfl, tab_2 m c t r R rfl, G_apply m c t r _ R rfl]
    exact piece16 _ _ _ _ _ (t.val % 12) 384 h2 (by decide) (fun s => k0_pay8 (F := Ideal) (outsAt0 m c (t.val - 1) (lt_of_le_of_lt (Nat.sub_le _ _) t.isLt)).2 (iblk m c 2 t) (ix2 r s)) (fun s => (pay_mul8 _ _ r s).trans (hy s)) l
  · set R : Fin 8704 := ⟨512 * (t.val / 12) + r.val, row_lt t r⟩ with hR
    have hy := prod_blk m c t _ r R (found m c t h0 (lt_of_le_of_lt (Nat.sub_le _ _) t.isLt) r R rfl)
    rw [pay16, pay9, pay10, pay11, tab_0 m c t r R rfl, tab_1 m c t r R rfl, tab_2 m c t r R rfl, G_apply m c t r _ R rfl]
    exact piece16 _ _ _ _ _ (t.val % 12) 512 h2 (by decide) (fun s => k0_pay8 (F := Ideal) (outsAt0 m c (t.val - 1) (lt_of_le_of_lt (Nat.sub_le _ _) t.isLt)).2 (iblk m c 2 t) (ix2 r s)) (fun s => (pay_mul8 _ _ r s).trans (hy s)) l
  · set R : Fin 8704 := ⟨512 * (t.val / 12) + r.val, row_lt t r⟩ with hR
    have hy := prod_blk m c t _ r R (found m c t h0 (lt_of_le_of_lt (Nat.sub_le _ _) t.isLt) r R rfl)
    rw [pay17, pay9, pay10, pay11, tab_0 m c t r R rfl, tab_1 m c t r R rfl, tab_2 m c t r R rfl, G_apply m c t r _ R rfl]
    exact piece16 _ _ _ _ _ (t.val % 12) 640 h2 (by decide) (fun s => k0_pay8 (F := Ideal) (outsAt0 m c (t.val - 1) (lt_of_le_of_lt (Nat.sub_le _ _) t.isLt)).2 (iblk m c 2 t) (ix2 r s)) (fun s => (pay_mul8 _ _ r s).trans (hy s)) l
  · set R : Fin 8704 := ⟨512 * (t.val / 12) + r.val, row_lt t r⟩ with hR
    have hy := prod_blk m c t _ r R (found m c t h0 (lt_of_le_of_lt (Nat.sub_le _ _) t.isLt) r R rfl)
    rw [pay18, pay9, pay10, pay11, tab_0 m c t r R rfl, tab_1 m c t r R rfl, tab_2 m c t r R rfl, G_apply m c t r _ R rfl]
    exact piece16 _ _ _ _ _ (t.val % 12) 768 h2 (by decide) (fun s => k0_pay8 (F := Ideal) (outsAt0 m c (t.val - 1) (lt_of_le_of_lt (Nat.sub_le _ _) t.isLt)).2 (iblk m c 2 t) (ix2 r s)) (fun s => (pay_mul8 _ _ r s).trans (hy s)) l
  · set R : Fin 8704 := ⟨512 * (t.val / 12) + r.val, row_lt t r⟩ with hR
    have hy := prod_blk m c t _ r R (found m c t h0 (lt_of_le_of_lt (Nat.sub_le _ _) t.isLt) r R rfl)
    rw [pay19, pay9, pay10, pay11, tab_0 m c t r R rfl, tab_1 m c t r R rfl, tab_2 m c t r R rfl, G_apply m c t r _ R rfl]
    exact piece16 _ _ _ _ _ (t.val % 12) 896 h2 (by decide) (fun s => k0_pay8 (F := Ideal) (outsAt0 m c (t.val - 1) (lt_of_le_of_lt (Nat.sub_le _ _) t.isLt)).2 (iblk m c 2 t) (ix2 r s)) (fun s => (pay_mul8 _ _ r s).trans (hy s)) l

/-- A block of the narrow heads' rotated columns. -/
theorem caseE (t : Fin cfg0.N) (h0 : ¬t.val % 12 = 0) (h1 : ¬(4 ≤ t.val % 12 ∧ t.val % 12 ≤ 7)) (h2 : ¬(8 ≤ t.val % 12 ∧ t.val % 12 ≤ 9)) (h3 : t.val % 12 = 10) (h4 : ¬t.val % 12 = 11) (h5 : ¬t.val % 12 ≤ 3) (y : S512x1024.Idx) :
    (outsAt0 m c t.val t.isLt).1 y = G m c t y := by
  rw [outsAt0_E m c t h0 h1 h2 h3 h4 h5]
  frame_out
  simp only [read_unread_whole]
  refine canon8 (G m c t) _ _ _ _ _ _ _ _ _ _ _ _ _ _ _ _ (fun r l => ?_) (fun r l => ?_) (fun r l => ?_) (fun r l => ?_) (fun r l => ?_) (fun r l => ?_) (fun r l => ?_) (fun r l => ?_) y
  · set R : Fin 8704 := ⟨512 * (t.val / 12) + r.val, row_lt t r⟩ with hR
    have hy := prod_blk m c t _ r R (found m c t h0 (lt_of_le_of_lt (Nat.sub_le _ _) t.isLt) r R rfl)
    rw [pay24, tab_3 m c t r R rfl, tab_4 m c t r R rfl, tab_5 m c t r R rfl, G_apply m c t r _ R rfl]
    exact piece8 _ _ _ _ _ (t.val % 12) 0 h3 (by decide) (prod _ _ r) hy l
  · set R : Fin 8704 := ⟨512 * (t.val / 12) + r.val, row_lt t r⟩ with hR
    have hy := prod_blk m c t _ r R (found m c t h0 (lt_of_le_of_lt (Nat.sub_le _ _) t.isLt) r R rfl)
    rw [pay25, tab_3 m c t r R rfl, tab_4 m c t r R rfl, tab_5 m c t r R rfl, G_apply m c t r _ R rfl]
    exact piece8 _ _ _ _ _ (t.val % 12) 128 h3 (by decide) (prod _ _ r) hy l
  · set R : Fin 8704 := ⟨512 * (t.val / 12) + r.val, row_lt t r⟩ with hR
    have hy := prod_blk m c t _ r R (found m c t h0 (lt_of_le_of_lt (Nat.sub_le _ _) t.isLt) r R rfl)
    rw [pay26, tab_3 m c t r R rfl, tab_4 m c t r R rfl, tab_5 m c t r R rfl, G_apply m c t r _ R rfl]
    exact piece8 _ _ _ _ _ (t.val % 12) 256 h3 (by decide) (prod _ _ r) hy l
  · set R : Fin 8704 := ⟨512 * (t.val / 12) + r.val, row_lt t r⟩ with hR
    have hy := prod_blk m c t _ r R (found m c t h0 (lt_of_le_of_lt (Nat.sub_le _ _) t.isLt) r R rfl)
    rw [pay27, pay21, pay22, pay23, tab_3 m c t r R rfl, tab_4 m c t r R rfl, tab_5 m c t r R rfl, G_apply m c t r _ R rfl]
    exact piece8 _ _ _ _ _ (t.val % 12) 384 h3 (by decide) (fun s => k0_pay20 (F := Ideal) (outsAt0 m c (t.val - 1) (lt_of_le_of_lt (Nat.sub_le _ _) t.isLt)).2 (iblk m c 2 t) (ix2 r s)) (fun s => (pay_mul20 _ _ r s).trans (hy s)) l
  · set R : Fin 8704 := ⟨512 * (t.val / 12) + r.val, row_lt t r⟩ with hR
    have hy := prod_blk m c t _ r R (found m c t h0 (lt_of_le_of_lt (Nat.sub_le _ _) t.isLt) r R rfl)
    rw [pay28, pay21, pay22, pay23, tab_3 m c t r R rfl, tab_4 m c t r R rfl, tab_5 m c t r R rfl, G_apply m c t r _ R rfl]
    exact piece8 _ _ _ _ _ (t.val % 12) 512 h3 (by decide) (fun s => k0_pay20 (F := Ideal) (outsAt0 m c (t.val - 1) (lt_of_le_of_lt (Nat.sub_le _ _) t.isLt)).2 (iblk m c 2 t) (ix2 r s)) (fun s => (pay_mul20 _ _ r s).trans (hy s)) l
  · set R : Fin 8704 := ⟨512 * (t.val / 12) + r.val, row_lt t r⟩ with hR
    have hy := prod_blk m c t _ r R (found m c t h0 (lt_of_le_of_lt (Nat.sub_le _ _) t.isLt) r R rfl)
    rw [pay29, pay21, pay22, pay23, tab_3 m c t r R rfl, tab_4 m c t r R rfl, tab_5 m c t r R rfl, G_apply m c t r _ R rfl]
    exact piece8 _ _ _ _ _ (t.val % 12) 640 h3 (by decide) (fun s => k0_pay20 (F := Ideal) (outsAt0 m c (t.val - 1) (lt_of_le_of_lt (Nat.sub_le _ _) t.isLt)).2 (iblk m c 2 t) (ix2 r s)) (fun s => (pay_mul20 _ _ r s).trans (hy s)) l
  · set R : Fin 8704 := ⟨512 * (t.val / 12) + r.val, row_lt t r⟩ with hR
    have hy := prod_blk m c t _ r R (found m c t h0 (lt_of_le_of_lt (Nat.sub_le _ _) t.isLt) r R rfl)
    rw [pay30, pay21, pay22, pay23, tab_3 m c t r R rfl, tab_4 m c t r R rfl, tab_5 m c t r R rfl, G_apply m c t r _ R rfl]
    exact piece8 _ _ _ _ _ (t.val % 12) 768 h3 (by decide) (fun s => k0_pay20 (F := Ideal) (outsAt0 m c (t.val - 1) (lt_of_le_of_lt (Nat.sub_le _ _) t.isLt)).2 (iblk m c 2 t) (ix2 r s)) (fun s => (pay_mul20 _ _ r s).trans (hy s)) l
  · set R : Fin 8704 := ⟨512 * (t.val / 12) + r.val, row_lt t r⟩ with hR
    have hy := prod_blk m c t _ r R (found m c t h0 (lt_of_le_of_lt (Nat.sub_le _ _) t.isLt) r R rfl)
    rw [pay31, pay21, pay22, pay23, tab_3 m c t r R rfl, tab_4 m c t r R rfl, tab_5 m c t r R rfl, G_apply m c t r _ R rfl]
    exact piece8 _ _ _ _ _ (t.val % 12) 896 h3 (by decide) (fun s => k0_pay20 (F := Ideal) (outsAt0 m c (t.val - 1) (lt_of_le_of_lt (Nat.sub_le _ _) t.isLt)).2 (iblk m c 2 t) (ix2 r s)) (fun s => (pay_mul20 _ _ r s).trans (hy s)) l

/-- The last tile's block. -/
theorem caseF (t : Fin cfg0.N) (h0 : ¬t.val % 12 = 0) (h1 : ¬(4 ≤ t.val % 12 ∧ t.val % 12 ≤ 7)) (h2 : ¬(8 ≤ t.val % 12 ∧ t.val % 12 ≤ 9)) (h3 : ¬t.val % 12 = 10) (h4 : t.val % 12 = 11) (h5 : ¬t.val % 12 ≤ 3) (y : S512x1024.Idx) :
    (outsAt0 m c t.val t.isLt).1 y = G m c t y := by
  rw [outsAt0_F m c t h0 h1 h2 h3 h4 h5]
  frame_out
  simp only [read_unread_whole]
  refine canon8 (G m c t) _ _ _ _ _ _ _ _ _ _ _ _ _ _ _ _ (fun r l => ?_) (fun r l => ?_) (fun r l => ?_) (fun r l => ?_) (fun r l => ?_) (fun r l => ?_) (fun r l => ?_) (fun r l => ?_) y
  · set R : Fin 8704 := ⟨512 * (t.val / 12) + r.val, row_lt t r⟩ with hR
    have hy := prod_blk m c t _ r R (found m c t h0 (lt_of_le_of_lt (Nat.sub_le _ _) t.isLt) r R rfl)
    rw [pay33, tab_6 m c t r R rfl, tab_7 m c t r R rfl, tab_8 m c t r R rfl, G_apply m c t r _ R rfl]
    exact piece_last _ _ _ _ _ (t.val % 12) h4 (cols_ge _ _ _ R) (prod _ _ r) hy l
  · set R : Fin 8704 := ⟨512 * (t.val / 12) + r.val, row_lt t r⟩ with hR
    have hy := prod_blk m c t _ r R (found m c t h0 (lt_of_le_of_lt (Nat.sub_le _ _) t.isLt) r R rfl)
    rw [pay34, G_apply m c t r _ R rfl, hy]
    exact zero_last _ _ _ _ _ (t.val % 12) h4 (cols_ge _ _ _ R) _ (by simp only; omega)
  · set R : Fin 8704 := ⟨512 * (t.val / 12) + r.val, row_lt t r⟩ with hR
    have hy := prod_blk m c t _ r R (found m c t h0 (lt_of_le_of_lt (Nat.sub_le _ _) t.isLt) r R rfl)
    rw [pay35, G_apply m c t r _ R rfl, hy]
    exact zero_last _ _ _ _ _ (t.val % 12) h4 (cols_ge _ _ _ R) _ (by simp only; omega)
  · set R : Fin 8704 := ⟨512 * (t.val / 12) + r.val, row_lt t r⟩ with hR
    have hy := prod_blk m c t _ r R (found m c t h0 (lt_of_le_of_lt (Nat.sub_le _ _) t.isLt) r R rfl)
    rw [pay36, G_apply m c t r _ R rfl, hy]
    exact zero_last _ _ _ _ _ (t.val % 12) h4 (cols_ge _ _ _ R) _ (by simp only; omega)
  · set R : Fin 8704 := ⟨512 * (t.val / 12) + r.val, row_lt t r⟩ with hR
    have hy := prod_blk m c t _ r R (found m c t h0 (lt_of_le_of_lt (Nat.sub_le _ _) t.isLt) r R rfl)
    rw [pay37, G_apply m c t r _ R rfl, hy]
    exact zero_last _ _ _ _ _ (t.val % 12) h4 (cols_ge _ _ _ R) _ (by simp only; omega)
  · set R : Fin 8704 := ⟨512 * (t.val / 12) + r.val, row_lt t r⟩ with hR
    have hy := prod_blk m c t _ r R (found m c t h0 (lt_of_le_of_lt (Nat.sub_le _ _) t.isLt) r R rfl)
    rw [pay38, G_apply m c t r _ R rfl, hy]
    exact zero_last _ _ _ _ _ (t.val % 12) h4 (cols_ge _ _ _ R) _ (by simp only; omega)
  · set R : Fin 8704 := ⟨512 * (t.val / 12) + r.val, row_lt t r⟩ with hR
    have hy := prod_blk m c t _ r R (found m c t h0 (lt_of_le_of_lt (Nat.sub_le _ _) t.isLt) r R rfl)
    rw [pay5, pay_mul32, G_apply m c t r _ R rfl, hy]
    exact zero_last _ _ _ _ _ (t.val % 12) h4 (cols_ge _ _ _ R) _ (by simp only; omega)
  · set R : Fin 8704 := ⟨512 * (t.val / 12) + r.val, row_lt t r⟩ with hR
    have hy := prod_blk m c t _ r R (found m c t h0 (lt_of_le_of_lt (Nat.sub_le _ _) t.isLt) r R rfl)
    rw [pay6, pay_mul32, G_apply m c t r _ R rfl, hy]
    exact zero_last _ _ _ _ _ (t.val % 12) h4 (cols_ge _ _ _ R) _ (by simp only; omega)

/-- What a grid point's block holds. -/
theorem point (t : Fin cfg0.N) (y : S512x1024.Idx) : (outsAt0 m c t.val t.isLt).1 y = G m c t y := by
  by_cases h0 : t.val % 12 = 0
  · exact caseA m c t h0 (by omega) (by omega) (by omega) (by omega) (by omega) y
  by_cases h5 : t.val % 12 ≤ 3
  · exact caseB m c t h0 (by omega) (by omega) (by omega) (by omega) h5 y
  by_cases h1 : 4 ≤ t.val % 12 ∧ t.val % 12 ≤ 7
  · exact caseC m c t h0 h1 (by omega) (by omega) (by omega) h5 y
  by_cases h2 : 8 ≤ t.val % 12 ∧ t.val % 12 ≤ 9
  · exact caseD m c t h0 h1 h2 (by omega) (by omega) h5 y
  by_cases h3 : t.val % 12 = 10
  · exact caseE m c t h0 h1 h2 h3 (by omega) h5 y
  · exact caseF m c t h0 h1 h2 h3 (by omega) h5 y

/-- A grid point's block at the array's own index. -/
theorem point_idx (t : Fin cfg0.N) (y : S512x1024.Idx) (z : S8704x12288.Idx)
    (h0 : (z 0).val = 512 * (t.val / 12) + (y 0).val) (h1 : (z 1).val = 1024 * (t.val % 12) + (y 1).val) :
    (outsAt0 m c t.val t.isLt).1 y = result (rows m c) (gain m c) (weights m c) z := by
  rw [point m c t y]
  unfold G
  refine congrArg _ (funext fun a => Fin.ext ?_)
  fin_cases a
  · exact h0.symm
  · exact h1.symm

/-- The array the call leaves. -/
theorem final : (dats m 0 c).arrAt 4 cfg0.N = result (rows m c) (gain m c) (weights m c) := by
  refine (dats m 0 c).arrAt_eq_of_covers 4 _ (by decide +kernel) fun t hf y => ?_
  rw [after0_4]
  refine point_idx m c t _ _ ?_ ?_ <;> blk_simp [idx t] <;> exact congrArg (· + _) (Nat.mul_comm _ _)

end Cert.Kernel5Ideal.Proj
end
-- ==== Proof.ProjRef.lean ====
/- The input projection's reference, entry by entry. -/
module

public import proofs.«01_k».proof.Proof.Gen.Reference5Ideal.Run
public import proofs.«01_k».proof.Proof.Panel
public import proofs.«01_k».proof.Proof.Layer
public import Idealize.ShloMosaic.Lib.Pointwise

@[expose] public section

set_option maxRecDepth 16384

noncomputable section

namespace Cert.Reference5Ideal.Entry

open Cert.Reference5Ideal Cert.Reference5Ideal.Gen Cert.Layer
open Idealize.ShloMosaic Idealize.ShloMosaic.TcCoe Idealize.SL.Sem Idealize.ShloMosaic.StableHlo

/-- The rows' positions. -/
def pos : IVec S8704 32 :=
  concatenate S8704 0 [⟨S8192, addi (broadcastInDim S8192 ![] bcast_S_S8192 (constantI S_ 32 16#32)) (iotaInDim S8192 32 0)⟩, ⟨S16, iotaInDim S16 32 0⟩, ⟨S32, broadcastInDim S32 ![] bcast_S_S32 (constantI S_ 32 16384#32)⟩, ⟨S464, broadcastInDim S464 ![] bcast_S_S464 (constantI S_ 32 0#32)⟩] concatenates_S8192_S16_S32_S464_S8704_d0

/-- The angles of the heads of 128 lanes. -/
def ang16 : FVec Ideal S8704x16 .f32 :=
  mulf (broadcastInDim S8704x16 ![0, 1] bcast_S8704x1_S8704x16_0_1 (broadcastInDim S8704x1 ![0] bcast_S8704_S8704x1_0 (sitofp .f32 pos))) (broadcastInDim S8704x16 ![0, 1] bcast_S1x16_S8704x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The angles of the heads of 64 lanes. -/
def ang8 : FVec Ideal S8704x8 .f32 :=
  mulf (broadcastInDim S8704x8 ![0, 1] bcast_S8704x1_S8704x8_0_1 (broadcastInDim S8704x1 ![0] bcast_S8704_S8704x1_0 (sitofp .f32 pos))) (broadcastInDim S8704x8 ![0, 1] bcast_S1x8_S8704x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The normalised rows. -/
def norm (x : FVec Ideal S8704x2048 .f32) (g : FVec Ideal S1x2048 .f32) : FVec Ideal S8704x2048 .f32 :=
  mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast S2048 g shapeCasts_S1x2048_S2048)))

/-- The projection. -/
def proj (u : FVec Ideal S8704x2048 .f32) (w : FVec Ideal S1x2048x11344 .f32) : FVec Ideal S8704x11344 .f32 :=
  Host.dotGeneral dot_S8704x2048_S2048x11344_S8704x11344_1_0_0_1_n_n none u (shapeCast S2048x11344 w shapeCasts_S1x2048x11344_S2048x11344)

/-- The logistic function. -/
def gates (y : FVec Ideal S8704x2048 .f32) : FVec Ideal S8704x2048 .f32 :=
  Host.divf (broadcastInDim S8704x2048 ![] bcast_S_S8704x2048 (constant S_ .f32 0x3F800000#32)) (addf (broadcastInDim S8704x2048 ![] bcast_S_S8704x2048 (constant S_ .f32 0x3F800000#32)) (Host.exp (Host.negf y)))

/-- The rotation of eight heads of 128 lanes. -/
def rot128 (y : FVec Ideal S8704x1024 .f32) (a : FVec Ideal S8704x16 .f32) : FVec Ideal S8704x1024 .f32 :=
  shapeCast _ (concatenate S8704x8x128 2 [⟨S8704x8x32, (concatenate S8704x8x32 2 [⟨S8704x8x16, (subf (mulf (extractStridedSlice S8704x8x16 ![0, 0, 0] (shapeCast S8704x8x128 y shapeCasts_S8704x1024_S8704x8x128) slices_S8704x8x128_S8704x8x16_0_0_0) (broadcastInDim S8704x8x16 ![0, 1, 2] bcast_S8704x1x16_S8704x8x16_0_1_2 (broadcastInDim S8704x1x16 ![0, 2] bcast_S8704x16_S8704x1x16_0_2 (Host.cos a)))) (mulf (extractStridedSlice S8704x8x16 ![0, 0, 16] (shapeCast S8704x8x128 y shapeCasts_S8704x1024_S8704x8x128) slices_S8704x8x128_S8704x8x16_0_0_16) (broadcastInDim S8704x8x16 ![0, 1, 2] bcast_S8704x1x16_S8704x8x16_0_1_2 (broadcastInDim S8704x1x16 ![0, 2] bcast_S8704x16_S8704x1x16_0_2 (Host.sin a)))))⟩, ⟨S8704x8x16, (addf (mulf (extractStridedSlice S8704x8x16 ![0, 0, 0] (shapeCast S8704x8x128 y shapeCasts_S8704x1024_S8704x8x128) slices_S8704x8x128_S8704x8x16_0_0_0) (broadcastInDim S8704x8x16 ![0, 1, 2] bcast_S8704x1x16_S8704x8x16_0_1_2 (broadcastInDim S8704x1x16 ![0, 2] bcast_S8704x16_S8704x1x16_0_2 (Host.sin a)))) (mulf (extractStridedSlice S8704x8x16 ![0, 0, 16] (shapeCast S8704x8x128 y shapeCasts_S8704x1024_S8704x8x128) slices_S8704x8x128_S8704x8x16_0_0_16) (broadcastInDim S8704x8x16 ![0, 1, 2] bcast_S8704x1x16_S8704x8x16_0_1_2 (broadcastInDim S8704x1x16 ![0, 2] bcast_S8704x16_S8704x1x16_0_2 (Host.cos a)))))⟩] concatenates_S8704x8x16_S8704x8x16_S8704x8x32_d2)⟩, ⟨S8704x8x96, (extractStridedSlice S8704x8x96 ![0, 0, 32] (shapeCast S8704x8x128 y shapeCasts_S8704x1024_S8704x8x128) slices_S8704x8x128_S8704x8x96_0_0_32)⟩] concatenates_S8704x8x32_S8704x8x96_S8704x8x128_d2) shapeCasts_S8704x8x128_S8704x1024

/-- The rotation of sixteen heads of 64 lanes. -/
def rot64 (y : FVec Ideal S8704x1024 .f32) (a : FVec Ideal S8704x8 .f32) : FVec Ideal S8704x1024 .f32 :=
  shapeCast _ (concatenate S8704x16x64 2 [⟨S8704x16x16, (concatenate S8704x16x16 2 [⟨S8704x16x8, (subf (mulf (extractStridedSlice S8704x16x8 ![0, 0, 0] (shapeCast S8704x16x64 y shapeCasts_S8704x1024_S8704x16x64) slices_S8704x16x64_S8704x16x8_0_0_0) (broadcastInDim S8704x16x8 ![0, 1, 2] bcast_S8704x1x8_S8704x16x8_0_1_2 (broadcastInDim S8704x1x8 ![0, 2] bcast_S8704x8_S8704x1x8_0_2 (Host.cos a)))) (mulf (extractStridedSlice S8704x16x8 ![0, 0, 8] (shapeCast S8704x16x64 y shapeCasts_S8704x1024_S8704x16x64) slices_S8704x16x64_S8704x16x8_0_0_8) (broadcastInDim S8704x16x8 ![0, 1, 2] bcast_S8704x1x8_S8704x16x8_0_1_2 (broadcastInDim S8704x1x8 ![0, 2] bcast_S8704x8_S8704x1x8_0_2 (Host.sin a)))))⟩, ⟨S8704x16x8, (addf (mulf (extractStridedSlice S8704x16x8 ![0, 0, 0] (shapeCast S8704x16x64 y shapeCasts_S8704x1024_S8704x16x64) slices_S8704x16x64_S8704x16x8_0_0_0) (broadcastInDim S8704x16x8 ![0, 1, 2] bcast_S8704x1x8_S8704x16x8_0_1_2 (broadcastInDim S8704x1x8 ![0, 2] bcast_S8704x8_S8704x1x8_0_2 (Host.sin a)))) (mulf (extractStridedSlice S8704x16x8 ![0, 0, 8] (shapeCast S8704x16x64 y shapeCasts_S8704x1024_S8704x16x64) slices_S8704x16x64_S8704x16x8_0_0_8) (broadcastInDim S8704x16x8 ![0, 1, 2] bcast_S8704x1x8_S8704x16x8_0_1_2 (broadcastInDim S8704x1x8 ![0, 2] bcast_S8704x8_S8704x1x8_0_2 (Host.cos a)))))⟩] concatenates_S8704x16x8_S8704x16x8_S8704x16x16_d2)⟩, ⟨S8704x16x48, (extractStridedSlice S8704x16x48 ![0, 0, 16] (shapeCast S8704x16x64 y shapeCasts_S8704x1024_S8704x16x64) slices_S8704x16x64_S8704x16x48_0_0_16)⟩] concatenates_S8704x16x16_S8704x16x48_S8704x16x64_d2) shapeCasts_S8704x16x64_S8704x1024

/-- The rotation of one head of 64 lanes. -/
def rot1 (y : FVec Ideal S8704x64 .f32) (a : FVec Ideal S8704x8 .f32) : FVec Ideal S8704x64 .f32 :=
  shapeCast _ (concatenate S8704x1x64 2 [⟨S8704x1x16, (concatenate S8704x1x16 2 [⟨S8704x1x8, (subf (mulf (extractStridedSlice S8704x1x8 ![0, 0, 0] (shapeCast S8704x1x64 y shapeCasts_S8704x64_S8704x1x64) slices_S8704x1x64_S8704x1x8_0_0_0) (broadcastInDim S8704x1x8 ![0, 2] bcast_S8704x8_S8704x1x8_0_2 (Host.cos a))) (mulf (extractStridedSlice S8704x1x8 ![0, 0, 8] (shapeCast S8704x1x64 y shapeCasts_S8704x64_S8704x1x64) slices_S8704x1x64_S8704x1x8_0_0_8) (broadcastInDim S8704x1x8 ![0, 2] bcast_S8704x8_S8704x1x8_0_2 (Host.sin a))))⟩, ⟨S8704x1x8, (addf (mulf (extractStridedSlice S8704x1x8 ![0, 0, 0] (shapeCast S8704x1x64 y shapeCasts_S8704x64_S8704x1x64) slices_S8704x1x64_S8704x1x8_0_0_0) (broadcastInDim S8704x1x8 ![0, 2] bcast_S8704x8_S8704x1x8_0_2 (Host.sin a))) (mulf (extractStridedSlice S8704x1x8 ![0, 0, 8] (shapeCast S8704x1x64 y shapeCasts_S8704x64_S8704x1x64) slices_S8704x1x64_S8704x1x8_0_0_8) (broadcastInDim S8704x1x8 ![0, 2] bcast_S8704x8_S8704x1x8_0_2 (Host.cos a))))⟩] concatenates_S8704x1x8_S8704x1x8_S8704x1x16_d2)⟩, ⟨S8704x1x48, (extractStridedSlice S8704x1x48 ![0, 0, 16] (shapeCast S8704x1x64 y shapeCasts_S8704x64_S8704x1x64) slices_S8704x1x64_S8704x1x48_0_0_16)⟩] concatenates_S8704x1x16_S8704x1x48_S8704x1x64_d2) shapeCasts_S8704x1x64_S8704x64

/-- The index heads' scale. -/
def scaled (y : FVec Ideal S8704x16 .f32) : FVec Ideal S8704x16 .f32 :=
  mulf y (broadcastInDim S8704x16 ![] bcast_S_S8704x16 (constant S_ .f32 0x3E800000#32))

/-- The panel of the projection's columns. -/
def fused (p0 p1 : FVec Ideal S8704x2048 .f32) (p2 : FVec Ideal S8704x3072 .f32) (p3 p4 p5 p6 : FVec Ideal S8704x1024 .f32) (p7 : FVec Ideal S8704x64 .f32)
    (p8 : FVec Ideal S8704x16 .f32) : FVec Ideal S8704x12288 .f32 :=
  concatenate S8704x12288 1 [⟨S8704x2048, p0⟩, ⟨S8704x2048, p1⟩, ⟨S8704x3072, p2⟩, ⟨S8704x1024, p3⟩, ⟨S8704x1024, p4⟩, ⟨S8704x1024, p5⟩, ⟨S8704x1024, p6⟩, ⟨S8704x64, p7⟩, ⟨S8704x16, p8⟩, ⟨S8704x944, broadcastInDim S8704x944 ![] bcast_S_S8704x944 (constant S_ .f32 0x00000000#32)⟩] concatenates_S8704x2048_S8704x2048_S8704x3072_S8704x1024_S8704x1024_S8704x1024_S8704x1024_S8704x64_S8704x16_S8704x944_S8704x12288_d1

/-- The panel, from the projection. -/
def assembled (z : FVec Ideal S8704x11344 .f32) : FVec Ideal S8704x12288 .f32 :=
  fused (gates (extractStridedSlice S8704x2048 ![0, 7248] z slices_S8704x11344_S8704x2048_0_7248)) (gates (extractStridedSlice S8704x2048 ![0, 9296] z slices_S8704x11344_S8704x2048_0_9296)) (extractStridedSlice S8704x3072 ![0, 0] z slices_S8704x11344_S8704x3072_0_0) (extractStridedSlice S8704x1024 ![0, 5120] z slices_S8704x11344_S8704x1024_0_5120) (rot128 (extractStridedSlice S8704x1024 ![0, 3072] z slices_S8704x11344_S8704x1024_0_3072) ang16) (rot128 (extractStridedSlice S8704x1024 ![0, 4096] z slices_S8704x11344_S8704x1024_0_4096) ang16) (rot64 (extractStridedSlice S8704x1024 ![0, 6144] z slices_S8704x11344_S8704x1024_0_6144) ang8) (rot1 (extractStridedSlice S8704x64 ![0, 7168] z slices_S8704x11344_S8704x64_0_7168) ang8) (scaled (extractStridedSlice S8704x16 ![0, 7232] z slices_S8704x11344_S8704x16_0_7232))

/-- The reference's result. -/
def whole (x : FVec Ideal S8704x2048 .f32) (g : FVec Ideal S1x2048 .f32) (w : FVec Ideal S1x2048x11344 .f32) : FVec Ideal S8704x12288 .f32 :=
  assembled (proj (norm x g) w)

/-- The reference's composed term, in these names. -/
theorem res_eq (m : (ℓ : Loc nD τ sig) → Buf (Elt Ideal) ℓ) (c : Dev nD) :
    Value.res_main_v175 (launchContents m c) = whole (m ((c.tc : Thread nD τ).loc main_arg0)) (m ((c.tc : Thread nD τ).loc main_arg1))
      (m ((c.tc : Thread nD τ).loc main_arg2)) := rfl

/-- An entry of the normalised rows. -/
theorem norm_apply (x : FVec Ideal S8704x2048 .f32) (g : FVec Ideal S1x2048 .f32) (n : Fin 8704) (k : Fin 2048) :
    norm x g (ix2 n k) = rms (fun j => x (ix2 n j)) (fun j => g (ix2 0 j)) k := by
  pointwise [norm]
  rfl

/-- An entry of the projection. -/
theorem proj_apply (u : FVec Ideal S8704x2048 .f32) (w : FVec Ideal S1x2048x11344 .f32) (n : Fin 8704) (f : Fin 11344) :
    proj u w (ix2 n f) = ∑ j : Fin 2048, u (ix2 n j) * w (ix3 0 j f) := by
  pointwise [proj]

/-- An entry of the gates. -/
theorem gates_apply (y : FVec Ideal S8704x2048 .f32) (n : Fin 8704) (f : Fin 2048) :
    gates y (ix2 n f) = Ideal.logistic (y (ix2 n f)) := by
  pointwise [gates]
  rfl

/-- An entry of the scaled index heads. -/
theorem scaled_apply (y : FVec Ideal S8704x16 .f32) (n : Fin 8704) (f : Fin 16) : scaled y (ix2 n f) = y (ix2 n f) * quarter := by
  pointwise [scaled]
  rfl

/-- An entry of the rotation of eight heads of 128 lanes. -/
theorem rot128_apply (y : FVec Ideal S8704x1024 .f32) (a : FVec Ideal S8704x16 .f32) (n : Fin 8704) (e : Fin 1024) :
    rot128 y a (ix2 n e) = rope 16 (ext fun k => Ideal.cos (a (ix2 n k))) (ext fun k => Ideal.sin (a (ix2 n k))) (ext fun k => y (ix2 n k)) e.val (e.val % 128) := by
  have hy : ∀ p q : Fin 1024, p.val = q.val → y (ix2 n p) = y (ix2 n q) := fun p q h => by rw [Fin.ext h]
  have hc : ∀ p q : Fin 16, p.val = q.val → Ideal.cos (a (ix2 n p)) = Ideal.cos (a (ix2 n q)) := fun p q h => by rw [Fin.ext h]
  have hs : ∀ p q : Fin 16, p.val = q.val → Ideal.sin (a (ix2 n p)) = Ideal.sin (a (ix2 n q)) := fun p q h => by rw [Fin.ext h]
  pointwise [rot128]
  unfold rope ext
  repeat' split
  all_goals first
    | omega
    | exact hy _ _ (by first | rfl | (simp only; omega))
    | exact congrArg₂ (· - ·) (congrArg₂ (· * ·) (hy _ _ (by first | rfl | (simp only; omega))) (hc _ _ (by first | rfl | (simp only; omega))))
        (congrArg₂ (· * ·) (hy _ _ (by first | rfl | (simp only; omega))) (hs _ _ (by first | rfl | (simp only; omega))))
    | exact congrArg₂ (· + ·) (congrArg₂ (· * ·) (hy _ _ (by first | rfl | (simp only; omega))) (hs _ _ (by first | rfl | (simp only; omega))))
        (congrArg₂ (· * ·) (hy _ _ (by first | rfl | (simp only; omega))) (hc _ _ (by first | rfl | (simp only; omega))))

/-- An entry of the rotation of sixteen heads of 64 lanes. -/
theorem rot64_apply (y : FVec Ideal S8704x1024 .f32) (a : FVec Ideal S8704x8 .f32) (n : Fin 8704) (e : Fin 1024) :
    rot64 y a (ix2 n e) = rope 8 (ext fun k => Ideal.cos (a (ix2 n k))) (ext fun k => Ideal.sin (a (ix2 n k))) (ext fun k => y (ix2 n k)) e.val (e.val % 64) := by
  have hy : ∀ p q : Fin 1024, p.val = q.val → y (ix2 n p) = y (ix2 n q) := fun p q h => by rw [Fin.ext h]
  have hc : ∀ p q : Fin 8, p.val = q.val → Ideal.cos (a (ix2 n p)) = Ideal.cos (a (ix2 n q)) := fun p q h => by rw [Fin.ext h]
  have hs : ∀ p q : Fin 8, p.val = q.val → Ideal.sin (a (ix2 n p)) = Ideal.sin (a (ix2 n q)) := fun p q h => by rw [Fin.ext h]
  pointwise [rot64]
  unfold rope ext
  repeat' split
  all_goals first
    | omega
    | exact hy _ _ (by first | rfl | (simp only; omega))
    | exact congrArg₂ (· - ·) (congrArg₂ (· * ·) (hy _ _ (by first | rfl | (simp only; omega))) (hc _ _ (by first | rfl | (simp only; omega))))
        (congrArg₂ (· * ·) (hy _ _ (by first | rfl | (simp only; omega))) (hs _ _ (by first | rfl | (simp only; omega))))
    | exact congrArg₂ (· + ·) (congrArg₂ (· * ·) (hy _ _ (by first | rfl | (simp only; omega))) (hs _ _ (by first | rfl | (simp only; omega))))
        (congrArg₂ (· * ·) (hy _ _ (by first | rfl | (simp only; omega))) (hc _ _ (by first | rfl | (simp only; omega))))

/-- An entry of the rotation of one head of 64 lanes. -/
theorem rot1_apply (y : FVec Ideal S8704x64 .f32) (a : FVec Ideal S8704x8 .f32) (n : Fin 8704) (e : Fin 64) :
    rot1 y a (ix2 n e) = rope 8 (ext fun k => Ideal.cos (a (ix2 n k))) (ext fun k => Ideal.sin (a (ix2 n k))) (ext fun k => y (ix2 n k)) e.val (e.val % 64) := by
  have hy : ∀ p q : Fin 64, p.val = q.val → y (ix2 n p) = y (ix2 n q) := fun p q h => by rw [Fin.ext h]
  have hc : ∀ p q : Fin 8, p.val = q.val → Ideal.cos (a (ix2 n p)) = Ideal.cos (a (ix2 n q)) := fun p q h => by rw [Fin.ext h]
  have hs : ∀ p q : Fin 8, p.val = q.val → Ideal.sin (a (ix2 n p)) = Ideal.sin (a (ix2 n q)) := fun p q h => by rw [Fin.ext h]
  pointwise [rot1]
  unfold rope ext
  repeat' split
  all_goals first
    | omega
    | exact hy _ _ (by first | rfl | (simp only; omega))
    | exact congrArg₂ (· - ·) (congrArg₂ (· * ·) (hy _ _ (by first | rfl | (simp only; omega))) (hc _ _ (by first | rfl | (simp only; omega))))
        (congrArg₂ (· * ·) (hy _ _ (by first | rfl | (simp only; omega))) (hs _ _ (by first | rfl | (simp only; omega))))
    | exact congrArg₂ (· + ·) (congrArg₂ (· * ·) (hy _ _ (by first | rfl | (simp only; omega))) (hs _ _ (by first | rfl | (simp only; omega))))
        (congrArg₂ (· * ·) (hy _ _ (by first | rfl | (simp only; omega))) (hc _ _ (by first | rfl | (simp only; omega))))

/-- A lane of the rotation, read in the projection's own columns. -/
theorem rope_shift (h : ℕ) (c s y z : ℕ → EReal) (o N b d : ℕ) (hd : d ≤ b) (hb : b < N) (hN : d < h → b + h < N) (hy : ∀ k < N, y k = z (o + k)) :
    rope h c s y b d = rope h c s z (o + b) d := by
  unfold rope
  by_cases h0 : d < h
  · rw [if_pos h0, if_pos h0, hy _ hb, hy _ (hN h0), Nat.add_assoc]
  rw [if_neg h0, if_neg h0]
  by_cases h1 : d < 2 * h
  · rw [if_pos h1, if_pos h1, hy _ hb, hy _ (by omega), Nat.add_sub_assoc (by omega)]
  · rw [if_neg h1, if_neg h1, hy _ hb]

/-- An entry of the columns from 7248 on. -/
theorem slice_7248 (z : FVec Ideal S8704x11344 .f32) (n : Fin 8704) (e : Fin 2048) :
    (extractStridedSlice S8704x2048 ![0, 7248] z slices_S8704x11344_S8704x2048_0_7248) (ix2 n e) = ext (fun f => z (ix2 n f)) (7248 + e.val) := by
  rw [ext_lt _ _ (by omega)]
  pointwise

/-- An entry of the columns from 9296 on. -/
theorem slice_9296 (z : FVec Ideal S8704x11344 .f32) (n : Fin 8704) (e : Fin 2048) :
    (extractStridedSlice S8704x2048 ![0, 9296] z slices_S8704x11344_S8704x2048_0_9296) (ix2 n e) = ext (fun f => z (ix2 n f)) (9296 + e.val) := by
  rw [ext_lt _ _ (by omega)]
  pointwise

/-- An entry of the columns from 0 on. -/
theorem slice_0 (z : FVec Ideal S8704x11344 .f32) (n : Fin 8704) (e : Fin 3072) :
    (extractStridedSlice S8704x3072 ![0, 0] z slices_S8704x11344_S8704x3072_0_0) (ix2 n e) = ext (fun f => z (ix2 n f)) (0 + e.val) := by
  rw [ext_lt _ _ (by omega)]
  pointwise

/-- An entry of the columns from 5120 on. -/
theorem slice_5120 (z : FVec Ideal S8704x11344 .f32) (n : Fin 8704) (e : Fin 1024) :
    (extractStridedSlice S8704x1024 ![0, 5120] z slices_S8704x11344_S8704x1024_0_5120) (ix2 n e) = ext (fun f => z (ix2 n f)) (5120 + e.val) := by
  rw [ext_lt _ _ (by omega)]
  pointwise

/-- An entry of the columns from 3072 on. -/
theorem slice_3072 (z : FVec Ideal S8704x11344 .f32) (n : Fin 8704) (e : Fin 1024) :
    (extractStridedSlice S8704x1024 ![0, 3072] z slices_S8704x11344_S8704x1024_0_3072) (ix2 n e) = ext (fun f => z (ix2 n f)) (3072 + e.val) := by
  rw [ext_lt _ _ (by omega)]
  pointwise

/-- An entry of the columns from 4096 on. -/
theorem slice_4096 (z : FVec Ideal S8704x11344 .f32) (n : Fin 8704) (e : Fin 1024) :
    (extractStridedSlice S8704x1024 ![0, 4096] z slices_S8704x11344_S8704x1024_0_4096) (ix2 n e) = ext (fun f => z (ix2 n f)) (4096 + e.val) := by
  rw [ext_lt _ _ (by omega)]
  pointwise

/-- An entry of the columns from 6144 on. -/
theorem slice_6144 (z : FVec Ideal S8704x11344 .f32) (n : Fin 8704) (e : Fin 1024) :
    (extractStridedSlice S8704x1024 ![0, 6144] z slices_S8704x11344_S8704x1024_0_6144) (ix2 n e) = ext (fun f => z (ix2 n f)) (6144 + e.val) := by
  rw [ext_lt _ _ (by omega)]
  pointwise

/-- An entry of the columns from 7168 on. -/
theorem slice_7168 (z : FVec Ideal S8704x11344 .f32) (n : Fin 8704) (e : Fin 64) :
    (extractStridedSlice S8704x64 ![0, 7168] z slices_S8704x11344_S8704x64_0_7168) (ix2 n e) = ext (fun f => z (ix2 n f)) (7168 + e.val) := by
  rw [ext_lt _ _ (by omega)]
  pointwise

/-- An entry of the columns from 7232 on. -/
theorem slice_7232 (z : FVec Ideal S8704x11344 .f32) (n : Fin 8704) (e : Fin 16) :
    (extractStridedSlice S8704x16 ![0, 7232] z slices_S8704x11344_S8704x16_0_7232) (ix2 n e) = ext (fun f => z (ix2 n f)) (7232 + e.val) := by
  rw [ext_lt _ _ (by omega)]
  pointwise

/-- An entry of the panel, piece by piece. -/
theorem fused_apply (p0 p1 : FVec Ideal S8704x2048 .f32) (p2 : FVec Ideal S8704x3072 .f32) (p3 p4 p5 p6 : FVec Ideal S8704x1024 .f32) (p7 : FVec Ideal S8704x64 .f32)
    (p8 : FVec Ideal S8704x16 .f32) (n : Fin 8704) (e : Fin 12288) (F : ℕ → EReal)
    (h0 : ∀ k : Fin 2048, p0 (ix2 n k) = F k.val) (h1 : ∀ k : Fin 2048, p1 (ix2 n k) = F (2048 + k.val)) (h2 : ∀ k : Fin 3072, p2 (ix2 n k) = F (4096 + k.val))
    (h3 : ∀ k : Fin 1024, p3 (ix2 n k) = F (7168 + k.val)) (h4 : ∀ k : Fin 1024, p4 (ix2 n k) = F (8192 + k.val)) (h5 : ∀ k : Fin 1024, p5 (ix2 n k) = F (9216 + k.val))
    (h6 : ∀ k : Fin 1024, p6 (ix2 n k) = F (10240 + k.val)) (h7 : ∀ k : Fin 64, p7 (ix2 n k) = F (11264 + k.val)) (h8 : ∀ k : Fin 16, p8 (ix2 n k) = F (11328 + k.val))
    (h9 : ∀ k, 11344 ≤ k → F k = 0) : fused p0 p1 p2 p3 p4 p5 p6 p7 p8 (ix2 n e) = F e.val := by
  pointwise [fused]
  simp only [h0, h1, h2, h3, h4, h5, h6, h7, h8]
  repeat' split
  all_goals first | with_reducible rfl | (refine congrArg F ?_; omega) | (refine congrArg F ?_; simp only; omega) | exact (h9 _ (by omega)).symm

/-- An entry of the panel, from the projection. -/
theorem assembled_apply (z : FVec Ideal S8704x11344 .f32) (n : Fin 8704) (e : Fin 12288) :
    assembled z (ix2 n e) = panel (ext fun k => Ideal.cos (ang16 (ix2 n k))) (ext fun k => Ideal.sin (ang16 (ix2 n k))) (ext fun k => Ideal.cos (ang8 (ix2 n k)))
      (ext fun k => Ideal.sin (ang8 (ix2 n k))) (ext fun f => z (ix2 n f)) e.val := by
  refine fused_apply _ _ _ _ _ _ _ _ _ n e (panel _ _ _ _ _) (fun k => ?_) (fun k => ?_) (fun k => ?_) (fun k => ?_) (fun k => ?_) (fun k => ?_) (fun k => ?_) (fun k => ?_) (fun k => ?_) (fun k hk => ?_)
  · rw [gates_apply, slice_7248]
    unfold panel
    rw [if_pos (by omega)]
  · rw [gates_apply, slice_9296]
    unfold panel
    rw [if_pos (by omega)]
    rw [show 7248 + (2048 + k.val) = 9296 + k.val by omega]
  · rw [slice_0]
    unfold panel
    rw [if_neg (by omega), if_pos (by omega)]
    rw [show 4096 + k.val - 4096 = 0 + k.val by omega]
  · rw [slice_5120]
    unfold panel
    rw [if_neg (by omega), if_neg (by omega), if_pos (by omega)]
    rw [show 7168 + k.val - 2048 = 5120 + k.val by omega]
  · rw [rot128_apply]
    unfold panel
    rw [if_neg (by omega), if_neg (by omega), if_neg (by omega), if_pos (by omega)]
    rw [show 8192 + k.val - 5120 = 3072 + k.val by omega, show (8192 + k.val) % 128 = k.val % 128 by omega]
    refine rope_shift 16 _ _ _ _ 3072 1024 k.val (k.val % 128) (Nat.mod_le _ _) k.isLt (fun hd => ?_) fun q hq => ?_
    · have hk := k.isLt
      clear * - hd hk
      omega
    rw [ext_lt _ _ hq]
    exact slice_3072 z n ⟨q, hq⟩
  · rw [rot128_apply]
    unfold panel
    rw [if_neg (by omega), if_neg (by omega), if_neg (by omega), if_pos (by omega)]
    rw [show 9216 + k.val - 5120 = 4096 + k.val by omega, show (9216 + k.val) % 128 = k.val % 128 by omega]
    refine rope_shift 16 _ _ _ _ 4096 1024 k.val (k.val % 128) (Nat.mod_le _ _) k.isLt (fun hd => ?_) fun q hq => ?_
    · have hk := k.isLt
      clear * - hd hk
      omega
    rw [ext_lt _ _ hq]
    exact slice_4096 z n ⟨q, hq⟩
  · rw [rot64_apply]
    unfold panel
    rw [if_neg (by omega), if_neg (by omega), if_neg (by omega), if_neg (by omega), if_pos (by omega)]
    rw [show 10240 + k.val - 4096 = 6144 + k.val by omega, show (10240 + k.val) % 64 = k.val % 64 by omega]
    refine rope_shift 8 _ _ _ _ 6144 1024 k.val (k.val % 64) (Nat.mod_le _ _) k.isLt (fun hd => ?_) fun q hq => ?_
    · have hk := k.isLt
      clear * - hd hk
      omega
    rw [ext_lt _ _ hq]
    exact slice_6144 z n ⟨q, hq⟩
  · rw [rot1_apply]
    unfold panel
    rw [if_neg (by omega), if_neg (by omega), if_neg (by omega), if_neg (by omega), if_neg (by omega), if_pos (by omega)]
    rw [show 11264 + k.val - 4096 = 7168 + k.val by omega, show 11264 + k.val - 11264 = k.val % 64 by omega]
    refine rope_shift 8 _ _ _ _ 7168 64 k.val (k.val % 64) (Nat.mod_le _ _) k.isLt (fun hd => ?_) fun q hq => ?_
    · have hk := k.isLt
      clear * - hd hk
      omega
    rw [ext_lt _ _ hq]
    exact slice_7168 z n ⟨q, hq⟩
  · rw [scaled_apply, slice_7232]
    unfold panel
    rw [if_neg (by omega), if_neg (by omega), if_neg (by omega), if_neg (by omega), if_neg (by omega), if_neg (by omega), if_pos (by omega)]
    rw [show 11328 + k.val - 4096 = 7232 + k.val by omega]
  · unfold panel
    rw [if_neg (by omega), if_neg (by omega), if_neg (by omega), if_neg (by omega), if_neg (by omega), if_neg (by omega), if_neg (by omega)]

/-- An entry of the reference's result. -/
theorem whole_apply (x : FVec Ideal S8704x2048 .f32) (g : FVec Ideal S1x2048 .f32) (w : FVec Ideal S1x2048x11344 .f32) (n : Fin 8704) (e : Fin 12288) :
    whole x g w (ix2 n e) = panel (ext fun k => Ideal.cos (ang16 (ix2 n k))) (ext fun k => Ideal.sin (ang16 (ix2 n k))) (ext fun k => Ideal.cos (ang8 (ix2 n k)))
      (ext fun k => Ideal.sin (ang8 (ix2 n k))) (ext fun f : Fin 11344 => ∑ j : Fin 2048, rms (fun j => x (ix2 n j)) (fun j => g (ix2 0 j)) j * w (ix3 0 j f)) e.val := by
  unfold whole
  rw [assembled_apply]
  simp only [proj_apply, norm_apply]

end Cert.Reference5Ideal.Entry

end
-- ==== Proof.ProjClaim.lean ====
/- The projection's claim: the kernel's and the reference's results are equal. -/
module

public import proofs.«01_k».proof.Defs
public import proofs.«01_k».proof.Proof.Proj
public import proofs.«01_k».proof.Proof.ProjRef
public import Idealize.ShloMosaic.Lib.Quiescent
public import Idealize.ShloMosaic.Adequacy
public import Idealize.ShloMosaic.Init

@[expose] public section

noncomputable section

namespace Cert.Proof.Proj

open Idealize.ShloMosaic Idealize.SL.Sem

/-- Both sides turn the wide heads by the same angles. -/
theorem ang16_eq : Cert.Reference5Ideal.Entry.ang16 = Cert.Kernel5Ideal.Proj.ang16 := rfl

/-- Both sides turn the narrow heads by the same angles. -/
theorem ang8_eq : Cert.Reference5Ideal.Entry.ang8 = Cert.Kernel5Ideal.Proj.ang8 := rfl

/-- The projection's kernel and its reference end with equal results. -/
theorem equal : Cert.algebraic_Kernel5Ideal_Reference5Ideal (hKernel5Ideal := Cert.Kernel5Ideal.Gen.facts) (hReference5Ideal := Cert.Reference5Ideal.Gen.facts) := by
  intro m g m' g' hpre hargs
  refine ⟨fun c => Cert.Kernel5Ideal.Proj.result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · exact (θ_run _ _ _).mono (fun r h c => ⟨(h c).1.trans (Cert.Kernel5Ideal.Proj.final m c), (h c).2⟩) (Cert.Kernel5Ideal.Value.run_blocks m g)
  · refine (θ_run _ _ _).mono (fun r h c => ⟨(h c).1.trans ?_, (h c).2⟩) (Cert.Reference5Ideal.Value.run m' g')
    obtain ⟨e0, e1, e2⟩ := hargs c
    refine (Cert.Reference5Ideal.Entry.res_eq m' c).trans ?_
    rw [e0, e1, e2]
    funext y
    have ey : y = ix2 (y 0) (y 1) := (ix2_eta y).symm
    rw [ey]
    refine (Cert.Reference5Ideal.Entry.whole_apply _ _ _ (y 0) (y 1)).trans ?_
    rw [ang16_eq, ang8_eq]
    rfl

/-- The projection's reference leaves its arguments and every semaphore counter as they were. -/
theorem reference_frame (m : (ℓ : Loc Cert.Reference5Ideal.nD Cert.Reference5Ideal.τ Cert.Reference5Ideal.sig) → Buf (Elt Ideal) ℓ) (ρ : Dev Cert.Reference5Ideal.nD → PrngReg) :
    θ_run Cert.Reference5Ideal.defs (onTc (τ := Cert.Reference5Ideal.τ) (Cert.Reference5Ideal.main (F := Ideal))) ⟨m, fun _ => 0, ρ⟩ fun r =>
      (∀ c : Dev Cert.Reference5Ideal.nD, r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0) ∧
        r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1) ∧
        r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)) ∧ r.2.sem = fun _ => 0 :=
  (θ_run _ _ _).mono (fun r h => ⟨fun c => (h c).2, sem_eq_zero_of_no_sems (by decide) r.2⟩) (Cert.Reference5Ideal.Value.run m ρ)

end Cert.Proof.Proj

end
-- ==== Proof.FinS.lean ====
/- The sample's second feed-forward call, of one row block, with the closing normalisation: what each grid point holds, and the result array. -/
module

public import proofs.«01_k».proof.Proof.Gen.Kernel6Ideal.Value
public import proofs.«01_k».proof.Proof.Fin
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel6Ideal.FinS

open Cert.Kernel6Ideal Cert.Kernel6Ideal.Gen Cert.Layer
open Cert.Kernel3Ideal.Fin (gain2 wide tall last2 gain2_apply wide_apply tall_apply last2_apply)
open Idealize.ShloMosaic Idealize.ShloMosaic.TcCoe Idealize.SL.Sem

/-- The normalised rows. -/
theorem pay_norm (x : FVec Ideal S32x2048 .f32) (g : FVec Ideal S1x2048 .f32) (r : Fin 32) (k : Fin 2048) :
    k0_pay1 (F := Ideal) x g (ix2 r k) = rms (fun j => x (ix2 r j)) (fun j => g (ix2 0 j)) k := by
  pointwise [k0_pay1]
  rfl

/-- The accumulator's start. -/
theorem pay_zero (r : Fin 32) (k : Fin 2048) : k0_pay2 (F := Ideal) (ix2 r k) = 0 := by
  pointwise [k0_pay2]

/-- The accumulator after a tile of the hidden units. -/
theorem pay_tile (u : FVec Ideal S32x2048 .bf16) (wg wu : FVec Ideal S2048x512 .bf16) (a : FVec Ideal S32x2048 .f32)
    (wd : FVec Ideal S512x2048 .bf16) (r : Fin 32) (k : Fin 2048) :
    k0_pay3 (F := Ideal) u wg wu a wd (ix2 r k) = a (ix2 r k) + ∑ s : Fin 512,
      (∑ j : Fin 2048, u (ix2 r j) * wg (ix2 j s)) * Ideal.logistic (∑ j : Fin 2048, u (ix2 r j) * wg (ix2 j s))
        * (∑ j : Fin 2048, u (ix2 r j) * wu (ix2 j s)) * wd (ix2 s k) := by
  pointwise [k0_pay3]

/-- The residual sum, normalised. -/
theorem pay_out (x a : FVec Ideal S32x2048 .f32) (g : FVec Ideal S1x2048 .f32) (r : Fin 32) (k : Fin 2048) :
    k0_pay4 (F := Ideal) x a g (ix2 r k)
      = rms (fun j => x (ix2 r j) + half * a (ix2 r j)) (fun j => g (ix2 0 j)) k := by
  pointwise [k0_pay4]
  rfl

variable (m : (ℓ : Loc nD τ sig) → Buf (Elt Ideal) ℓ) (c : Dev nD)

/-- The blocks' indices. -/
theorem idx : ∀ t : Fin cfg0.N, win0_0.index t = ![0, 0] ∧ win0_1.index t = ![0, 0]
    ∧ win0_2.index t = ![0, t.val % 11] ∧ win0_3.index t = ![0, t.val % 11] ∧ win0_4.index t = ![t.val % 11, 0] ∧ win0_5.index t = ![0, 0]
    ∧ win0_6.index t = ![0, 0] :=
  (by decide +kernel : ∀ t : Fin grid0.N, _)

/-- The rows' array. -/
abbrev rows : FVec Ideal S32x2048 .f32 := m ((c.tc : Thread nD τ).loc main_arg0)
/-- The gain. -/
abbrev gain : FVec Ideal S1x2048 .f32 := m ((c.tc : Thread nD τ).loc main_arg1)
/-- The gate's weights. -/
abbrev gate : FVec Ideal S1x2048x5632 .f32 := m ((c.tc : Thread nD τ).loc main_arg2)
/-- The up projection's weights. -/
abbrev up : FVec Ideal S1x2048x5632 .f32 := m ((c.tc : Thread nD τ).loc main_arg3)
/-- The down projection's weights. -/
abbrev down : FVec Ideal S1x5632x2048 .f32 := m ((c.tc : Thread nD τ).loc main_arg4)

/-- The closing gain. -/
abbrev last : FVec Ideal S2048 .f32 := m ((c.tc : Thread nD τ).loc main_arg5)

theorem entry_gain : V m c main_v1 = gain2 (gain m c) := by
  unfold V hostOps0
  after_results
  rfl

theorem entry_gate : V m c main_v3 = wide (gate m c) := by
  unfold V hostOps0
  after_results
  rfl

theorem entry_up : V m c main_v5 = wide (up m c) := by
  unfold V hostOps0
  after_results
  rfl

theorem entry_down : V m c main_v7 = tall (down m c) := by
  unfold V hostOps0
  after_results
  rfl

theorem entry_last : V m c main_v8 = last2 (last m c) := by
  unfold V hostOps0
  after_results
  rfl

theorem blk5_read (T : FVec Ideal S1x2048 .f32) (h : V m c main_v8 = T) (t : Fin cfg0.N) (b : Fin 2048) :
    iblk m c 5 t (ix2 0 b) = T (ix2 0 b) := by
  unfold iblk
  rw [show V m c (Pipeline.arrRef spec0 5) = T from h]
  clear h
  blk_simp [idx t]
  blk_ext [idx t]

/-- A block of the closing gain. -/
theorem blk5 (t : Fin cfg0.N) (b : Fin 2048) : iblk m c 5 t (ix2 0 b) = last m c (ix1 b) :=
  (blk5_read m c _ (entry_last m c) t b).trans (last2_apply _ _)

/-- A block of the rows. -/
theorem blk0 (t : Fin cfg0.N) (r : Fin 32) (b : Fin 2048) :
    iblk m c 0 t (ix2 r b) = rows m c (ix2 r b) := by
  blk_ext [iblk, V, idx t]

theorem blk1_read (T : FVec Ideal S1x2048 .f32) (h : V m c main_v1 = T) (t : Fin cfg0.N) (b : Fin 2048) :
    iblk m c 1 t (ix2 0 b) = T (ix2 0 b) := by
  unfold iblk
  rw [show V m c (Pipeline.arrRef spec0 1) = T from h]
  clear h
  blk_simp [idx t]
  blk_ext [idx t]

theorem blk2_read (T : FVec Ideal S2048x5632 .bf16) (h : V m c main_v3 = T) (t : Fin cfg0.N) (b : Fin 2048) (s : Fin 512) (n : Fin 5632)
    (hn : n.val = 512 * (t.val % 11) + s.val) : iblk m c 2 t (ix2 b s) = T (ix2 b n) := by
  unfold iblk
  rw [show V m c (Pipeline.arrRef spec0 2) = T from h]
  clear h
  blk_simp [idx t]
  blk_ext [idx t]

theorem blk3_read (T : FVec Ideal S2048x5632 .bf16) (h : V m c main_v5 = T) (t : Fin cfg0.N) (b : Fin 2048) (s : Fin 512) (n : Fin 5632)
    (hn : n.val = 512 * (t.val % 11) + s.val) : iblk m c 3 t (ix2 b s) = T (ix2 b n) := by
  unfold iblk
  rw [show V m c (Pipeline.arrRef spec0 3) = T from h]
  clear h
  blk_simp [idx t]
  blk_ext [idx t]

theorem blk4_read (T : FVec Ideal S5632x2048 .bf16) (h : V m c main_v7 = T) (t : Fin cfg0.N) (b : Fin 2048) (s : Fin 512) (n : Fin 5632)
    (hn : n.val = 512 * (t.val % 11) + s.val) : iblk m c 4 t (ix2 s b) = T (ix2 n b) := by
  unfold iblk
  rw [show V m c (Pipeline.arrRef spec0 4) = T from h]
  clear h
  blk_simp [idx t]
  blk_ext [idx t]

/-- A block of the gain. -/
theorem blk1 (t : Fin cfg0.N) (b : Fin 2048) : iblk m c 1 t (ix2 0 b) = gain m c (ix2 0 b) :=
  (blk1_read m c _ (entry_gain m c) t b).trans (gain2_apply _ _)

/-- A tile of the gate's weights. -/
theorem blk2 (t : Fin cfg0.N) (b : Fin 2048) (s : Fin 512) (n : Fin 5632) (hn : n.val = 512 * (t.val % 11) + s.val) :
    iblk m c 2 t (ix2 b s) = gate m c (ix3 0 b n) :=
  (blk2_read m c _ (entry_gate m c) t b s n hn).trans (wide_apply _ _ _)

/-- A tile of the up projection's weights. -/
theorem blk3 (t : Fin cfg0.N) (b : Fin 2048) (s : Fin 512) (n : Fin 5632) (hn : n.val = 512 * (t.val % 11) + s.val) :
    iblk m c 3 t (ix2 b s) = up m c (ix3 0 b n) :=
  (blk3_read m c _ (entry_up m c) t b s n hn).trans (wide_apply _ _ _)

/-- A tile of the down projection's weights. -/
theorem blk4 (t : Fin cfg0.N) (b : Fin 2048) (s : Fin 512) (n : Fin 5632) (hn : n.val = 512 * (t.val % 11) + s.val) :
    iblk m c 4 t (ix2 s b) = down m c (ix3 0 n b) :=
  (blk4_read m c _ (entry_down m c) t b s n hn).trans (tall_apply _ _ _)

/-- A row's normalised entries. -/
def normed (x : FVec Ideal S32x2048 .f32) (g : FVec Ideal S1x2048 .f32) (n : Fin 32) : Fin 2048 → EReal :=
  rms (fun j => x (ix2 n j)) (fun j => g (ix2 0 j))

/-- A hidden unit's share of an entry. -/
def share (x : FVec Ideal S32x2048 .f32) (g : FVec Ideal S1x2048 .f32) (wg wu : FVec Ideal S1x2048x5632 .f32) (wd : FVec Ideal S1x5632x2048 .f32)
    (n : Fin 32) (k : Fin 2048) (f : Fin 5632) : EReal :=
  hidden (normed x g n) (fun j f => wg (ix3 0 j f)) (fun j f => wu (ix3 0 j f)) f * wd (ix3 0 f k)

/-- The call's result. -/
def result (x : FVec Ideal S32x2048 .f32) (g : FVec Ideal S1x2048 .f32) (wg wu : FVec Ideal S1x2048x5632 .f32) (wd : FVec Ideal S1x5632x2048 .f32)
    (gl : FVec Ideal S2048 .f32) : FVec Ideal S32x2048 .f32 := fun i =>
  rms (ffn (fun j => x (ix2 (i 0) j)) (fun j => g (ix2 0 j)) (fun j f => wg (ix3 0 j f)) (fun j f => wu (ix3 0 j f)) (fun f k => wd (ix3 0 f k)))
    (fun j => gl (ix1 j)) (i 1)

/-- The normalised rows of a block. -/
theorem norm_blk (t : Fin cfg0.N) (r : Fin 32) (k : Fin 2048) :
    k0_pay1 (F := Ideal) (iblk m c 0 t) (iblk m c 1 t) (ix2 r k) = normed (rows m c) (gain m c) r k := by
  rw [pay_norm]
  unfold normed
  congr 1
  · exact funext fun j => blk0 m c t r j
  · exact funext fun j => blk1 m c t j

/-- The normalised rows, carried from point to point. -/
theorem carried (n : ℕ) (hn : n < cfg0.N) (r : Fin 32) (k : Fin 2048) :
    (outsAt0 m c n hn).2.1 (ix2 r k) = normed (rows m c) (gain m c) r k := by
  induction n with
  | zero =>
    rw [outsAt0_A m c ⟨0, hn⟩ (by simp only) (by simp only; omega)]
    frame_out
    exact norm_blk m c ⟨0, hn⟩ r k
  | succ n ih =>
    by_cases h0 : (n + 1) % 11 = 0
    · rw [outsAt0_A m c ⟨n + 1, hn⟩ h0 (by simp only; omega)]
      frame_out
      exact norm_blk m c ⟨n + 1, hn⟩ r k
    · have hp := ih (Nat.lt_of_succ_lt hn)
      by_cases h1 : (n + 1) % 11 = 10
      · rw [outsAt0_C m c ⟨n + 1, hn⟩ h0 h1]
        exact hp
      · rw [outsAt0_B m c ⟨n + 1, hn⟩ h0 h1]
        exact hp

/-- A tile's term of an entry. -/
def term (t : Fin cfg0.N) (y : S32x2048.Idx) : EReal :=
  ∑ s : Fin 512, share (rows m c) (gain m c) (gate m c) (up m c) (down m c) (y 0) (y 1)
    ⟨512 * (t.val % 11) + s.val, by omega⟩

/-- A tile's step, from the normalised rows. -/
theorem step (t : Fin cfg0.N) (u : FVec Ideal S32x2048 .bf16) (a : FVec Ideal S32x2048 .f32)
    (hu : ∀ (r : Fin 32) (k : Fin 2048), u (ix2 r k) = normed (rows m c) (gain m c) r k)
    (y : S32x2048.Idx) :
    k0_pay3 (F := Ideal) u (iblk m c 2 t) (iblk m c 3 t) a (iblk m c 4 t) y = a y + term m c t y := by
  idx_vars y
  rw [pay_tile]
  refine congrArg _ (Finset.sum_congr rfl fun s _ => ?_)
  simp only [hu, blk2 m c t _ s ⟨512 * (t.val % 11) + s.val, by omega⟩ rfl,
    blk3 m c t _ s ⟨512 * (t.val % 11) + s.val, by omega⟩ rfl, blk4 m c t _ s ⟨512 * (t.val % 11) + s.val, by omega⟩ rfl]
  rfl

/-- The accumulator at the first point. -/
theorem acc_first (t : Fin cfg0.N) (h0 : t.val % 11 = 0) (y : S32x2048.Idx) :
    (outsAt0 m c t.val t.isLt).2.2 y = 0 + term m c t y := by
  rw [outsAt0_A m c t h0 (by omega)]
  frame_out
  rw [step m c t _ _ (fun r k => norm_blk m c t r k)]
  congr 1
  idx_vars y
  exact pay_zero _ _

/-- The accumulator at a later point. -/
theorem acc_next (t : Fin cfg0.N) (h0 : ¬t.val % 11 = 0) (y : S32x2048.Idx) :
    (outsAt0 m c t.val t.isLt).2.2 y = (outsAt0 m c (t.val - 1) (Nat.lt_of_le_of_lt (Nat.sub_le _ _) t.isLt)).2.2 y + term m c t y := by
  have hu : ∀ (r : Fin 32) (k : Fin 2048),
      (outsAt0 m c (t.val - 1) (Nat.lt_of_le_of_lt (Nat.sub_le _ _) t.isLt)).2.1 (ix2 r k) = normed (rows m c) (gain m c) r k :=
    fun r k => carried m c _ _ r k
  by_cases h1 : t.val % 11 = 10
  · rw [outsAt0_C m c t h0 h1]
    frame_out
    simp only [read_unread_whole]
    exact step m c t _ _ hu y
  · rw [outsAt0_B m c t h0 h1]
    frame_out
    simp only [read_unread_whole]
    exact step m c t _ _ hu y

/-- The accumulator at the last point: the sum over all hidden units. -/
theorem acc_last (t : Fin cfg0.N) (h1 : t.val % 11 = 10) (r : Fin 32) (k : Fin 2048) :
    (outsAt0 m c t.val t.isLt).2.2 (ix2 r k)
      = ∑ f : Fin 5632, share (rows m c) (gain m c) (gate m c) (up m c) (down m c) r k f := by
  refine (Pipeline.eq_sum_fin_of_reset_step_apply_of_flush (fun n h => (outsAt0 m c n h).2.2) 11 (fun _ => (0 : EReal)) (term m c)
    (acc_first m c) (acc_next m c) t h1 (ix2 r k)).trans ?_
  rw [zero_add]
  refine Fin.sum_mul_add_congr (n := 512) (fun s j hl => ?_)
  have e1 : (11 * (t.val / 11) + s.val) % 11 = s.val := by omega
  exact congrArg _ (Fin.ext (by simp only [e1]; omega))

/-- What the last point writes back. -/
theorem point (t : Fin cfg0.N) (h1 : t.val % 11 = 10) (r : Fin 32) (k : Fin 2048) :
    (outsAt0 m c t.val t.isLt).1 (ix2 r k) = result (rows m c) (gain m c) (gate m c) (up m c) (down m c) (last m c) (ix2 r k) := by
  have ha := fun j => acc_last m c t h1 r j
  rw [outsAt0_C m c t (by omega) h1] at ha ⊢
  frame_out at ha
  frame_out
  rw [pay_out]
  simp only [ha, blk0 m c t r, blk5 m c t]
  rfl

/-- What the last point writes back, at any index. -/
theorem point_idx (t : Fin cfg0.N) (h1 : t.val % 11 = 10) (y i : S32x2048.Idx) (h0 : (i 0).val = (y 0).val) (h2 : (i 1).val = (y 1).val) :
    (outsAt0 m c t.val t.isLt).1 y = result (rows m c) (gain m c) (gate m c) (up m c) (down m c) (last m c) i := by
  idx_vars y
  idx_vars i
  obtain rfl : _ = _ := Fin.ext h0
  obtain rfl : _ = _ := Fin.ext h2
  exact point m c t h1 _ _

/-- The call's result array. -/
theorem final : (dats m 0 c).arrAt 6 cfg0.N = result (rows m c) (gain m c) (gate m c) (up m c) (down m c) (last m c) := by
  refine (dats m 0 c).arrAt_eq_of_covers 6 _ (by decide +kernel) fun t hf y => ?_
  rw [after0_6]
  refine point_idx m c t ((flush0_6 t).mp hf) _ _ ?_ ?_ <;> blk_simp [idx t]

end Cert.Kernel6Ideal.FinS

end
-- ==== Proof.FinSRef.lean ====
/- The reference of the sample's second feed-forward, entry by entry. -/
module

public import proofs.«01_k».proof.Proof.Gen.Reference6Ideal.Run
public import proofs.«01_k».proof.Proof.Layer
public import Idealize.ShloMosaic.Lib.Pointwise

@[expose] public section

set_option maxRecDepth 16384

noncomputable section

namespace Cert.Reference6Ideal.Entry

open Cert.Reference6Ideal Cert.Reference6Ideal.Gen Cert.Layer
open Idealize.ShloMosaic Idealize.ShloMosaic.TcCoe Idealize.SL.Sem

/-- The normalised rows. -/
def norm (x : FVec Ideal S32x2048 .f32) (g : FVec Ideal S2048 .f32) : FVec Ideal S32x2048 .f32 :=
  mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 g))

/-- A wide projection. -/
def proj (u : FVec Ideal S32x2048 .f32) (w : FVec Ideal S1x2048x5632 .f32) : FVec Ideal S32x5632 .f32 :=
  Host.dotGeneral dot_S32x2048_S2048x5632_S32x5632_1_0_0_1_n_n none u (shapeCast S2048x5632 w shapeCasts_S1x2048x5632_S2048x5632)

/-- The SiLU. -/
def silu (z : FVec Ideal S32x5632 .f32) : FVec Ideal S32x5632 .f32 :=
  mulf z (Host.divf (broadcastInDim S32x5632 ![] bcast_S_S32x5632 (constant S_ .f32 0x3F800000#32)) (addf (broadcastInDim S32x5632 ![] bcast_S_S32x5632 (constant S_ .f32 0x3F800000#32)) (Host.exp (Host.negf z))))

/-- The hidden units. -/
def hid (u : FVec Ideal S32x2048 .f32) (wg wu : FVec Ideal S1x2048x5632 .f32) : FVec Ideal S32x5632 .f32 :=
  mulf (silu (proj u wg)) (proj u wu)

/-- The residual sum. -/
def out (x : FVec Ideal S32x2048 .f32) (h : FVec Ideal S32x5632 .f32) (wd : FVec Ideal S1x5632x2048 .f32) : FVec Ideal S32x2048 .f32 :=
  addf x (mulf (broadcastInDim S32x2048 ![] bcast_S_S32x2048 (constant S_ .f32 0x3F000000#32)) (Host.dotGeneral dot_S32x5632_S5632x2048_S32x2048_1_0_0_1_n_n none h (shapeCast S5632x2048 wd shapeCasts_S1x5632x2048_S5632x2048)))

/-- The reference's result. -/
def whole (x : FVec Ideal S32x2048 .f32) (g : FVec Ideal S1x2048 .f32) (wg wu : FVec Ideal S1x2048x5632 .f32) (wd : FVec Ideal S1x5632x2048 .f32)
    (gl : FVec Ideal S2048 .f32) : FVec Ideal S32x2048 .f32 :=
  norm (out x (hid (norm x (shapeCast S2048 g shapeCasts_S1x2048_S2048)) wg wu) wd) gl

/-- The reference's composed term, in these names. -/
theorem res_eq (m : (ℓ : Loc nD τ sig) → Buf (Elt Ideal) ℓ) (c : Dev nD) :
    Value.res_main_v37 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- An entry of the normalised rows. -/
theorem norm_apply (x : FVec Ideal S32x2048 .f32) (g : FVec Ideal S2048 .f32) (n : Fin 32) (k : Fin 2048) :
    norm x g (ix2 n k) = rms (fun j => x (ix2 n j)) (fun j => g (ix1 j)) k := by
  pointwise [norm]
  rfl

/-- An entry of a wide projection. -/
theorem proj_apply (u : FVec Ideal S32x2048 .f32) (w : FVec Ideal S1x2048x5632 .f32) (n : Fin 32) (f : Fin 5632) :
    proj u w (ix2 n f) = ∑ j : Fin 2048, u (ix2 n j) * w (ix3 0 j f) := by
  pointwise [proj]

/-- An entry of the SiLU. -/
theorem silu_apply (z : FVec Ideal S32x5632 .f32) (n : Fin 32) (f : Fin 5632) :
    silu z (ix2 n f) = z (ix2 n f) * Ideal.logistic (z (ix2 n f)) := by
  pointwise [silu]
  rfl

/-- An entry of the hidden units. -/
theorem hid_apply (u : FVec Ideal S32x2048 .f32) (wg wu : FVec Ideal S1x2048x5632 .f32) (n : Fin 32) (f : Fin 5632) :
    hid u wg wu (ix2 n f) = hidden (fun j => u (ix2 n j)) (fun j f => wg (ix3 0 j f)) (fun j f => wu (ix3 0 j f)) f := by
  pointwise [hid]
  rw [silu_apply, proj_apply, proj_apply]
  rfl

/-- An entry of the residual sum. -/
theorem out_apply (x : FVec Ideal S32x2048 .f32) (h : FVec Ideal S32x5632 .f32) (wd : FVec Ideal S1x5632x2048 .f32) (n : Fin 32) (k : Fin 2048) :
    out x h wd (ix2 n k) = x (ix2 n k) + half * ∑ f : Fin 5632, h (ix2 n f) * wd (ix3 0 f k) := by
  pointwise [out]
  rfl

/-- The gain's reshaped entries. -/
theorem gain_apply (g : FVec Ideal S1x2048 .f32) (j : Fin 2048) : (shapeCast S2048 g shapeCasts_S1x2048_S2048) (ix1 j) = g (ix2 0 j) := by
  pointwise

/-- An entry of the reference's result. -/
theorem whole_apply (x : FVec Ideal S32x2048 .f32) (g : FVec Ideal S1x2048 .f32) (wg wu : FVec Ideal S1x2048x5632 .f32)
    (wd : FVec Ideal S1x5632x2048 .f32) (gl : FVec Ideal S2048 .f32) (n : Fin 32) (k : Fin 2048) :
    whole x g wg wu wd gl (ix2 n k) = rms (ffn (fun j => x (ix2 n j)) (fun j => g (ix2 0 j)) (fun j f => wg (ix3 0 j f)) (fun j f => wu (ix3 0 j f))
      (fun f k => wd (ix3 0 f k))) (fun j => gl (ix1 j)) k := by
  unfold whole
  simp only [norm_apply, out_apply, hid_apply, gain_apply]
  rfl

end Cert.Reference6Ideal.Entry

end
-- ==== Proof.FinSClaim.lean ====
/- The sample's second feed-forward's claim: the kernel's and the reference's results are equal. -/
module

public import proofs.«01_k».proof.Defs
public import proofs.«01_k».proof.Proof.FinS
public import proofs.«01_k».proof.Proof.FinSRef
public import Idealize.ShloMosaic.Lib.Quiescent
public import Idealize.ShloMosaic.Adequacy
public import Idealize.ShloMosaic.Init

@[expose] public section

noncomputable section

namespace Cert.Proof.FinS

open Idealize.ShloMosaic Idealize.SL.Sem

/-- The sample's second feed-forward's kernel and its reference end with equal results. -/
theorem equal : Cert.algebraic_Kernel6Ideal_Reference6Ideal (hKernel6Ideal := Cert.Kernel6Ideal.Gen.facts) (hReference6Ideal := Cert.Reference6Ideal.Gen.facts) := by
  intro m g m' g' hpre hargs
  refine ⟨fun c => Cert.Kernel6Ideal.FinS.result (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)), ?_, ?_⟩
  · exact (θ_run _ _ _).mono (fun r h c => ⟨(h c).1.trans (Cert.Kernel6Ideal.FinS.final m c), (h c).2⟩) (Cert.Kernel6Ideal.Value.run_blocks m g)
  · refine (θ_run _ _ _).mono (fun r h c => ⟨(h c).1.trans ?_, (h c).2⟩) (Cert.Reference6Ideal.Value.run m' g')
    obtain ⟨e0, e1, e2, e3, e4, e5⟩ := hargs c
    rw [Cert.Reference6Ideal.Entry.res_eq]
    rw [e0, e1, e2, e3, e4, e5]
    funext y
    have ey : y = ix2 (y 0) (y 1) := (ix2_eta y).symm
    rw [ey]
    exact Cert.Reference6Ideal.Entry.whole_apply _ _ _ _ _ _ (y 0) (y 1)

/-- The sample's second feed-forward's reference leaves its arguments and every semaphore counter as they were. -/
theorem reference_frame (m : (ℓ : Loc Cert.Reference6Ideal.nD Cert.Reference6Ideal.τ Cert.Reference6Ideal.sig) → Buf (Elt Ideal) ℓ) (ρ : Dev Cert.Reference6Ideal.nD → PrngReg) :
    θ_run Cert.Reference6Ideal.defs (onTc (τ := Cert.Reference6Ideal.τ) (Cert.Reference6Ideal.main (F := Ideal))) ⟨m, fun _ => 0, ρ⟩ fun r =>
      (∀ c : Dev Cert.Reference6Ideal.nD, r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0) ∧
        r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1) ∧
        r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2) ∧
        r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3) ∧
        r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4) ∧
        r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)) ∧ r.2.sem = fun _ => 0 :=
  (θ_run _ _ _).mono (fun r h => ⟨fun c => (h c).2, sem_eq_zero_of_no_sems (by decide) r.2⟩) (Cert.Reference6Ideal.Value.run m ρ)

end Cert.Proof.FinS

end
-- ==== Proof.MergeS.lean ====
/- The sample's merging call, of one row block: what each grid point holds, and the result array. -/
module

public import proofs.«01_k».proof.Proof.Gen.Kernel7Ideal.Value
public import proofs.«01_k».proof.Proof.Merge
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel7Ideal.MergeS

open Cert.Kernel7Ideal Cert.Kernel7Ideal.Gen Cert.Layer
open Cert.Kernel4Ideal.Merge (half2 square half2_apply square_apply)
open Idealize.ShloMosaic Idealize.ShloMosaic.TcCoe Idealize.SL.Sem

/-- The gated sum of the two attentions' projections. -/
theorem pay_mix (a : FVec Ideal S32x1024 .f32) (wa : FVec Ideal S1024x2048 .bf16) (b : FVec Ideal S32x1024 .f32) (wb : FVec Ideal S1024x2048 .bf16)
    (ga gb : FVec Ideal S32x2048 .f32) (r : Fin 32) (k : Fin 2048) :
    k0_pay1 (F := Ideal) a wa b wb ga gb (ix2 r k)
      = mix (fun j => a (ix2 r j)) (fun j => b (ix2 r j)) (fun k => ga (ix2 r k)) (fun k => gb (ix2 r k)) (fun j k => wa (ix2 j k)) (fun j k => wb (ix2 j k)) k := by
  pointwise [k0_pay1]
  rfl

/-- The residual sum with a tile of the out projection. -/
theorem pay_out (x : FVec Ideal S32x512 .f32) (y : FVec Ideal S32x2048 .bf16) (w : FVec Ideal S2048x512 .bf16) (r : Fin 32) (s : Fin 512) :
    k0_pay2 (F := Ideal) x y w (ix2 r s) = x (ix2 r s) + ∑ k : Fin 2048, y (ix2 r k) * w (ix2 k s) := by
  pointwise [k0_pay2]

variable (m : (ℓ : Loc nD τ sig) → Buf (Elt Ideal) ℓ) (c : Dev nD)

/-- The blocks' indices. -/
theorem idx : ∀ t : Fin cfg0.N, win0_0.index t = ![0, 0] ∧ win0_1.index t = ![0, 0] ∧ win0_2.index t = ![0, 0]
    ∧ win0_3.index t = ![0, 0] ∧ win0_4.index t = ![0, t.val % 4] ∧ win0_5.index t = ![0, 0] ∧ win0_6.index t = ![0, 0]
    ∧ win0_7.index t = ![0, t.val % 4] ∧ win0_8.index t = ![0, t.val % 4] :=
  (by decide +kernel : ∀ t : Fin grid0.N, _)

/-- The stick-breaking attention's result. -/
abbrev sb : FVec Ideal S32x1024 .f32 := m ((c.tc : Thread nD τ).loc main_arg0)
/-- The sparse attention's result. -/
abbrev sp : FVec Ideal S32x1024 .f32 := m ((c.tc : Thread nD τ).loc main_arg1)
/-- The panel, the gates its first columns. -/
abbrev panel : FVec Ideal S8704x12288 .f32 := m ((c.tc : Thread nD τ).loc main_arg2)
/-- The rows. -/
abbrev rows : FVec Ideal S8704x2048 .f32 := m ((c.tc : Thread nD τ).loc main_arg3)
/-- The stick-breaking attention's projection. -/
abbrev wsb : FVec Ideal S1x1024x2048 .f32 := m ((c.tc : Thread nD τ).loc main_arg4)
/-- The sparse attention's projection. -/
abbrev wsp : FVec Ideal S1x1024x2048 .f32 := m ((c.tc : Thread nD τ).loc main_arg5)
/-- The out projection. -/
abbrev wout : FVec Ideal S1x2048x2048 .f32 := m ((c.tc : Thread nD τ).loc main_arg6)

/-- The sample's first gates, cut out of the panel. -/
def gate0 (p : FVec Ideal S8704x12288 .f32) : FVec Ideal S32x2048 .f32 :=
  extractStridedSlice S32x2048 ![0, 0] (extractStridedSlice S32x12288 ![8208, 0] p slices_S8704x12288_S32x12288_8208_0) slices_S32x12288_S32x2048_0_0
/-- The sample's second gates, cut out of the panel. -/
def gate1 (p : FVec Ideal S8704x12288 .f32) : FVec Ideal S32x2048 .f32 :=
  extractStridedSlice S32x2048 ![0, 2048] (extractStridedSlice S32x12288 ![8208, 0] p slices_S8704x12288_S32x12288_8208_0) slices_S32x12288_S32x2048_0_2048
/-- The sample's rows, cut out of all rows. -/
def own (h : FVec Ideal S8704x2048 .f32) : FVec Ideal S32x2048 .f32 :=
  extractStridedSlice S32x2048 ![8208, 0] h slices_S8704x2048_S32x2048_8208_0

theorem gate0_apply (p : FVec Ideal S8704x12288 .f32) (r : Fin 32) (b : Fin 2048) :
    gate0 p (ix2 r b) = p (ix2 ⟨8208 + r.val, by omega⟩ ⟨b.val, by omega⟩) := by
  pointwise [gate0]

theorem gate1_apply (p : FVec Ideal S8704x12288 .f32) (r : Fin 32) (b : Fin 2048) :
    gate1 p (ix2 r b) = p (ix2 ⟨8208 + r.val, by omega⟩ ⟨2048 + b.val, by omega⟩) := by
  pointwise [gate1]

theorem own_apply (h : FVec Ideal S8704x2048 .f32) (r : Fin 32) (b : Fin 2048) :
    own h (ix2 r b) = h (ix2 ⟨8208 + r.val, by omega⟩ b) := by
  pointwise [own]

theorem entry_gate0 : V m c main_v1 = gate0 (panel m c) := by
  unfold V hostOps0
  after_results
  rfl

theorem entry_gate1 : V m c main_v2 = gate1 (panel m c) := by
  unfold V hostOps0
  after_results
  rfl

theorem entry_own : V m c main_v3 = own (rows m c) := by
  unfold V hostOps0
  after_results
  rfl

theorem entry_sb : V m c main_v5 = half2 (wsb m c) := by
  unfold V hostOps0
  after_results
  rfl

theorem entry_sp : V m c main_v7 = half2 (wsp m c) := by
  unfold V hostOps0
  after_results
  rfl

theorem entry_out : V m c main_v9 = square (wout m c) := by
  unfold V hostOps0
  after_results
  rfl

/-- A block of the stick-breaking attention's result. -/
theorem blk0 (t : Fin cfg0.N) (r : Fin 32) (b : Fin 1024) :
    iblk m c 0 t (ix2 r b) = sb m c (ix2 r b) := by
  blk_ext [iblk, V, idx t]

/-- A block of the sparse attention's result. -/
theorem blk1 (t : Fin cfg0.N) (r : Fin 32) (b : Fin 1024) :
    iblk m c 1 t (ix2 r b) = sp m c (ix2 r b) := by
  blk_ext [iblk, V, idx t]

theorem blk2_read (T : FVec Ideal S32x2048 .f32) (h : V m c main_v1 = T) (t : Fin cfg0.N) (r : Fin 32) (b : Fin 2048) :
    iblk m c 2 t (ix2 r b) = T (ix2 r b) := by
  unfold iblk
  rw [show V m c (Pipeline.arrRef spec0 2) = T from h]
  clear h
  blk_simp [idx t]
  blk_ext [idx t]

theorem blk3_read (T : FVec Ideal S32x2048 .f32) (h : V m c main_v2 = T) (t : Fin cfg0.N) (r : Fin 32) (b : Fin 2048) :
    iblk m c 3 t (ix2 r b) = T (ix2 r b) := by
  unfold iblk
  rw [show V m c (Pipeline.arrRef spec0 3) = T from h]
  clear h
  blk_simp [idx t]
  blk_ext [idx t]

theorem blk4_read (T : FVec Ideal S32x2048 .f32) (h : V m c main_v3 = T) (t : Fin cfg0.N) (r : Fin 32) (b : Fin 512) (d : Fin 2048)
    (hd : d.val = 512 * (t.val % 4) + b.val) :
    iblk m c 4 t (ix2 r b) = T (ix2 r d) := by
  unfold iblk
  rw [show V m c (Pipeline.arrRef spec0 4) = T from h]
  clear h
  blk_simp [idx t]
  blk_ext [idx t]

/-- A block of the first gates. -/
theorem blk2 (t : Fin cfg0.N) (r : Fin 32) (b : Fin 2048) :
    iblk m c 2 t (ix2 r b) = panel m c (ix2 ⟨8208 + r.val, by omega⟩ ⟨b.val, by omega⟩) :=
  (blk2_read m c _ (entry_gate0 m c) t r b).trans (gate0_apply _ _ _)

/-- A block of the second gates. -/
theorem blk3 (t : Fin cfg0.N) (r : Fin 32) (b : Fin 2048) :
    iblk m c 3 t (ix2 r b) = panel m c (ix2 ⟨8208 + r.val, by omega⟩ ⟨2048 + b.val, by omega⟩) :=
  (blk3_read m c _ (entry_gate1 m c) t r b).trans (gate1_apply _ _ _)

/-- A block of the rows. -/
theorem blk4 (t : Fin cfg0.N) (r : Fin 32) (s : Fin 512) (d : Fin 2048) (hd : d.val = 512 * (t.val % 4) + s.val) :
    iblk m c 4 t (ix2 r s) = rows m c (ix2 ⟨8208 + r.val, by omega⟩ d) :=
  (blk4_read m c _ (entry_own m c) t r s d hd).trans (own_apply _ _ _)

theorem blk5_read (T : FVec Ideal S1024x2048 .bf16) (h : V m c main_v5 = T) (t : Fin cfg0.N) (j : Fin 1024) (k : Fin 2048) :
    iblk m c 5 t (ix2 j k) = T (ix2 j k) := by
  unfold iblk
  rw [show V m c (Pipeline.arrRef spec0 5) = T from h]
  clear h
  blk_simp [idx t]
  blk_ext [idx t]

theorem blk6_read (T : FVec Ideal S1024x2048 .bf16) (h : V m c main_v7 = T) (t : Fin cfg0.N) (j : Fin 1024) (k : Fin 2048) :
    iblk m c 6 t (ix2 j k) = T (ix2 j k) := by
  unfold iblk
  rw [show V m c (Pipeline.arrRef spec0 6) = T from h]
  clear h
  blk_simp [idx t]
  blk_ext [idx t]

theorem blk7_read (T : FVec Ideal S2048x2048 .bf16) (h : V m c main_v9 = T) (t : Fin cfg0.N) (k : Fin 2048) (s : Fin 512) (d : Fin 2048)
    (hd : d.val = 512 * (t.val % 4) + s.val) : iblk m c 7 t (ix2 k s) = T (ix2 k d) := by
  unfold iblk
  rw [show V m c (Pipeline.arrRef spec0 7) = T from h]
  clear h
  blk_simp [idx t]
  blk_ext [idx t]

/-- The stick-breaking attention's projection. -/
theorem blk5 (t : Fin cfg0.N) (j : Fin 1024) (k : Fin 2048) : iblk m c 5 t (ix2 j k) = wsb m c (ix3 0 j k) :=
  (blk5_read m c _ (entry_sb m c) t j k).trans (half2_apply _ _ _)

/-- The sparse attention's projection. -/
theorem blk6 (t : Fin cfg0.N) (j : Fin 1024) (k : Fin 2048) : iblk m c 6 t (ix2 j k) = wsp m c (ix3 0 j k) :=
  (blk6_read m c _ (entry_sp m c) t j k).trans (half2_apply _ _ _)

/-- A tile of the out projection. -/
theorem blk7 (t : Fin cfg0.N) (k : Fin 2048) (s : Fin 512) (d : Fin 2048) (hd : d.val = 512 * (t.val % 4) + s.val) :
    iblk m c 7 t (ix2 k s) = wout m c (ix3 0 k d) :=
  (blk7_read m c _ (entry_out m c) t k s d hd).trans (square_apply _ _ _)

/-- A row's gated sum. -/
def mixed (a b : FVec Ideal S32x1024 .f32) (p : FVec Ideal S8704x12288 .f32) (wa wb : FVec Ideal S1x1024x2048 .f32) (n : Fin 32) : Fin 2048 → EReal :=
  mix (fun j => a (ix2 n j)) (fun j => b (ix2 n j)) (fun k => p (ix2 ⟨8208 + n.val, by omega⟩ ⟨k.val, by omega⟩))
    (fun k => p (ix2 ⟨8208 + n.val, by omega⟩ ⟨2048 + k.val, by omega⟩)) (fun j k => wa (ix3 0 j k)) (fun j k => wb (ix3 0 j k))

/-- The call's result. -/
def result (a b : FVec Ideal S32x1024 .f32) (p : FVec Ideal S8704x12288 .f32) (h : FVec Ideal S8704x2048 .f32) (wa wb : FVec Ideal S1x1024x2048 .f32)
    (wo : FVec Ideal S1x2048x2048 .f32) : FVec Ideal S32x2048 .f32 := fun i =>
  h (ix2 ⟨8208 + (i 0).val, by have : (i 0).val < 32 := (i 0).isLt; omega⟩ (i 1)) + ∑ k : Fin 2048, mixed a b p wa wb (i 0) k * wo (ix3 0 k (i 1))

/-- The gated sums of a block. -/
theorem mix_blk (t : Fin cfg0.N) (r : Fin 32) (k : Fin 2048) :
    k0_pay1 (F := Ideal) (iblk m c 0 t) (iblk m c 5 t) (iblk m c 1 t) (iblk m c 6 t) (iblk m c 2 t) (iblk m c 3 t) (ix2 r k)
      = mixed (sb m c) (sp m c) (panel m c) (wsb m c) (wsp m c) r k := by
  rw [pay_mix]
  unfold mixed
  simp only [blk0 m c t, blk1 m c t, blk2 m c t, blk3 m c t, blk5 m c t, blk6 m c t]

/-- The gated sums, carried from point to point. -/
theorem carried (n : ℕ) (hn : n < cfg0.N) (r : Fin 32) (k : Fin 2048) :
    (outsAt0 m c n hn).2 (ix2 r k) = mixed (sb m c) (sp m c) (panel m c) (wsb m c) (wsp m c) r k := by
  induction n with
  | zero =>
    rw [outsAt0_A m c ⟨0, hn⟩ (by simp only)]
    frame_out
    exact mix_blk m c ⟨0, hn⟩ r k
  | succ n ih =>
    by_cases h0 : (n + 1) % 4 = 0
    · rw [outsAt0_A m c ⟨n + 1, hn⟩ h0]
      frame_out
      exact mix_blk m c ⟨n + 1, hn⟩ r k
    · have hp := ih (Nat.lt_of_succ_lt hn)
      rw [outsAt0_B m c ⟨n + 1, hn⟩ h0]
      exact hp

/-- A point's residual sum, from the gated sums. -/
theorem out_blk (t : Fin cfg0.N) (y : FVec Ideal S32x2048 .bf16)
    (hy : ∀ (r : Fin 32) (k : Fin 2048),
      y (ix2 r k) = mixed (sb m c) (sp m c) (panel m c) (wsb m c) (wsp m c) r k)
    (r : Fin 32) (s : Fin 512) (d : Fin 2048) (hd : d.val = 512 * (t.val % 4) + s.val) :
    k0_pay2 (F := Ideal) (iblk m c 4 t) y (iblk m c 7 t) (ix2 r s)
      = result (sb m c) (sp m c) (panel m c) (rows m c) (wsb m c) (wsp m c) (wout m c) (ix2 r d) := by
  rw [pay_out, blk4 m c t r s d hd]
  simp only [hy, blk7 m c t _ s d hd]
  rfl

/-- What a point writes back. -/
theorem point (t : Fin cfg0.N) (r : Fin 32) (s : Fin 512) (d : Fin 2048) (hd : d.val = 512 * (t.val % 4) + s.val) :
    (outsAt0 m c t.val t.isLt).1 (ix2 r s) = result (sb m c) (sp m c) (panel m c) (rows m c) (wsb m c) (wsp m c) (wout m c) (ix2 r d) := by
  by_cases h0 : t.val % 4 = 0
  · rw [outsAt0_A m c t h0]
    frame_out
    exact out_blk m c t _ (fun r k => mix_blk m c t r k) r s d hd
  · have hu : ∀ (r : Fin 32) (k : Fin 2048),
        (outsAt0 m c (t.val - 1) (Nat.lt_of_le_of_lt (Nat.sub_le _ _) t.isLt)).2 (ix2 r k)
          = mixed (sb m c) (sp m c) (panel m c) (wsb m c) (wsp m c) r k :=
      fun r k => carried m c _ _ r k
    rw [outsAt0_B m c t h0]
    frame_out
    simp only [read_unread_whole]
    exact out_blk m c t _ hu r s d hd

/-- What a point writes back, at any index. -/
theorem point_idx (t : Fin cfg0.N) (y : S32x512.Idx) (i : S32x2048.Idx) (h0 : (i 0).val = (y 0).val) (h1 : (i 1).val = 512 * (t.val % 4) + (y 1).val) :
    (outsAt0 m c t.val t.isLt).1 y = result (sb m c) (sp m c) (panel m c) (rows m c) (wsb m c) (wsp m c) (wout m c) i := by
  idx_vars y
  idx_vars i
  obtain rfl : _ = _ := Fin.ext h0
  exact point m c t _ _ _ h1

/-- The call's result array. -/
theorem final : (dats m 0 c).arrAt 8 cfg0.N = result (sb m c) (sp m c) (panel m c) (rows m c) (wsb m c) (wsp m c) (wout m c) := by
  refine (dats m 0 c).arrAt_eq_of_covers 8 _ (by decide +kernel) fun t _ y => ?_
  rw [after0_8]
  refine point_idx m c t _ _ ?_ ?_ <;> blk_simp [idx t]
  exact congrArg (· + _) (Nat.mul_comm _ _)

end Cert.Kernel7Ideal.MergeS

end
-- ==== Proof.MergeSRef.lean ====
/- The reference of the sample's merge, entry by entry. -/
module

public import proofs.«01_k».proof.Proof.Gen.Reference7Ideal.Run
public import proofs.«01_k».proof.Proof.Layer
public import Idealize.ShloMosaic.Lib.Pointwise

@[expose] public section

set_option maxRecDepth 16384

noncomputable section

namespace Cert.Reference7Ideal.Entry

open Cert.Reference7Ideal Cert.Reference7Ideal.Gen Cert.Layer
open Idealize.ShloMosaic Idealize.ShloMosaic.TcCoe Idealize.SL.Sem

/-- The gated sums. -/
def sums (a b : FVec Ideal S32x1024 .f32) (p : FVec Ideal S8704x12288 .f32) (wa wb : FVec Ideal S1x1024x2048 .f32) : FVec Ideal S32x2048 .f32 :=
  addf (mulf (extractStridedSlice S32x2048 ![8208, 0] p slices_S8704x12288_S32x2048_8208_0) (Host.dotGeneral dot_S32x1024_S1024x2048_S32x2048_1_0_0_1_n_n none a (shapeCast S1024x2048 wa shapeCasts_S1x1024x2048_S1024x2048))) (mulf (extractStridedSlice S32x2048 ![8208, 2048] p slices_S8704x12288_S32x2048_8208_2048) (Host.dotGeneral dot_S32x1024_S1024x2048_S32x2048_1_0_0_1_n_n none b (shapeCast S1024x2048 wb shapeCasts_S1x1024x2048_S1024x2048)))

/-- The reference's result. -/
def whole (a b : FVec Ideal S32x1024 .f32) (p : FVec Ideal S8704x12288 .f32) (h : FVec Ideal S8704x2048 .f32) (wa wb : FVec Ideal S1x1024x2048 .f32)
    (wo : FVec Ideal S1x2048x2048 .f32) : FVec Ideal S32x2048 .f32 :=
  addf (extractStridedSlice S32x2048 ![8208, 0] h slices_S8704x2048_S32x2048_8208_0) (Host.dotGeneral dot_S32x2048_S2048x2048_S32x2048_1_0_0_1_n_n none (sums a b p wa wb) (shapeCast S2048x2048 wo shapeCasts_S1x2048x2048_S2048x2048))

/-- An entry of the gated sums. -/
theorem sums_apply (a b : FVec Ideal S32x1024 .f32) (p : FVec Ideal S8704x12288 .f32) (wa wb : FVec Ideal S1x1024x2048 .f32) (n : Fin 32) (k : Fin 2048) :
    sums a b p wa wb (ix2 n k) = mix (fun j => a (ix2 n j)) (fun j => b (ix2 n j)) (fun k => p (ix2 ⟨8208 + n.val, by omega⟩ ⟨k.val, by omega⟩))
      (fun k => p (ix2 ⟨8208 + n.val, by omega⟩ ⟨2048 + k.val, by omega⟩)) (fun j k => wa (ix3 0 j k)) (fun j k => wb (ix3 0 j k)) k := by
  pointwise [sums]
  rfl

/-- An entry of the reference's result. -/
theorem whole_apply (a b : FVec Ideal S32x1024 .f32) (p : FVec Ideal S8704x12288 .f32) (h : FVec Ideal S8704x2048 .f32) (wa wb : FVec Ideal S1x1024x2048 .f32)
    (wo : FVec Ideal S1x2048x2048 .f32) (n : Fin 32) (d : Fin 2048) :
    whole a b p h wa wb wo (ix2 n d) = h (ix2 ⟨8208 + n.val, by omega⟩ d) + ∑ k : Fin 2048, mix (fun j => a (ix2 n j)) (fun j => b (ix2 n j))
      (fun k => p (ix2 ⟨8208 + n.val, by omega⟩ ⟨k.val, by omega⟩)) (fun k => p (ix2 ⟨8208 + n.val, by omega⟩ ⟨2048 + k.val, by omega⟩))
      (fun j k => wa (ix3 0 j k)) (fun j k => wb (ix3 0 j k)) k * wo (ix3 0 k d) := by
  pointwise [whole]
  simp only [sums_apply]

end Cert.Reference7Ideal.Entry

end
-- ==== Proof.MergeSClaim.lean ====
/- The sample's merge's claim: the kernel's and the reference's results are equal. -/
module

public import proofs.«01_k».proof.Defs
public import proofs.«01_k».proof.Proof.MergeS
public import proofs.«01_k».proof.Proof.MergeSRef
public import Idealize.ShloMosaic.Lib.Quiescent
public import Idealize.ShloMosaic.Adequacy
public import Idealize.ShloMosaic.Init

@[expose] public section

noncomputable section

namespace Cert.Proof.MergeS

open Idealize.ShloMosaic Idealize.SL.Sem

/-- The sample's merge's kernel and its reference end with equal results. -/
theorem equal : Cert.algebraic_Kernel7Ideal_Reference7Ideal (hKernel7Ideal := Cert.Kernel7Ideal.Gen.facts) (hReference7Ideal := Cert.Reference7Ideal.Gen.facts) := by
  intro m g m' g' hpre hargs
  refine ⟨fun c => Cert.Kernel7Ideal.MergeS.result (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)), ?_, ?_⟩
  · exact (θ_run _ _ _).mono (fun r h c => ⟨(h c).1.trans (Cert.Kernel7Ideal.MergeS.final m c), (h c).2⟩) (Cert.Kernel7Ideal.Value.run_blocks m g)
  · refine (θ_run _ _ _).mono (fun r h c => ⟨(h c).1.trans ?_, (h c).2⟩) (Cert.Reference7Ideal.Value.run m' g')
    obtain ⟨e0, e1, e2, e3, e4, e5, e6⟩ := hargs c
    refine Eq.trans (b := Cert.Reference7Ideal.Entry.whole (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6))) rfl ?_
    rw [e0, e1, e2, e3, e4, e5, e6]
    funext y
    have ey : y = ix2 (y 0) (y 1) := (ix2_eta y).symm
    rw [ey]
    exact Cert.Reference7Ideal.Entry.whole_apply _ _ _ _ _ _ _ (y 0) (y 1)

/-- The sample's merge's reference leaves its arguments and every semaphore counter as they were. -/
theorem reference_frame (m : (ℓ : Loc Cert.Reference7Ideal.nD Cert.Reference7Ideal.τ Cert.Reference7Ideal.sig) → Buf (Elt Ideal) ℓ) (ρ : Dev Cert.Reference7Ideal.nD → PrngReg) :
    θ_run Cert.Reference7Ideal.defs (onTc (τ := Cert.Reference7Ideal.τ) (Cert.Reference7Ideal.main (F := Ideal))) ⟨m, fun _ => 0, ρ⟩ fun r =>
      (∀ c : Dev Cert.Reference7Ideal.nD, r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0) ∧
        r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1) ∧
        r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2) ∧
        r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3) ∧
        r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4) ∧
        r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5) ∧
        r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)) ∧ r.2.sem = fun _ => 0 :=
  (θ_run _ _ _).mono (fun r h => ⟨fun c => (h c).2, sem_eq_zero_of_no_sems (by decide) r.2⟩) (Cert.Reference7Ideal.Value.run m ρ)

end Cert.Proof.MergeS

end
-- ==== Proof.Reals.lean ====
module

public import Idealize.ShloMosaic.Lib.Pointwise

@[expose] public section

set_option maxRecDepth 16384

noncomputable section

open Idealize.ShloMosaic Finset

namespace Cert.StickBreaking

/-- The scale of the scores: the literal `128 ^ (-1/2)` as both programs round it. -/
def scale : EReal := Ideal.ofBits .f32 0x3DB504F3#32

/-- The same scale as a real number. -/
def scaleR : ℝ := scale.toReal

/-- The scale is a finite number. -/
theorem scale_eq : scale = (scaleR : EReal) := by
  have h : scale ≠ ⊤ ∧ scale ≠ ⊥ := by
    constructor <;>
    · unfold scale
      simp [Ideal.ofBits, Ideal.ieee, -EReal.coe_mul]
  exact (EReal.coe_toReal h.1 h.2).symm

/-- A sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [sum_insert h, sum_insert h, ih, EReal.coe_add]

/-- The logarithm of the sigmoid, written with the smaller exponential. -/
def lb (z : ℝ) : ℝ := min z 0 - Real.log (1 + Real.exp (-|z|))

/-- The logarithm of the sigmoid of the negative. -/
def lk (z : ℝ) : ℝ := lb z - z

/-- The kernel's extended-real expression for the log-sigmoid. -/
def lbE (z : EReal) : EReal := min z 0 - Ideal.log (1 + Ideal.exp (0 - FloatOps.absf (F := Ideal) (φ := .f32) z))

/-- The exponential of a real number. -/
theorem exp_coe (x : ℝ) : Ideal.exp (x : EReal) = (Real.exp x : EReal) := rfl

/-- The logarithm of a positive real number. -/
theorem log_coe (x : ℝ) (h : 0 < x) : Ideal.log (x : EReal) = (Real.log x : EReal) := by
  show (if x ≤ 0 then (⊥ : EReal) else _) = _
  rw [if_neg (not_le.mpr h)]

/-- The maximum of a real number and its negative is its absolute value. -/
theorem abs_coe (z : ℝ) : max (z : EReal) (-(z : EReal)) = ((|z| : ℝ) : EReal) := by
  rw [← EReal.coe_neg]; exact (EReal.coe_strictMono.monotone.map_max).symm

/-- On real scores the kernel's expression is the real log-sigmoid. -/
theorem lbE_coe (z : ℝ) : lbE (z : EReal) = (lb z : EReal) := by
  have h1 : FloatOps.absf (F := Ideal) (φ := .f32) (z : EReal) = ((|z| : ℝ) : EReal) := abs_coe z
  unfold lbE lb
  rw [h1, zero_sub, ← EReal.coe_neg, exp_coe, ← EReal.coe_one, ← EReal.coe_add, log_coe _ (by positivity),
    ← EReal.coe_zero, ← (EReal.coe_strictMono.monotone.map_min : ((min z 0 : ℝ) : EReal) = _), ← EReal.coe_sub]

/-- The log-sigmoid by the larger of the negative and zero. -/
theorem lb_eq (z : ℝ) : -(max (-z) 0 + Real.log (1 + Real.exp (-|-z|))) = lb z := by
  unfold lb
  have : max (-z) 0 = -min z 0 := by
    rcases le_total z 0 with h | h
    · rw [max_eq_left (by linarith), min_eq_left h]
    · rw [max_eq_right (by linarith), min_eq_right h]; simp
  rw [this, abs_neg]; ring

/-- The log-sigmoid of the negative score. -/
theorem lb_neg (z : ℝ) : lb (-z) = lk z := by
  unfold lk lb
  rw [abs_neg]
  rcases le_total z 0 with h | h
  · rw [min_eq_right (by linarith : (0:ℝ) ≤ -z), min_eq_left h]; ring
  · rw [min_eq_left (by linarith : -z ≤ (0:ℝ)), min_eq_right h]; ring

/-! ## One query row over the key positions -/

section Row

variable (P : ℕ) (z : ℕ → ℝ) (V : ℕ → EReal)

/-- The logarithm of what key `j` leaves over, zero unless `j` lies in the past. -/
def LK (j : ℕ) : ℝ := if j < P then lk (z j) else 0

/-- The logarithms summed over the positions from `p` on. -/
def SUF (p : ℕ) : ℝ := ∑ j ∈ Ico p 8208, LK P z j

/-- The weight of key `j`. -/
def WT (j : ℕ) : EReal := if j < P then ((Real.exp (lb (z j) + SUF P z (j + 1)) : ℝ) : EReal) else 0

/-- The weighted values summed over the positions from `p` on. -/
def ACC (p : ℕ) : EReal := ∑ j ∈ Ico p 8208, WT P z j * V j

/-- A sum over an interval of positions, by lanes. -/
theorem sum_Ico_lanes {M : Type} [AddCommMonoid M] (p w : ℕ) (f : ℕ → M) :
    ∑ j ∈ Ico p (p + w), f j = ∑ s : Fin w, f (p + s.val) := by
  rw [sum_Ico_eq_sum_range, Nat.add_sub_cancel_left, Finset.sum_range]

/-- The sum from `p` on is a tile's and the rest. -/
theorem SUF_tile (p w : ℕ) (h : p + w ≤ 8208) :
    SUF P z p = (∑ s : Fin w, LK P z (p + s.val)) + SUF P z (p + w) := by
  unfold SUF
  rw [← sum_Ico_consecutive _ (Nat.le_add_right p w) h, sum_Ico_lanes]

/-- The weighted values from `p` on are a tile's and the rest. -/
theorem ACC_tile (p w : ℕ) (h : p + w ≤ 8208) :
    ACC P z V p = ACC P z V (p + w) + ∑ s : Fin w, WT P z (p + s.val) * V (p + s.val) := by
  unfold ACC
  rw [← sum_Ico_consecutive _ (Nat.le_add_right p w) h, sum_Ico_lanes, add_comm]

/-- What comes after lane `s` of a tile: its later lanes and the rest. -/
theorem SUF_lane (p w : ℕ) (h : p + w ≤ 8208) (s : Fin w) :
    SUF P z (p + s.val + 1) = (∑ k : Fin w, if s.val < k.val then LK P z (p + k.val) else 0) + SUF P z (p + w) := by
  unfold SUF
  rw [← sum_Ico_consecutive _ (by have := s.isLt; omega : p + s.val + 1 ≤ p + w) h]
  congr 1
  have e : (∑ k : Fin w, if s.val < k.val then LK P z (p + k.val) else 0)
      = ∑ j ∈ Ico p (p + w), if p + s.val < j then LK P z j else 0 := by
    rw [sum_Ico_lanes]
    exact Finset.sum_congr rfl fun k _ => by simp only [Nat.add_lt_add_iff_left]
  rw [e, ← sum_filter]
  refine Finset.sum_congr ?_ fun _ _ => rfl
  ext j; simp only [mem_Ico, mem_filter]; omega

/-- From the first position that is not in the past on, nothing is left over. -/
theorem SUF_zero (p : ℕ) (h : P ≤ p) : SUF P z p = 0 :=
  Finset.sum_eq_zero fun j hj => by
    rw [LK, if_neg]; have := (mem_Ico.mp hj).1; omega

/-- From the first position that is not in the past on, no value has a weight. -/
theorem ACC_zero (p : ℕ) (h : P ≤ p) : ACC P z V p = 0 :=
  Finset.sum_eq_zero fun j hj => by
    rw [WT, if_neg, zero_mul]; have := (mem_Ico.mp hj).1; omega

/-- All lanes of a tile and then the rest leave the sum over the past alone: one step of the running sum. -/
theorem SUF_step (p w n : ℕ) (h : p + w ≤ 8208) (hn : w ≤ n) (L : Fin n → ℝ) (R : ℝ)
    (hL : ∀ s : Fin n, L s = if s.val < w then LK P z (p + s.val) else 0) (hR : R = SUF P z (p + w)) :
    R + ∑ s, L s = SUF P z p := by
  rw [SUF_tile P z p w h, hR, add_comm]
  congr 1
  obtain ⟨d, rfl⟩ := Nat.exists_eq_add_of_le hn
  rw [Fin.sum_univ_add]
  rw [Finset.sum_eq_zero (s := univ) (f := fun i : Fin d => L (Fin.natAdd w i)) (fun i _ => by
    rw [hL, if_neg]; simp), add_zero]
  exact Finset.sum_congr rfl fun s _ => by
    rw [hL, if_pos (by simp)]; rfl

/-- The suffix a lane of a tile sees, with the lanes past `w` masked. -/
theorem SUF_lane_step (p w n : ℕ) (h : p + w ≤ 8208) (hn : w ≤ n) (L : Fin n → ℝ) (R : ℝ)
    (hL : ∀ s : Fin n, L s = if s.val < w then LK P z (p + s.val) else 0) (hR : R = SUF P z (p + w))
    (s : Fin n) (hs : s.val < w) :
    (∑ k, if s.val < k.val then L k else 0) + R = SUF P z (p + s.val + 1) := by
  rw [SUF_lane P z p w h ⟨s.val, hs⟩, hR]
  congr 1
  obtain ⟨d, rfl⟩ := Nat.exists_eq_add_of_le hn
  rw [Fin.sum_univ_add]
  rw [Finset.sum_eq_zero (s := univ) (f := fun i : Fin d => if s.val < (Fin.natAdd w i).val then L (Fin.natAdd w i) else 0) (fun i _ => by
    rw [hL (Fin.natAdd w i), if_neg (c := (Fin.natAdd w i).val < w) (by simp), ite_self]), add_zero]
  exact Finset.sum_congr rfl fun k _ => by
    rw [hL (Fin.castAdd d k), if_pos (c := (Fin.castAdd d k).val < w) (by simp)]; rfl

/-- One step of the accumulator over a tile whose lanes past `w` are masked. -/
theorem ACC_step (p w n : ℕ) (h : p + w ≤ 8208) (hn : w ≤ n) (A v : Fin n → EReal) (a : EReal)
    (hA : ∀ s : Fin n, A s = if s.val < w then WT P z (p + s.val) else 0)
    (hv : ∀ s : Fin n, s.val < w → v s = V (p + s.val)) (ha : a = ACC P z V (p + w)) :
    a + ∑ s, A s * v s = ACC P z V p := by
  rw [ACC_tile P z V p w h, ha]
  congr 1
  obtain ⟨d, rfl⟩ := Nat.exists_eq_add_of_le hn
  rw [Fin.sum_univ_add]
  rw [Finset.sum_eq_zero (s := univ) (f := fun i : Fin d => A (Fin.natAdd w i) * v (Fin.natAdd w i)) (fun i _ => by
    rw [hA, if_neg (by simp), zero_mul]), add_zero]
  exact Finset.sum_congr rfl fun s _ => by
    rw [hA, if_pos (by simp), hv _ (by simp)]; rfl

end Row

end Cert.StickBreaking

end
-- ==== Proof.SpMath.lean ====
/- A softmax taken a tile at a time, over the extended reals. -/
module

public import proofs.«01_k».proof.Proof.Reals

@[expose] public section

noncomputable section

open Idealize.ShloMosaic Finset

namespace Cert.Softmax

/-- A real factor goes into a sum of two. -/
theorem coe_mul_add (c : ℝ) (hc : 0 ≤ c) (x y : EReal) : (c : EReal) * (x + y) = (c : EReal) * x + (c : EReal) * y :=
  EReal.left_distrib_of_nonneg_of_ne_top (EReal.coe_nonneg.mpr hc) (EReal.coe_ne_top c) x y

/-- A real factor goes into a sum. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s h ih => rw [sum_insert h, sum_insert h, coe_mul_add c hc, ih]

/-- The score of a key: nothing where it is not selected. -/
def sc (sel : Prop) [Decidable sel] (z : ℝ) : EReal := if sel then (z : EReal) else ⊥

/-- The exponential of a key's score. -/
def wt (sel : Prop) [Decidable sel] (z : ℝ) : ℝ := if sel then Real.exp z else 0

/-- An exponential is not negative. -/
theorem wt_nonneg (sel : Prop) [Decidable sel] (z : ℝ) : 0 ≤ wt sel z := by
  unfold wt; split
  · exact (Real.exp_pos z).le
  · exact le_rfl

/-- The exponential of a score less a real number. -/
theorem exp_sc (sel : Prop) [Decidable sel] (z μ : ℝ) : Ideal.exp (sc sel z - (μ : EReal)) = ((Real.exp (-μ) * wt sel z : ℝ) : EReal) := by
  unfold sc wt
  split
  · rw [← EReal.coe_sub, Cert.StickBreaking.exp_coe, ← Real.exp_add]; congr 2; ring
  · rw [EReal.bot_sub, mul_zero, EReal.coe_zero]; rfl

/-- What is carried over the keys: a real maximum, and with respect to it the sum of the exponentials and of the weighted values. -/
def Carried (m l a : EReal) (L : ℝ) (A : EReal) : Prop :=
  ∃ μ : ℝ, m = (μ : EReal) ∧ l = ((Real.exp (-μ) * L : ℝ) : EReal) ∧ a = ((Real.exp (-μ) : ℝ) : EReal) * A

/-- A tile of keys. -/
theorem Carried.step {ι : Type} [Fintype ι] {m l a : EReal} {L : ℝ} {A : EReal} (h : Carried m l a L A)
    (sel : ι → Prop) [∀ s, Decidable (sel s)] (z : ι → ℝ) (V : ι → EReal) (s : ι → EReal) (hs : ∀ k, s k = sc (sel k) (z k))
    (M m' : EReal) (hM : M < ⊤) (hm : m' = max m M) :
    Carried m' (Ideal.exp (m - m') * l + ∑ k, Ideal.exp (s k - m')) (Ideal.exp (m - m') * a + ∑ k, Ideal.exp (s k - m') * V k)
      (L + ∑ k, wt (sel k) (z k)) (A + ∑ k, ((wt (sel k) (z k) : ℝ) : EReal) * V k) := by
  obtain ⟨μ, rfl, rfl, rfl⟩ := h
  obtain ⟨ν, hν⟩ : ∃ ν : ℝ, m' = (ν : EReal) := by
    refine ⟨m'.toReal, (EReal.coe_toReal ?_ ?_).symm⟩
    · rw [hm]; exact (max_lt (EReal.coe_lt_top μ) hM).ne
    · rw [hm]; exact (lt_of_lt_of_le (EReal.bot_lt_coe μ) (le_max_left _ _)).ne'
  clear hm
  subst hν
  have e : Ideal.exp ((μ : EReal) - (ν : EReal)) = ((Real.exp (μ - ν) : ℝ) : EReal) := by
    rw [← EReal.coe_sub, Cert.StickBreaking.exp_coe]
  have e2 : Real.exp (μ - ν) * Real.exp (-μ) = Real.exp (-ν) := by rw [← Real.exp_add]; congr 1; ring
  refine ⟨ν, rfl, ?_, ?_⟩
  · simp only [hs, exp_sc, e]
    rw [Cert.StickBreaking.coe_sum, ← EReal.coe_mul, ← EReal.coe_add, ← mul_assoc, e2, ← mul_sum, mul_add]
  · simp only [hs, exp_sc, e]
    rw [← mul_assoc, ← EReal.coe_mul, e2, coe_mul_add _ (Real.exp_pos _).le, coe_mul_sum _ _ (Real.exp_pos _).le]
    congr 1
    exact sum_congr rfl fun k _ => by rw [EReal.coe_mul, mul_assoc]

/-- A quotient by a positive real number. -/
theorem div_coe (x : EReal) (y : ℝ) (hy : 0 < y) : Ideal.div x (y : EReal) = ((y⁻¹ : ℝ) : EReal) * x := by
  unfold Ideal.div
  rw [if_neg (by rw [← EReal.coe_zero, EReal.coe_eq_coe_iff]; exact hy.ne'), ← EReal.coe_inv, mul_comm]

/-- The quotient of what was carried. -/
theorem Carried.quotient {m l a : EReal} {L : ℝ} {A : EReal} (h : Carried m l a L A) (hL : 0 < L) : Ideal.div a l = ((L⁻¹ : ℝ) : EReal) * A := by
  obtain ⟨μ, rfl, rfl, rfl⟩ := h
  rw [div_coe _ _ (mul_pos (Real.exp_pos _) hL), ← mul_assoc, ← EReal.coe_mul, mul_inv]
  congr 2
  rw [mul_comm (Real.exp (-μ))⁻¹, mul_assoc, inv_mul_cancel₀ (Real.exp_pos _).ne', mul_one]

/-- The softmax of a whole row, times the values. -/
theorem whole {ι : Type} [Fintype ι] (sel : ι → Prop) [∀ s, Decidable (sel s)] (z : ι → ℝ) (V : ι → EReal) (s : ι → EReal)
    (hs : ∀ k, s k = sc (sel k) (z k)) (μ : ℝ) (hL : 0 < ∑ k, wt (sel k) (z k)) :
    ∑ k, Ideal.div (Ideal.exp (s k - (μ : EReal))) (∑ j, Ideal.exp (s j - (μ : EReal))) * V k
      = (((∑ k, wt (sel k) (z k))⁻¹ : ℝ) : EReal) * ∑ k, ((wt (sel k) (z k) : ℝ) : EReal) * V k := by
  simp only [hs, exp_sc]
  rw [Cert.StickBreaking.coe_sum, ← mul_sum, coe_mul_sum _ _ (inv_nonneg.mpr hL.le)]
  refine sum_congr rfl fun k _ => ?_
  rw [div_coe _ _ (mul_pos (Real.exp_pos _) hL), ← mul_assoc, ← EReal.coe_mul, ← EReal.coe_mul]
  congr 2
  rw [mul_inv, mul_comm (Real.exp (-μ))⁻¹, mul_assoc, ← mul_assoc _ _ (wt _ _), inv_mul_cancel₀ (Real.exp_pos _).ne', one_mul]

/-- The learned rows' tile and the first `T` rows. -/
def seen {M : Type} [AddCommMonoid M] (f : ℕ → M) (T : ℕ) : M := (∑ s : Fin 128, f (8192 + s.val)) + ∑ j ∈ range T, f j

/-- One more tile. -/
theorem seen_add {M : Type} [AddCommMonoid M] (f : ℕ → M) (T : ℕ) : seen f T + ∑ s : Fin 1024, f (T + s.val) = seen f (T + 1024) := by
  unfold seen
  rw [sum_range_add, ← Finset.sum_range (fun s => f (T + s)), add_assoc]

/-- The panel's row of a key position: the learned rows come last. -/
def rown (a : ℕ) : ℕ := if a < 16 then 8192 + a else a - 16

/-- The tile of the learned rows and the first `T` rows are all that counts. -/
theorem sum_rows {M : Type} [AddCommMonoid M] (f : ℕ → M) (T : ℕ) (hT : T ≤ 8192) (h1 : ∀ s, 16 ≤ s → s < 128 → f (8192 + s) = 0)
    (h2 : ∀ j, T ≤ j → j < 8192 → f j = 0) :
    seen f T = ∑ a : Fin 8208, f (rown a.val) := by
  unfold seen
  rw [← Finset.sum_range (fun s => f (8192 + s)), ← Finset.sum_range (fun a => f (rown a)), ← sum_range_add_sum_Ico (fun s => f (8192 + s)) (show 16 ≤ 128 by omega),
    ← sum_range_add_sum_Ico (fun a => f (rown a)) (show 16 ≤ 8208 by omega), sum_eq_zero (s := Ico 16 128) (fun s hs => h1 s (mem_Ico.mp hs).1 (mem_Ico.mp hs).2), add_zero]
  refine congrArg₂ (· + ·) ?_ ?_
  · exact sum_congr rfl fun s hs => by rw [rown, if_pos (mem_range.mp hs)]
  · rw [sum_Ico_eq_sum_range, ← sum_range_add_sum_Ico (fun k => f (rown (16 + k))) hT, sum_eq_zero (s := Ico T 8192), add_zero]
    · exact sum_congr rfl fun j _ => by rw [rown, if_neg (by omega), Nat.add_sub_cancel_left]
    · intro j hj
      rw [rown, if_neg (by omega), Nat.add_sub_cancel_left]
      exact h2 j (mem_Ico.mp hj).1 (mem_Ico.mp hj).2

end Cert.Softmax

end
-- ==== Proof.SpTile.lean ====
/- A tile of keys in the attention over selected positions. -/
module

public import proofs.«01_k».proof.Proof.SpMath
public import proofs.«01_k».proof.Proof.Gen.Kernel8Ideal.Skeleton
public import Idealize.ShloMosaic.Lib.Pointwise

@[expose] public section

set_option maxRecDepth 16384

noncomputable section

namespace Cert.Kernel8Ideal.Tile

open Cert.Kernel8Ideal Cert.Kernel8Ideal.Gen Cert.Softmax Cert.StickBreaking Idealize.ShloMosaic

/-- A score is less than the greatest of the extended reals. -/
theorem sc_lt (sel : Prop) [Decidable sel] (z : ℝ) : sc sel z < ⊤ := by
  unfold sc; split
  · exact EReal.coe_lt_top z
  · exact bot_lt_top

/-- The value the maximum starts from. -/
theorem low : Ideal.ofBits .f32 0xFF800000#32 = ⊥ := by simp [Ideal.ofBits, Ideal.ieee]

/-- A maximum of scores is less than the greatest of the extended reals. -/
theorem max_sc_lt {ι : Type} [Fintype ι] (f : ι → EReal) (hf : ∀ i, f i < ⊤) :
    Finset.fold max (Ideal.ofBits .f32 0xFF800000#32) f Finset.univ < ⊤ :=
  by
  rw [Finset.fold_max_lt]
  exact ⟨by rw [low]; exact bot_lt_top, fun i _ => hf i⟩

section Tile

variable (q : FVec Ideal S256x128 .bf16) (b : Vec Ideal S256x1024 .bf16) (kt vt : Vec Ideal S1024x128 .f32)
  (m l : FVec Ideal S256x1 .f32) (a : FVec Ideal S256x128 .f32)

/-- A biased score. -/
theorem pay13_apply (r : Fin 256) (s : Fin 1024) :
    k0_pay13 q b kt (ix2 r s) = (∑ x : Fin 128, q (ix2 r x) * kt (ix2 s x)) * scale + b (ix2 r s) := by
  pointwise [k0_pay13, k0_pay12]
  rfl

/-- The new maximum. -/
theorem pay14_apply (r : Fin 256) : k0_pay14 q m b kt (ix2 r 0)
    = max (m (ix2 r 0)) (Finset.fold max (Ideal.ofBits .f32 0xFF800000#32) (fun s : Fin 1024 => k0_pay13 q b kt (ix2 r s)) Finset.univ) := by
  pointwise [k0_pay14]

/-- The new sum. -/
theorem pay17_apply (r : Fin 256) :
    k0_pay17 q m l b kt (ix2 r 0) = Ideal.exp (m (ix2 r 0) - k0_pay14 q m b kt (ix2 r 0)) * l (ix2 r 0)
      + ∑ s : Fin 1024, Ideal.exp (k0_pay13 q b kt (ix2 r s) - k0_pay14 q m b kt (ix2 r 0)) := by
  pointwise [k0_pay17, k0_pay15, k0_pay16]

/-- The new accumulator. -/
theorem pay18_apply (r : Fin 256) (d : Fin 128) :
    k0_pay18 q m a b kt vt (ix2 r d) = Ideal.exp (m (ix2 r 0) - k0_pay14 q m b kt (ix2 r 0)) * a (ix2 r d)
      + ∑ s : Fin 1024, Ideal.exp (k0_pay13 q b kt (ix2 r s) - k0_pay14 q m b kt (ix2 r 0)) * vt (ix2 s d) := by
  pointwise [k0_pay18, k0_pay15, k0_pay16]

/-- A tile of the loop. -/
theorem step_tile {r : Fin 256} {d : Fin 128} {L : ℝ} {A : EReal} (h : Carried (m (ix2 r 0)) (l (ix2 r 0)) (a (ix2 r d)) L A)
    (sel : Fin 1024 → Prop) [∀ s, Decidable (sel s)] (z : Fin 1024 → ℝ) (V : Fin 1024 → EReal)
    (hs : ∀ s, (∑ x : Fin 128, q (ix2 r x) * kt (ix2 s x)) * scale + b (ix2 r s) = sc (sel s) (z s)) (hV : ∀ s, vt (ix2 s d) = V s) :
    Carried (k0_pay14 q m b kt (ix2 r 0)) (k0_pay17 q m l b kt (ix2 r 0)) (k0_pay18 q m a b kt vt (ix2 r d))
      (L + ∑ s, wt (sel s) (z s)) (A + ∑ s, ((wt (sel s) (z s) : ℝ) : EReal) * V s) := by
  have hs' : ∀ s, k0_pay13 q b kt (ix2 r s) = sc (sel s) (z s) := fun s => (pay13_apply q b kt r s).trans (hs s)
  rw [pay17_apply, pay18_apply]
  simp only [hV]
  exact h.step sel z V _ hs' _ _ (max_sc_lt _ fun s => by rw [hs']; exact sc_lt _ _) (pay14_apply q b kt m r)

end Tile

section Learned

variable (q : FVec Ideal S256x128 .bf16) (b : FVec Ideal S256x128 .f32) (kt vt : Vec Ideal S128x128 .f32)
  (m l : FVec Ideal S256x1 .f32) (a : FVec Ideal S256x128 .f32)

/-- A biased score of the learned rows' tile. -/
theorem pay41_apply (r : Fin 256) (s : Fin 128) :
    k0_pay41 q b kt (ix2 r s) = (∑ x : Fin 128, q (ix2 r x) * kt (ix2 s x)) * scale + b (ix2 r s) := by
  pointwise [k0_pay41]
  rfl

/-- The maximum of the learned rows' tile. -/
theorem pay42_apply (r : Fin 256) : k0_pay42 q m b kt (ix2 r 0)
    = max (m (ix2 r 0)) (Finset.fold max (Ideal.ofBits .f32 0xFF800000#32) (fun s : Fin 128 => k0_pay41 q b kt (ix2 r s)) Finset.univ) := by
  pointwise [k0_pay42]

/-- The sum of the learned rows' tile. -/
theorem pay45_apply (r : Fin 256) :
    k0_pay45 q m l b kt (ix2 r 0) = Ideal.exp (m (ix2 r 0) - k0_pay42 q m b kt (ix2 r 0)) * l (ix2 r 0)
      + ∑ s : Fin 128, Ideal.exp (k0_pay41 q b kt (ix2 r s) - k0_pay42 q m b kt (ix2 r 0)) := by
  pointwise [k0_pay45, k0_pay43, k0_pay44]

/-- The accumulator of the learned rows' tile. -/
theorem pay46_apply (r : Fin 256) (d : Fin 128) :
    k0_pay46 q m a b kt vt (ix2 r d) = Ideal.exp (m (ix2 r 0) - k0_pay42 q m b kt (ix2 r 0)) * a (ix2 r d)
      + ∑ s : Fin 128, Ideal.exp (k0_pay41 q b kt (ix2 r s) - k0_pay42 q m b kt (ix2 r 0)) * vt (ix2 s d) := by
  pointwise [k0_pay46, k0_pay43, k0_pay44]

/-- The learned rows' tile. -/
theorem step_learned {r : Fin 256} {d : Fin 128} {L : ℝ} {A : EReal} (h : Carried (m (ix2 r 0)) (l (ix2 r 0)) (a (ix2 r d)) L A)
    (sel : Fin 128 → Prop) [∀ s, Decidable (sel s)] (z : Fin 128 → ℝ) (V : Fin 128 → EReal)
    (hs : ∀ s, (∑ x : Fin 128, q (ix2 r x) * kt (ix2 s x)) * scale + b (ix2 r s) = sc (sel s) (z s)) (hV : ∀ s, vt (ix2 s d) = V s) :
    Carried (k0_pay42 q m b kt (ix2 r 0)) (k0_pay45 q m l b kt (ix2 r 0)) (k0_pay46 q m a b kt vt (ix2 r d))
      (L + ∑ s, wt (sel s) (z s)) (A + ∑ s, ((wt (sel s) (z s) : ℝ) : EReal) * V s) := by
  have hs' : ∀ s, k0_pay41 q b kt (ix2 r s) = sc (sel s) (z s) := fun s => (pay41_apply q b kt r s).trans (hs s)
  rw [pay45_apply, pay46_apply]
  simp only [hV]
  exact h.step sel z V _ hs' _ _ (max_sc_lt _ fun s => by rw [hs']; exact sc_lt _ _) (pay42_apply q b kt m r)

end Learned

/-- What the running maximum starts from is a real number. -/
theorem start_real : ∃ x : ℝ, Ideal.ofBits .f32 0xF149F2CA#32 = (x : EReal) := by
  have h : Ideal.ofBits .f32 0xF149F2CA#32 ≠ ⊤ ∧ Ideal.ofBits .f32 0xF149F2CA#32 ≠ ⊥ := by
    constructor <;> simp [Ideal.ofBits, Ideal.ieee, -EReal.coe_mul]
  exact ⟨_, (EReal.coe_toReal h.1 h.2).symm⟩

/-- Before the first tile nothing is carried, first head. -/
theorem start1 (r : Fin 256) (d : Fin 128) : Carried (k0_pay34 (F := Ideal) (ix2 r 0)) (k0_pay35 (F := Ideal) (ix2 r 0)) (k0_pay36 (F := Ideal) (ix2 r d)) 0 0 := by
  obtain ⟨x, hx⟩ := start_real
  refine ⟨x, hx, ?_, ?_⟩
  · rw [mul_zero, EReal.coe_zero]; pointwise [k0_pay35]
  · rw [mul_zero]; pointwise [k0_pay36]

/-- Before the first tile nothing is carried, second head. -/
theorem start2 (r : Fin 256) (d : Fin 128) : Carried (k0_pay37 (F := Ideal) (ix2 r 0)) (k0_pay38 (F := Ideal) (ix2 r 0)) (k0_pay39 (F := Ideal) (ix2 r d)) 0 0 :=
  start1 r d

/-- The quotient at the end, first head. -/
theorem end1 (l : FVec Ideal S256x1 .f32) (a : FVec Ideal S256x128 .f32) (r : Fin 256) (d : Fin 128) :
    k0_pay10 l a (ix2 r d) = Ideal.div (a (ix2 r d)) (l (ix2 r 0)) := by
  pointwise [k0_pay10]

/-- The quotient at the end, second head. -/
theorem end2 (l : FVec Ideal S256x1 .f32) (a : FVec Ideal S256x128 .f32) (r : Fin 256) (d : Fin 128) :
    k0_pay11 l a (ix2 r d) = Ideal.div (a (ix2 r d)) (l (ix2 r 0)) := end1 l a r d

end Cert.Kernel8Ideal.Tile

end
-- ==== Proof.SpBlock.lean ====
/- A block of the attention over selected positions. -/
module

public import proofs.«01_k».proof.Proof.Gen.Kernel8Ideal.Value
public import proofs.«01_k».proof.Proof.SpTile
public import Idealize.ShloMosaic.Lib.Pipeline.ValueKit
public import Idealize.ShloMosaic.Lib.WholeRead

@[expose] public section

set_option maxRecDepth 16384
set_option maxHeartbeats 1000000

noncomputable section

namespace Cert.Kernel8Ideal.Block

open Cert.Kernel8Ideal Cert.Kernel8Ideal.Gen Cert.Kernel8Ideal.Tile Cert.Softmax Cert.StickBreaking
open Idealize.ShloMosaic Idealize.ShloMosaic.TcCoe Idealize.SL.Sem
open Idealize.ShloMosaic.Pipeline (Dat)

/-! ## The grid's arithmetic -/

/-- The first loop runs over the tiles up to the block's own. -/
theorem trips1 : ∀ i : grid0.Coords, (k0_t1_loop i).trips = (i 1).val / 4 + 1 := by decide +kernel
/-- The second loop never runs. -/
theorem trips2 : ∀ i : grid0.Coords, (k0_t2_loop i).trips = 0 := by decide +kernel
/-- Where the loop's tile of the bias lies. -/
theorem off1 : ∀ i : grid0.Coords, ∀ k : Fin (k0_t1_loop i).trips, k0_off1 i k 0 = 0 ∧ k0_off1 i k 1 = 1024 * k.val := by decide +kernel
/-- Where the loop's tile lies, first head. -/
theorem off2 : ∀ i : grid0.Coords, ∀ k : Fin (k0_t1_loop i).trips, k0_off2 i k 0 = 1024 * k.val ∧ k0_off2 i k 1 = 0 := by decide +kernel
/-- Where the loop's tile lies, second head. -/
theorem off3 : ∀ i : grid0.Coords, ∀ k : Fin (k0_t1_loop i).trips, k0_off3 i k 0 = 1024 * k.val ∧ k0_off3 i k 1 = 128 := by decide +kernel
/-- There are thirty-two query blocks. -/
theorem blk_lt : ∀ i : grid0.Coords, (i 1).val < 32 := by decide +kernel

/-! ## Reading tiles -/

/-- A tile loaded from an array of two axes, at an entry. -/
theorem ld_entry {A B C D : ℕ} {e : EltTy} (X : Vec Ideal ⟨2, ![A, B]⟩ e) (off : Fin 2 → ℕ) (inb) (s : Fin C) (x : Fin D) (a : Fin A) (b : Fin B)
    (ha : a.val = off 0 + s.val) (hb : b.val = off 1 + x.val) :
    View.ld X (Rect.unit (s := ⟨2, ![A, B]⟩) off ![C, D] inb) (ix2 s x) = X (ix2 a b) := by
  refine congrArg X (funext fun k => Fin.ext ?_)
  fin_cases k
  · show off 0 + 1 * s.val = a.val; omega
  · show off 1 + 1 * x.val = b.val; omega

/-- A tile read inside the loop, at an entry. -/
theorem rd_entry {A B C D : ℕ} {e : EltTy} {a3 : Memref sig .tc .vmem ⟨2, ![A, B]⟩ e} (h3 : a3.IsWhole) (X : Vec Ideal ⟨2, ![A, B]⟩ e) (off : Fin 2 → ℕ) (inb) (s : Fin C) (x : Fin D)
    (a : Fin A) (b : Fin B) (ha : a.val = off 0 + s.val) (hb : b.val = off 1 + x.val) :
    View.readAt (Elt Ideal) a3.view (Rect.unit (s := ⟨2, ![A, B]⟩) off ![C, D] inb).toLoadRect (h3.unread X) (ix2 s x) = X (ix2 a b) := by
  refine (h3.readAt_unread X _ _).trans (congrArg X (funext fun k => Fin.ext ?_))
  fin_cases k
  · show off 0 + 1 * s.val = a.val; omega
  · show off 1 + 1 * x.val = b.val; omega

/-! ## A head's tiles -/

/-- Lane `x` of head `g` of the two. -/
def lane (g : Fin 2) (x : Fin 128) : Fin 256 := ⟨128 * g.val + x.val, by omega⟩

section Head

variable (g : Fin 2) (q : FVec Ideal S256x128 .bf16) (X3 X4 : Vec Ideal S8704x256 .f32) (X5 : Vec Ideal S256x8704 .bf16)
  (r : Fin 256) (d : Fin 128) (sel : ℕ → Prop) [∀ j, Decidable (sel j)] (z : ℕ → ℝ) (V : ℕ → EReal)
  (hs : ∀ j : Fin 8704, (∑ x : Fin 128, q (ix2 r x) * X3 (ix2 j (lane g x))) * scale + X5 (ix2 r j) = sc (sel j.val) (z j.val))
  (hV : ∀ j : Fin 8704, X4 (ix2 j (lane g d)) = V j.val)
include hs hV

/-- The learned rows' tile of a head. -/
theorem learned (b : FVec Ideal S256x128 .f32) (kt vt : Vec Ideal S128x128 .f32) (m l : FVec Ideal S256x1 .f32) (a : FVec Ideal S256x128 .f32)
    (h : Carried (m (ix2 r 0)) (l (ix2 r 0)) (a (ix2 r d)) 0 0)
    (hb : ∀ s : Fin 128, b (ix2 r s) = X5 (ix2 r (⟨8192 + s.val, by omega⟩ : Fin 8704)))
    (hk : ∀ s x : Fin 128, kt (ix2 s x) = X3 (ix2 (⟨8192 + s.val, by omega⟩ : Fin 8704) (lane g x)))
    (hv : ∀ s x : Fin 128, vt (ix2 s x) = X4 (ix2 (⟨8192 + s.val, by omega⟩ : Fin 8704) (lane g x))) :
    Carried (k0_pay42 q m b kt (ix2 r 0)) (k0_pay45 q m l b kt (ix2 r 0)) (k0_pay46 q m a b kt vt (ix2 r d))
      (seen (fun j => wt (sel j) (z j)) 0) (seen (fun j => ((wt (sel j) (z j) : ℝ) : EReal) * V j) 0) := by
  have e := step_learned q b kt vt m l a h (fun s => sel (8192 + s.val)) (fun s => z (8192 + s.val)) (fun s => V (8192 + s.val))
    (fun s => by simp only [hb, hk]; exact hs _) (fun s => (hv s d).trans (hV _))
  unfold seen
  rwa [Finset.range_zero, Finset.sum_empty, Finset.sum_empty, add_zero, add_zero, ← zero_add (∑ s : Fin 128, wt _ _), ← zero_add (∑ s : Fin 128, ((wt _ _ : ℝ) : EReal) * _)]

/-- The tiles of a head's loop. -/
theorem tiles (S : ℕ → FVec Ideal S256x1 .f32 × FVec Ideal S256x1 .f32 × FVec Ideal S256x128 .f32) (N : ℕ) (hN : N ≤ 8)
    (b : Fin N → Vec Ideal S256x1024 .bf16) (kt vt : Fin N → Vec Ideal S1024x128 .f32)
    (hb : ∀ (k : Fin N) (s : Fin 1024), b k (ix2 r s) = X5 (ix2 r (⟨1024 * k.val + s.val, by omega⟩ : Fin 8704)))
    (hk : ∀ (k : Fin N) (s : Fin 1024) (x : Fin 128), kt k (ix2 s x) = X3 (ix2 (⟨1024 * k.val + s.val, by omega⟩ : Fin 8704) (lane g x)))
    (hv : ∀ (k : Fin N) (s : Fin 1024) (x : Fin 128), vt k (ix2 s x) = X4 (ix2 (⟨1024 * k.val + s.val, by omega⟩ : Fin 8704) (lane g x)))
    (h0 : Carried ((S 0).1 (ix2 r 0)) ((S 0).2.1 (ix2 r 0)) ((S 0).2.2 (ix2 r d)) (seen (fun j => wt (sel j) (z j)) 0) (seen (fun j => ((wt (sel j) (z j) : ℝ) : EReal) * V j) 0))
    (hS : ∀ k : Fin N, S (k.val + 1) = (k0_pay14 q (S k.val).1 (b k) (kt k), k0_pay17 q (S k.val).1 (S k.val).2.1 (b k) (kt k), k0_pay18 q (S k.val).1 (S k.val).2.2 (b k) (kt k) (vt k))) :
    ∀ n ≤ N, Carried ((S n).1 (ix2 r 0)) ((S n).2.1 (ix2 r 0)) ((S n).2.2 (ix2 r d))
      (seen (fun j => wt (sel j) (z j)) (1024 * n)) (seen (fun j => ((wt (sel j) (z j) : ℝ) : EReal) * V j) (1024 * n)) := by
  intro n
  induction n with
  | zero => exact fun _ => h0
  | succ n ih =>
    intro hn
    obtain ⟨k, rfl⟩ : ∃ k : Fin N, n = k.val := ⟨⟨n, hn⟩, rfl⟩
    rw [hS, Nat.mul_add, Nat.mul_one, ← seen_add, ← seen_add]
    exact step_tile _ _ _ _ _ _ _ (ih (by omega)) (fun s => sel (1024 * k.val + s.val)) (fun s => z (1024 * k.val + s.val)) (fun s => V (1024 * k.val + s.val))
      (fun s => by simp only [hb, hk]; exact hs _) (fun s => (hv k s d).trans (hV _))

end Head

/-! ## The loop -/

section Loop

variable (𝒱 : Variants) (c : Dev nD) (bd : Option 𝒱.V) (i : grid0.Coords)
   (a2 : Memref sig .tc .vmem S256x256 .f32) (h2 : a2.IsWhole) (a3 : Memref sig .tc .vmem S8704x256 .f32) (h3 : a3.IsWhole)
   (a4 : Memref sig .tc .vmem S8704x256 .f32) (h4 : a4.IsWhole)
   (a5 : Memref sig .tc .vmem S256x8704 .bf16) (h5 : a5.IsWhole) (a6 : Memref sig .tc .vmem S256x256 .f32) (h6 : a6.IsWhole)
   (q1 q2 : FVec Ideal S256x128 .bf16) (X3 X4 : Vec Ideal S8704x256 .f32) (X5 : Vec Ideal S256x8704 .bf16)
   (init : FVec Ideal S256x1 .f32 × FVec Ideal S256x1 .f32 × FVec Ideal S256x128 .f32 × FVec Ideal S256x1 .f32 × FVec Ideal S256x1 .f32 × FVec Ideal S256x128 .f32)

local notation "tripAt" => tripR_k0_t1 (F := Ideal) 𝒱 c bd i a2 h2 a3 h3 a4 h4 a5 h5 a6 h6 q1 q2 (h3.unread X3) (h4.unread X4) (h5.unread X5)
local notation "stAt" => st_k0_t1 (F := Ideal) 𝒱 c bd i a2 h2 a3 h3 a4 h4 a5 h5 a6 h6 q1 q2 (h3.unread X3) (h4.unread X4) (h5.unread X5) init

/-- The bias of trip `k`. -/
def bt (k : Fin (k0_t1_loop i).trips) : Vec Ideal S256x1024 .bf16 :=
  View.readAt (Elt Ideal) a5.view (Rect.unit (s := S256x8704) (k0_off1 i k) S256x1024.size (k0_off1_inb i k)).toLoadRect (h5.unread X5)
/-- The panel's tile of trip `k`, first head. -/
def t1 (k : Fin (k0_t1_loop i).trips) : Vec Ideal S1024x128 .f32 :=
  View.readAt (Elt Ideal) a3.view (Rect.unit (s := S8704x256) (k0_off2 i k) S1024x128.size (k0_off2_inb i k)).toLoadRect (h3.unread X3)
/-- The panel's tile of trip `k`, second head. -/
def t2 (k : Fin (k0_t1_loop i).trips) : Vec Ideal S1024x128 .f32 :=
  View.readAt (Elt Ideal) a3.view (Rect.unit (s := S8704x256) (k0_off3 i k) S1024x128.size (k0_off3_inb i k)).toLoadRect (h3.unread X3)

/-- What a trip yields. -/
theorem trip_eq (k : Fin (k0_t1_loop i).trips) (acc) : tripAt k acc =
    (k0_pay14 q1 acc.1 (bt i a5 h5 X5 k) (t1 i a3 h3 X3 k), k0_pay17 q1 acc.1 acc.2.1 (bt i a5 h5 X5 k) (t1 i a3 h3 X3 k),
     k0_pay18 q1 acc.1 acc.2.2.1 (bt i a5 h5 X5 k) (t1 i a3 h3 X3 k) (t1 i a4 h4 X4 k),
     k0_pay14 q2 acc.2.2.2.1 (bt i a5 h5 X5 k) (t2 i a3 h3 X3 k), k0_pay17 q2 acc.2.2.2.1 acc.2.2.2.2.1 (bt i a5 h5 X5 k) (t2 i a3 h3 X3 k),
     k0_pay18 q2 acc.2.2.2.1 acc.2.2.2.2.2 (bt i a5 h5 X5 k) (t2 i a3 h3 X3 k) (t2 i a4 h4 X4 k)) := by
  unfold tripR_k0_t1 trip_k0_t1
  rfl

variable (r : Fin 256) (d : Fin 128) (sel : ℕ → Prop) [∀ j, Decidable (sel j)] (z : ℕ → ℝ) (V : ℕ → EReal)

/-- A tile's bias, at an entry. -/
theorem bt_entry (k : Fin (k0_t1_loop i).trips) (s : Fin 1024) (hk : 1024 * k.val + s.val < 8704) :
    bt i a5 h5 X5 k (ix2 r s) = X5 (ix2 r (⟨1024 * k.val + s.val, hk⟩ : Fin 8704)) :=
  rd_entry h5 X5 _ _ r s _ _ (by rw [(off1 i k).1]; omega) (by rw [(off1 i k).2])

/-- A tile of the panel, first head, at an entry. -/
theorem t1_entry (k : Fin (k0_t1_loop i).trips) (s : Fin 1024) (x : Fin 128) (hk : 1024 * k.val + s.val < 8704) :
    t1 i a3 h3 X3 k (ix2 s x) = X3 (ix2 (⟨1024 * k.val + s.val, hk⟩ : Fin 8704) (lane 0 x)) :=
  rd_entry h3 X3 _ _ s x _ _ (by rw [(off2 i k).1]) (by rw [(off2 i k).2]; rfl)

/-- A tile of the panel, second head, at an entry. -/
theorem t2_entry (k : Fin (k0_t1_loop i).trips) (s : Fin 1024) (x : Fin 128) (hk : 1024 * k.val + s.val < 8704) :
    t2 i a3 h3 X3 k (ix2 s x) = X3 (ix2 (⟨1024 * k.val + s.val, hk⟩ : Fin 8704) (lane 1 x)) :=
  rd_entry h3 X3 _ _ s x _ _ (by rw [(off3 i k).1]) (by rw [(off3 i k).2]; rfl)

/-- There are at most eight tiles. -/
theorem trips_le : (k0_t1_loop i).trips ≤ 8 := by
  have := blk_lt i
  rw [trips1]; omega

/-- What the first head carries after the loop. -/
theorem done1 (n : ℕ) (hn : n = (k0_t1_loop i).trips)
    (hs : ∀ j : Fin 8704, (∑ x : Fin 128, q1 (ix2 r x) * X3 (ix2 j (lane 0 x))) * scale + X5 (ix2 r j) = sc (sel j.val) (z j.val))
    (hV : ∀ j : Fin 8704, X4 (ix2 j (lane 0 d)) = V j.val)
    (hi : Carried (init.1 (ix2 r 0)) (init.2.1 (ix2 r 0)) (init.2.2.1 (ix2 r d)) (seen (fun j => wt (sel j) (z j)) 0) (seen (fun j => ((wt (sel j) (z j) : ℝ) : EReal) * V j) 0)) :
    Carried ((stAt n).1 (ix2 r 0)) ((stAt n).2.1 (ix2 r 0)) ((stAt n).2.2.1 (ix2 r d))
      (seen (fun j => wt (sel j) (z j)) (1024 * ((i 1).val / 4 + 1))) (seen (fun j => ((wt (sel j) (z j) : ℝ) : EReal) * V j) (1024 * ((i 1).val / 4 + 1))) := by
  subst hn
  rw [← trips1 i]
  have ht := trips_le i
  exact tiles 0 q1 X3 X4 X5 r d sel z V hs hV (fun n => ((stAt n).1, (stAt n).2.1, (stAt n).2.2.1)) _ ht
    (bt i a5 h5 X5) (t1 i a3 h3 X3) (t1 i a4 h4 X4) (fun k s => bt_entry i a5 h5 X5 r k s _) (fun k s x => t1_entry i a3 h3 X3 k s x _) (fun k s x => t1_entry i a4 h4 X4 k s x _)
    hi (fun k => by simp only [st_k0_t1_succ, trip_eq]) _ le_rfl

/-- What the second head carries after the loop. -/
theorem done2 (n : ℕ) (hn : n = (k0_t1_loop i).trips)
    (hs : ∀ j : Fin 8704, (∑ x : Fin 128, q2 (ix2 r x) * X3 (ix2 j (lane 1 x))) * scale + X5 (ix2 r j) = sc (sel j.val) (z j.val))
    (hV : ∀ j : Fin 8704, X4 (ix2 j (lane 1 d)) = V j.val)
    (hi : Carried (init.2.2.2.1 (ix2 r 0)) (init.2.2.2.2.1 (ix2 r 0)) (init.2.2.2.2.2 (ix2 r d)) (seen (fun j => wt (sel j) (z j)) 0) (seen (fun j => ((wt (sel j) (z j) : ℝ) : EReal) * V j) 0)) :
    Carried ((stAt n).2.2.2.1 (ix2 r 0)) ((stAt n).2.2.2.2.1 (ix2 r 0)) ((stAt n).2.2.2.2.2 (ix2 r d))
      (seen (fun j => wt (sel j) (z j)) (1024 * ((i 1).val / 4 + 1))) (seen (fun j => ((wt (sel j) (z j) : ℝ) : EReal) * V j) (1024 * ((i 1).val / 4 + 1))) := by
  subst hn
  rw [← trips1 i]
  have ht := trips_le i
  exact tiles 1 q2 X3 X4 X5 r d sel z V hs hV (fun n => ((stAt n).2.2.2.1, (stAt n).2.2.2.2.1, (stAt n).2.2.2.2.2)) _ ht
    (bt i a5 h5 X5) (t2 i a3 h3 X3) (t2 i a4 h4 X4) (fun k s => bt_entry i a5 h5 X5 r k s _) (fun k s x => t2_entry i a3 h3 X3 k s x _) (fun k s x => t2_entry i a4 h4 X4 k s x _)
    hi (fun k => by simp only [st_k0_t1_succ, trip_eq]) _ le_rfl

/-- The loop that never runs leaves what it is given. -/
theorem idle (v87 : BitVec 32) (Y3 : BufTy.Contents (Elt Ideal) a3.view.ty) (Y4 : BufTy.Contents (Elt Ideal) a4.view.ty) (Y5 : BufTy.Contents (Elt Ideal) a5.view.ty) (n : ℕ) (hn : n = 0) :
    st_k0_t2 (F := Ideal) 𝒱 c bd i a2 h2 a3 h3 a4 h4 a5 h5 a6 h6 q1 q2 v87 Y3 Y4 Y5 init n = init := by
  subst hn; rfl

end Loop

/-! ## A block of the result -/

section Out

variable (c : Dev nD) (i : grid0.Coords)
   (a2 : Memref sig .tc .vmem S256x256 .f32) (h2 : a2.IsWhole) (a3 : Memref sig .tc .vmem S8704x256 .f32) (h3 : a3.IsWhole)
   (a4 : Memref sig .tc .vmem S8704x256 .f32) (h4 : a4.IsWhole)
   (a5 : Memref sig .tc .vmem S256x8704 .bf16) (h5 : a5.IsWhole) (a6 : Memref sig .tc .vmem S256x256 .f32) (h6 : a6.IsWhole)
   (X2 : Vec Ideal S256x256 .f32) (X3 X4 : Vec Ideal S8704x256 .f32) (X5 : Vec Ideal S256x8704 .bf16) (r : Fin 256) (d : Fin 128)
   (sel : ℕ → Prop) [∀ j, Decidable (sel j)] (z : ℕ → ℝ) (V : ℕ → EReal)
   (hL : 0 < seen (fun j => wt (sel j) (z j)) (1024 * ((i 1).val / 4 + 1)))
include hL

/-- Head 1 of a block. -/
theorem out_lo
    (hs : ∀ j : Fin 8704, (∑ x : Fin 128, X2 (ix2 r (lane 0 x)) * X3 (ix2 j (lane 0 x))) * scale + X5 (ix2 r j) = sc (sel j.val) (z j.val))
    (hV : ∀ j : Fin 8704, X4 (ix2 j (lane 0 d)) = V j.val) :
    out0_A_4 (F := Ideal) c i a2 h2 a3 h3 a4 h4 a5 h5 a6 h6 X2 X3 X4 X5 (ix2 r (lane 0 d))
      = (((seen (fun j => wt (sel j) (z j)) (1024 * ((i 1).val / 4 + 1)))⁻¹ : ℝ) : EReal) * seen (fun j => ((wt (sel j) (z j) : ℝ) : EReal) * V j) (1024 * ((i 1).val / 4 + 1)) := by
  have hq : ∀ inb, ∀ x : Fin 128, k0_pay32 (View.ld X2 (Rect.unit (s := S256x256) ![0, 0] ![256, 128] inb)) (ix2 r x) = X2 (ix2 r (lane 0 x)) :=
    fun inb x => ld_entry X2 ![0, 0] inb r x _ _ (Nat.zero_add _).symm rfl
  have hs' : ∀ inb, ∀ j : Fin 8704, (∑ x : Fin 128, k0_pay32 (View.ld X2 (Rect.unit (s := S256x256) ![0, 0] ![256, 128] inb)) (ix2 r x) * X3 (ix2 j (lane 0 x))) * scale + X5 (ix2 r j) = sc (sel j.val) (z j.val) := by
    intro inb j
    simp only [hq]
    exact hs j
  have hd := d.isLt
  frame_out
  canon_tiles x h
  case piece0 => exact absurd h1 (by simp [lane]; omega)
  obtain rfl : x = ix2 r d := by
    rw [eq_ix2 x]; congr 1 <;> apply Fin.ext <;> [(have := h0; simp [lane] at this); (have := h1; simp [lane] at this)] <;> omega
  refine (end1 _ _ r d).trans ?_
  rw [idle _ _ _ _ _ _ _ _ _ _ _ _ _ _ _ _ _ _ _ _ _ _ (trips2 i)]
  refine (done1 _ _ _ _ _ _ _ _ _ _ _ _ _ _ _ _ _ _ _ _ r d sel z V _ rfl (hs' _) hV ?_).quotient hL
  exact learned 0 _ X3 X4 X5 r d sel z V (hs' _) hV _ _ _ _ _ _ (start1 r d)
    (fun s => ld_entry X5 _ _ r s _ _ (by simp) rfl) (fun s x => ld_entry X3 _ _ s x _ _ rfl rfl) (fun s x => ld_entry X4 _ _ s x _ _ rfl rfl)

/-- Head 2 of a block. -/
theorem out_hi
    (hs : ∀ j : Fin 8704, (∑ x : Fin 128, X2 (ix2 r (lane 1 x)) * X3 (ix2 j (lane 1 x))) * scale + X5 (ix2 r j) = sc (sel j.val) (z j.val))
    (hV : ∀ j : Fin 8704, X4 (ix2 j (lane 1 d)) = V j.val) :
    out0_A_4 (F := Ideal) c i a2 h2 a3 h3 a4 h4 a5 h5 a6 h6 X2 X3 X4 X5 (ix2 r (lane 1 d))
      = (((seen (fun j => wt (sel j) (z j)) (1024 * ((i 1).val / 4 + 1)))⁻¹ : ℝ) : EReal) * seen (fun j => ((wt (sel j) (z j) : ℝ) : EReal) * V j) (1024 * ((i 1).val / 4 + 1)) := by
  have hq : ∀ inb, ∀ x : Fin 128, k0_pay33 (View.ld X2 (Rect.unit (s := S256x256) ![0, 128] ![256, 128] inb)) (ix2 r x) = X2 (ix2 r (lane 1 x)) :=
    fun inb x => ld_entry X2 ![0, 128] inb r x _ _ (Nat.zero_add _).symm rfl
  have hs' : ∀ inb, ∀ j : Fin 8704, (∑ x : Fin 128, k0_pay33 (View.ld X2 (Rect.unit (s := S256x256) ![0, 128] ![256, 128] inb)) (ix2 r x) * X3 (ix2 j (lane 1 x))) * scale + X5 (ix2 r j) = sc (sel j.val) (z j.val) := by
    intro inb j
    simp only [hq]
    exact hs j
  have hd := d.isLt
  frame_out
  canon_tiles x h
  case piece1 => exact absurd h1 (by simp [lane]; omega)
  obtain rfl : x = ix2 r d := by
    rw [eq_ix2 x]; congr 1 <;> apply Fin.ext <;> [(have := h0; simp [lane] at this); (have := h1; simp [lane] at this)] <;> omega
  refine (end2 _ _ r d).trans ?_
  rw [idle _ _ _ _ _ _ _ _ _ _ _ _ _ _ _ _ _ _ _ _ _ _ (trips2 i)]
  refine (done2 _ _ _ _ _ _ _ _ _ _ _ _ _ _ _ _ _ _ _ _ r d sel z V _ rfl (hs' _) hV ?_).quotient hL
  exact learned 1 _ X3 X4 X5 r d sel z V (hs' _) hV _ _ _ _ _ _ (start2 r d)
    (fun s => ld_entry X5 _ _ r s _ _ (by simp) rfl) (fun s x => ld_entry X3 _ _ s x _ _ rfl rfl) (fun s x => ld_entry X4 _ _ s x _ _ rfl rfl)

end Out

end Cert.Kernel8Ideal.Block

end
-- ==== Proof.Spec.lean ====
module

public import proofs.«01_k».proof.Proof.Reals

@[expose] public section

noncomputable section

open Idealize.ShloMosaic Finset

namespace Cert.StickBreaking

/-- The row of the panel that holds key position `j`: the learned rows come last. -/
def row (j : ℕ) : Fin 8704 := ⟨(if j < 16 then 8192 + j else j - 16) % 8704, Nat.mod_lt _ (by omega)⟩

/-- The score of query row `n` and key position `j` in head `h`. -/
def score (p : Fin 8704 → Fin 12288 → EReal) (n : Fin 8704) (h : Fin 8) (j : ℕ) : EReal :=
  (∑ x : Fin 128, p n ⟨4096 + 128 * h.val + x.val, by omega⟩ * p (row j) ⟨5120 + 128 * h.val + x.val, by omega⟩) * scale

/-- Entry `(n, 128 h + d)` of the attention's result. -/
def attend (p : Fin 8704 → Fin 12288 → EReal) (n : Fin 8192) (h : Fin 8) (d : Fin 128) : EReal :=
  ACC (16 + n.val) (fun j => (score p ⟨n.val, by omega⟩ h j).toReal) (fun j => p (row j) ⟨6144 + 128 * h.val + d.val, by omega⟩) 0

/-- The queries and keys are finite. -/
def Finite (p : Fin 8704 → Fin 12288 → EReal) : Prop :=
  ∀ (a : Fin 8704) (b : Fin 12288), a.val < 8208 → 4096 ≤ b.val → b.val < 6144 → ∃ x : ℝ, p a b = (x : EReal)

/-- Finite queries and keys have finite scores. -/
theorem score_real (p : Fin 8704 → Fin 12288 → EReal) (hp : Finite p) (n : Fin 8704) (hn : n.val < 8208) (h : Fin 8) (j : ℕ) (hj : j < 8208) :
    score p n h j = (((score p n h j).toReal : ℝ) : EReal) := by
  have hr : (row j).val < 8208 := by
    simp only [row]; split
    · rw [Nat.mod_eq_of_lt (by omega)]; omega
    · rw [Nat.mod_eq_of_lt (by omega)]; omega
  have h1 : ∀ x : Fin 128, ∃ a : ℝ, p n ⟨4096 + 128 * h.val + x.val, by omega⟩ = (a : EReal) := fun x =>
    hp _ _ hn (by simp only; omega) (by simp only; omega)
  have h2 : ∀ x : Fin 128, ∃ a : ℝ, p (row j) ⟨5120 + 128 * h.val + x.val, by omega⟩ = (a : EReal) := fun x =>
    hp _ _ hr (by simp only; omega) (by simp only; omega)
  choose a ha using h1
  choose b hb using h2
  have e : score p n h j = (((∑ x, a x * b x) * scaleR : ℝ) : EReal) := by
    unfold score
    simp only [ha, hb, ← EReal.coe_mul, coe_sum, scale_eq]
  rw [e, EReal.toReal_coe]

end Cert.StickBreaking

end
-- ==== Proof.SpSpec.lean ====
/- The attention over selected positions, as a formula over the panel and the bias. -/
module

public import proofs.«01_k».proof.Proof.SpMath
public import proofs.«01_k».proof.Proof.Spec

@[expose] public section

noncomputable section

open Idealize.ShloMosaic Finset Cert.StickBreaking

namespace Cert.Softmax

/-- The score of query row `n` and panel row `j` in head `h`. -/
def zz (p : Fin 8704 → Fin 12288 → EReal) (n : Fin 8704) (h : Fin 8) (j : Fin 8704) : EReal :=
  (∑ x : Fin 128, p n ⟨8192 + 128 * h.val + x.val, by omega⟩ * p j ⟨9216 + 128 * h.val + x.val, by omega⟩) * scale

/-- A panel row by its number. -/
def prow (j : ℕ) : Fin 8704 := ⟨j % 8704, Nat.mod_lt _ (by omega)⟩

/-- A panel row's number gives the row back. -/
theorem prow_val (j : Fin 8704) : prow j.val = j := Fin.ext (Nat.mod_eq_of_lt j.isLt)

/-- The score as a real number. -/
def zr (p : Fin 8704 → Fin 12288 → EReal) (n : Fin 8704) (h : Fin 8) (j : ℕ) : ℝ := (zz p n h (prow j)).toReal

/-- Whether query `n` selects panel row `j`. -/
def sel (b : Fin 8192 → Fin 8704 → EReal) (n : Fin 8192) (j : ℕ) : Prop := b n (prow j) = 0

instance (b : Fin 8192 → Fin 8704 → EReal) (n : Fin 8192) (j : ℕ) : Decidable (sel b n j) := Classical.dec _

/-- The exponential of a selected row's score. -/
def wgt (p : Fin 8704 → Fin 12288 → EReal) (b : Fin 8192 → Fin 8704 → EReal) (n : Fin 8192) (h : Fin 8) (j : ℕ) : ℝ :=
  wt (sel b n j) (zr p ⟨n.val, by omega⟩ h j)

/-- A value. -/
def vl (p : Fin 8704 → Fin 12288 → EReal) (h : Fin 8) (d : Fin 128) (j : ℕ) : EReal := p (prow j) ⟨7168 + 128 * h.val + d.val, by omega⟩

/-- Entry `(n, 128 h + d)` of the attention's result. -/
def soft (p : Fin 8704 → Fin 12288 → EReal) (b : Fin 8192 → Fin 8704 → EReal) (n : Fin 8192) (h : Fin 8) (d : Fin 128) : EReal :=
  (((∑ a : Fin 8208, wgt p b n h (rown a.val))⁻¹ : ℝ) : EReal) * ∑ a : Fin 8208, ((wgt p b n h (rown a.val) : ℝ) : EReal) * vl p h d (rown a.val)

/-- The queries and keys are finite, and the bias selects, for each query, some rows not after it or learned rows. -/
structure Selects (p : Fin 8704 → Fin 12288 → EReal) (b : Fin 8192 → Fin 8704 → EReal) : Prop where
  real : ∀ (a : Fin 8704) (k : Fin 12288), a.val < 8208 → 8192 ≤ k.val → k.val < 10240 → ∃ x : ℝ, p a k = (x : EReal)
  bias : ∀ (n : Fin 8192) (j : Fin 8704), b n j = ⊥ ∨ (b n j = 0 ∧ (j.val ≤ n.val ∨ (8192 ≤ j.val ∧ j.val < 8208)))
  some : ∀ n : Fin 8192, ∃ j : Fin 8704, b n j = 0

section Facts

variable {p : Fin 8704 → Fin 12288 → EReal} {b : Fin 8192 → Fin 8704 → EReal} (hp : Selects p b)
include hp

/-- Finite queries and keys have finite scores. -/
theorem zz_real (n : Fin 8704) (hn : n.val < 8208) (h : Fin 8) (j : Fin 8704) (hj : j.val < 8208) : zz p n h j = ((zr p n h j.val : ℝ) : EReal) := by
  have h1 : ∀ x : Fin 128, ∃ a : ℝ, p n ⟨8192 + 128 * h.val + x.val, by omega⟩ = (a : EReal) := fun x =>
    hp.real _ _ hn (by simp only; omega) (by simp only; omega)
  have h2 : ∀ x : Fin 128, ∃ a : ℝ, p j ⟨9216 + 128 * h.val + x.val, by omega⟩ = (a : EReal) := fun x =>
    hp.real _ _ hj (by simp only; omega) (by simp only; omega)
  choose u hu using h1
  choose v hv using h2
  have e : zz p n h j = (((∑ x, u x * v x) * scaleR : ℝ) : EReal) := by
    unfold zz
    simp only [hu, hv, ← EReal.coe_mul, coe_sum, scale_eq]
  rw [zr, prow_val, e, EReal.toReal_coe]

/-- A selected row is not after the query, or is a learned row. -/
theorem sel_where (n : Fin 8192) (j : ℕ) (hj : j < 8704) (h : sel b n j) : j ≤ n.val ∨ (8192 ≤ j ∧ j < 8208) := by
  have e : (prow j).val = j := Nat.mod_eq_of_lt hj
  rcases hp.bias n (prow j) with h0 | ⟨_, h1⟩
  · unfold sel at h; rw [h0] at h; exact absurd h (by simp)
  · rwa [e] at h1

/-- A biased score. -/
theorem biased (n : Fin 8192) (h : Fin 8) (j : Fin 8704) :
    zz p ⟨n.val, by omega⟩ h j + b n j = sc (sel b n j.val) (zr p ⟨n.val, by omega⟩ h j.val) := by
  unfold sc
  have es : sel b n j.val ↔ b n j = 0 := by unfold sel; rw [prow_val]
  rcases hp.bias n j with h0 | ⟨h0, h1⟩
  · rw [if_neg (by rw [es, h0]; simp), h0, EReal.add_bot]
  · rw [if_pos (es.mpr h0), h0, add_zero]
    exact zz_real hp _ (by simp only; omega) h j (by omega)

/-- An unselected row weighs nothing. -/
theorem wgt_zero (n : Fin 8192) (h : Fin 8) (j : ℕ) (hj : ¬ sel b n j) : wgt p b n h j = 0 := if_neg hj

/-- The tiles up to the query's own and the learned rows' tile give the whole sum. -/
theorem seen_wgt (n : Fin 8192) (h : Fin 8) (T : ℕ) (hT : T ≤ 8192) (hn : n.val < T) :
    seen (fun j => wgt p b n h j) T = ∑ a : Fin 8208, wgt p b n h (rown a.val) := by
  refine sum_rows _ T hT (fun s h1 h2 => ?_) fun j h1 h2 => ?_
  · exact wgt_zero hp n h _ fun hs => by have := sel_where hp n _ (by omega) hs; omega
  · exact wgt_zero hp n h _ fun hs => by have := sel_where hp n _ (by omega) hs; omega

/-- The same of the weighted values. -/
theorem seen_val (n : Fin 8192) (h : Fin 8) (d : Fin 128) (T : ℕ) (hT : T ≤ 8192) (hn : n.val < T) :
    seen (fun j => ((wgt p b n h j : ℝ) : EReal) * vl p h d j) T = ∑ a : Fin 8208, ((wgt p b n h (rown a.val) : ℝ) : EReal) * vl p h d (rown a.val) := by
  refine sum_rows _ T hT (fun s h1 h2 => ?_) fun j h1 h2 => ?_
  · show ((wgt p b n h _ : ℝ) : EReal) * _ = 0
    rw [wgt_zero hp n h _ fun hs => by have := sel_where hp n _ (by omega) hs; omega, EReal.coe_zero, zero_mul]
  · show ((wgt p b n h _ : ℝ) : EReal) * _ = 0
    rw [wgt_zero hp n h _ fun hs => by have := sel_where hp n _ (by omega) hs; omega, EReal.coe_zero, zero_mul]

/-- Some key position is selected. -/
theorem sel_some (n : Fin 8192) : ∃ a : Fin 8208, sel b n (rown a.val) := by
  obtain ⟨j, hj⟩ := hp.some n
  have hs : sel b n j.val := by unfold sel; rwa [prow_val]
  have hw := sel_where hp n _ j.isLt hs
  have hn := n.isLt
  rcases hw with h1 | ⟨h1, h2⟩
  · refine ⟨⟨j.val + 16, by omega⟩, ?_⟩
    unfold rown
    rwa [if_neg (by simp only; omega), Nat.add_sub_cancel]
  · refine ⟨⟨j.val - 8192, by omega⟩, ?_⟩
    unfold rown
    rwa [if_pos (by simp only; omega), Nat.add_sub_cancel' h1]

/-- The exponentials' sum is positive. -/
theorem wgt_pos (n : Fin 8192) (h : Fin 8) : 0 < ∑ a : Fin 8208, wgt p b n h (rown a.val) := by
  obtain ⟨a, ha⟩ := sel_some hp n
  refine sum_pos' (fun _ _ => wt_nonneg _ _) ⟨a, mem_univ _, ?_⟩
  unfold wgt wt
  rw [if_pos ha]
  exact Real.exp_pos _

end Facts

end Cert.Softmax

end
-- ==== Proof.SpFinal.lean ====
/- The attention over selected positions: the call's result. -/
module

public import proofs.«01_k».proof.Proof.SpBlock
public import proofs.«01_k».proof.Proof.SpSpec

@[expose] public section

set_option maxRecDepth 16384

noncomputable section

namespace Cert.Kernel8Ideal.Final

open Cert.Kernel8Ideal Cert.Kernel8Ideal.Gen Cert.StickBreaking Cert.Softmax Cert.Kernel8Ideal.Block
open Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block lies. -/
theorem idx : ∀ t : Fin cfg0.N, win0_0.index t = ![t.val % 32, 32 + t.val / 32] ∧ win0_1.index t = ![0, 36 + t.val / 32]
    ∧ win0_2.index t = ![0, 28 + t.val / 32] ∧ win0_3.index t = ![t.val % 32, 0] ∧ win0_4.index t = ![t.val % 32, t.val / 32] :=
  (by decide +kernel : ∀ t : Fin grid0.N, _)

/-- The query block of a grid point. -/
theorem coords1 : ∀ t : Fin cfg0.N, (grid0.coords t 1).val = t.val % 32 := (by decide +kernel : ∀ t : Fin grid0.N, _)

/-- The panel at an entry. -/
def arg (a : Fin 8704) (b : Fin 12288) : EReal := m ((c.tc : Thread nD τ).loc main_arg0) (ix2 a b)

/-- The bias at an entry. -/
def bi (n : Fin 8192) (j : Fin 8704) : EReal := m ((c.tc : Thread nD τ).loc main_arg1) (ix2 n j)

/-- The query block, at an entry. -/
theorem blk0 (t : Fin cfg0.N) (r : Fin 256) (b : Fin 256) (n : Fin 8704) (k : Fin 12288)
    (hn : n.val = 256 * (t.val % 32) + r.val) (hk : k.val = 8192 + 256 * (t.val / 32) + b.val) :
    iblk m c 0 t (ix2 r b) = arg m c n k := by
  unfold arg
  blk_ext [iblk, V, idx t]

/-- The key panel, at an entry. -/
theorem blk1 (t : Fin cfg0.N) (a : Fin 8704) (b : Fin 256) (k : Fin 12288) (hk : k.val = 9216 + 256 * (t.val / 32) + b.val) :
    iblk m c 1 t (ix2 a b) = arg m c a k := by
  unfold arg
  blk_ext [iblk, V, idx t]

/-- The value panel, at an entry. -/
theorem blk2 (t : Fin cfg0.N) (a : Fin 8704) (b : Fin 256) (k : Fin 12288) (hk : k.val = 7168 + 256 * (t.val / 32) + b.val) :
    iblk m c 2 t (ix2 a b) = arg m c a k := by
  unfold arg
  blk_ext [iblk, V, idx t]

/-- The bias block, at an entry. -/
theorem blk3 (t : Fin cfg0.N) (r : Fin 256) (j : Fin 8704) (n : Fin 8192) (hn : n.val = 256 * (t.val % 32) + r.val) :
    iblk m c 3 t (ix2 r j) = bi m c n j := by
  unfold bi
  blk_ext [iblk, V, idx t]

/-- The call's result, entry by entry. -/
def result (p : Fin 8704 → Fin 12288 → EReal) (b : Fin 8192 → Fin 8704 → EReal) (y : S8192x1024.Idx) : EReal :=
  soft p b ⟨(y 0).val, (y 0).isLt⟩ ⟨(y 1).val / 128, by have : (y 1).val < 1024 := (y 1).isLt; omega⟩ ⟨(y 1).val % 128, by omega⟩

/-- A block of the result. -/
theorem point (hp : Selects (arg m c) (bi m c)) (t : Fin cfg0.N) (r : Fin 256) (b : Fin 256) (n : Fin 8192) (k : Fin 1024)
    (h0 : n.val = 256 * (t.val % 32) + r.val) (h1 : k.val = 256 * (t.val / 32) + b.val) :
    outsAt0 m c t (ix2 r b) = result (arg m c) (bi m c) (ix2 n k) := by
  have ht : t.val < 128 := t.isLt
  have hb := b.isLt
  have hr := r.isLt
  have hc := coords1 t
  have hT : 1024 * ((grid0.coords t 1).val / 4 + 1) ≤ 8192 := by omega
  have hn : n.val < 1024 * ((grid0.coords t 1).val / 4 + 1) := by omega
  have es := seen_wgt hp n ⟨k.val / 128, by omega⟩ _ hT hn
  have hL : 0 < seen (fun j => wt (sel (bi m c) n j) (zr (arg m c) ⟨n.val, by omega⟩ ⟨k.val / 128, by omega⟩ j)) (1024 * ((grid0.coords t 1).val / 4 + 1)) :=
    lt_of_lt_of_eq (wgt_pos hp n ⟨k.val / 128, by omega⟩) es.symm
  have hR : (((seen (fun j => wt (sel (bi m c) n j) (zr (arg m c) ⟨n.val, by omega⟩ ⟨k.val / 128, by omega⟩ j)) (1024 * ((grid0.coords t 1).val / 4 + 1)))⁻¹ : ℝ) : EReal)
      * seen (fun j => ((wt (sel (bi m c) n j) (zr (arg m c) ⟨n.val, by omega⟩ ⟨k.val / 128, by omega⟩ j) : ℝ) : EReal) * vl (arg m c) ⟨k.val / 128, by omega⟩ ⟨k.val % 128, by omega⟩ j)
        (1024 * ((grid0.coords t 1).val / 4 + 1)) = result (arg m c) (bi m c) (ix2 n k) :=
    congrArg₂ (fun (a : ℝ) (x : EReal) => ((a⁻¹ : ℝ) : EReal) * x) es (seen_val hp n ⟨k.val / 128, by omega⟩ ⟨k.val % 128, by omega⟩ _ hT hn)
  unfold outsAt0
  rcases Nat.lt_or_ge b.val 128 with hlt | hge
  · have hh : k.val / 128 = 2 * (t.val / 32) := by omega
    have hd : k.val % 128 = b.val := by omega
    have hb' : b = lane 0 ⟨b.val, by omega⟩ := Fin.ext (by simp only [lane]; simp; try omega)
    rw [hb']
    refine (out_lo (r := r) (d := ⟨b.val, by omega⟩) (sel := sel (bi m c) n) (z := zr (arg m c) ⟨n.val, by omega⟩ ⟨k.val / 128, by omega⟩)
      (V := vl (arg m c) ⟨k.val / 128, by omega⟩ ⟨k.val % 128, by omega⟩) (hL := hL) (hs := fun j => ?_) (hV := fun j => ?_) ..).trans hR
    · refine Eq.trans ?_ (biased hp n ⟨k.val / 128, by omega⟩ j)
      unfold zz
      refine congrArg₂ (· + ·) (congrArg (· * scale) (Finset.sum_congr rfl fun x _ => congrArg₂ (· * ·) ?_ ?_)) (blk3 m c t r j n h0)
      · exact blk0 m c t r _ ⟨n.val, by omega⟩ ⟨8192 + 128 * (k.val / 128) + x.val, by omega⟩ (by simp only; omega) (by simp [lane]; omega)
      · exact blk1 m c t j _ ⟨9216 + 128 * (k.val / 128) + x.val, by omega⟩ (by simp [lane]; omega)
    · unfold vl
      rw [prow_val]
      exact blk2 m c t j _ _ (by simp [lane]; omega)
  · have hh : k.val / 128 = 2 * (t.val / 32) + 1 := by omega
    have hd : k.val % 128 = b.val - 128 := by omega
    have hb' : b = lane 1 ⟨b.val - 128, by omega⟩ := Fin.ext (by simp only [lane]; simp; try omega)
    rw [hb']
    refine (out_hi (r := r) (d := ⟨b.val - 128, by omega⟩) (sel := sel (bi m c) n) (z := zr (arg m c) ⟨n.val, by omega⟩ ⟨k.val / 128, by omega⟩)
      (V := vl (arg m c) ⟨k.val / 128, by omega⟩ ⟨k.val % 128, by omega⟩) (hL := hL) (hs := fun j => ?_) (hV := fun j => ?_) ..).trans hR
    · refine Eq.trans ?_ (biased hp n ⟨k.val / 128, by omega⟩ j)
      unfold zz
      refine congrArg₂ (· + ·) (congrArg (· * scale) (Finset.sum_congr rfl fun x _ => congrArg₂ (· * ·) ?_ ?_)) (blk3 m c t r j n h0)
      · exact blk0 m c t r _ ⟨n.val, by omega⟩ ⟨8192 + 128 * (k.val / 128) + x.val, by omega⟩ (by simp only; omega) (by simp [lane]; omega)
      · exact blk1 m c t j _ ⟨9216 + 128 * (k.val / 128) + x.val, by omega⟩ (by simp [lane]; omega)
    · unfold vl
      rw [prow_val]
      exact blk2 m c t j _ _ (by simp [lane]; omega)

/-- A block of the result, at any index. -/
theorem point_idx (hp : Selects (arg m c) (bi m c)) (t : Fin cfg0.N) (y : S256x256.Idx) (i : S8192x1024.Idx)
    (h0 : (i 0).val = 256 * (t.val % 32) + (y 0).val) (h1 : (i 1).val = 256 * (t.val / 32) + (y 1).val) :
    outsAt0 m c t y = result (arg m c) (bi m c) i := by
  idx_vars y
  idx_vars i
  exact point m c hp t _ _ _ _ h0 h1

/-- The call's result array. -/
theorem final (hp : Selects (arg m c) (bi m c)) : (dats m 0 c).arrAt 4 cfg0.N = result (arg m c) (bi m c) := by
  refine (dats m 0 c).arrAt_eq_of_covers 4 _ (by decide +kernel) fun t _ y => ?_
  rw [after0_4]
  refine point_idx m c hp t _ _ ?_ ?_ <;> blk_simp [idx t] <;> exact congrArg (· + _) (Nat.mul_comm _ _)

end Cert.Kernel8Ideal.Final

end
-- ==== Proof.SpMax.lean ====
/- A maximum along the last axis. -/
module

public import Idealize.ShloMosaic.Lib.Pointwise

@[expose] public section

noncomputable section

namespace Cert.Softmax

open Idealize.ShloMosaic

/-- A maximum along the last of two axes. -/
theorem max2 {φ : FTy} (A B : ℕ) (x : FVec Ideal ⟨2, ![A, B]⟩ φ) (init : FVec Ideal ⟨0, ![]⟩ φ) (h : (⟨2, ![A, B]⟩ : Shape).ReducesTo [1] ⟨1, ![A]⟩)
    (hu : 0 < (⟨0, ![]⟩ : Shape).numel) (a : Fin A) :
    Host.reduce (FloatOps.maximumf (F := Ideal) (φ := φ)) x init h hu (ix1 a) = Finset.fold max (init (Shape.Idx.first hu)) (fun k : Fin B => x (ix2 a k)) Finset.univ := by
  pointwise

/-- A maximum along the last of three axes. -/
theorem max3 {φ : FTy} (A B C : ℕ) (x : FVec Ideal ⟨3, ![A, B, C]⟩ φ) (init : FVec Ideal ⟨0, ![]⟩ φ) (h : (⟨3, ![A, B, C]⟩ : Shape).ReducesTo [2] ⟨2, ![A, B]⟩)
    (hu : 0 < (⟨0, ![]⟩ : Shape).numel) (a : Fin A) (b : Fin B) :
    Host.reduce (FloatOps.maximumf (F := Ideal) (φ := φ)) x init h hu (ix2 a b) = Finset.fold max (init (Shape.Idx.first hu)) (fun k : Fin C => x (ix3 a b k)) Finset.univ := by
  pointwise

/-- Values below the greatest have a maximum below it. -/
theorem fold_lt {ι : Type} [Fintype ι] (f : ι → EReal) (z : EReal) (hz : z < ⊤) (hf : ∀ i, f i < ⊤) : Finset.fold max z f Finset.univ < ⊤ := by
  rw [Finset.fold_max_lt]
  exact ⟨hz, fun i _ => hf i⟩

/-- A value is at most the maximum. -/
theorem le_fold {ι : Type} [Fintype ι] (f : ι → EReal) (z : EReal) (i : ι) : f i ≤ Finset.fold max z f Finset.univ := by
  rw [Finset.le_fold_max]
  exact .inr ⟨i, Finset.mem_univ i, le_rfl⟩

/-- The maximum of least values is the least. -/
theorem fold_bot {ι : Type} [Fintype ι] (f : ι → EReal) (z : EReal) (hz : z = ⊥) (hf : ∀ i, f i = ⊥) : Finset.fold max z f Finset.univ = ⊥ := by
  refine le_bot_iff.mp ?_
  rw [Finset.fold_max_le]
  exact ⟨hz.le, fun i _ => (hf i).le⟩

end Cert.Softmax

end
-- ==== Proof.SpRef.lean ====
/- The reference of the attention over selected positions, entry by entry. -/
module

public import proofs.«01_k».proof.Proof.SpSpec
public import proofs.«01_k».proof.Proof.SpMax
public import proofs.«01_k».proof.Proof.Gen.Reference8Ideal.Run
public import Idealize.ShloMosaic.Lib.Pointwise

@[expose] public section

set_option maxRecDepth 16384

noncomputable section

namespace Cert.Reference8Ideal.Entry

open Cert.Reference8Ideal Cert.Reference8Ideal.Gen Cert.StickBreaking Cert.Softmax
open Idealize.ShloMosaic Idealize.ShloMosaic.TcCoe Idealize.SL.Sem Finset

/-- Columns of the panel, by key position, head and lane. -/
def cols (P : FVec Ideal S8704x1024 .f32) : FVec Ideal S8208x8x128 .f32 :=
  shapeCast S8208x8x128 (concatenate S8208x1024 0 [⟨S16x1024, (extractStridedSlice S16x1024 ![8192, 0] P slices_S8704x1024_S16x1024_8192_0)⟩, ⟨S8192x1024, (extractStridedSlice S8192x1024 ![0, 0] P slices_S8704x1024_S8192x1024_0_0)⟩] concatenates_S16x1024_S8192x1024_S8208x1024_d0) shapeCasts_S8208x1024_S8208x8x128

/-- The query columns. -/
def qc (p : FVec Ideal S8704x12288 .f32) : FVec Ideal S8704x1024 .f32 := extractStridedSlice S8704x1024 ![0, 8192] p slices_S8704x12288_S8704x1024_0_8192
/-- The key columns. -/
def kc (p : FVec Ideal S8704x12288 .f32) : FVec Ideal S8704x1024 .f32 := extractStridedSlice S8704x1024 ![0, 9216] p slices_S8704x12288_S8704x1024_0_9216
/-- The value columns. -/
def vc (p : FVec Ideal S8704x12288 .f32) : FVec Ideal S8704x1024 .f32 := extractStridedSlice S8704x1024 ![0, 7168] p slices_S8704x12288_S8704x1024_0_7168

/-- The scores. -/
def zed (p : FVec Ideal S8704x12288 .f32) : FVec Ideal S8x8192x8208 .f32 :=
  (mulf (Host.dotGeneral dot_S8192x8x128_S8208x8x128_S8x8192x8208_2_2_0_0_1_1 none (extractStridedSlice S8192x8x128 ![16, 0, 0] (cols (qc p)) slices_S8208x8x128_S8192x8x128_16_0_0) (cols (kc p))) (broadcastInDim S8x8192x8208 ![] bcast_S_S8x8192x8208 (constant S_ .f32 0x3DB504F3#32)))

/-- Which keys are selected. -/
def mask (w : FVec Ideal S8192x8704 .bf16) : IVec S8x8192x8208 1 :=
  (broadcastInDim S8x8192x8208 ![1, 2] bcast_S8192x8208_S8x8192x8208_1_2 (cmpf .oeq (concatenate S8192x8208 1 [⟨S8192x16, (extractStridedSlice S8192x16 ![0, 8192] w slices_S8192x8704_S8192x16_0_8192)⟩, ⟨S8192x8192, (extractStridedSlice S8192x8192 ![0, 0] w slices_S8192x8704_S8192x8192_0_0)⟩] concatenates_S8192x16_S8192x8192_S8192x8208_d1) (broadcastInDim S8192x8208 ![] bcast_S_S8192x8208 (constant S_ .bf16 0x0000#16))))

/-- The scores of the selected keys. -/
def lg (p : FVec Ideal S8704x12288 .f32) (w : FVec Ideal S8192x8704 .bf16) : FVec Ideal S8x8192x8208 .f32 :=
  select (mask w) (zed p) (broadcastInDim S8x8192x8208 ![] bcast_S_S8x8192x8208 (id (constant S_ .f32 0xFF800000#32)))

/-- Their maximum. -/
def red (p : FVec Ideal S8704x12288 .f32) (w : FVec Ideal S8192x8704 .bf16) : FVec Ideal S8x8192 .f32 :=
  Host.reduce FloatOps.maximumf (lg p w) (constant S_ .f32 0xFF800000#32) reducesTo_S8x8192x8208_S8x8192_d2 h_S_

/-- Their maximum, once more against −∞. -/
def mx (p : FVec Ideal S8704x12288 .f32) (w : FVec Ideal S8192x8704 .bf16) : FVec Ideal S8x8192 .f32 :=
  maximumf (broadcastInDim S8x8192 ![] bcast_S_S8x8192 (constant S_ .f32 0xFF800000#32)) (red p w)

/-- The exponentials of scores less a number for each row. -/
def ex (L : FVec Ideal S8x8192x8208 .f32) (M : FVec Ideal S8x8192 .f32) : FVec Ideal S8x8192x8208 .f32 :=
  Host.exp (subf L (broadcastInDim S8x8192x8208 ![0, 1, 2] bcast_S8x8192x1_S8x8192x8208_0_1_2 (broadcastInDim S8x8192x1 ![0, 1] bcast_S8x8192_S8x8192x1_0_1 M)))

/-- The softmax. -/
def sm (L : FVec Ideal S8x8192x8208 .f32) (M : FVec Ideal S8x8192 .f32) : FVec Ideal S8x8192x8208 .f32 :=
  Host.divf (ex L M) (broadcastInDim S8x8192x8208 ![0, 1, 2] bcast_S8x8192x1_S8x8192x8208_0_1_2 (broadcastInDim S8x8192x1 ![0, 1] bcast_S8x8192_S8x8192x1_0_1 (Host.reduceAdd (ex L M) (constant S_ .f32 0x00000000#32) reducesTo_S8x8192x8208_S8x8192_d2 h_S_)))

/-- The weighted values. -/
def mix (C : FVec Ideal S8208x8x128 .f32) (L : FVec Ideal S8x8192x8208 .f32) (M : FVec Ideal S8x8192 .f32) : FVec Ideal S8192x1024 .f32 :=
  shapeCast S8192x1024 (transpose S8192x8x128 [2, 0, 1] (Host.dotGeneral dot_S8208x8x128_S8x8192x8208_S8x128x8192_0_2_2_1_1_0 none C (sm L M)) transposes_S8x128x8192_S8192x8x128_2_0_1) shapeCasts_S8192x8x128_S8192x1024

/-- The reference's result. -/
def out (p : FVec Ideal S8704x12288 .f32) (w : FVec Ideal S8192x8704 .bf16) : FVec Ideal S8192x1024 .f32 := mix (cols (vc p)) (lg p w) (mx p w)

/-- The reference's composed term, in these names. -/
theorem res_eq (m : (ℓ : Loc nD τ sig) → Buf (Elt Ideal) ℓ) (c : Dev nD) :
    Value.res_main_v38 m c = out (m ((c.tc : Thread nD τ).loc main_arg0)) (m ((c.tc : Thread nD τ).loc main_arg1)) := rfl

/-- An entry of columns. -/
theorem cols_apply (P : FVec Ideal S8704x1024 .f32) (a : Fin 8208) (h : Fin 8) (x : Fin 128) :
    cols P (ix3 a h x) = P (ix2 (prow (rown a.val)) ⟨128 * h.val + x.val, by omega⟩) := by
  pointwise [cols]
  have ha := a.isLt
  split
  · next hlt => exact congrArg P (congr (congrArg ix2 (Fin.ext (by simp only [prow, rown]; rw [if_pos hlt, Nat.mod_eq_of_lt (by omega)]))) (Fin.ext (by simp only; omega)))
  · next hge => exact congrArg P (congr (congrArg ix2 (Fin.ext (by simp only [prow, rown]; rw [if_neg hge, Nat.mod_eq_of_lt (by omega)]))) (Fin.ext (by simp only; omega)))

/-- The panel by its two coordinates. -/
def at2 (p : FVec Ideal S8704x12288 .f32) (a : Fin 8704) (b : Fin 12288) : EReal := p (ix2 a b)
/-- The bias by its two coordinates. -/
def bi (w : FVec Ideal S8192x8704 .bf16) (n : Fin 8192) (j : Fin 8704) : EReal := w (ix2 n j)

/-- An entry of a head's query columns. -/
theorem qc_apply (p : FVec Ideal S8704x12288 .f32) (a : Fin 8704) (h : Fin 8) (x : Fin 128) (hb) :
    qc p (ix2 a ⟨128 * h.val + x.val, hb⟩) = at2 p a ⟨8192 + 128 * h.val + x.val, by omega⟩ := by
  pointwise [qc]
  exact congrArg p (congrArg (ix2 a) (Fin.ext (by simp only; omega)))
/-- An entry of a head's key columns. -/
theorem kc_apply (p : FVec Ideal S8704x12288 .f32) (a : Fin 8704) (h : Fin 8) (x : Fin 128) (hb) :
    kc p (ix2 a ⟨128 * h.val + x.val, hb⟩) = at2 p a ⟨9216 + 128 * h.val + x.val, by omega⟩ := by
  pointwise [kc]
  exact congrArg p (congrArg (ix2 a) (Fin.ext (by simp only; omega)))
/-- An entry of a head's value columns. -/
theorem vc_apply (p : FVec Ideal S8704x12288 .f32) (a : Fin 8704) (h : Fin 8) (x : Fin 128) (hb) :
    vc p (ix2 a ⟨128 * h.val + x.val, hb⟩) = at2 p a ⟨7168 + 128 * h.val + x.val, by omega⟩ := by
  pointwise [vc]
  exact congrArg p (congrArg (ix2 a) (Fin.ext (by simp only; omega)))

/-- An entry of the scores. -/
theorem zed_apply (p : FVec Ideal S8704x12288 .f32) (h : Fin 8) (n : Fin 8192) (s : Fin 8208) :
    zed p (ix3 h n s) = zz (at2 p) ⟨n.val, by omega⟩ h (prow (rown s.val)) := by
  have hn := n.isLt
  pointwise [zed]
  unfold zz
  refine congrArg (· * scale) (Finset.sum_congr rfl fun x _ => ?_)
  rw [cols_apply, cols_apply, qc_apply, kc_apply]
  have e : prow (rown (16 + n.val)) = ⟨n.val, by omega⟩ := Fin.ext (by
    simp only [prow, rown]; rw [if_neg (by omega), Nat.mod_eq_of_lt (by omega)]; omega)
  simp only [e]

/-- A choice by an equality. -/
theorem select_eq {α : Type} (u v : EReal) (x y : α) [Decidable (u = v)] : Scalar.select (BitVec.ofBool (decide (u = v))) x y = if u = v then x else y := by
  by_cases h : u = v
  · rw [if_pos h, decide_eq_true h]; rfl
  · rw [if_neg h, decide_eq_false h]; rfl

/-- An entry of the mask. -/
theorem mask_apply (w : FVec Ideal S8192x8704 .bf16) (h : Fin 8) (n : Fin 8192) (s : Fin 8208) :
    mask w (ix3 h n s) = BitVec.ofBool (decide (bi w n (prow (rown s.val)) = 0)) := by
  have hs := s.isLt
  have e : (if h : s.val < 16 then w (ix2 n ⟨8192 + s.val, by omega⟩) else w (ix2 n ⟨s.val - 16, by omega⟩)) = bi w n (prow (rown s.val)) := by
    split
    · next hlt => exact congrArg w (congrArg (ix2 n) (Fin.ext (by simp only [prow, rown]; rw [if_pos hlt, Nat.mod_eq_of_lt (by omega)])))
    · next hge => exact congrArg w (congrArg (ix2 n) (Fin.ext (by simp only [prow, rown]; rw [if_neg hge, Nat.mod_eq_of_lt (by omega)])))
  rw [← e]
  pointwise [mask]

/-- The word that stands for −∞. -/
theorem low : Ideal.ofBits .f32 0xFF800000#32 = ⊥ := by simp [Ideal.ofBits, Ideal.ieee]

/-- A position that holds a key is a panel row that holds one. -/
theorem prow_lt (s : Fin 8208) : (prow (rown s.val)).val = rown s.val ∧ rown s.val < 8208 := by
  have hs := s.isLt
  have h : rown s.val < 8208 := by unfold rown; split <;> omega
  exact ⟨Nat.mod_eq_of_lt (by omega), h⟩

/-- An entry of a maximum with −∞. -/
theorem least_apply (R : FVec Ideal S8x8192 .f32) (h : Fin 8) (n : Fin 8192) :
    maximumf (broadcastInDim S8x8192 ![] bcast_S_S8x8192 (constant S_ .f32 0xFF800000#32)) R (ix2 h n) = max (Ideal.ofBits .f32 0xFF800000#32) (R (ix2 h n)) := by
  pointwise

/-- An entry of the weighted values. -/
theorem mix_apply (C : FVec Ideal S8208x8x128 .f32) (L : FVec Ideal S8x8192x8208 .f32) (M : FVec Ideal S8x8192 .f32) (n : Fin 8192) (k : Fin 1024) :
    mix C L M (ix2 n k) = ∑ s : Fin 8208, C (ix3 s ⟨k.val / 128, by omega⟩ ⟨k.val % 128, by omega⟩)
      * Ideal.div (Ideal.exp (L (ix3 ⟨k.val / 128, by omega⟩ n s) - M (ix2 ⟨k.val / 128, by omega⟩ n)))
        (∑ s : Fin 8208, Ideal.exp (L (ix3 ⟨k.val / 128, by omega⟩ n s) - M (ix2 ⟨k.val / 128, by omega⟩ n))) := by
  pointwise [mix, sm, ex]

section Rows

variable (p : FVec Ideal S8704x12288 .f32) (w : FVec Ideal S8192x8704 .bf16) (hp : Selects (at2 p) (bi w))
include hp

/-- An entry of the selected keys' scores. -/
theorem lg_apply (h : Fin 8) (n : Fin 8192) (s : Fin 8208) :
    lg p w (ix3 h n s) = sc (sel (bi w) n (rown s.val)) (zr (at2 p) ⟨n.val, by omega⟩ h (rown s.val)) := by
  have hn := n.isLt
  obtain ⟨e1, e2⟩ := prow_lt s
  have e := zz_real hp ⟨n.val, by omega⟩ (by simp only; omega) h (prow (rown s.val)) (by omega)
  rw [e1] at e
  pointwise [lg]
  rw [mask_apply, select_eq, zed_apply, e]
  unfold sc
  by_cases hs : sel (bi w) n (rown s.val)
  · rw [if_pos hs]; exact if_pos hs
  · rw [if_neg hs]; exact (if_neg hs).trans low

/-- The greatest score is a real number. -/
theorem red_real (h : Fin 8) (n : Fin 8192) : ∃ μ : ℝ, red p w (ix2 h n) = (μ : EReal) := by
  have e := max3 8 8192 8208 (lg p w) (constant S_ .f32 0xFF800000#32) reducesTo_S8x8192x8208_S8x8192_d2 h_S_ h n
  have ht : red p w (ix2 h n) < ⊤ := by
    unfold red
    rw [e]
    refine fold_lt _ _ ?_ fun s => ?_
    · show Ideal.ofBits .f32 0xFF800000#32 < ⊤
      rw [low]; exact bot_lt_top
    · rw [lg_apply p w hp]; unfold sc; split
      · exact EReal.coe_lt_top _
      · exact bot_lt_top
  have hb : ⊥ < red p w (ix2 h n) := by
    obtain ⟨a, ha⟩ := sel_some hp n
    unfold red
    rw [e]
    refine lt_of_lt_of_le ?_ (le_fold _ _ a)
    rw [lg_apply p w hp, sc, if_pos ha]
    exact EReal.bot_lt_coe _
  exact ⟨_, (EReal.coe_toReal ht.ne hb.ne').symm⟩

/-- The same number, as the softmax reads it. -/
theorem mx_real (h : Fin 8) (n : Fin 8192) : ∃ μ : ℝ, mx p w (ix2 h n) = (μ : EReal) := by
  obtain ⟨μ, hμ⟩ := red_real p w hp h n
  refine ⟨μ, ?_⟩
  unfold mx
  rw [least_apply, hμ, low]
  exact max_bot_left _

/-- The reference's result, entry by entry. -/
theorem out_apply (n : Fin 8192) (k : Fin 1024) :
    out p w (ix2 n k) = soft (at2 p) (bi w) n ⟨k.val / 128, by omega⟩ ⟨k.val % 128, by omega⟩ := by
  obtain ⟨μ, hμ⟩ := mx_real p w hp ⟨k.val / 128, by omega⟩ n
  have hL : 0 < ∑ s : Fin 8208, wt (sel (bi w) n (rown s.val)) (zr (at2 p) ⟨n.val, by omega⟩ ⟨k.val / 128, by omega⟩ (rown s.val)) :=
    wgt_pos hp n ⟨k.val / 128, by omega⟩
  have hw := whole (fun s : Fin 8208 => sel (bi w) n (rown s.val)) (fun s => zr (at2 p) ⟨n.val, by omega⟩ ⟨k.val / 128, by omega⟩ (rown s.val))
    (fun s => cols (vc p) (ix3 s ⟨k.val / 128, by omega⟩ ⟨k.val % 128, by omega⟩)) (fun s => lg p w (ix3 ⟨k.val / 128, by omega⟩ n s))
    (fun s => lg_apply p w hp ⟨k.val / 128, by omega⟩ n s) μ hL
  unfold out
  rw [mix_apply, hμ]
  refine (Finset.sum_congr rfl fun s _ => mul_comm _ _).trans (hw.trans ?_)
  unfold soft wgt
  refine congrArg (_ * ·) (Finset.sum_congr rfl fun s _ => congrArg (_ * ·) ?_)
  rw [cols_apply]
  exact vc_apply p _ ⟨k.val / 128, by omega⟩ ⟨k.val % 128, by omega⟩ _

end Rows

end Cert.Reference8Ideal.Entry

end
-- ==== Proof.SpPre.lean ====
/- What the precondition of the attention over selected positions says. -/
module

public import proofs.«01_k».proof.Proof.SpSpec
public import proofs.«01_k».proof.Proof.SpMax
public import proofs.«01_k».proof.Pre_selects_past
public import Idealize.ShloMosaic.Lib.Pointwise

@[expose] public section

set_option maxRecDepth 16384

noncomputable section

namespace Cert.Pre_selects_past

open Idealize.ShloMosaic Facts

/-- The precondition's side conditions hold. -/
theorem sides : Facts := ⟨by decide, by decide, by decide, by decide, by decide, by decide, by decide, by decide, by decide, by decide, by decide⟩

variable [Facts]

/-- The greatest bias of each query. -/
def top (w : FVec Ideal S8192x8704 .bf16) : FVec Ideal S8192 .bf16 :=
  Host.reduce FloatOps.maximumf w (constant S_ .bf16 0xFF80#16) reducesTo_S8192x8704_S8192_d1 h_S_

/-- Which biases are allowed. -/
def allowed (w : FVec Ideal S8192x8704 .bf16) : IVec S8192x8704 1 :=
  ori (cmpf .oeq w (broadcastInDim S8192x8704 ![] bcast_S_S8192x8704 (constant S_ .bf16 0xFF80#16)))
    (andi (ori (cmpi .sle (iotaInDim S8192x8704 32 1) (iotaInDim S8192x8704 32 0))
        (andi (cmpi .sge (iotaInDim S8192x8704 32 1) (broadcastInDim S8192x8704 ![] bcast_S_S8192x8704 (constantI S_ 32 8192#32)))
          (cmpi .slt (iotaInDim S8192x8704 32 1) (broadcastInDim S8192x8704 ![] bcast_S_S8192x8704 (constantI S_ 32 8208#32)))))
      (cmpf .oeq w (broadcastInDim S8192x8704 ![] bcast_S_S8192x8704 (constant S_ .bf16 0x0000#16))))

/-- The precondition, in these names. -/
theorem fn_eq (p : FVec Ideal S8704x12288 .f32) (w : FVec Ideal S8192x8704 .bf16) :
    fn (F := Ideal) p w = fn_part1 p (allowed w) (broadcastInDim S8192x1 ![0] bcast_S8192_S8192x1_0 (top w)) (broadcastInDim S8192x1 ![] bcast_S_S8192x1 (constant S_ .bf16 0x0000#16)) := rfl

/-- An entry of the precondition. -/
theorem part_apply (p : FVec Ideal S8704x12288 .f32) (A : IVec S8192x8704 1) (T Z : FVec Ideal S8192x1 .bf16) (a : Fin 8208) (b : Fin 10752) :
    fn_part1 p A T Z (ix2 a b) = if h : b.val < 8704 then
        if h' : a.val < 8192 then IntOp.andi (A (ix2 ⟨a.val, h'⟩ ⟨b.val, h⟩)) (BitVec.ofBool (decide (T (ix2 ⟨a.val, h'⟩ 0) = Z (ix2 ⟨a.val, h'⟩ 0)))) else 1#1
      else BitVec.ofBool (decide (FloatOps.absf (p (ix2 ⟨a.val, by omega⟩ ⟨8192 + (b.val - 8704), by omega⟩)) < Ideal.ofBits FTy.f32 2139095040#32)) := by
  pointwise [fn_part1]

/-- A column of greatest biases. -/
theorem col_apply (T : FVec Ideal S8192 .bf16) (n : Fin 8192) : broadcastInDim S8192x1 ![0] bcast_S8192_S8192x1_0 T (ix2 n 0) = T (ix1 n) := by
  pointwise

/-- The column of zeros. -/
theorem zero_apply (n : Fin 8192) : (broadcastInDim S8192x1 ![] bcast_S_S8192x1 (constant S_ .bf16 0x0000#16) : FVec Ideal S8192x1 .bf16) (ix2 n 0) = 0 := by
  have z0 : Ideal.ofBits .bf16 0#16 = 0 := by simp [Ideal.ofBits, Ideal.ieee]
  pointwise

/-- A small word, read as an integer. -/
theorem toInt_small (a : ℕ) (ha : a < 2 ^ 31) : (BitVec.ofNat 32 a).toInt = (a : ℤ) := by
  have h : (BitVec.ofNat 32 a).toNat = a := by rw [BitVec.toNat_ofNat]; omega
  rw [BitVec.toInt_eq_toNat_of_lt (by rw [h]; omega), h]

/-- Small words compare as their numbers. -/
theorem sle_small (a b : ℕ) (ha : a < 2 ^ 31) (hb : b < 2 ^ 31) : (BitVec.ofNat 32 a).sle (BitVec.ofNat 32 b) = decide (a ≤ b) := by
  rw [BitVec.sle_eq_decide, toInt_small a ha, toInt_small b hb]
  exact decide_eq_decide.mpr (by omega)

/-- The same, strictly. -/
theorem slt_small (a b : ℕ) (ha : a < 2 ^ 31) (hb : b < 2 ^ 31) : (BitVec.ofNat 32 a).slt (BitVec.ofNat 32 b) = decide (a < b) := by
  rw [BitVec.slt, toInt_small a ha, toInt_small b hb]
  exact decide_eq_decide.mpr (by omega)

/-- Both of two bits hold. -/
theorem and_one (x y : BitVec 1) : IntOp.andi x y = 1#1 → x = 1#1 ∧ y = 1#1 := by revert x y; decide

/-- One of two bits holds. -/
theorem or_one (x y : BitVec 1) : IntOp.ori x y = 1#1 → x = 1#1 ∨ y = 1#1 := by revert x y; decide

/-- A bit holds where its proposition does. -/
theorem bit_one (x : Bool) : BitVec.ofBool x = 1#1 → x = true := by revert x; decide

/-- The words that stand for the infinities. -/
theorem low : Ideal.ofBits .bf16 65408#16 = ⊥ := by simp [Ideal.ofBits, Ideal.ieee]
theorem high : Ideal.ofBits .f32 2139095040#32 = ⊤ := by simp [Ideal.ofBits, Ideal.ieee]

/-- An allowed bias. -/
theorem allowed_one (w : FVec Ideal S8192x8704 .bf16) (n : Fin 8192) (j : Fin 8704) (e : allowed w (ix2 n j) = 1#1) :
    w (ix2 n j) = ⊥ ∨ (w (ix2 n j) = 0 ∧ (j.val ≤ n.val ∨ (8192 ≤ j.val ∧ j.val < 8208))) := by
  have hn := n.isLt
  have hj := j.isLt
  have a : allowed w (ix2 n j) = IntOp.ori (BitVec.ofBool (decide (w (ix2 n j) = Ideal.ofBits FTy.bf16 65408#16)))
      (IntOp.andi
        (IntOp.ori (IntOp.cmpi CmpIPredicate.sle (BitVec.ofNat 32 j.val) (BitVec.ofNat 32 n.val))
          (IntOp.andi (IntOp.cmpi CmpIPredicate.sge (BitVec.ofNat 32 j.val) 8192#32)
            (IntOp.cmpi CmpIPredicate.slt (BitVec.ofNat 32 j.val) 8208#32)))
        (BitVec.ofBool (decide (w (ix2 n j) = 0)))) := by
    pointwise [allowed]
  rw [a] at e
  rcases or_one _ _ e with h | h
  · exact .inl ((of_decide_eq_true (bit_one _ h)).trans low)
  · obtain ⟨h1, h2⟩ := and_one _ _ h
    refine .inr ⟨of_decide_eq_true (bit_one _ h2), ?_⟩
    rcases or_one _ _ h1 with h3 | h3
    · have := bit_one _ h3
      rw [sle_small _ _ (by omega) (by omega)] at this
      exact .inl (of_decide_eq_true this)
    · obtain ⟨h4, h5⟩ := and_one _ _ h3
      have t4 := bit_one _ h4
      have t5 := bit_one _ h5
      have t6 : (BitVec.ofNat 32 8192).sle (BitVec.ofNat 32 j.val) = true := t4
      have t7 : (BitVec.ofNat 32 j.val).slt (BitVec.ofNat 32 8208) = true := t5
      rw [sle_small _ _ (by omega) (by omega)] at t6
      rw [slt_small _ _ (by omega) (by omega)] at t7
      exact .inr ⟨of_decide_eq_true t6, of_decide_eq_true t7⟩

/-- A query whose greatest bias is 0 has a bias of 0. -/
theorem some_zero (w : FVec Ideal S8192x8704 .bf16) (n : Fin 8192) (hb : ∀ j : Fin 8704, w (ix2 n j) = ⊥ ∨ w (ix2 n j) = 0) (h : top w (ix1 n) = 0) :
    ∃ j : Fin 8704, w (ix2 n j) = 0 := by
  by_contra hne
  have hall : ∀ j : Fin 8704, w (ix2 n j) = ⊥ := fun j => (hb j).resolve_right fun h0 => hne ⟨j, h0⟩
  have e := Cert.Softmax.max2 8192 8704 w (constant S_ .bf16 0xFF80#16) reducesTo_S8192x8704_S8192_d1 h_S_ n
  have e' := e.trans (Cert.Softmax.fold_bot _ _ low hall)
  exact absurd (h.symm.trans e') (by simp)

/-- What the precondition says. -/
theorem selects (p : FVec Ideal S8704x12288 .f32) (w : FVec Ideal S8192x8704 .bf16) (h : fn (F := Ideal) p w = fun _ => 1#1) :
    Cert.Softmax.Selects (fun a b => p (ix2 a b)) (fun n j => w (ix2 n j)) := by
  rw [fn_eq] at h
  have row : ∀ (n : Fin 8192) (j : Fin 8704), allowed w (ix2 n j) = 1#1 ∧ top w (ix1 n) = 0 := fun n j => by
    have e := (part_apply p (allowed w) _ _ ⟨n.val, by omega⟩ ⟨j.val, by omega⟩).symm.trans (congrFun h _)
    rw [dif_pos j.isLt, dif_pos n.isLt] at e
    obtain ⟨h1, h2⟩ := and_one _ _ e
    refine ⟨h1, ?_⟩
    have h3 := of_decide_eq_true (bit_one _ h2)
    rwa [col_apply, zero_apply] at h3
  refine ⟨fun a b ha hb hb' => ?_, fun n j => allowed_one w n j (row n j).1, fun n => some_zero w n (fun j => ?_) (row n ⟨0, by omega⟩).2⟩
  · have e := (part_apply p (allowed w) _ _ ⟨a.val, ha⟩ ⟨8704 + (b.val - 8192), by omega⟩).symm.trans (congrFun h _)
    rw [dif_neg (by simp only; omega)] at e
    have h1 := of_decide_eq_true (bit_one _ e)
    rw [high] at h1
    have hk : (⟨8192 + (8704 + (b.val - 8192) - 8704), by omega⟩ : Fin 12288) = b := Fin.ext (by simp only; omega)
    simp only [hk] at h1
    have h2 : max (p (ix2 a b)) (-(p (ix2 a b))) < ⊤ := h1
    have h3 := max_lt_iff.mp h2
    refine ⟨_, (EReal.coe_toReal h3.1.ne fun hb0 => ?_).symm⟩
    rw [hb0] at h3
    exact absurd h3.2 (by simp)
  · exact (allowed_one w n j (row n j).1).imp id fun h => h.1

end Cert.Pre_selects_past

end
-- ==== Proof.SpClaim.lean ====
/- The claim of the attention over selected positions: the kernel's and the reference's results are equal. -/
module

public import proofs.«01_k».proof.Defs
public import proofs.«01_k».proof.Proof.SpFinal
public import proofs.«01_k».proof.Proof.SpRef
public import proofs.«01_k».proof.Proof.SpPre
public import Idealize.ShloMosaic.Lib.Quiescent
public import Idealize.ShloMosaic.Adequacy
public import Idealize.ShloMosaic.Init

@[expose] public section

noncomputable section

namespace Cert.Proof.Sp

open Idealize.ShloMosaic Idealize.SL.Sem

/-- The kernel and its reference end with equal results, where the precondition holds. -/
theorem equal [hPre : Cert.Pre_selects_past.Facts] :
    Cert.algebraic_Kernel8Ideal_Reference8Ideal_pre_selects_past (hKernel8Ideal := Cert.Kernel8Ideal.Gen.facts)
      (hReference8Ideal := Cert.Reference8Ideal.Gen.facts) (hPre_selects_past := hPre) := by
  intro m g m' g' hpre hargs
  have hp : ∀ c, Cert.Softmax.Selects (Cert.Kernel8Ideal.Final.arg m c) (Cert.Kernel8Ideal.Final.bi m c) := fun c =>
    Cert.Pre_selects_past.selects _ _ (hpre c)
  refine ⟨fun c => Cert.Kernel8Ideal.Final.result (Cert.Kernel8Ideal.Final.arg m c) (Cert.Kernel8Ideal.Final.bi m c), ?_, ?_⟩
  · exact (θ_run _ _ _).mono (fun r h c => ⟨(h c).1.trans (Cert.Kernel8Ideal.Final.final m c (hp c)), (h c).2⟩)
      (Cert.Kernel8Ideal.Value.run_blocks m g)
  · refine (θ_run _ _ _).mono (fun r h c => ⟨(h c).1.trans ?_, (h c).2⟩) (Cert.Reference8Ideal.Value.run m' g')
    obtain ⟨e0, e1⟩ := hargs c
    rw [Cert.Reference8Ideal.Entry.res_eq, e0, e1]
    funext y
    have ey : y = ix2 (y 0) (y 1) := (ix2_eta y).symm
    rw [ey]
    exact Cert.Reference8Ideal.Entry.out_apply _ _ (hp c) (y 0) (y 1)

/-- The reference leaves its arguments and every semaphore counter as they were. -/
theorem reference_frame (m : (ℓ : Loc Cert.Reference8Ideal.nD Cert.Reference8Ideal.τ Cert.Reference8Ideal.sig) → Buf (Elt Ideal) ℓ) (ρ : Dev Cert.Reference8Ideal.nD → PrngReg) :
    θ_run Cert.Reference8Ideal.defs (onTc (τ := Cert.Reference8Ideal.τ) (Cert.Reference8Ideal.main (F := Ideal))) ⟨m, fun _ => 0, ρ⟩ fun r =>
      (∀ c : Dev Cert.Reference8Ideal.nD, r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0) ∧
        r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)) ∧ r.2.sem = fun _ => 0 :=
  (θ_run _ _ _).mono (fun r h => ⟨fun c => (h c).2, sem_eq_zero_of_no_sems (by decide) r.2⟩) (Cert.Reference8Ideal.Value.run m ρ)

end Cert.Proof.Sp

end
-- ==== Proof.Tile.lean ====
module

public import proofs.«01_k».proof.Proof.Gen.KernelIdeal.Skeleton
public import proofs.«01_k».proof.Proof.Reals

@[expose] public section

set_option maxRecDepth 16384

noncomputable section

namespace Cert.KernelIdeal.Tile

open Cert.KernelIdeal Cert.KernelIdeal.Gen Idealize.ShloMosaic Cert.StickBreaking

/-! ## What the kernel's two heads and its diagonal tile share -/

/-- The products of the logarithms, and of what rounding them left over, with the triangle. -/
def tri4 (tri : FVec Ideal S256x256 .bf16) (X : FVec Ideal S512x512 .f32) : FVec Ideal S2048x256 .f32 :=
  have h : FVec Ideal S512x512 .bf16 := truncf .bf16 X bitsLt_bf16_f32
  have l : FVec Ideal S512x512 .bf16 := truncf .bf16 (subf X (extf .f32 h bitsLt_bf16_f32)) bitsLt_bf16_f32
  matmul dot_S2048x256_S256x256_S2048x256_1_0_0_1_n_n none
    (concatenate S2048x256 0 [⟨S512x256, extractStridedSlice S512x256 ![0, 0] h slices_S512x512_o0_0_S512x256⟩,
      ⟨S512x256, extractStridedSlice S512x256 ![0, 0] l slices_S512x512_o0_0_S512x256⟩,
      ⟨S512x256, extractStridedSlice S512x256 ![0, 256] h slices_S512x512_o0_256_S512x256⟩,
      ⟨S512x256, extractStridedSlice S512x256 ![0, 256] l slices_S512x512_o0_256_S512x256⟩]
      concatenates_S512x256_S512x256_S512x256_S512x256_S2048x256_d0) tri (constant S2048x256 .f32 0x00000000#32)

/-- A row's sum over the first half of the tile. -/
def tot0 (X : FVec Ideal S512x512 .f32) : FVec Ideal S512x1 .f32 :=
  shapeCast S512x1 (multiReduction .add [1] S512 (extractStridedSlice S512x256 ![0, 0] X slices_S512x512_o0_0_S512x256) 0x00000000#32 reduces_S512x256_S512 (.inl rfl) rfl) shapeCasts_S512_S512x1

/-- A row's sum over the second half of the tile. -/
def tot1 (X : FVec Ideal S512x512 .f32) : FVec Ideal S512x1 .f32 :=
  shapeCast S512x1 (multiReduction .add [1] S512 (extractStridedSlice S512x256 ![0, 256] X slices_S512x512_o0_256_S512x256) 0x00000000#32 reduces_S512x256_S512 (.inl rfl) rfl) shapeCasts_S512_S512x1

/-- The sum over a tile's later lanes. -/
def after (tri : FVec Ideal S256x256 .bf16) (X : FVec Ideal S512x512 .f32) : FVec Ideal S512x512 .f32 :=
  concatenate S512x512 1
    [⟨S512x256, addf (addf (extractStridedSlice S512x256 ![0, 0] (tri4 tri X) slices_S2048x256_o0_0_S512x256)
      (extractStridedSlice S512x256 ![512, 0] (tri4 tri X) slices_S2048x256_o512_0_S512x256))
      (broadcastTo S512x256 (tot1 X) broadcasts_S512x1_S512x256)⟩,
     ⟨S512x256, addf (extractStridedSlice S512x256 ![1024, 0] (tri4 tri X) slices_S2048x256_o1024_0_S512x256)
      (extractStridedSlice S512x256 ![1536, 0] (tri4 tri X) slices_S2048x256_o1536_0_S512x256)⟩]
    concatenates_S512x256_S512x256_S512x512_d1

/-- The running sum after a tile. -/
def rsumX (r : FVec Ideal S512x1 .f32) (X : FVec Ideal S512x512 .f32) : FVec Ideal S512x1 .f32 :=
  addf r (addf (tot0 X) (tot1 X))

/-- The weights of a tile whose keys all lie in the past. -/
def wts (r : FVec Ideal S512x1 .f32) (lb C : FVec Ideal S512x512 .f32) : FVec Ideal S512x512 .f32 :=
  exp (addf lb (addf C (broadcastTo S512x512 r broadcasts_S512x1_S512x512)))

/-- The accumulator after a tile with the given weights. -/
def accX (a : FVec Ideal S512x128 .f32) (W : FVec Ideal S512x512 .f32) (vt : Vec Ideal S512x128 .f32) : FVec Ideal S512x128 .f32 :=
  addf a (matmul dot_S512x512_S512x128_S512x128_1_0_0_1_n_n none (truncf .bf16 W bitsLt_bf16_f32) (truncf .bf16 vt bitsLt_bf16_f32) (constant S512x128 .f32 0x00000000#32))

/-- A masked tile. -/
def mskX (M : IVec S512x512 1) (X : FVec Ideal S512x512 .f32) : FVec Ideal S512x512 .f32 :=
  select M X (broadcast S512x512 (Scalar.ofBits .f32 0x00000000#32 : Ideal .f32))

section Same

variable (tri : FVec Ideal S256x256 .bf16) (q : FVec Ideal S512x128 .bf16) (kt vt : Vec Ideal S512x128 .f32)
  (r : FVec Ideal S512x1 .f32) (a : FVec Ideal S512x128 .f32) (M : IVec S512x512 1)

/-- First head, running sum. -/
theorem rsum_h1 : k0_pay12 r (k0_pay8 q kt) (k0_pay10 q kt) = rsumX r (k0_pay5 q kt) := rfl
/-- First head, accumulator. -/
theorem acc_h1 : k0_pay13 r a (k0_pay2 vt) (k0_pay4 q kt) (k0_pay7 tri q kt) (k0_pay9 tri q kt) (k0_pay11 q kt)
    = accX a (wts r (k0_pay4 q kt) (after tri (k0_pay5 q kt))) vt := rfl
/-- Second head, running sum. -/
theorem rsum_h2 : k0_pay70 r (k0_pay17 q kt) (k0_pay20 q kt) = rsumX r (k0_pay5 q kt) := rfl
/-- Second head, accumulator. -/
theorem acc_h2 : k0_pay71 r a (k0_pay14 vt) (k0_pay16 q kt) (k0_pay19 tri q kt) (k0_pay20 q kt) (k0_pay21 tri q kt)
    = accX a (wts r (k0_pay4 q kt) (after tri (k0_pay5 q kt))) vt := rfl
/-- First head's diagonal tile, running sum. -/
theorem rsum_d1 : k0_pay58 r (k0_pay55 q M kt) = rsumX r (mskX M (k0_pay5 q kt)) := rfl
/-- First head's diagonal tile, accumulator. -/
theorem acc_d1 : k0_pay59 a M (k0_pay50 vt) (k0_pay52 q kt) (k0_pay56 tri q M kt) (k0_pay57 r)
    = accX a (mskX M (wts r (k0_pay4 q kt) (after tri (mskX M (k0_pay5 q kt))))) vt := rfl
/-- Second head's diagonal tile, running sum. -/
theorem rsum_d2 : k0_pay68 r (k0_pay63 q M kt) (k0_pay66 q M kt) = rsumX r (mskX M (k0_pay5 q kt)) := rfl
/-- Second head's diagonal tile, accumulator. -/
theorem acc_d2 : k0_pay69 r a M (k0_pay60 vt) (k0_pay62 q kt) (k0_pay64 tri q M kt) (k0_pay65 tri q M kt) (k0_pay66 q M kt) (k0_pay67 tri q M kt)
    = accX a (mskX M (wts r (k0_pay4 q kt) (after tri (mskX M (k0_pay5 q kt))))) vt := rfl

end Same

/-! ## Entries -/

/-- The score of a query row and a key row of a tile. -/
def Zt (q : FVec Ideal S512x128 .bf16) (kt : Vec Ideal S512x128 .f32) (r s : Fin 512) : EReal :=
  (∑ x : Fin 128, q (ix2 r x) * kt (ix2 s x)) * scale

/-- The log-sigmoids of a tile. -/
theorem pay4_apply (q : FVec Ideal S512x128 .bf16) (kt : Vec Ideal S512x128 .f32) (r s : Fin 512) :
    k0_pay4 q kt (ix2 r s) = lbE (Zt q kt r s) := by
  pointwise [k0_pay4, k0_pay3]
  rfl

/-- The log-sigmoids of the negatives of a tile. -/
theorem pay5_apply (q : FVec Ideal S512x128 .bf16) (kt : Vec Ideal S512x128 .f32) (r s : Fin 512) :
    k0_pay5 q kt (ix2 r s) = lbE (Zt q kt r s) - Zt q kt r s := by
  pointwise [k0_pay5, k0_pay4, k0_pay3]
  rfl

/-- The products at a row of the first half's logarithms. -/
theorem tri4_0 (tri : FVec Ideal S256x256 .bf16) (X : FVec Ideal S512x512 .f32) (r : Fin 512) (s : Fin 256) :
    tri4 tri X (ix2 (⟨r.val, by omega⟩ : Fin 2048) s) = ∑ x : Fin 256, X (ix2 r ⟨x.val, by omega⟩) * tri (ix2 x s) := by
  pointwise [tri4]

/-- The products at a row of what rounding left over of the first half's. -/
theorem tri4_1 (tri : FVec Ideal S256x256 .bf16) (X : FVec Ideal S512x512 .f32) (r : Fin 512) (s : Fin 256) :
    tri4 tri X (ix2 (⟨512 + r.val, by omega⟩ : Fin 2048) s)
      = ∑ x : Fin 256, (X (ix2 r ⟨x.val, by omega⟩) - X (ix2 r ⟨x.val, by omega⟩)) * tri (ix2 x s) := by
  pointwise [tri4]

/-- The products at a row of the second half's logarithms. -/
theorem tri4_2 (tri : FVec Ideal S256x256 .bf16) (X : FVec Ideal S512x512 .f32) (r : Fin 512) (s : Fin 256) :
    tri4 tri X (ix2 (⟨1024 + r.val, by omega⟩ : Fin 2048) s) = ∑ x : Fin 256, X (ix2 r ⟨256 + x.val, by omega⟩) * tri (ix2 x s) := by
  have e : (⟨1024 + r.val - 512 - 512, by omega⟩ : Fin 512) = r := Fin.ext (by simp only; omega)
  pointwise [tri4]
  refine Finset.sum_congr rfl fun x _ => ?_
  rw [dif_neg (by omega), dif_neg (by omega), dif_pos (by omega), e]

/-- The products at a row of what rounding left over of the second half's. -/
theorem tri4_3 (tri : FVec Ideal S256x256 .bf16) (X : FVec Ideal S512x512 .f32) (r : Fin 512) (s : Fin 256) :
    tri4 tri X (ix2 (⟨1536 + r.val, by omega⟩ : Fin 2048) s)
      = ∑ x : Fin 256, (X (ix2 r ⟨256 + x.val, by omega⟩) - X (ix2 r ⟨256 + x.val, by omega⟩)) * tri (ix2 x s) := by
  have e : (⟨1536 + r.val - 512 - 512 - 512, by omega⟩ : Fin 512) = r := Fin.ext (by simp only; omega)
  pointwise [tri4]
  refine Finset.sum_congr rfl fun x _ => ?_
  rw [dif_neg (by omega), dif_neg (by omega), dif_neg (by omega), e]

/-- A half's sum at a row. -/
theorem tot0_apply (X : FVec Ideal S512x512 .f32) (r : Fin 512) :
    tot0 X (ix2 r 0) = ∑ x : Fin 256, X (ix2 r ⟨x.val, by omega⟩) := by
  pointwise [tot0]

/-- The other half's sum at a row. -/
theorem tot1_apply (X : FVec Ideal S512x512 .f32) (r : Fin 512) :
    tot1 X (ix2 r 0) = ∑ x : Fin 256, X (ix2 r ⟨256 + x.val, by omega⟩) := by
  pointwise [tot1]

/-- The running sum after a tile, at a row. -/
theorem rsumX_apply (R : FVec Ideal S512x1 .f32) (X : FVec Ideal S512x512 .f32) (r : Fin 512) :
    rsumX R X (ix2 r 0) = R (ix2 r 0) + (tot0 X (ix2 r 0) + tot1 X (ix2 r 0)) := rfl

/-- The weights at an entry. -/
theorem wts_apply (R : FVec Ideal S512x1 .f32) (lb C : FVec Ideal S512x512 .f32) (r s : Fin 512) :
    wts R lb C (ix2 r s) = Ideal.exp (lb (ix2 r s) + (C (ix2 r s) + R (ix2 r 0))) := by
  pointwise [wts]

/-- A masked tile at an entry. -/
theorem mskX_apply (M : IVec S512x512 1) (X : FVec Ideal S512x512 .f32) (r s : Fin 512) :
    mskX M X (ix2 r s) = if M (ix2 r s) = 1#1 then X (ix2 r s) else 0 := by
  pointwise [mskX]
  rfl

/-- The accumulator after a tile, at an entry. -/
theorem accX_apply (a : FVec Ideal S512x128 .f32) (W : FVec Ideal S512x512 .f32) (vt : Vec Ideal S512x128 .f32) (r : Fin 512) (d : Fin 128) :
    accX a W vt (ix2 r d) = a (ix2 r d) + ∑ s : Fin 512, W (ix2 r s) * vt (ix2 s d) := by
  pointwise [accX]

/-- The sum over the later lanes, at a lane of the first half. -/
theorem after_lo (tri : FVec Ideal S256x256 .bf16) (X : FVec Ideal S512x512 .f32) (r : Fin 512) (s : Fin 256) :
    after tri X (ix2 r (⟨s.val, by omega⟩ : Fin 512))
      = (tri4 tri X (ix2 (⟨r.val, by omega⟩ : Fin 2048) s) + tri4 tri X (ix2 (⟨512 + r.val, by omega⟩ : Fin 2048) s)) + tot1 X (ix2 r 0) := by
  pointwise [after]

/-- The sum over the later lanes, at a lane of the second half. -/
theorem after_hi (tri : FVec Ideal S256x256 .bf16) (X : FVec Ideal S512x512 .f32) (r : Fin 512) (s : Fin 256) :
    after tri X (ix2 r (⟨256 + s.val, by omega⟩ : Fin 512))
      = tri4 tri X (ix2 (⟨1024 + r.val, by omega⟩ : Fin 2048) s) + tri4 tri X (ix2 (⟨1536 + r.val, by omega⟩ : Fin 2048) s) := by
  pointwise [after]

/-! ## The last tile: the learned rows -/

/-- The products with the corner of the triangle. -/
def tri2 (tri : FVec Ideal S128x128 .bf16) (X : FVec Ideal S512x128 .f32) : FVec Ideal S1024x128 .f32 :=
  have h : FVec Ideal S512x128 .bf16 := truncf .bf16 X bitsLt_bf16_f32
  have l : FVec Ideal S512x128 .bf16 := truncf .bf16 (subf X (extf .f32 h bitsLt_bf16_f32)) bitsLt_bf16_f32
  matmul dot_S1024x128_S128x128_S1024x128_1_0_0_1_n_n none
    (concatenate S1024x128 0 [⟨S512x128, h⟩, ⟨S512x128, l⟩] concatenates_S512x128_S512x128_S1024x128_d0) tri (constant S1024x128 .f32 0x00000000#32)

/-- A masked last tile. -/
def mskY (X : FVec Ideal S512x128 .f32) : FVec Ideal S512x128 .f32 :=
  select k0_pay74 X (broadcast S512x128 (Scalar.ofBits .f32 0x00000000#32 : Ideal .f32))

/-- The weights of the last tile. -/
def wtsY (tri : FVec Ideal S128x128 .bf16) (r : FVec Ideal S512x1 .f32) (lb X : FVec Ideal S512x128 .f32) : FVec Ideal S512x128 .f32 :=
  mskY (exp (addf lb (addf (addf (extractStridedSlice S512x128 ![0, 0] (tri2 tri X) slices_S1024x128_o0_0_S512x128)
    (extractStridedSlice S512x128 ![512, 0] (tri2 tri X) slices_S1024x128_o512_0_S512x128)) (broadcastTo S512x128 r broadcasts_S512x1_S512x128))))

/-- The result after the last tile. -/
def accY (a : FVec Ideal S512x128 .f32) (W : FVec Ideal S512x128 .f32) (vt : Vec Ideal S128x128 .f32) : FVec Ideal S512x128 .f32 :=
  addf a (matmul dot_S512x128_S128x128_S512x128_1_0_0_1_n_n none (truncf .bf16 W bitsLt_bf16_f32) (truncf .bf16 vt bitsLt_bf16_f32) (constant S512x128 .f32 0x00000000#32))

section SameY

variable (tri : FVec Ideal S128x128 .bf16) (q : FVec Ideal S512x128 .bf16) (kt vt : Vec Ideal S128x128 .f32)
  (r : FVec Ideal S512x1 .f32) (a : FVec Ideal S512x128 .f32)

/-- First head's last tile. -/
theorem out_h1 : k0_pay81 r a k0_pay74 tri (k0_pay76 vt) (k0_pay77 q kt) (k0_pay78 q kt) (k0_pay79 q kt) k0_pay80
    = accY a (wtsY tri r (k0_pay84 q kt) (mskY (k0_pay85 q kt))) vt := rfl
/-- Second head's last tile. -/
theorem out_h2 : k0_pay1 r a k0_pay74 tri (k0_pay82 vt) (k0_pay84 q kt) (k0_pay85 q kt) (Scalar.ofBits .f32 0x00000000#32)
    = accY a (wtsY tri r (k0_pay84 q kt) (mskY (k0_pay85 q kt))) vt := rfl

end SameY

/-- The score of a query row and a key row of the last tile. -/
def Zy (q : FVec Ideal S512x128 .bf16) (kt : Vec Ideal S128x128 .f32) (r : Fin 512) (s : Fin 128) : EReal :=
  (∑ x : Fin 128, q (ix2 r x) * kt (ix2 s x)) * scale

/-- The log-sigmoids of the last tile. -/
theorem pay84_apply (q : FVec Ideal S512x128 .bf16) (kt : Vec Ideal S128x128 .f32) (r : Fin 512) (s : Fin 128) :
    k0_pay84 q kt (ix2 r s) = lbE (Zy q kt r s) := by
  pointwise [k0_pay84, k0_pay83]
  rfl

/-- The log-sigmoids of the negatives of the last tile. -/
theorem pay85_apply (q : FVec Ideal S512x128 .bf16) (kt : Vec Ideal S128x128 .f32) (r : Fin 512) (s : Fin 128) :
    k0_pay85 q kt (ix2 r s) = lbE (Zy q kt r s) - Zy q kt r s := by
  pointwise [k0_pay85, k0_pay84, k0_pay83]
  rfl

/-- The first sixteen lanes of the last tile count. -/
theorem pay74_apply (r : Fin 512) (s : Fin 128) : k0_pay74 (ix2 r s) = 1#1 ↔ s.val < 16 := by
  have h : ∀ s : Fin 128, IntOp.cmpi .slt (BitVec.ofNat 32 s.val) 16#32 = 1#1 ↔ s.val < 16 := by decide +kernel
  rw [← h s]
  pointwise [k0_pay74]

/-- A masked last tile at an entry. -/
theorem mskY_apply (X : FVec Ideal S512x128 .f32) (r : Fin 512) (s : Fin 128) :
    mskY X (ix2 r s) = if s.val < 16 then X (ix2 r s) else 0 := by
  have h : mskY X (ix2 r s) = if k0_pay74 (ix2 r s) = 1#1 then X (ix2 r s) else 0 := by
    pointwise [mskY]
    rfl
  rw [h]; exact if_congr (pay74_apply r s) rfl rfl

/-- The products at a row of the logarithms. -/
theorem tri2_0 (tri : FVec Ideal S128x128 .bf16) (X : FVec Ideal S512x128 .f32) (r : Fin 512) (s : Fin 128) :
    tri2 tri X (ix2 (⟨r.val, by omega⟩ : Fin 1024) s) = ∑ x : Fin 128, X (ix2 r x) * tri (ix2 x s) := by
  pointwise [tri2]

/-- The products at a row of what rounding left over. -/
theorem tri2_1 (tri : FVec Ideal S128x128 .bf16) (X : FVec Ideal S512x128 .f32) (r : Fin 512) (s : Fin 128) :
    tri2 tri X (ix2 (⟨512 + r.val, by omega⟩ : Fin 1024) s) = ∑ x : Fin 128, (X (ix2 r x) - X (ix2 r x)) * tri (ix2 x s) := by
  pointwise [tri2]

/-- The weights of the last tile at an entry. -/
theorem wtsY_apply (tri : FVec Ideal S128x128 .bf16) (R : FVec Ideal S512x1 .f32) (lb X : FVec Ideal S512x128 .f32) (r : Fin 512) (s : Fin 128) :
    wtsY tri R lb X (ix2 r s) = if s.val < 16 then Ideal.exp (lb (ix2 r s) +
      ((tri2 tri X (ix2 (⟨r.val, by omega⟩ : Fin 1024) s) + tri2 tri X (ix2 (⟨512 + r.val, by omega⟩ : Fin 1024) s)) + R (ix2 r 0))) else 0 := by
  unfold wtsY
  rw [mskY_apply]
  refine if_congr Iff.rfl ?_ rfl
  pointwise

/-- The result at an entry. -/
theorem accY_apply (a : FVec Ideal S512x128 .f32) (W : FVec Ideal S512x128 .f32) (vt : Vec Ideal S128x128 .f32) (r : Fin 512) (d : Fin 128) :
    accY a W vt (ix2 r d) = a (ix2 r d) + ∑ s : Fin 128, W (ix2 r s) * vt (ix2 s d) := by
  pointwise [accY]

/-! ## Rows of real numbers -/

/-- A real number less itself is zero. -/
theorem coe_sub_self (x : ℝ) : (x : EReal) - (x : EReal) = 0 := by
  rw [← EReal.coe_sub, sub_self, EReal.coe_zero]

/-- A product with an entry of the triangle. -/
theorem coe_mul_ite (x : ℝ) (c : Prop) [Decidable c] : (x : EReal) * (if c then (1 : EReal) else 0) = ((if c then x else 0 : ℝ) : EReal) := by
  split <;> simp

/-- A sum over the lanes of a tile by halves. -/
theorem sum_halves {M : Type} [AddCommMonoid M] (f : Fin 512 → M) :
    ∑ k, f k = (∑ x : Fin 256, f ⟨x.val, by omega⟩) + ∑ x : Fin 256, f ⟨256 + x.val, by omega⟩ :=
  Fin.sum_univ_add (a := 256) (b := 256) f

/-- The sum over the later lanes, of a row of real numbers. -/
theorem after_real (tri : FVec Ideal S256x256 .bf16) (htri : ∀ x s : Fin 256, tri (ix2 x s) = if s.val < x.val then (1 : EReal) else 0)
    (X : FVec Ideal S512x512 .f32) (r : Fin 512) (L : Fin 512 → ℝ) (hL : ∀ s, X (ix2 r s) = (L s : EReal)) (s : Fin 512) :
    after tri X (ix2 r s) = ((∑ k : Fin 512, if s.val < k.val then L k else 0 : ℝ) : EReal) := by
  rw [sum_halves]
  by_cases h : s.val < 256
  · have hs : s = ⟨(⟨s.val, h⟩ : Fin 256).val, by omega⟩ := rfl
    rw [hs]
    rw [after_lo tri X r ⟨s.val, h⟩, tri4_0, tri4_1, tot1_apply]
    simp only [hL, htri, coe_sub_self, zero_mul, Finset.sum_const_zero, add_zero, coe_mul_ite, coe_sum, ← EReal.coe_add]
    congr 2
    exact Finset.sum_congr rfl fun x _ => (if_pos (by omega)).symm
  · have hs : s = ⟨256 + (⟨s.val - 256, by omega⟩ : Fin 256).val, by omega⟩ := Fin.ext (by simp only; omega)
    rw [hs, after_hi tri X r ⟨s.val - 256, by omega⟩, tri4_2, tri4_3]
    simp only [hL, htri, coe_sub_self, zero_mul, Finset.sum_const_zero, add_zero, coe_mul_ite, coe_sum, ← EReal.coe_add]
    congr 1
    rw [Finset.sum_eq_zero (s := Finset.univ) (f := fun x : Fin 256 => if 256 + (s.val - 256) < x.val then L ⟨x.val, by omega⟩ else 0)
      (fun x _ => if_neg (by omega)), zero_add]
    exact Finset.sum_congr rfl fun x _ => if_congr (by omega) rfl rfl

/-- The running sum of a row of real numbers. -/
theorem rsumX_real (R : FVec Ideal S512x1 .f32) (X : FVec Ideal S512x512 .f32) (r : Fin 512) (L : Fin 512 → ℝ) (hL : ∀ s, X (ix2 r s) = (L s : EReal))
    (R0 : ℝ) (hR : R (ix2 r 0) = (R0 : EReal)) : rsumX R X (ix2 r 0) = ((R0 + ∑ s, L s : ℝ) : EReal) := by
  rw [rsumX_apply, tot0_apply, tot1_apply, hR, sum_halves]
  simp only [hL, coe_sum, ← EReal.coe_add]

section Step

variable (P : ℕ) (z : ℕ → ℝ) (V : ℕ → EReal) (p : ℕ)
  (tri : FVec Ideal S256x256 .bf16) (q : FVec Ideal S512x128 .bf16) (kt vt : Vec Ideal S512x128 .f32)
  (R : FVec Ideal S512x1 .f32) (a : FVec Ideal S512x128 .f32) (M : IVec S512x512 1) (r : Fin 512) (d : Fin 128)

/-- The log-sigmoids of the negatives of a row, in a tile of the past. -/
theorem row_past (hp : p + 512 ≤ P) (hz : ∀ s : Fin 512, Zt q kt r s = (z (p + s.val) : EReal)) (s : Fin 512) :
    k0_pay5 q kt (ix2 r s) = ((LK P z (p + s.val) : ℝ) : EReal) := by
  rw [pay5_apply, hz, lbE_coe, ← EReal.coe_sub, LK, if_pos (by omega)]; rfl

/-- … and in the diagonal tile. -/
theorem row_diag (hP : P = p + r.val) (hM : ∀ s : Fin 512, M (ix2 r s) = 1#1 ↔ s.val < r.val)
    (hz : ∀ s : Fin 512, Zt q kt r s = (z (p + s.val) : EReal)) (s : Fin 512) :
    mskX M (k0_pay5 q kt) (ix2 r s) = ((LK P z (p + s.val) : ℝ) : EReal) := by
  rw [mskX_apply, pay5_apply, hz, lbE_coe, ← EReal.coe_sub, LK]
  by_cases h : s.val < r.val
  · rw [if_pos ((hM s).mpr h), if_pos (by omega)]; rfl
  · rw [if_neg (fun e => h ((hM s).mp e)), if_neg (by omega), EReal.coe_zero]

/-- One step of the running sum, from a row of the position's logarithms. -/
theorem rsum_step (X : FVec Ideal S512x512 .f32) (h : p + 512 ≤ 8208) (hX : ∀ s : Fin 512, X (ix2 r s) = ((LK P z (p + s.val) : ℝ) : EReal))
    (hR : R (ix2 r 0) = ((SUF P z (p + 512) : ℝ) : EReal)) : rsumX R X (ix2 r 0) = ((SUF P z p : ℝ) : EReal) := by
  rw [rsumX_real R X r _ hX _ hR]
  congr 1
  exact SUF_step P z p 512 512 h le_rfl _ _ (fun s => (if_pos s.isLt).symm) rfl

/-- The argument of a weight's exponential. -/
theorem wts_real (htri : ∀ x s : Fin 256, tri (ix2 x s) = if s.val < x.val then (1 : EReal) else 0)
    (X : FVec Ideal S512x512 .f32) (h : p + 512 ≤ 8208) (hX : ∀ s : Fin 512, X (ix2 r s) = ((LK P z (p + s.val) : ℝ) : EReal))
    (hz : ∀ s : Fin 512, Zt q kt r s = (z (p + s.val) : EReal))
    (hR : R (ix2 r 0) = ((SUF P z (p + 512) : ℝ) : EReal)) (s : Fin 512) :
    wts R (k0_pay4 q kt) (after tri X) (ix2 r s) = ((Real.exp (lb (z (p + s.val)) + SUF P z (p + s.val + 1)) : ℝ) : EReal) := by
  rw [wts_apply, pay4_apply, hz, lbE_coe, after_real tri htri X r _ hX, hR, ← EReal.coe_add, ← EReal.coe_add, exp_coe]
  congr 3
  exact SUF_lane_step P z p 512 512 h le_rfl _ _ (fun s => (if_pos s.isLt).symm) rfl s s.isLt

/-- One step of the accumulator over a tile of the past. -/
theorem acc_past (htri : ∀ x s : Fin 256, tri (ix2 x s) = if s.val < x.val then (1 : EReal) else 0)
    (h : p + 512 ≤ 8208) (hp : p + 512 ≤ P) (hz : ∀ s : Fin 512, Zt q kt r s = (z (p + s.val) : EReal))
    (hR : R (ix2 r 0) = ((SUF P z (p + 512) : ℝ) : EReal)) (hv : ∀ s : Fin 512, vt (ix2 s d) = V (p + s.val))
    (ha : a (ix2 r d) = ACC P z V (p + 512)) :
    accX a (wts R (k0_pay4 q kt) (after tri (k0_pay5 q kt))) vt (ix2 r d) = ACC P z V p := by
  rw [accX_apply]
  refine ACC_step P z V p 512 512 h le_rfl _ _ _ (fun s => ?_) (fun s _ => hv s) ha
  rw [wts_real P z p tri q kt R r htri _ h (row_past P z p q kt r hp hz) hz hR, if_pos s.isLt, WT, if_pos (by omega)]

/-- One step of the accumulator over the diagonal tile. -/
theorem acc_diag (htri : ∀ x s : Fin 256, tri (ix2 x s) = if s.val < x.val then (1 : EReal) else 0)
    (h : p + 512 ≤ 8208) (hP : P = p + r.val) (hM : ∀ s : Fin 512, M (ix2 r s) = 1#1 ↔ s.val < r.val)
    (hz : ∀ s : Fin 512, Zt q kt r s = (z (p + s.val) : EReal))
    (hR : R (ix2 r 0) = ((SUF P z (p + 512) : ℝ) : EReal)) (hv : ∀ s : Fin 512, vt (ix2 s d) = V (p + s.val))
    (ha : a (ix2 r d) = ACC P z V (p + 512)) :
    accX a (mskX M (wts R (k0_pay4 q kt) (after tri (mskX M (k0_pay5 q kt))))) vt (ix2 r d) = ACC P z V p := by
  rw [accX_apply]
  refine ACC_step P z V p 512 512 h le_rfl _ _ _ (fun s => ?_) (fun s _ => hv s) ha
  rw [mskX_apply, wts_real P z p tri q kt R r htri _ h (row_diag P z p q kt M r hP hM hz) hz hR, if_pos s.isLt, WT]
  exact if_congr ((hM s).trans (by omega)) rfl rfl

/-- The last tile: the result of a row. -/
theorem acc_meta (tri : FVec Ideal S128x128 .bf16) (kt vt : Vec Ideal S128x128 .f32)
    (htri : ∀ x s : Fin 128, tri (ix2 x s) = if s.val < x.val then (1 : EReal) else 0)
    (hP : 16 ≤ P) (hz : ∀ s : Fin 128, s.val < 16 → Zy q kt r s = (z s.val : EReal))
    (hR : R (ix2 r 0) = ((SUF P z 16 : ℝ) : EReal)) (hv : ∀ s : Fin 128, s.val < 16 → vt (ix2 s d) = V s.val)
    (ha : a (ix2 r d) = ACC P z V 16) :
    accY a (wtsY tri R (k0_pay84 q kt) (mskY (k0_pay85 q kt))) vt (ix2 r d) = ACC P z V 0 := by
  have hX : ∀ s : Fin 128, mskY (k0_pay85 q kt) (ix2 r s) = ((if s.val < 16 then LK P z (0 + s.val) else 0 : ℝ) : EReal) := by
    intro s
    rw [mskY_apply]
    by_cases h : s.val < 16
    · rw [if_pos h, if_pos h, pay85_apply, hz s h, lbE_coe, ← EReal.coe_sub, LK, if_pos (by omega), Nat.zero_add]; rfl
    · rw [if_neg h, if_neg h, EReal.coe_zero]
  rw [accY_apply]
  refine ACC_step P z V 0 16 128 (by omega) (by omega) _ _ _ (fun s => ?_) (fun s h => (hv s h).trans (by rw [Nat.zero_add])) ha
  rw [wtsY_apply]
  by_cases h : s.val < 16
  · rw [if_pos h, if_pos h, tri2_0, tri2_1, pay84_apply, hz s h, lbE_coe, hR, WT, if_pos (by omega)]
    simp only [hX, htri, coe_sub_self, zero_mul, Finset.sum_const_zero, add_zero, coe_mul_ite, coe_sum, ← EReal.coe_add, exp_coe]
    congr 3
    · rw [Nat.zero_add]
    · exact SUF_lane_step P z 0 16 128 (by omega) (by omega) _ _ (fun _ => rfl) rfl s h
  · rw [if_neg h, if_neg h]

end Step

end Cert.KernelIdeal.Tile

end
-- ==== Proof.Block.lean ====
module

public import proofs.«01_k».proof.Proof.Gen.KernelIdeal.Value
public import proofs.«01_k».proof.Proof.Tile
public import proofs.«01_k».proof.Proof.Spec
public import Idealize.ShloMosaic.Lib.Pipeline.ValueKit
public import Idealize.ShloMosaic.Lib.WholeRead

@[expose] public section

set_option maxRecDepth 16384

noncomputable section

namespace Cert.KernelIdeal.Block

open Cert.KernelIdeal Cert.KernelIdeal.Gen Cert.KernelIdeal.Tile Cert.StickBreaking
open Idealize.ShloMosaic Idealize.ShloMosaic.TcCoe Idealize.SL.Sem
open Idealize.ShloMosaic.Pipeline (Dat)

/-! ## The grid's arithmetic -/

/-- The first loop runs once for each earlier tile. -/
theorem trips1 : ∀ i : grid0.Coords, (k0_t1_loop i).trips = (i 1).val := by decide +kernel
/-- The second loop never runs. -/
theorem trips2 : ∀ i : grid0.Coords, (k0_t2_loop i).trips = 0 := by decide +kernel
/-- Where the diagonal tile lies, first head. -/
theorem off1 : ∀ i : grid0.Coords, k0_off1 i 0 = 512 * (i 1).val ∧ k0_off1 i 1 = 0 := by decide +kernel
/-- Where the diagonal tile lies, second head. -/
theorem off2 : ∀ i : grid0.Coords, k0_off2 i 0 = 512 * (i 1).val ∧ k0_off2 i 1 = 128 := by decide +kernel
/-- Where the loop's tile lies, first head. -/
theorem off3 : ∀ i : grid0.Coords, ∀ k : Fin (k0_t1_loop i).trips, k0_off3 i k 0 = 512 * ((i 1).val - 1 - k.val) ∧ k0_off3 i k 1 = 0 := by decide +kernel
/-- Where the loop's tile lies, second head. -/
theorem off4 : ∀ i : grid0.Coords, ∀ k : Fin (k0_t1_loop i).trips, k0_off4 i k 0 = 512 * ((i 1).val - 1 - k.val) ∧ k0_off4 i k 1 = 128 := by decide +kernel
/-- There are sixteen query blocks. -/
theorem blk_lt : ∀ i : grid0.Coords, (i 1).val < 16 := by decide +kernel

/-- A comparison of small words is the comparison of the numbers. -/
theorem slt_small (a b : ℕ) (ha : a < 2 ^ 31) (hb : b < 2 ^ 31) :
    IntOp.cmpi .slt (BitVec.ofNat 32 a) (BitVec.ofNat 32 b) = 1#1 ↔ a < b := by
  have e : (BitVec.ofNat 32 a).slt (BitVec.ofNat 32 b) = decide (a < b) := by
    have e1 : ∀ a : ℕ, a < 2 ^ 31 → (BitVec.ofNat 32 a).toInt = (a : ℤ) := fun a ha => by
      have h : (BitVec.ofNat 32 a).toNat = a := by rw [BitVec.toNat_ofNat]; omega
      rw [BitVec.toInt_eq_toNat_of_lt (by rw [h]; omega), h]
    rw [BitVec.slt, e1 a ha, e1 b hb]
    simp
  show BitVec.ofBool _ = 1#1 ↔ _
  rw [e]
  by_cases h : a < b <;> simp [h]

/-- The word of the block's own index, as the mask computes it. -/
theorem word : ∀ j : Fin 16, (Scalar.muli
          (Scalar.select
            (Scalar.andi
              (Scalar.cmpi CmpIPredicate.ne
                (Scalar.subi
                  (Scalar.extui (Scalar.cmpi CmpIPredicate.sgt (Scalar.muli (BitVec.ofNat 32 j.val) 512#32) 0#32) : BitVec 32)
                  (Scalar.extui (Scalar.cmpi CmpIPredicate.slt (Scalar.muli (BitVec.ofNat 32 j.val) 512#32) 0#32) : BitVec 32))
                (Scalar.subi (Scalar.extui (Scalar.cmpi CmpIPredicate.sgt 512#32 0#32) : BitVec 32)
                  (Scalar.extui (Scalar.cmpi CmpIPredicate.slt 512#32 0#32) : BitVec 32)))
              (Scalar.cmpi CmpIPredicate.ne (Scalar.remsi (Scalar.muli (BitVec.ofNat 32 j.val) 512#32) 512#32) 0#32))
            (Scalar.subi (Scalar.divsi (Scalar.muli (BitVec.ofNat 32 j.val) 512#32) 512#32) 1#32)
            (Scalar.divsi (Scalar.muli (BitVec.ofNat 32 j.val) 512#32) 512#32))
          512#32) = BitVec.ofNat 32 (512 * j.val) ∧ Scalar.muli (BitVec.ofNat 32 j.val) 512#32 = BitVec.ofNat 32 (512 * j.val) := by
  decide +kernel

/-- The diagonal tile's mask keeps the keys before the query. -/
theorem mask (i : grid0.Coords) (r s : Fin 512) : k0_pay49 i (ix2 r s) = 1#1 ↔ s.val < r.val := by
  have h1 : (i 1).val < 16 := blk_lt i
  have e := word ⟨(i 1).val, h1⟩
  dsimp only at e
  have h := slt_small (512 * (i 1).val + s.val) (512 * (i 1).val + r.val) (by omega) (by omega)
  rw [Nat.add_lt_add_iff_left] at h
  rw [← h]
  rw [BitVec.ofNat_add, BitVec.ofNat_add]
  pointwise [k0_pay49]
  rw [e.1, e.2]
  rfl

/-! ## Reading tiles of the panels -/

/-- A tile loaded from a panel, at an entry. -/
theorem ld_entry (X : Vec Ideal S8704x256 .f32) (off : Fin 2 → ℕ) (inb) (s : Fin 512) (x : Fin 128) (a : Fin 8704) (b : Fin 256)
    (ha : a.val = off 0 + s.val) (hb : b.val = off 1 + x.val) :
    View.ld X (Rect.unit (s := S8704x256) off ![512, 128] inb) (ix2 s x) = X (ix2 a b) := by
  refine congrArg X (funext fun k => Fin.ext ?_)
  fin_cases k
  · show off 0 + 1 * s.val = a.val; omega
  · show off 1 + 1 * x.val = b.val; omega

/-- The learned rows' tile, at an entry. -/
theorem ldm_entry (X : Vec Ideal S8704x256 .f32) (off : Fin 2 → ℕ) (inb) (s : Fin 128) (x : Fin 128) (a : Fin 8704) (b : Fin 256)
    (ha : a.val = off 0 + s.val) (hb : b.val = off 1 + x.val) :
    View.ld X (Rect.unit (s := S8704x256) off ![128, 128] inb) (ix2 s x) = X (ix2 a b) := by
  refine congrArg X (funext fun k => Fin.ext ?_)
  fin_cases k
  · show off 0 + 1 * s.val = a.val; omega
  · show off 1 + 1 * x.val = b.val; omega

/-- A head's queries, at an entry. -/
theorem ldq_entry (X : Vec Ideal S512x256 .f32) (off : Fin 2 → ℕ) (inb) (s : Fin 512) (x : Fin 128) (b : Fin 256)
    (ha : off 0 = 0) (hb : b.val = off 1 + x.val) :
    View.ld X (Rect.unit (s := S512x256) off ![512, 128] inb) (ix2 s x) = X (ix2 s b) := by
  refine congrArg X (funext fun k => Fin.ext ?_)
  fin_cases k
  · show off 0 + 1 * s.val = s.val; omega
  · show off 1 + 1 * x.val = b.val; omega

/-- A tile read inside the loop, at an entry. -/
theorem rd_entry {a3 : Memref sig .tc .vmem S8704x256 .f32} (h3 : a3.IsWhole) (X : Vec Ideal S8704x256 .f32) (off : Fin 2 → ℕ) (inb) (s : Fin 512) (x : Fin 128)
    (a : Fin 8704) (b : Fin 256) (ha : a.val = off 0 + s.val) (hb : b.val = off 1 + x.val) :
    View.readAt (Elt Ideal) a3.view (Rect.unit (s := S8704x256) off S512x128.size inb).toLoadRect (h3.unread X) (ix2 s x) = X (ix2 a b) := by
  refine (h3.readAt_unread X _ _).trans (congrArg X (funext fun k => Fin.ext ?_))
  fin_cases k
  · show off 0 + 1 * s.val = a.val; omega
  · show off 1 + 1 * x.val = b.val; omega

/-! ## The loop -/

section Loop

variable (𝒱 : Variants) (c : Dev nD) (bd : Option 𝒱.V) (i : grid0.Coords)
   (a2 : Memref sig .tc .vmem S512x256 .f32) (h2 : a2.IsWhole) (a3 : Memref sig .tc .vmem S8704x256 .f32) (h3 : a3.IsWhole)
   (a4 : Memref sig .tc .vmem S8704x256 .f32) (h4 : a4.IsWhole)
   (a5 : Memref sig .tc .vmem S256x256 .bf16) (h5 : a5.IsWhole) (a6 : Memref sig .tc .vmem S512x256 .f32) (h6 : a6.IsWhole)
   (v1 : FVec Ideal S256x256 .bf16) (v8 v10 : FVec Ideal S512x128 .bf16) (v13 : FVec Ideal S512x1 .f32) (v14 : FVec Ideal S512x128 .f32)
   (v32 : BitVec 32) (v37 : IVec S512x512 1) (v92 : FVec Ideal S512x1 .f32) (v95 : FVec Ideal S512x128 .f32) (v101 : FVec Ideal S512x128 .bf16)
   (v114 v117 : FVec Ideal S512x512 .f32) (v127 : FVec Ideal S2048x256 .f32) (v130 : FVec Ideal S512x256 .f32) (v133 : FVec Ideal S512x1 .f32)
   (v134 : FVec Ideal S512x256 .f32) (X3 X4 : Vec Ideal S8704x256 .f32)
   (init : FVec Ideal S512x1 .f32 × FVec Ideal S512x128 .f32 × FVec Ideal S512x1 .f32 × FVec Ideal S512x128 .f32)

local notation "tripAt" => tripR_k0_t1 (F := Ideal) 𝒱 c bd i a2 h2 a3 h3 a4 h4 a5 h5 a6 h6 v1 v8 v10 v13 v14 v32 v37 v92 v95 v101 v114 v117 v127 v130 v133 v134 (h3.unread X3) (h4.unread X4)
local notation "stAt" => st_k0_t1 (F := Ideal) 𝒱 c bd i a2 h2 a3 h3 a4 h4 a5 h5 a6 h6 v1 v8 v10 v13 v14 v32 v37 v92 v95 v101 v114 v117 v127 v130 v133 v134 (h3.unread X3) (h4.unread X4) init

/-- The keys of trip `k`, first head. -/
def kt3 (k : Fin (k0_t1_loop i).trips) : Vec Ideal S512x128 .f32 :=
  View.readAt (Elt Ideal) a3.view (Rect.unit (s := S8704x256) (k0_off3 i k) S512x128.size (k0_off3_inb i k)).toLoadRect (h3.unread X3)
/-- The keys of trip `k`, second head. -/
def kt4 (k : Fin (k0_t1_loop i).trips) : Vec Ideal S512x128 .f32 :=
  View.readAt (Elt Ideal) a3.view (Rect.unit (s := S8704x256) (k0_off4 i k) S512x128.size (k0_off4_inb i k)).toLoadRect (h3.unread X3)

/-- What a trip yields. -/
theorem trip_eq (k : Fin (k0_t1_loop i).trips) (acc) : tripAt k acc =
    (rsumX acc.1 (k0_pay5 v8 (kt3 i a3 h3 X3 k)),
     accX acc.2.1 (wts acc.1 (k0_pay4 v8 (kt3 i a3 h3 X3 k)) (after v1 (k0_pay5 v8 (kt3 i a3 h3 X3 k)))) (kt3 i a4 h4 X4 k),
     rsumX acc.2.2.1 (k0_pay5 v10 (kt4 i a3 h3 X3 k)),
     accX acc.2.2.2 (wts acc.2.2.1 (k0_pay4 v10 (kt4 i a3 h3 X3 k)) (after v1 (k0_pay5 v10 (kt4 i a3 h3 X3 k)))) (kt4 i a4 h4 X4 k)) := by
  unfold tripR_k0_t1 trip_k0_t1
  rfl

variable (htri : ∀ x s : Fin 256, v1 (ix2 x s) = if s.val < x.val then (1 : EReal) else 0) (r : Fin 512) (d : Fin 128)
include htri

/-- The first head's running sum and accumulator before each trip. -/
theorem loop_h1 (z : ℕ → ℝ) (V : ℕ → EReal)
    (hz : ∀ j < 8208, (∑ x : Fin 128, v8 (ix2 r x) * X3 (ix2 (row j) (⟨x.val, by omega⟩ : Fin 256))) * scale = (z j : EReal))
    (hV : ∀ j, V j = X4 (ix2 (row j) (⟨d.val, by omega⟩ : Fin 256)))
    (hi1 : init.1 (ix2 r 0) = ((SUF (16 + 512 * (i 1).val + r.val) z (16 + 512 * (i 1).val) : ℝ) : EReal))
    (hi2 : init.2.1 (ix2 r d) = ACC (16 + 512 * (i 1).val + r.val) z V (16 + 512 * (i 1).val)) :
    ∀ n ≤ (i 1).val, (stAt n).1 (ix2 r 0) = ((SUF (16 + 512 * (i 1).val + r.val) z (16 + 512 * ((i 1).val - n)) : ℝ) : EReal)
      ∧ (stAt n).2.1 (ix2 r d) = ACC (16 + 512 * (i 1).val + r.val) z V (16 + 512 * ((i 1).val - n)) := by
  intro n
  induction n with
  | zero => exact fun _ => ⟨hi1, hi2⟩
  | succ n ih =>
    intro hn
    obtain ⟨ih1, ih2⟩ := ih (by omega)
    have h16 : (i 1).val < 16 := blk_lt i
    obtain ⟨k, rfl⟩ : ∃ k : Fin (k0_t1_loop i).trips, n = k.val := ⟨⟨n, by rw [trips1]; omega⟩, rfl⟩
    have o := off3 i k
    have ep : 16 + 512 * ((i 1).val - k.val) = 16 + 512 * ((i 1).val - (k.val + 1)) + 512 := by omega
    rw [ep] at ih1 ih2
    rw [st_k0_t1_succ, trip_eq]
    have hZ : ∀ s : Fin 512, Zt v8 (kt3 i a3 h3 X3 k) r s = (z (16 + 512 * ((i 1).val - (k.val + 1)) + s.val) : EReal) := by
      intro s
      rw [← hz _ (by omega)]
      unfold Zt
      refine congrArg (· * scale) (Finset.sum_congr rfl fun x _ => congrArg (v8 (ix2 r x) * ·) ?_)
      refine rd_entry h3 X3 _ _ s x _ _ ?_ ?_
      · rw [o.1]; simp only [row]; rw [if_neg (by omega), Nat.mod_eq_of_lt (by omega)]; omega
      · rw [o.2]; simp
    have hR := ih1
    constructor
    · exact rsum_step _ z _ _ r _ (by omega) (row_past _ z _ v8 _ r (by omega) hZ) hR
    · refine acc_past _ z V _ v1 v8 _ _ _ _ r d htri (by omega) (by omega) hZ hR (fun s => ?_) ih2
      rw [hV]
      refine rd_entry h4 X4 _ _ s d _ _ ?_ ?_
      · rw [o.1]; simp only [row]; rw [if_neg (by omega), Nat.mod_eq_of_lt (by omega)]; omega
      · rw [o.2]; simp

/-- The second head's running sum and accumulator before each trip. -/
theorem loop_h2 (z : ℕ → ℝ) (V : ℕ → EReal)
    (hz : ∀ j < 8208, (∑ x : Fin 128, v10 (ix2 r x) * X3 (ix2 (row j) (⟨128 + x.val, by omega⟩ : Fin 256))) * scale = (z j : EReal))
    (hV : ∀ j, V j = X4 (ix2 (row j) (⟨128 + d.val, by omega⟩ : Fin 256)))
    (hi1 : init.2.2.1 (ix2 r 0) = ((SUF (16 + 512 * (i 1).val + r.val) z (16 + 512 * (i 1).val) : ℝ) : EReal))
    (hi2 : init.2.2.2 (ix2 r d) = ACC (16 + 512 * (i 1).val + r.val) z V (16 + 512 * (i 1).val)) :
    ∀ n ≤ (i 1).val, (stAt n).2.2.1 (ix2 r 0) = ((SUF (16 + 512 * (i 1).val + r.val) z (16 + 512 * ((i 1).val - n)) : ℝ) : EReal)
      ∧ (stAt n).2.2.2 (ix2 r d) = ACC (16 + 512 * (i 1).val + r.val) z V (16 + 512 * ((i 1).val - n)) := by
  intro n
  induction n with
  | zero => exact fun _ => ⟨hi1, hi2⟩
  | succ n ih =>
    intro hn
    obtain ⟨ih1, ih2⟩ := ih (by omega)
    have h16 : (i 1).val < 16 := blk_lt i
    obtain ⟨k, rfl⟩ : ∃ k : Fin (k0_t1_loop i).trips, n = k.val := ⟨⟨n, by rw [trips1]; omega⟩, rfl⟩
    have o := off4 i k
    have ep : 16 + 512 * ((i 1).val - k.val) = 16 + 512 * ((i 1).val - (k.val + 1)) + 512 := by omega
    rw [ep] at ih1 ih2
    rw [st_k0_t1_succ, trip_eq]
    have hZ : ∀ s : Fin 512, Zt v10 (kt4 i a3 h3 X3 k) r s = (z (16 + 512 * ((i 1).val - (k.val + 1)) + s.val) : EReal) := by
      intro s
      rw [← hz _ (by omega)]
      unfold Zt
      refine congrArg (· * scale) (Finset.sum_congr rfl fun x _ => congrArg (v10 (ix2 r x) * ·) ?_)
      refine rd_entry h3 X3 _ _ s x _ _ ?_ ?_
      · rw [o.1]; simp only [row]; rw [if_neg (by omega), Nat.mod_eq_of_lt (by omega)]; omega
      · rw [o.2]
    have hR := ih1
    constructor
    · exact rsum_step _ z _ _ r _ (by omega) (row_past _ z _ v10 _ r (by omega) hZ) hR
    · refine acc_past _ z V _ v1 v10 _ _ _ _ r d htri (by omega) (by omega) hZ hR (fun s => ?_) ih2
      rw [hV]
      refine rd_entry h4 X4 _ _ s d _ _ ?_ ?_
      · rw [o.1]; simp only [row]; rw [if_neg (by omega), Nat.mod_eq_of_lt (by omega)]; omega
      · rw [o.2]

end Loop

/-! ## After the loops -/

section End

variable {𝒱 : Variants} {c : Dev nD} {bd : Option 𝒱.V} {i : grid0.Coords}
   {a2 : Memref sig .tc .vmem S512x256 .f32} {h2 : a2.IsWhole} {a3 : Memref sig .tc .vmem S8704x256 .f32} {h3 : a3.IsWhole}
   {a4 : Memref sig .tc .vmem S8704x256 .f32} {h4 : a4.IsWhole}
   {a5 : Memref sig .tc .vmem S256x256 .bf16} {h5 : a5.IsWhole} {a6 : Memref sig .tc .vmem S512x256 .f32} {h6 : a6.IsWhole}
   {v1 : FVec Ideal S256x256 .bf16} {v8 v10 : FVec Ideal S512x128 .bf16} {v13 : FVec Ideal S512x1 .f32} {v14 : FVec Ideal S512x128 .f32}
   {v32 : BitVec 32} {v37 : IVec S512x512 1} {v92 : FVec Ideal S512x1 .f32} {v95 : FVec Ideal S512x128 .f32} {v101 : FVec Ideal S512x128 .bf16}
   {v114 v117 : FVec Ideal S512x512 .f32} {v127 : FVec Ideal S2048x256 .f32} {v130 : FVec Ideal S512x256 .f32} {v133 : FVec Ideal S512x1 .f32}
   {v134 : FVec Ideal S512x256 .f32} {v158 : BitVec 32} {Y3 : BufTy.Contents (Elt Ideal) a3.view.ty} {Y4 : BufTy.Contents (Elt Ideal) a4.view.ty} {X3 X4 : Vec Ideal S8704x256 .f32}
   {init : FVec Ideal S512x1 .f32 × FVec Ideal S512x128 .f32 × FVec Ideal S512x1 .f32 × FVec Ideal S512x128 .f32} {n : ℕ}

local notation "stB" => st_k0_t2 (F := Ideal) 𝒱 c bd i a2 h2 a3 h3 a4 h4 a5 h5 a6 h6 v1 v8 v10 v13 v14 v32 v37 v92 v95 v101 v114 v117 v127 v130 v133 v134 v158 Y3 Y4 init n
local notation "stE" => st_k0_t1 (F := Ideal) 𝒱 c bd i a2 h2 a3 h3 a4 h4 a5 h5 a6 h6 v1 v8 v10 v13 v14 v32 v37 v92 v95 v101 v114 v117 v127 v130 v133 v134 (h3.unread X3) (h4.unread X4) init n

/-- The loop that never runs leaves component 1 of its carried value. -/
theorem idle1 (hn : n = 0) (y : S512x1.Idx) (Q : EReal) (h : init.1 y = Q) : (stB).1 y = Q := by
  subst hn; exact h

/-- The loop that never runs leaves component 2 of its carried value. -/
theorem idle2 (hn : n = 0) (y : S512x128.Idx) (Q : EReal) (h : init.2.1 y = Q) : (stB).2.1 y = Q := by
  subst hn; exact h

/-- The loop that never runs leaves component 3 of its carried value. -/
theorem idle3 (hn : n = 0) (y : S512x1.Idx) (Q : EReal) (h : init.2.2.1 y = Q) : (stB).2.2.1 y = Q := by
  subst hn; exact h

/-- The loop that never runs leaves component 4 of its carried value. -/
theorem idle4 (hn : n = 0) (y : S512x128.Idx) (Q : EReal) (h : init.2.2.2 y = Q) : (stB).2.2.2 y = Q := by
  subst hn; exact h

variable (hn : n = (i 1).val) (htri : ∀ x s : Fin 256, v1 (ix2 x s) = if s.val < x.val then (1 : EReal) else 0) (r : Fin 512) (d : Fin 128)
include hn htri

/-- Head 1 after the loop. -/
theorem done1s (z : ℕ → ℝ) (V : ℕ → EReal)
    (hz : ∀ j < 8208, (∑ x : Fin 128, v8 (ix2 r x) * X3 (ix2 (row j) (⟨x.val, by omega⟩ : Fin 256))) * scale = (z j : EReal))
    (hV : ∀ j, V j = X4 (ix2 (row j) (⟨d.val, by omega⟩ : Fin 256)))
    (hi1 : init.1 (ix2 r 0) = ((SUF (16 + 512 * (i 1).val + r.val) z (16 + 512 * (i 1).val) : ℝ) : EReal))
    (hi2 : init.2.1 (ix2 r d) = ACC (16 + 512 * (i 1).val + r.val) z V (16 + 512 * (i 1).val)) : (stE).1 (ix2 r 0) = ((SUF (16 + 512 * (i 1).val + r.val) z 16 : ℝ) : EReal) := by
  subst hn
  have h := (loop_h1 𝒱 c bd i a2 h2 a3 h3 a4 h4 a5 h5 a6 h6 v1 v8 v10 v13 v14 v32 v37 v92 v95 v101 v114 v117 v127 v130 v133 v134 X3 X4 init htri r d z V hz hV hi1 hi2 (i 1).val le_rfl).1
  rwa [Nat.sub_self, Nat.mul_zero, Nat.add_zero] at h

/-- Head 1 after the loop. -/
theorem done1a (z : ℕ → ℝ) (V : ℕ → EReal)
    (hz : ∀ j < 8208, (∑ x : Fin 128, v8 (ix2 r x) * X3 (ix2 (row j) (⟨x.val, by omega⟩ : Fin 256))) * scale = (z j : EReal))
    (hV : ∀ j, V j = X4 (ix2 (row j) (⟨d.val, by omega⟩ : Fin 256)))
    (hi1 : init.1 (ix2 r 0) = ((SUF (16 + 512 * (i 1).val + r.val) z (16 + 512 * (i 1).val) : ℝ) : EReal))
    (hi2 : init.2.1 (ix2 r d) = ACC (16 + 512 * (i 1).val + r.val) z V (16 + 512 * (i 1).val)) : (stE).2.1 (ix2 r d) = ACC (16 + 512 * (i 1).val + r.val) z V 16 := by
  subst hn
  have h := (loop_h1 𝒱 c bd i a2 h2 a3 h3 a4 h4 a5 h5 a6 h6 v1 v8 v10 v13 v14 v32 v37 v92 v95 v101 v114 v117 v127 v130 v133 v134 X3 X4 init htri r d z V hz hV hi1 hi2 (i 1).val le_rfl).2
  rwa [Nat.sub_self, Nat.mul_zero, Nat.add_zero] at h

/-- Head 2 after the loop. -/
theorem done2s (z : ℕ → ℝ) (V : ℕ → EReal)
    (hz : ∀ j < 8208, (∑ x : Fin 128, v10 (ix2 r x) * X3 (ix2 (row j) (⟨128 + x.val, by omega⟩ : Fin 256))) * scale = (z j : EReal))
    (hV : ∀ j, V j = X4 (ix2 (row j) (⟨128 + d.val, by omega⟩ : Fin 256)))
    (hi1 : init.2.2.1 (ix2 r 0) = ((SUF (16 + 512 * (i 1).val + r.val) z (16 + 512 * (i 1).val) : ℝ) : EReal))
    (hi2 : init.2.2.2 (ix2 r d) = ACC (16 + 512 * (i 1).val + r.val) z V (16 + 512 * (i 1).val)) : (stE).2.2.1 (ix2 r 0) = ((SUF (16 + 512 * (i 1).val + r.val) z 16 : ℝ) : EReal) := by
  subst hn
  have h := (loop_h2 𝒱 c bd i a2 h2 a3 h3 a4 h4 a5 h5 a6 h6 v1 v8 v10 v13 v14 v32 v37 v92 v95 v101 v114 v117 v127 v130 v133 v134 X3 X4 init htri r d z V hz hV hi1 hi2 (i 1).val le_rfl).1
  rwa [Nat.sub_self, Nat.mul_zero, Nat.add_zero] at h

/-- Head 2 after the loop. -/
theorem done2a (z : ℕ → ℝ) (V : ℕ → EReal)
    (hz : ∀ j < 8208, (∑ x : Fin 128, v10 (ix2 r x) * X3 (ix2 (row j) (⟨128 + x.val, by omega⟩ : Fin 256))) * scale = (z j : EReal))
    (hV : ∀ j, V j = X4 (ix2 (row j) (⟨128 + d.val, by omega⟩ : Fin 256)))
    (hi1 : init.2.2.1 (ix2 r 0) = ((SUF (16 + 512 * (i 1).val + r.val) z (16 + 512 * (i 1).val) : ℝ) : EReal))
    (hi2 : init.2.2.2 (ix2 r d) = ACC (16 + 512 * (i 1).val + r.val) z V (16 + 512 * (i 1).val)) : (stE).2.2.2 (ix2 r d) = ACC (16 + 512 * (i 1).val + r.val) z V 16 := by
  subst hn
  have h := (loop_h2 𝒱 c bd i a2 h2 a3 h3 a4 h4 a5 h5 a6 h6 v1 v8 v10 v13 v14 v32 v37 v92 v95 v101 v114 v117 v127 v130 v133 v134 X3 X4 init htri r d z V hz hV hi1 hi2 (i 1).val le_rfl).2
  rwa [Nat.sub_self, Nat.mul_zero, Nat.add_zero] at h

end End

/-! ## A block of the result -/

section Out

variable (c : Dev nD) (i : grid0.Coords)
   (a2 : Memref sig .tc .vmem S512x256 .f32) (h2 : a2.IsWhole) (a3 : Memref sig .tc .vmem S8704x256 .f32) (h3 : a3.IsWhole)
   (a4 : Memref sig .tc .vmem S8704x256 .f32) (h4 : a4.IsWhole)
   (a5 : Memref sig .tc .vmem S256x256 .bf16) (h5 : a5.IsWhole) (a6 : Memref sig .tc .vmem S512x256 .f32) (h6 : a6.IsWhole)
   (X2 : Vec Ideal S512x256 .f32) (X3 X4 : Vec Ideal S8704x256 .f32) (X5 : Vec Ideal S256x256 .bf16)
   (htri : ∀ x s : Fin 256, X5 (ix2 x s) = if s.val < x.val then (1 : EReal) else 0) (r : Fin 512) (d : Fin 128)
include htri

/-- The triangle as the body takes it. -/
theorem tri_pay (x s : Fin 256) : k0_pay42 X5 (ix2 x s) = if s.val < x.val then (1 : EReal) else 0 := by
  rw [← htri]
  pointwise [k0_pay42]

/-- The corner of the triangle. -/
theorem tri_corner (inb) (x s : Fin 128) : k0_pay75 (View.ld X5 (Rect.unit (s := S256x256) ![0, 0] ![128, 128] inb)) (ix2 x s) = if s.val < x.val then (1 : EReal) else 0 := by
  refine Eq.trans ?_ (htri ⟨x.val, by omega⟩ ⟨s.val, by omega⟩)
  pointwise [k0_pay75]

/-- Head 1 of a block. -/
theorem out_lo (z : ℕ → ℝ)
    (hz : ∀ j < 8208, (∑ x : Fin 128, X2 (ix2 r (⟨x.val, by omega⟩ : Fin 256)) * X3 (ix2 (row j) (⟨x.val, by omega⟩ : Fin 256))) * scale = (z j : EReal)) :
    out0_A_4 (F := Ideal) c i a2 h2 a3 h3 a4 h4 a5 h5 a6 h6 X2 X3 X4 X5 (ix2 r (⟨d.val, by omega⟩ : Fin 256))
      = ACC (16 + 512 * (i 1).val + r.val) z (fun j => X4 (ix2 (row j) (⟨d.val, by omega⟩ : Fin 256))) 0 := by
  have h16 : (i 1).val < 16 := blk_lt i
  have o := off1 i
  have hq : ∀ inb, ∀ x : Fin 128, k0_pay43 (View.ld X2 (Rect.unit (s := S512x256) ![0, 0] ![512, 128] inb)) (ix2 r x) = X2 (ix2 r (⟨x.val, by omega⟩ : Fin 256)) :=
    fun inb x => ldq_entry X2 ![0, 0] inb r x _ rfl (by simp)
  have hz' : ∀ inb, ∀ j < 8208, (∑ x : Fin 128, k0_pay43 (View.ld X2 (Rect.unit (s := S512x256) ![0, 0] ![512, 128] inb)) (ix2 r x) * X3 (ix2 (row j) (⟨x.val, by omega⟩ : Fin 256))) * scale = (z j : EReal) := by
    intro inb j hj
    rw [← hz j hj]
    exact congrArg (· * scale) (Finset.sum_congr rfl fun x _ => by rw [hq])
  have hZd : ∀ inb inb', ∀ s : Fin 512, Zt (k0_pay43 (View.ld X2 (Rect.unit (s := S512x256) ![0, 0] ![512, 128] inb)))
      (View.ld X3 (Rect.unit (s := S8704x256) (k0_off1 i) ![512, 128] inb')) r s = (z (16 + 512 * (i 1).val + s.val) : EReal) := by
    intro inb inb' s
    rw [← hz' inb _ (by omega)]
    unfold Zt
    refine congrArg (· * scale) (Finset.sum_congr rfl fun x _ => congrArg (_ * ·) (ld_entry X3 _ inb' s x _ _ ?_ ?_))
    · rw [o.1]; simp only [row]; rw [if_neg (by omega), Nat.mod_eq_of_lt (by omega)]; omega
    · rw [o.2]; simp
  have hVd : ∀ inb', ∀ s : Fin 512, View.ld X4 (Rect.unit (s := S8704x256) (k0_off1 i) ![512, 128] inb') (ix2 s d)
      = X4 (ix2 (row (16 + 512 * (i 1).val + s.val)) (⟨d.val, by omega⟩ : Fin 256)) := by
    intro inb' s
    refine ld_entry X4 _ inb' s d _ _ ?_ ?_
    · rw [o.1]; simp only [row]; rw [if_neg (by omega), Nat.mod_eq_of_lt (by omega)]; omega
    · rw [o.2]; simp
  have hR0 : ∀ v : FVec Ideal S512x1 .f32, (∀ y, v y = 0) → v (ix2 r 0) = ((SUF (16 + 512 * (i 1).val + r.val) z (16 + 512 * (i 1).val + 512) : ℝ) : EReal) := by
    intro v hv
    rw [hv, SUF_zero _ _ _ (by omega), EReal.coe_zero]
  have hA0 : ∀ v : FVec Ideal S512x128 .f32, (∀ y, v y = 0) → v (ix2 r d) = ACC (16 + 512 * (i 1).val + r.val) z (fun j => X4 (ix2 (row j) (⟨d.val, by omega⟩ : Fin 256))) (16 + 512 * (i 1).val + 512) := by
    intro v hv
    rw [hv, ACC_zero _ _ _ _ (by omega)]
  have hs0 : ∀ inb inb', rsumX k0_pay45 (mskX (k0_pay49 i) (k0_pay5 (k0_pay43 (View.ld X2 (Rect.unit (s := S512x256) ![0, 0] ![512, 128] inb))) (View.ld X3 (Rect.unit (s := S8704x256) (k0_off1 i) ![512, 128] inb')))) (ix2 r 0)
      = ((SUF (16 + 512 * (i 1).val + r.val) z (16 + 512 * (i 1).val) : ℝ) : EReal) := fun inb inb' =>
    rsum_step _ z _ _ r _ (by omega) (row_diag _ z _ _ _ _ r rfl (mask i r) (hZd inb inb')) (hR0 _ fun y => by pointwise [k0_pay45])
  have ha0 : ∀ inb inb' inb'', accX k0_pay46 (mskX (k0_pay49 i) (wts k0_pay45 (k0_pay4 (k0_pay43 (View.ld X2 (Rect.unit (s := S512x256) ![0, 0] ![512, 128] inb))) (View.ld X3 (Rect.unit (s := S8704x256) (k0_off1 i) ![512, 128] inb')))
      (after (k0_pay42 X5) (mskX (k0_pay49 i) (k0_pay5 (k0_pay43 (View.ld X2 (Rect.unit (s := S512x256) ![0, 0] ![512, 128] inb))) (View.ld X3 (Rect.unit (s := S8704x256) (k0_off1 i) ![512, 128] inb'))))))) (View.ld X4 (Rect.unit (s := S8704x256) (k0_off1 i) ![512, 128] inb'')) (ix2 r d)
      = ACC (16 + 512 * (i 1).val + r.val) z (fun j => X4 (ix2 (row j) (⟨d.val, by omega⟩ : Fin 256))) (16 + 512 * (i 1).val) := fun inb inb' inb'' =>
    acc_diag _ z _ _ _ _ _ _ _ _ _ r d (tri_pay X5 htri) (by omega) rfl (mask i r) (hZd inb inb') (hR0 _ fun y => by pointwise [k0_pay45]) (hVd inb'') (hA0 _ fun y => by pointwise [k0_pay46])
  have hrm : ∀ j : ℕ, j < 16 → (row j).val = 8192 + j := by
    intro j hj
    simp only [row]; rw [if_pos hj, Nat.mod_eq_of_lt (by omega)]
  frame_out
  canon_tiles x h
  case piece0 => exact absurd h1 (by simp; omega)
  obtain rfl : x = ix2 r d := by
    rw [eq_ix2 x]; congr 1 <;> apply Fin.ext <;> [(have := h0; simp at this); (have := h1; simp at this)] <;> omega
  refine (congrFun (Tile.out_h1 _ _ _ _ _ _) _).trans ?_
  refine acc_meta _ z _ _ _ _ r d _ _ _ (tri_corner X5 htri _) (by omega) (fun s hs => ?_) ?_ (fun s hs => ?_) ?_
  · rw [← hz' inb_S512x256_S512x128_0_0 s.val (by omega)]
    unfold Zy
    exact congrArg (· * scale) (Finset.sum_congr rfl fun x _ => congrArg (_ * ·) (ldm_entry X3 _ _ s x _ _ (hrm _ hs) (by simp)))
  · refine idle1 (trips2 i) _ _ ?_
    exact done1s (trips1 i) (tri_pay X5 htri) r d z _ (hz' _) (fun _ => rfl) (hs0 _ _) (ha0 _ _ _)
  · exact ldm_entry X4 _ _ s d _ _ (hrm _ hs) (by simp)
  · refine idle2 (trips2 i) _ _ ?_
    exact done1a (trips1 i) (tri_pay X5 htri) r d z _ (hz' _) (fun _ => rfl) (hs0 _ _) (ha0 _ _ _)

/-- Head 2 of a block. -/
theorem out_hi (z : ℕ → ℝ)
    (hz : ∀ j < 8208, (∑ x : Fin 128, X2 (ix2 r (⟨128 + x.val, by omega⟩ : Fin 256)) * X3 (ix2 (row j) (⟨128 + x.val, by omega⟩ : Fin 256))) * scale = (z j : EReal)) :
    out0_A_4 (F := Ideal) c i a2 h2 a3 h3 a4 h4 a5 h5 a6 h6 X2 X3 X4 X5 (ix2 r (⟨128 + d.val, by omega⟩ : Fin 256))
      = ACC (16 + 512 * (i 1).val + r.val) z (fun j => X4 (ix2 (row j) (⟨128 + d.val, by omega⟩ : Fin 256))) 0 := by
  have h16 : (i 1).val < 16 := blk_lt i
  have o := off2 i
  have hq : ∀ inb, ∀ x : Fin 128, k0_pay44 (View.ld X2 (Rect.unit (s := S512x256) ![0, 128] ![512, 128] inb)) (ix2 r x) = X2 (ix2 r (⟨128 + x.val, by omega⟩ : Fin 256)) :=
    fun inb x => ldq_entry X2 ![0, 128] inb r x _ rfl (by simp)
  have hz' : ∀ inb, ∀ j < 8208, (∑ x : Fin 128, k0_pay44 (View.ld X2 (Rect.unit (s := S512x256) ![0, 128] ![512, 128] inb)) (ix2 r x) * X3 (ix2 (row j) (⟨128 + x.val, by omega⟩ : Fin 256))) * scale = (z j : EReal) := by
    intro inb j hj
    rw [← hz j hj]
    exact congrArg (· * scale) (Finset.sum_congr rfl fun x _ => by rw [hq])
  have hZd : ∀ inb inb', ∀ s : Fin 512, Zt (k0_pay44 (View.ld X2 (Rect.unit (s := S512x256) ![0, 128] ![512, 128] inb)))
      (View.ld X3 (Rect.unit (s := S8704x256) (k0_off2 i) ![512, 128] inb')) r s = (z (16 + 512 * (i 1).val + s.val) : EReal) := by
    intro inb inb' s
    rw [← hz' inb _ (by omega)]
    unfold Zt
    refine congrArg (· * scale) (Finset.sum_congr rfl fun x _ => congrArg (_ * ·) (ld_entry X3 _ inb' s x _ _ ?_ ?_))
    · rw [o.1]; simp only [row]; rw [if_neg (by omega), Nat.mod_eq_of_lt (by omega)]; omega
    · rw [o.2]
  have hVd : ∀ inb', ∀ s : Fin 512, View.ld X4 (Rect.unit (s := S8704x256) (k0_off2 i) ![512, 128] inb') (ix2 s d)
      = X4 (ix2 (row (16 + 512 * (i 1).val + s.val)) (⟨128 + d.val, by omega⟩ : Fin 256)) := by
    intro inb' s
    refine ld_entry X4 _ inb' s d _ _ ?_ ?_
    · rw [o.1]; simp only [row]; rw [if_neg (by omega), Nat.mod_eq_of_lt (by omega)]; omega
    · rw [o.2]
  have hR0 : ∀ v : FVec Ideal S512x1 .f32, (∀ y, v y = 0) → v (ix2 r 0) = ((SUF (16 + 512 * (i 1).val + r.val) z (16 + 512 * (i 1).val + 512) : ℝ) : EReal) := by
    intro v hv
    rw [hv, SUF_zero _ _ _ (by omega), EReal.coe_zero]
  have hA0 : ∀ v : FVec Ideal S512x128 .f32, (∀ y, v y = 0) → v (ix2 r d) = ACC (16 + 512 * (i 1).val + r.val) z (fun j => X4 (ix2 (row j) (⟨128 + d.val, by omega⟩ : Fin 256))) (16 + 512 * (i 1).val + 512) := by
    intro v hv
    rw [hv, ACC_zero _ _ _ _ (by omega)]
  have hs0 : ∀ inb inb', rsumX k0_pay47 (mskX (k0_pay49 i) (k0_pay5 (k0_pay44 (View.ld X2 (Rect.unit (s := S512x256) ![0, 128] ![512, 128] inb))) (View.ld X3 (Rect.unit (s := S8704x256) (k0_off2 i) ![512, 128] inb')))) (ix2 r 0)
      = ((SUF (16 + 512 * (i 1).val + r.val) z (16 + 512 * (i 1).val) : ℝ) : EReal) := fun inb inb' =>
    rsum_step _ z _ _ r _ (by omega) (row_diag _ z _ _ _ _ r rfl (mask i r) (hZd inb inb')) (hR0 _ fun y => by pointwise [k0_pay47])
  have ha0 : ∀ inb inb' inb'', accX k0_pay48 (mskX (k0_pay49 i) (wts k0_pay47 (k0_pay4 (k0_pay44 (View.ld X2 (Rect.unit (s := S512x256) ![0, 128] ![512, 128] inb))) (View.ld X3 (Rect.unit (s := S8704x256) (k0_off2 i) ![512, 128] inb')))
      (after (k0_pay42 X5) (mskX (k0_pay49 i) (k0_pay5 (k0_pay44 (View.ld X2 (Rect.unit (s := S512x256) ![0, 128] ![512, 128] inb))) (View.ld X3 (Rect.unit (s := S8704x256) (k0_off2 i) ![512, 128] inb'))))))) (View.ld X4 (Rect.unit (s := S8704x256) (k0_off2 i) ![512, 128] inb'')) (ix2 r d)
      = ACC (16 + 512 * (i 1).val + r.val) z (fun j => X4 (ix2 (row j) (⟨128 + d.val, by omega⟩ : Fin 256))) (16 + 512 * (i 1).val) := fun inb inb' inb'' =>
    acc_diag _ z _ _ _ _ _ _ _ _ _ r d (tri_pay X5 htri) (by omega) rfl (mask i r) (hZd inb inb') (hR0 _ fun y => by pointwise [k0_pay47]) (hVd inb'') (hA0 _ fun y => by pointwise [k0_pay48])
  have hrm : ∀ j : ℕ, j < 16 → (row j).val = 8192 + j := by
    intro j hj
    simp only [row]; rw [if_pos hj, Nat.mod_eq_of_lt (by omega)]
  frame_out
  canon_tiles x h
  case piece1 => exact absurd h1 (by simp; omega)
  obtain rfl : x = ix2 r d := by
    rw [eq_ix2 x]; congr 1 <;> apply Fin.ext <;> [(have := h0; simp at this); (have := h1; simp at this)] <;> omega
  refine (congrFun (Tile.out_h2 _ _ _ _ _ _) _).trans ?_
  refine acc_meta _ z _ _ _ _ r d _ _ _ (tri_corner X5 htri _) (by omega) (fun s hs => ?_) ?_ (fun s hs => ?_) ?_
  · rw [← hz' inb_S512x256_S512x128_0_128 s.val (by omega)]
    unfold Zy
    exact congrArg (· * scale) (Finset.sum_congr rfl fun x _ => congrArg (_ * ·) (ldm_entry X3 _ _ s x _ _ (hrm _ hs) rfl))
  · refine idle3 (trips2 i) _ _ ?_
    exact done2s (trips1 i) (tri_pay X5 htri) r d z _ (hz' _) (fun _ => rfl) (hs0 _ _) (ha0 _ _ _)
  · exact ldm_entry X4 _ _ s d _ _ (hrm _ hs) rfl
  · refine idle4 (trips2 i) _ _ ?_
    exact done2a (trips1 i) (tri_pay X5 htri) r d z _ (hz' _) (fun _ => rfl) (hs0 _ _) (ha0 _ _ _)

end Out

end Cert.KernelIdeal.Block

end
-- ==== Proof.Final.lean ====
module

public import proofs.«01_k».proof.Proof.Block

@[expose] public section

set_option maxRecDepth 16384

noncomputable section

namespace Cert.KernelIdeal.Final

open Cert.KernelIdeal Cert.KernelIdeal.Gen Cert.StickBreaking Cert.KernelIdeal.Block
open Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block lies. -/
theorem idx : ∀ t : Fin cfg0.N, win0_0.index t = ![t.val % 16, 16 + t.val / 16] ∧ win0_1.index t = ![0, 20 + t.val / 16]
    ∧ win0_2.index t = ![0, 24 + t.val / 16] ∧ win0_3.index t = ![0, 0] ∧ win0_4.index t = ![t.val % 16, t.val / 16] :=
  (by decide +kernel : ∀ t : Fin grid0.N, _)

/-- The query block of a grid point. -/
theorem coords1 : ∀ t : Fin cfg0.N, (grid0.coords t 1).val = t.val % 16 := (by decide +kernel : ∀ t : Fin grid0.N, _)

/-- The argument at an entry. -/
def arg (a : Fin 8704) (b : Fin 12288) : EReal := m ((c.tc : Thread nD τ).loc main_arg0) (ix2 a b)

/-- The triangle the host builds. -/
def tri : FVec Ideal S256x256 .bf16 :=
  truncf .bf16 (select (cmpi .sge (addi (iotaInDim S256x256 32 0) (broadcastInDim S256x256 ![] bcast_S_S256x256 (constantI S_ 32 4294967295#32))) (iotaInDim S256x256 32 1))
    (broadcastInDim S256x256 ![] bcast_S_S256x256 (constant S_ .f32 0x3F800000#32)) (broadcastInDim S256x256 ![] bcast_S_S256x256 (constant S_ .f32 0x00000000#32))) bitsLt_bf16_f32

/-- Small words, read as integers. -/
theorem toInt_lane : ∀ s : Fin 256, (BitVec.ofNat 32 s.val).toInt = s.val := by decide +kernel

/-- A small word less one, read as an integer. -/
theorem toInt_pred : ∀ x : Fin 256, (IntOp.addi (BitVec.ofNat 32 x.val) 4294967295#32).toInt = (x.val : Int) - 1 := by decide +kernel

/-- An entry of the triangle. -/
theorem tri_apply (x s : Fin 256) : tri (ix2 x s) = if s.val < x.val then (1 : EReal) else 0 := by
  have e : IntOp.cmpi CmpIPredicate.sge (IntOp.addi (BitVec.ofNat 32 x.val) 4294967295#32) (BitVec.ofNat 32 s.val)
      = BitVec.ofBool (decide (s.val < x.val)) := by
    show BitVec.ofBool ((BitVec.ofNat 32 s.val).sle (IntOp.addi (BitVec.ofNat 32 x.val) 4294967295#32)) = _
    rw [BitVec.sle_eq_decide, toInt_lane, toInt_pred]
    congr 2
    exact propext (by omega)
  pointwise [tri]
  rw [e]
  by_cases h : s.val < x.val
  · rw [if_pos h, decide_eq_true h]; rfl
  · rw [if_neg h, decide_eq_false h]; rfl

/-- The triangle the host hands to the call. -/
theorem tri_entry : V m c main_v2 = tri := by
  unfold V hostOps0 hostOps0_1 hostOps0_2
  simp only [List.flatten_cons, List.flatten_nil, List.append_nil, List.cons_append, List.nil_append, StableHlo.TRef.nullary, StableHlo.TRef.unary, StableHlo.TRef.binary, StableHlo.TRef.ternary, StableHlo.TRef.toBuf, StableHlo.TRef.ofBuf, cast_eq]
  after_results
  rfl

/-- The query block, at an entry. -/
theorem blk0 (t : Fin cfg0.N) (r : Fin 512) (b : Fin 256) (n : Fin 8704) (k : Fin 12288)
    (hn : n.val = 512 * (t.val % 16) + r.val) (hk : k.val = 4096 + 256 * (t.val / 16) + b.val) :
    iblk m c 0 t (ix2 r b) = arg m c n k := by
  unfold arg
  blk_ext [iblk, V, idx t]

/-- The key panel, at an entry. -/
theorem blk1 (t : Fin cfg0.N) (a : Fin 8704) (b : Fin 256) (k : Fin 12288) (hk : k.val = 5120 + 256 * (t.val / 16) + b.val) :
    iblk m c 1 t (ix2 a b) = arg m c a k := by
  unfold arg
  blk_ext [iblk, V, idx t]

/-- The value panel, at an entry. -/
theorem blk2 (t : Fin cfg0.N) (a : Fin 8704) (b : Fin 256) (k : Fin 12288) (hk : k.val = 6144 + 256 * (t.val / 16) + b.val) :
    iblk m c 2 t (ix2 a b) = arg m c a k := by
  unfold arg
  blk_ext [iblk, V, idx t]

/-- The fourth operand's block is the operand. -/
theorem blk3_read (T : FVec Ideal S256x256 .bf16) (h : V m c main_v2 = T) (t : Fin cfg0.N) (x s : Fin 256) :
    iblk m c 3 t (ix2 x s) = T (ix2 x s) := by
  unfold iblk
  rw [show V m c (Pipeline.arrRef spec0 3) = T from h]
  clear h
  blk_simp [idx t]
  blk_ext [idx t]

/-- The triangle, as a block. -/
theorem blk3 (t : Fin cfg0.N) (x s : Fin 256) : iblk m c 3 t (ix2 x s) = if s.val < x.val then (1 : EReal) else 0 := by
  rw [blk3_read m c tri (tri_entry m c) t x s, tri_apply]

/-- The call's result, entry by entry. -/
def result (p : Fin 8704 → Fin 12288 → EReal) (y : S8192x1024.Idx) : EReal :=
  attend p ⟨(y 0).val, (y 0).isLt⟩ ⟨(y 1).val / 128, by have : (y 1).val < 1024 := (y 1).isLt; omega⟩ ⟨(y 1).val % 128, by omega⟩

/-- A block of the result. -/
theorem point (hp : Finite (arg m c)) (t : Fin cfg0.N) (r : Fin 512) (b : Fin 256) (n : Fin 8192) (k : Fin 1024)
    (h0 : n.val = 512 * (t.val % 16) + r.val) (h1 : k.val = 256 * (t.val / 16) + b.val) :
    outsAt0 m c t (ix2 r b) = result (arg m c) (ix2 n k) := by
  have ht : t.val < 64 := t.isLt
  have hb := b.isLt
  have hc := coords1 t
  unfold outsAt0
  rcases Nat.lt_or_ge b.val 128 with hlt | hge
  · have hh : k.val / 128 = 2 * (t.val / 16) := by omega
    have hd : k.val % 128 = b.val := by omega
    refine (out_lo (htri := blk3 m c t) (r := r) (d := ⟨b.val, hlt⟩)
      (z := fun j => (score (arg m c) ⟨n.val, by omega⟩ ⟨k.val / 128, by omega⟩ j).toReal) (hz := fun j hj => ?_) ..).trans ?_
    · refine Eq.trans ?_ (score_real _ hp ⟨n.val, by omega⟩ (by simp only; omega) ⟨k.val / 128, by omega⟩ j hj)
      unfold score
      refine congrArg (· * scale) (Finset.sum_congr rfl fun x _ => ?_)
      rw [blk0 m c t r _ ⟨n.val, by omega⟩ ⟨4096 + 128 * (k.val / 128) + x.val, by omega⟩ (by simp only; omega) (by simp only; omega),
        blk1 m c t _ _ ⟨5120 + 128 * (k.val / 128) + x.val, by omega⟩ (by simp only; omega)]
    · unfold result attend
      rw [hc, show 16 + 512 * (t.val % 16) + r.val = 16 + n.val by omega]
      refine congrArg (fun V => ACC _ _ V 0) (funext fun j => ?_)
      exact blk2 m c t _ _ _ (by simp only [ix2_0, ix2_1]; omega)
  · have hh : k.val / 128 = 2 * (t.val / 16) + 1 := by omega
    have hd : k.val % 128 = b.val - 128 := by omega
    have hb' : b = ⟨128 + (b.val - 128), by omega⟩ := Fin.ext (by simp only; omega)
    rw [hb']
    refine (out_hi (htri := blk3 m c t) (r := r) (d := ⟨b.val - 128, by omega⟩)
      (z := fun j => (score (arg m c) ⟨n.val, by omega⟩ ⟨k.val / 128, by omega⟩ j).toReal) (hz := fun j hj => ?_) ..).trans ?_
    · refine Eq.trans ?_ (score_real _ hp ⟨n.val, by omega⟩ (by simp only; omega) ⟨k.val / 128, by omega⟩ j hj)
      unfold score
      refine congrArg (· * scale) (Finset.sum_congr rfl fun x _ => ?_)
      rw [blk0 m c t r _ ⟨n.val, by omega⟩ ⟨4096 + 128 * (k.val / 128) + x.val, by omega⟩ (by simp only; omega) (by simp only; omega),
        blk1 m c t _ _ ⟨5120 + 128 * (k.val / 128) + x.val, by omega⟩ (by simp only; omega)]
    · unfold result attend
      rw [hc, show 16 + 512 * (t.val % 16) + r.val = 16 + n.val by omega]
      refine congrArg (fun V => ACC _ _ V 0) (funext fun j => ?_)
      exact blk2 m c t _ _ _ (by simp only [ix2_0, ix2_1]; omega)

/-- A block of the result, at any index. -/
theorem point_idx (hp : Finite (arg m c)) (t : Fin cfg0.N) (y : S512x256.Idx) (i : S8192x1024.Idx)
    (h0 : (i 0).val = 512 * (t.val % 16) + (y 0).val) (h1 : (i 1).val = 256 * (t.val / 16) + (y 1).val) :
    outsAt0 m c t y = result (arg m c) i := by
  idx_vars y
  idx_vars i
  exact point m c hp t _ _ _ _ h0 h1

/-- The call's result array. -/
theorem final (hp : Finite (arg m c)) : (dats m 0 c).arrAt 4 cfg0.N = result (arg m c) := by
  refine (dats m 0 c).arrAt_eq_of_covers 4 _ (by decide +kernel) fun t _ y => ?_
  rw [after0_4]
  refine point_idx m c hp t _ _ ?_ ?_ <;> blk_simp [idx t] <;> exact congrArg (· + _) (Nat.mul_comm _ _)

end Cert.KernelIdeal.Final

end
-- ==== Proof.RevSum.lean ====
module

public import Idealize.ShloMosaic.Lib.Pointwise
public import Idealize.ShloMosaic.PureOps.Ideal

@[expose] public section

noncomputable section

open Idealize.ShloMosaic Finset

namespace Cert.RevSum

/-- Adding up a list from the left is its sum. -/
theorem foldl_sum {ι : Type} (f : ι → EReal) (l : List ι) (a : EReal) : l.foldl (fun r n => r + f n) a = a + (l.map f).sum := by
  induction l generalizing a with
  | nil => simp
  | cons x l ih => rw [List.foldl_cons, ih, List.map_cons, List.sum_cons, add_assoc]

/-- Entry `(h, q, s)` of a reversed running sum along the last axis: the sum of the entries from `s` on. -/
theorem reverse (A B N M : ℕ) (hN : M + 1 = N) (x : (⟨3, ![A, B, N]⟩ : Shape).Idx → EReal)
    (H : (⟨3, ![A, B, N]⟩ : Shape).ReduceWindows (![1, 1, N] : Fin 3 → ℕ) ![1, 1, 1] ![0, 0, 0] ![0, 0, M] ⟨3, ![A, B, N]⟩)
    (h : Fin A) (q : Fin B) (s : Fin N) :
    Ideal.hostReduceWindowAdd (s := ⟨3, ![A, B, N]⟩) ![1, 1, N] ![1, 1, 1] ![0, 0, 0] ![0, 0, M] H x 0 (ix3 h q s)
      = ∑ k : Fin N, if hk : s.val + k.val < N then x (ix3 h q ⟨s.val + k.val, hk⟩) else 0 := by
  unfold Ideal.hostReduceWindowAdd Host.reduceWindow
  dsimp only
  rw [foldl_sum, zero_add, ← Fin.sum_univ_def]
  refine (Finset.sum_congr rfl fun i _ => ?_).trans ((Equiv.sum_comp (Shape.rowMajor ⟨3, ![1, 1, N]⟩).symm (fun w : (⟨3, ![1, 1, N]⟩ : Shape).Idx =>
    if hin : ∀ a : Fin 3, (![0, 0, 0] : Fin 3 → ℕ) a ≤ (ix3 h q s a).val * (![1, 1, 1] : Fin 3 → ℕ) a + (w a).val
        ∧ (ix3 h q s a).val * (![1, 1, 1] : Fin 3 → ℕ) a + (w a).val - (![0, 0, 0] : Fin 3 → ℕ) a < (![A, B, N] : Fin 3 → ℕ) a then
      x (fun a => ⟨(ix3 h q s a).val * (![1, 1, 1] : Fin 3 → ℕ) a + (w a).val - (![0, 0, 0] : Fin 3 → ℕ) a, (hin a).2⟩) else 0)).trans ?_)
  · simp only [Fin.cast_eq_self]
  rw [sum_idx3, Fin.sum_univ_one, Fin.sum_univ_one]
  refine Finset.sum_congr rfl fun k _ => ?_
  by_cases hk : s.val + k.val < N
  · rw [dif_pos hk, dif_pos]
    · refine congrArg x (funext fun a => Fin.ext ?_)
      match a with
      | ⟨0, _⟩ => show h.val * 1 + 0 - 0 = h.val; omega
      | ⟨1, _⟩ => show q.val * 1 + 0 - 0 = q.val; omega
      | ⟨2, _⟩ => show s.val * 1 + k.val - 0 = s.val + k.val; omega
    · intro a
      have h1 := h.isLt
      have h2 := q.isLt
      match a with
      | ⟨0, _⟩ => show 0 ≤ h.val * 1 + 0 ∧ h.val * 1 + 0 - 0 < A; omega
      | ⟨1, _⟩ => show 0 ≤ q.val * 1 + 0 ∧ q.val * 1 + 0 - 0 < B; omega
      | ⟨2, _⟩ => show 0 ≤ s.val * 1 + k.val ∧ s.val * 1 + k.val - 0 < N; omega
  · rw [dif_neg hk, dif_neg]
    intro hin
    have h2 := (hin 2).2
    change s.val * 1 + k.val - 0 < N at h2
    omega

end Cert.RevSum

end
-- ==== Proof.Ref.lean ====
module

public import proofs.«01_k».proof.Proof.Spec
public import proofs.«01_k».proof.Proof.RevSum
public import proofs.«01_k».proof.Proof.Gen.ReferenceIdeal.Run
public import Idealize.ShloMosaic.Lib.Pointwise

@[expose] public section

set_option maxRecDepth 16384

noncomputable section

namespace Cert.ReferenceIdeal.Entry

open Cert.ReferenceIdeal Cert.ReferenceIdeal.Gen Cert.StickBreaking
open Idealize.ShloMosaic Idealize.ShloMosaic.TcCoe Idealize.SL.Sem Finset

/-- The query columns of every key position. -/
def qcols (p : FVec Ideal S8704x12288 .f32) : FVec Ideal S8208x8x128 .f32 :=
  (shapeCast S8208x8x128 (concatenate S8208x1024 0 [⟨S16x1024, (extractStridedSlice S16x1024 ![8192, 0] (extractStridedSlice S8704x1024 ![0, 4096] p slices_S8704x12288_S8704x1024_0_4096) slices_S8704x1024_S16x1024_8192_0)⟩, ⟨S8192x1024, (extractStridedSlice S8192x1024 ![0, 0] (extractStridedSlice S8704x1024 ![0, 4096] p slices_S8704x12288_S8704x1024_0_4096) slices_S8704x1024_S8192x1024_0_0)⟩] concatenates_S16x1024_S8192x1024_S8208x1024_d0) shapeCasts_S8208x1024_S8208x8x128)

/-- The key columns of every key position. -/
def kcols (p : FVec Ideal S8704x12288 .f32) : FVec Ideal S8208x8x128 .f32 :=
  (shapeCast S8208x8x128 (concatenate S8208x1024 0 [⟨S16x1024, (extractStridedSlice S16x1024 ![8192, 0] (extractStridedSlice S8704x1024 ![0, 5120] p slices_S8704x12288_S8704x1024_0_5120) slices_S8704x1024_S16x1024_8192_0)⟩, ⟨S8192x1024, (extractStridedSlice S8192x1024 ![0, 0] (extractStridedSlice S8704x1024 ![0, 5120] p slices_S8704x12288_S8704x1024_0_5120) slices_S8704x1024_S8192x1024_0_0)⟩] concatenates_S16x1024_S8192x1024_S8208x1024_d0) shapeCasts_S8208x1024_S8208x8x128)

/-- The value columns of every key position. -/
def vcols (p : FVec Ideal S8704x12288 .f32) : FVec Ideal S8208x8x128 .f32 :=
  (shapeCast S8208x8x128 (concatenate S8208x1024 0 [⟨S16x1024, (extractStridedSlice S16x1024 ![8192, 0] (extractStridedSlice S8704x1024 ![0, 6144] p slices_S8704x12288_S8704x1024_0_6144) slices_S8704x1024_S16x1024_8192_0)⟩, ⟨S8192x1024, (extractStridedSlice S8192x1024 ![0, 0] (extractStridedSlice S8704x1024 ![0, 6144] p slices_S8704x12288_S8704x1024_0_6144) slices_S8704x1024_S8192x1024_0_0)⟩] concatenates_S16x1024_S8192x1024_S8208x1024_d0) shapeCasts_S8208x1024_S8208x8x128)

/-- The scores. -/
def zed (p : FVec Ideal S8704x12288 .f32) : FVec Ideal S8x8192x8208 .f32 :=
  (mulf (Host.dotGeneral dot_S8192x8x128_S8208x8x128_S8x8192x8208_2_2_0_0_1_1 none (extractStridedSlice S8192x8x128 ![16, 0, 0] (qcols p) slices_S8208x8x128_S8192x8x128_16_0_0) (kcols p)) (broadcastInDim S8x8192x8208 ![] bcast_S_S8x8192x8208 (constant S_ .f32 0x3DB504F3#32)))

/-- Whether the key lies before the query. -/
def past  : IVec S8x8192x8208 1 :=
  (broadcastInDim S8x8192x8208 ![1, 2] bcast_S8192x8208_S8x8192x8208_1_2 (cmpi .slt (broadcastInDim S8192x8208 ![0, 1] bcast_S1x8208_S8192x8208_0_1 (broadcastInDim S1x8208 ![1] bcast_S8208_S1x8208_1 (iotaInDim S8208 32 0))) (broadcastInDim S8192x8208 ![0, 1] bcast_S8192x1_S8192x8208_0_1 (broadcastInDim S8192x1 ![0] bcast_S8192_S8192x1_0 (addi (broadcastInDim S8192 ![] bcast_S_S8192 (constantI S_ 32 16#32)) (iotaInDim S8192 32 0))))))

/-- The softplus, as written. -/
def softplus (w : FVec Ideal S8x8192x8208 .f32) : FVec Ideal S8x8192x8208 .f32 :=
  (select (cmpf .une (subf w (broadcastInDim S8x8192x8208 ![] bcast_S_S8x8192x8208 (constant S_ .f32 0x00000000#32))) (subf w (broadcastInDim S8x8192x8208 ![] bcast_S_S8x8192x8208 (constant S_ .f32 0x00000000#32)))) (addf w (broadcastInDim S8x8192x8208 ![] bcast_S_S8x8192x8208 (constant S_ .f32 0x00000000#32))) (addf (maximumf w (broadcastInDim S8x8192x8208 ![] bcast_S_S8x8192x8208 (constant S_ .f32 0x00000000#32))) (Host.log1p (Host.exp (Host.negf (Host.absf (subf w (broadcastInDim S8x8192x8208 ![] bcast_S_S8x8192x8208 (constant S_ .f32 0x00000000#32)))))))))

/-- What a key keeps of the stick, in logarithms. -/
def keep (p : FVec Ideal S8704x12288 .f32) : FVec Ideal S8x8192x8208 .f32 :=
  (select past (Host.negf (softplus (Host.negf (Host.negf (zed p))))) (broadcastInDim S8x8192x8208 ![] bcast_S_S8x8192x8208 (id (constant S_ .f32 0x00000000#32))))

/-- The reversed running sum of the kept logarithms. -/
def suf (p : FVec Ideal S8704x12288 .f32) : FVec Ideal S8x8192x8208 .f32 :=
  (Host.reduceWindowAdd ![1, 1, 8208] ![1, 1, 1] ![0, 0, 0] ![0, 0, 8207] (keep p) (broadcastInDim S_ ![] bcast_S_S_ (constant S_ .f32 0x00000000#32)) reduceWindows_S8x8192x8208_S8x8192x8208_w1s1p0_0_w1s1p0_0_w8208s1p0_8207 h_S_)

/-- The weights. -/
def weight (p : FVec Ideal S8704x12288 .f32) : FVec Ideal S8x8192x8208 .f32 :=
  (select past (Host.exp (addf (Host.negf (softplus (Host.negf (zed p)))) (subf (suf p) (keep p)))) (broadcastInDim S8x8192x8208 ![] bcast_S_S8x8192x8208 (id (constant S_ .f32 0x00000000#32))))

/-- The reference's result. -/
def out (p : FVec Ideal S8704x12288 .f32) : FVec Ideal S8192x1024 .f32 :=
  shapeCast S8192x1024 (transpose S8192x8x128 [2, 0, 1] (Host.dotGeneral dot_S8208x8x128_S8x8192x8208_S8x128x8192_0_2_2_1_1_0 none (vcols p) (weight p)) transposes_S8x128x8192_S8192x8x128_2_0_1) shapeCasts_S8192x8x128_S8192x1024

/-- The reference's composed term, in these names. -/
theorem res_eq (m : (ℓ : Loc nD τ sig) → Buf (Elt Ideal) ℓ) (c : Dev nD) :
    Value.res_main_v39 m c = out (m ((c.tc : Thread nD τ).loc main_arg0)) := rfl

/-- An entry of the query columns. -/
theorem qcols_apply (p : FVec Ideal S8704x12288 .f32) (a : Fin 8208) (h : Fin 8) (x : Fin 128) :
    qcols p (ix3 a h x) = p (ix2 (row a.val) ⟨4096 + 128 * h.val + x.val, by omega⟩) := by
  pointwise [qcols]
  have ha := a.isLt
  split
  · next hlt => exact congrArg p (congr (congrArg ix2 (Fin.ext (by simp only [row]; rw [if_pos hlt, Nat.mod_eq_of_lt (by omega)]))) (Fin.ext (by simp only; omega)))
  · next hge => exact congrArg p (congr (congrArg ix2 (Fin.ext (by simp only [row]; rw [if_neg hge, Nat.mod_eq_of_lt (by omega)]))) (Fin.ext (by simp only; omega)))

/-- An entry of the key columns. -/
theorem kcols_apply (p : FVec Ideal S8704x12288 .f32) (a : Fin 8208) (h : Fin 8) (x : Fin 128) :
    kcols p (ix3 a h x) = p (ix2 (row a.val) ⟨5120 + 128 * h.val + x.val, by omega⟩) := by
  pointwise [kcols]
  have ha := a.isLt
  split
  · next hlt => exact congrArg p (congr (congrArg ix2 (Fin.ext (by simp only [row]; rw [if_pos hlt, Nat.mod_eq_of_lt (by omega)]))) (Fin.ext (by simp only; omega)))
  · next hge => exact congrArg p (congr (congrArg ix2 (Fin.ext (by simp only [row]; rw [if_neg hge, Nat.mod_eq_of_lt (by omega)]))) (Fin.ext (by simp only; omega)))

/-- An entry of the value columns. -/
theorem vcols_apply (p : FVec Ideal S8704x12288 .f32) (a : Fin 8208) (h : Fin 8) (x : Fin 128) :
    vcols p (ix3 a h x) = p (ix2 (row a.val) ⟨6144 + 128 * h.val + x.val, by omega⟩) := by
  pointwise [vcols]
  have ha := a.isLt
  split
  · next hlt => exact congrArg p (congr (congrArg ix2 (Fin.ext (by simp only [row]; rw [if_pos hlt, Nat.mod_eq_of_lt (by omega)]))) (Fin.ext (by simp only; omega)))
  · next hge => exact congrArg p (congr (congrArg ix2 (Fin.ext (by simp only [row]; rw [if_neg hge, Nat.mod_eq_of_lt (by omega)]))) (Fin.ext (by simp only; omega)))

/-- The argument by its two coordinates. -/
def at2 (p : FVec Ideal S8704x12288 .f32) (a : Fin 8704) (b : Fin 12288) : EReal := p (ix2 a b)

/-- An entry of the scores. -/
theorem zed_apply (p : FVec Ideal S8704x12288 .f32) (h : Fin 8) (n : Fin 8192) (s : Fin 8208) :
    zed p (ix3 h n s) = score (at2 p) ⟨n.val, by omega⟩ h s.val := by
  have hn := n.isLt
  pointwise [zed]
  unfold score
  refine congrArg (· * scale) (Finset.sum_congr rfl fun x _ => ?_)
  rw [qcols_apply, kcols_apply]
  have e : row (16 + n.val) = ⟨n.val, by omega⟩ := Fin.ext (by
    simp only [row]; rw [if_neg (by omega), Nat.mod_eq_of_lt (by omega)]; omega)
  simp only [e]
  rfl

/-- Small words compare as their numbers. -/
theorem slt_words (a b : ℕ) (ha : a < 2 ^ 31) (hb : b < 2 ^ 31) :
    IntOp.cmpi .slt (BitVec.ofNat 32 a) (BitVec.ofNat 32 b) = BitVec.ofBool (decide (a < b)) := by
  have e1 : ∀ a : ℕ, a < 2 ^ 31 → (BitVec.ofNat 32 a).toInt = (a : ℤ) := fun a ha => by
    have h : (BitVec.ofNat 32 a).toNat = a := by rw [BitVec.toNat_ofNat]; omega
    rw [BitVec.toInt_eq_toNat_of_lt (by rw [h]; omega), h]
  show BitVec.ofBool ((BitVec.ofNat 32 a).slt (BitVec.ofNat 32 b)) = _
  rw [BitVec.slt, e1 a ha, e1 b hb]
  congr 2
  exact propext (by omega)

/-- A key lies before a query when its position is less. -/
theorem past_apply (h : Fin 8) (n : Fin 8192) (s : Fin 8208) :
    past (ix3 h n s) = BitVec.ofBool (decide (s.val < 16 + n.val)) := by
  pointwise [past]
  have e : IntOp.addi (16#32) (BitVec.ofNat 32 n.val) = BitVec.ofNat 32 (16 + n.val) := by
    rw [BitVec.ofNat_add]; rfl
  rw [e, slt_words _ _ (by omega) (by omega)]

/-- A choice by the mask is a choice by the positions. -/
theorem select_past {α : Type} (a b : ℕ) (x y : α) : Scalar.select (BitVec.ofBool (decide (a < b))) x y = if a < b then x else y := by
  by_cases h : a < b
  · rw [if_pos h, decide_eq_true h]; rfl
  · rw [if_neg h, decide_eq_false h]; rfl

/-- The softplus of a real number. -/
theorem softplus_apply (w : FVec Ideal S8x8192x8208 .f32) (i : S8x8192x8208.Idx) (x : ℝ) (hx : w i = ((-x : ℝ) : EReal)) :
    -(softplus w i) = ((lb x : ℝ) : EReal) := by
  idx_vars i
  pointwise [softplus]
  rw [hx, if_neg (by simp)]
  have h1 : FloatOps.absf (F := Ideal) (φ := .f32) ((-x : ℝ) : EReal) = ((|-x| : ℝ) : EReal) := abs_coe (-x)
  rw [h1, ← EReal.coe_neg, exp_coe]
  unfold Ideal.log1p
  rw [← EReal.coe_one, ← EReal.coe_add, log_coe _ (by positivity), ← EReal.coe_zero,
    ← (EReal.coe_strictMono.monotone.map_max : ((max (-x) 0 : ℝ) : EReal) = _), ← EReal.coe_add, ← EReal.coe_neg, lb_eq]

section Value

variable (p : FVec Ideal S8704x12288 .f32) (hp : Finite (at2 p)) (h : Fin 8) (n : Fin 8192)

include hp

/-- The scores of a query row, as real numbers. -/
theorem zed_real (s : Fin 8208) : zed p (ix3 h n s) = (((score (at2 p) ⟨n.val, by omega⟩ h s.val).toReal : ℝ) : EReal) := by
  rw [zed_apply]
  exact score_real _ hp _ (by simp only; omega) _ _ s.isLt

/-- What a key keeps, as a real number. -/
theorem keep_apply (s : Fin 8208) :
    keep p (ix3 h n s) = ((LK (16 + n.val) (fun j => (score (at2 p) ⟨n.val, by omega⟩ h j).toReal) s.val : ℝ) : EReal) := by
  have e := softplus_apply (Host.negf (Host.negf (zed p))) (ix3 h n s) (-(score (at2 p) ⟨n.val, by omega⟩ h s.val).toReal) (by
    pointwise
    rw [zed_real p hp, neg_neg, neg_neg])
  have z0 : (id (constant (F := Ideal) S_ FTy.f32 0#32) ix0) = ((0 : ℝ) : EReal) := by
    show Ideal.ofBits .f32 0#32 = _
    simp [Ideal.ofBits, Ideal.ieee]
  pointwise [keep]
  rw [past_apply, select_past, e, lb_neg, z0]
  unfold LK
  split <;> rfl

/-- The reversed running sum, as a real number. -/
theorem suf_apply (s : Fin 8208) :
    suf p (ix3 h n s) = ((SUF (16 + n.val) (fun j => (score (at2 p) ⟨n.val, by omega⟩ h j).toReal) s.val : ℝ) : EReal) := by
  have z0 : Ideal.ofBits .f32 0#32 = 0 := by simp [Ideal.ofBits, Ideal.ieee]
  have e := RevSum.reverse 8 8192 8208 8207 rfl (keep p) reduceWindows_S8x8192x8208_S8x8192x8208_w1s1p0_0_w1s1p0_0_w8208s1p0_8207 h n s
  have e' : suf p (ix3 h n s) = ∑ k : Fin 8208, if hk : s.val + k.val < 8208 then keep p (ix3 h n ⟨s.val + k.val, hk⟩) else 0 := by
    unfold suf Host.reduceWindowAdd
    rw [Ideal.hostReduceWindowAdd_def]
    show Ideal.hostReduceWindowAdd _ _ _ _ _ (keep p) (Ideal.ofBits .f32 0#32) _ = _
    rw [z0]
    exact e
  have hs := s.isLt
  rw [e']
  unfold SUF
  rw [← coe_sum, sum_Ico_eq_sum_range]
  refine (Finset.sum_congr rfl (g := fun k : Fin 8208 => (fun k : ℕ => if s.val + k < 8208 then
    ((LK (16 + n.val) (fun j => (score (at2 p) ⟨n.val, by omega⟩ h j).toReal) (s.val + k) : ℝ) : EReal) else 0) k.val) fun k _ => ?_).trans ?_
  · by_cases hk : s.val + k.val < 8208
    · simp only [dif_pos hk, if_pos hk, keep_apply p hp]
    · simp only [dif_neg hk, if_neg hk]
  · refine (Finset.sum_range (n := 8208) (fun k : ℕ => if s.val + k < 8208 then
      ((LK (16 + n.val) (fun j => (score (at2 p) ⟨n.val, by omega⟩ h j).toReal) (s.val + k) : ℝ) : EReal) else 0)).symm.trans ?_
    rw [← sum_filter]
    refine Finset.sum_congr ?_ fun _ _ => rfl
    ext k
    simp only [mem_filter, mem_range]
    omega

/-- A weight. -/
theorem weight_apply (s : Fin 8208) :
    weight p (ix3 h n s) = WT (16 + n.val) (fun j => (score (at2 p) ⟨n.val, by omega⟩ h j).toReal) s.val := by
  have e := softplus_apply (Host.negf (zed p)) (ix3 h n s) ((score (at2 p) ⟨n.val, by omega⟩ h s.val).toReal) (by
    pointwise
    rw [zed_real p hp, EReal.coe_neg])
  have z0 : (id (constant (F := Ideal) S_ FTy.f32 0#32) ix0) = (0 : EReal) := by
    show Ideal.ofBits .f32 0#32 = _
    simp [Ideal.ofBits, Ideal.ieee]
  pointwise [weight]
  rw [past_apply, select_past, e, z0, suf_apply p hp, keep_apply p hp, ← EReal.coe_sub, ← EReal.coe_add, exp_coe]
  have es : SUF (16 + n.val) (fun j => (score (at2 p) ⟨n.val, by omega⟩ h j).toReal) s.val
      = LK (16 + n.val) (fun j => (score (at2 p) ⟨n.val, by omega⟩ h j).toReal) s.val
        + SUF (16 + n.val) (fun j => (score (at2 p) ⟨n.val, by omega⟩ h j).toReal) (s.val + 1) := by
    unfold SUF
    rw [Finset.sum_eq_sum_Ico_succ_bot s.isLt]
  rw [es, add_sub_cancel_left]
  rfl

/-- The reference's result, entry by entry. -/
theorem out_apply (k : Fin 1024) :
    out p (ix2 n k) = attend (at2 p) n ⟨k.val / 128, by omega⟩ ⟨k.val % 128, by omega⟩ := by
  pointwise [out]
  unfold attend ACC
  rw [sum_Ico_eq_sum_range, Finset.sum_range]
  refine Finset.sum_congr rfl fun x _ => ?_
  rw [vcols_apply, weight_apply p hp, mul_comm, Nat.zero_add]
  rfl

end Value

end Cert.ReferenceIdeal.Entry

end
-- ==== Proof.Pre.lean ====
module

public import proofs.«01_k».proof.Proof.Spec
public import proofs.«01_k».proof.Pre_queries_keys_finite
public import Idealize.ShloMosaic.Lib.Pointwise

@[expose] public section

set_option maxRecDepth 16384

noncomputable section

namespace Cert.Pre_queries_keys_finite

open Idealize.ShloMosaic

/-- The precondition's side conditions hold. -/
theorem sides : Facts := ⟨by decide, by decide⟩

/-- Where the precondition holds the queries and keys are real numbers. -/
theorem finite [Facts] (p : FVec Ideal S8704x12288 .f32) (h : fn (F := Ideal) p = fun _ => 1#1) :
    Cert.StickBreaking.Finite fun a b => p (ix2 a b) := by
  intro a b ha hb hb'
  have e := congrFun h (ix2 ⟨a.val, ha⟩ ⟨b.val - 4096, by omega⟩)
  revert e
  pointwise [fn]
  intro e
  have hk : (⟨4096 + (b.val - 4096), by omega⟩ : Fin 12288) = b := Fin.ext (by simp only; omega)
  rw [hk] at e
  have hlt : FloatOps.absf (F := Ideal) (φ := .f32) (p (ix2 a b)) < Ideal.ofBits FTy.f32 2139095040#32 := by
    by_contra hn
    rw [decide_eq_false hn] at e
    exact absurd e (by decide)
  have habs : max (p (ix2 a b)) (-(p (ix2 a b))) < ⊤ := lt_of_lt_of_le hlt le_top
  generalize p (ix2 a b) = x at habs
  have h1 : x ≠ ⊤ := fun h => by rw [h] at habs; simp at habs
  have h2 : x ≠ ⊥ := fun h => by rw [h] at habs; simp at habs
  exact ⟨x.toReal, (EReal.coe_toReal h1 h2).symm⟩

end Cert.Pre_queries_keys_finite

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2Ideal.Value
public import proofs.«01_k».proof.Proof.Gen.Reference2Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.FfnClaim
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.FinClaim
public import proofs.«01_k».proof.Proof.Gen.Kernel4Ideal.Value
public import proofs.«01_k».proof.Proof.Gen.Reference4Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.MergeClaim
public import proofs.«01_k».proof.Proof.Gen.Kernel5Ideal.Value
public import proofs.«01_k».proof.Proof.Gen.Reference5Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.ProjClaim
public import proofs.«01_k».proof.Proof.Gen.Kernel6Ideal.Value
public import proofs.«01_k».proof.Proof.Gen.Reference6Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.FinSClaim
public import proofs.«01_k».proof.Proof.Gen.Kernel7Ideal.Value
public import proofs.«01_k».proof.Proof.Gen.Reference7Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.MergeSClaim
public import proofs.«01_k».proof.Proof.Gen.Kernel8Ideal.Value
public import proofs.«01_k».proof.Proof.Gen.Reference8Ideal.Run
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.SpClaim
public import proofs.«01_k».proof.Proof.Final
public import proofs.«01_k».proof.Proof.Ref
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention's kernel and its reference end with equal results, for finite queries and keys. -/
theorem attention [hPre : Cert.Pre_queries_keys_finite.Facts] :
    Cert.algebraic_KernelIdeal_ReferenceIdeal_pre_queries_keys_finite (hKernelIdeal := Cert.KernelIdeal.Gen.facts)
      (hReferenceIdeal := Cert.ReferenceIdeal.Gen.facts) (hPre_queries_keys_finite := hPre) := by
  intro m g m' g' hpre hargs
  have hp : ∀ c, Cert.StickBreaking.Finite (Cert.KernelIdeal.Final.arg m c) := fun c =>
    Cert.Pre_queries_keys_finite.finite _ (hpre c)
  refine ⟨fun c => Cert.KernelIdeal.Final.result (Cert.KernelIdeal.Final.arg m c), ?_, ?_⟩
  · exact (θ_run _ _ _).mono (fun r h c => ⟨(h c).1.trans (Cert.KernelIdeal.Final.final m c (hp c)), (h c).2⟩)
      (Cert.KernelIdeal.Value.run_blocks m g)
  · refine (θ_run _ _ _).mono (fun r h c => ⟨(h c).1.trans ?_, (h c).2⟩) (Cert.ReferenceIdeal.Value.run m' g')
    rw [Cert.ReferenceIdeal.Entry.res_eq, hargs c]
    funext y
    have ey : y = ix2 (y 0) (y 1) := (ix2_eta y).symm
    rw [ey]
    exact Cert.ReferenceIdeal.Entry.out_apply _ (hp c) (y 0) (y 1)

/-- The attention's reference leaves its argument and every semaphore counter as they were. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0 :=
  (θ_run _ _ _).mono (fun r h => ⟨fun c => (h c).2, sem_eq_zero_of_no_sems (by decide) r.2⟩) (Cert.ReferenceIdeal.Value.run m ρ)

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_queries_keys_finite.sides, Cert.Pre_selects_past.sides,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Kernel2.Gen.frame m ρ,
  fun m ρ _ => Cert.Kernel2Ideal.Gen.frame m ρ,
  fun m ρ _ => Ffn.reference_frame m ρ,
  fun m ρ _ => Cert.Kernel3.Gen.frame m ρ,
  fun m ρ _ => Cert.Kernel3Ideal.Gen.frame m ρ,
  fun m ρ _ => Fin.reference_frame m ρ,
  fun m ρ _ => Cert.Kernel4.Gen.frame m ρ,
  fun m ρ _ => Cert.Kernel4Ideal.Gen.frame m ρ,
  fun m ρ _ => Merge.reference_frame m ρ,
  fun m ρ _ => Cert.Kernel5.Gen.frame m ρ,
  fun m ρ _ => Cert.Kernel5Ideal.Gen.frame m ρ,
  fun m ρ _ => Proj.reference_frame m ρ,
  fun m ρ _ => Cert.Kernel6.Gen.frame m ρ,
  fun m ρ _ => Cert.Kernel6Ideal.Gen.frame m ρ,
  fun m ρ _ => FinS.reference_frame m ρ,
  fun m ρ _ => Cert.Kernel7.Gen.frame m ρ,
  fun m ρ _ => Cert.Kernel7Ideal.Gen.frame m ρ,
  fun m ρ _ => MergeS.reference_frame m ρ,
  fun m ρ _ => Cert.Kernel8.Gen.frame m ρ,
  fun m ρ _ => Cert.Kernel8Ideal.Gen.frame m ρ,
  fun m ρ _ => Cert.Kernel8Ideal.Gen.frame m ρ,
  fun m ρ _ => Sp.reference_frame m ρ,
  fun m ρ _ => Sp.reference_frame m ρ,
  trivial,
  attention (hPre := Cert.Pre_queries_keys_finite.sides),
  trivial,
  Ffn.equal,
  trivial,
  Fin.equal,
  trivial,
  Merge.equal,
  trivial,
  Proj.equal,
  trivial,
  FinS.equal,
  trivial,
  MergeS.equal,
  trivial,
  Sp.equal (hPre := Cert.Pre_selects_past.sides)⟩

end Cert.Proof

end
